-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_4)) (v2 : (c : Dev Cert.KernelIdeal.nD) → Buf (Elt Ideal) ((c.tc : Thread Cert.KernelIdeal.nD Cert.KernelIdeal.τ).loc Cert.KernelIdeal.main_v19_5)) (v3 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_4) = v1 c
          ∧ r.2.mem ((c.tc : Thread Cert.KernelIdeal.nD Cert.KernelIdeal.τ).loc Cert.KernelIdeal.main_v19_5) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v7) = v0 c
          ∧ r.2.mem ((c.tc : Thread Cert.MergeReferenceIdeal.nD Cert.MergeReferenceIdeal.τ).loc Cert.MergeReferenceIdeal.main_v29) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v254) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hConv : Cert.Conv.Facts) (hConvIdeal : Cert.ConvIdeal.Facts) (hConvReferenceIdeal : Cert.ConvReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Conv_ConvIdeal
    ∧ algebraic_ConvIdeal_ConvReferenceIdeal (hConvIdeal := hConvIdeal) (hConvReferenceIdeal := hConvReferenceIdeal)
-- ==== Pre_finite.lean ====
abbrev S4x4096x1024 : Shape := ⟨3, ![4, 4096, 1024]⟩
abbrev S1024 : Shape := ⟨1, ![1024]⟩
abbrev S4x1x1024 : Shape := ⟨3, ![4, 1, 1024]⟩
abbrev S1024x4608 : Shape := ⟨2, ![1024, 4608]⟩
abbrev S64 : Shape := ⟨1, ![64]⟩
abbrev S8x257 : Shape := ⟨2, ![8, 257]⟩
abbrev S1024x2048 : Shape := ⟨2, ![1024, 2048]⟩
abbrev S16384x1024 : Shape := ⟨2, ![16384, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1024x4608 : S_.BroadcastsInDim S1024x4608 (![] : Fin 0 → Fin S1024x4608.rank)
  reducesTo_S1024x4608_S_d0_1 : S1024x4608.ReducesTo [0, 1] S_
  bcast_S_S64 : S_.BroadcastsInDim S64 (![] : Fin 0 → Fin S64.rank)
  reducesTo_S64_S_d0 : S64.ReducesTo [0] S_
  bcast_S_S8x257 : S_.BroadcastsInDim S8x257 (![] : Fin 0 → Fin S8x257.rank)
  reducesTo_S8x257_S_d0_1 : S8x257.ReducesTo [0, 1] S_

variable [Facts]

def fn_part2 {F : FTy → Type} [FloatOps F] (main_arg7 : FVec F S8x257 .f32) (main_v33 : IVec S_ 1) : IVec S_ 1 :=
  let main_v34 : FVec F S8x257 .f32 := Host.absf main_arg7
  let main_cst_12 : FVec F S_ .f32 := constant S_ .f32 0x7F800000#32
  let main_v35 : FVec F S8x257 .f32 := broadcastInDim S8x257 ![] bcast_S_S8x257 main_cst_12
  let main_v36 : IVec S8x257 1 := cmpf .olt main_v34 main_v35
  let main_c_13 : IVec S_ 1 := constantI S_ 1 1#1
  let main_v37 : IVec S_ 1 := (fun x v => Host.reduce IntOp.andi x v reducesTo_S8x257_S_d0_1 h_S_) main_v36 main_c_13
  let main_v38 : IVec S_ 1 := andi main_v33 main_v37
  main_v38

def fn_part1 {F : FTy → Type} [FloatOps F] (main_arg4 : FVec F S1024x4608 .f32) (main_arg5 : FVec F S64 .f32) (main_arg6 : FVec F S64 .f32) (main_arg7 : FVec F S8x257 .f32) (main_v13 : IVec S_ 1) (main_v16 : IVec S4x1x1024 1) : IVec S_ 1 :=
  let main_c_5 : IVec S_ 1 := constantI S_ 1 1#1
  let main_v17 : IVec S_ 1 := (fun x v => Host.reduce IntOp.andi x v reducesTo_S4x1x1024_S_d0_1_2 h_S_) main_v16 main_c_5
  let main_v18 : IVec S_ 1 := andi main_v13 main_v17
  let main_v19 : FVec F S1024x4608 .f32 := Host.absf main_arg4
  let main_cst_6 : FVec F S_ .f32 := constant S_ .f32 0x7F800000#32
  let main_v20 : FVec F S1024x4608 .f32 := broadcastInDim S1024x4608 ![] bcast_S_S1024x4608 main_cst_6
  let main_v21 : IVec S1024x4608 1 := cmpf .olt main_v19 main_v20
  let main_c_7 : IVec S_ 1 := constantI S_ 1 1#1
  let main_v22 : IVec S_ 1 := (fun x v => Host.reduce IntOp.andi x v reducesTo_S1024x4608_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S4x4096x1024 .f32) (main_arg1 : FVec F S1024 .f32) (main_arg2 : FVec F S4x1x1024 .f32) (main_arg3 : FVec F S4x1x1024 .f32) (main_arg4 : FVec F S1024x4608 .f32) (main_arg5 : FVec F S64 .f32) (main_arg6 : FVec F S64 .f32) (main_arg7 : FVec F S8x257 .f32) (main_arg8 : FVec F S1024x2048 .f32) (main_arg9 : FVec F S16384x1024 .f32) (main_arg10 : FVec F S16384x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1x1024 .f32 := Host.absf main_arg2
  let main_cst_2 : FVec F S_ .f32 := constant S_ .f32 0x7F800000#32
  let main_v10 : FVec F S4x1x1024 .f32 := broadcastInDim S4x1x1024 ![] bcast_S_S4x1x1024 main_cst_2
  let main_v11 : IVec S4x1x1024 1 := cmpf .olt main_v9 main_v10
  let main_c_3 : IVec S_ 1 := constantI S_ 1 1#1
  let main_v12 : IVec S_ 1 := (fun x v => Host.reduce IntOp.andi x v reducesTo_S4x1x1024_S_d0_1_2 h_S_) main_v11 main_c_3
  let main_v13 : IVec S_ 1 := andi main_v8 main_v12
  let main_v14 : FVec F S4x1x1024 .f32 := Host.absf main_arg3
  let main_cst_4 : FVec F S_ .f32 := constant S_ .f32 0x7F800000#32
  let main_v15 : FVec F S4x1x1024 .f32 := broadcastInDim S4x1x1024 ![] bcast_S_S4x1x1024 main_cst_4
  let main_v16 : IVec S4x1x1024 1 := cmpf .olt main_v14 main_v15
  fn_part1 (F := F) main_arg4 main_arg5 main_arg6 main_arg7 main_v13 main_v16
-- ==== Kernel.lean ====
abbrev S4x4096x1024 : Shape := ⟨3, ![4, 4096, 1024]⟩
abbrev S1024 : Shape := ⟨1, ![1024]⟩
abbrev S4x1x1024 : Shape := ⟨3, ![4, 1, 1024]⟩
abbrev S1024x4608 : Shape := ⟨2, ![1024, 4608]⟩
abbrev S64 : Shape := ⟨1, ![64]⟩
abbrev S8x257 : Shape := ⟨2, ![8, 257]⟩
abbrev S1024x2048 : Shape := ⟨2, ![1024, 2048]⟩
abbrev S16384x1024 : Shape := ⟨2, ![16384, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x4096x512 : Shape := ⟨3, ![4, 4096, 512]⟩
abbrev S1024x16384 : Shape := ⟨2, ![1024, 16384]⟩
abbrev S1x512x1024 : Shape := ⟨3, ![1, 512, 1024]⟩
abbrev S1x1x1024 : Shape := ⟨3, ![1, 1, 1024]⟩
abbrev S512x1024 : Shape := ⟨2, ![512, 1024]⟩
abbrev S1x512x512 : Shape := ⟨3, ![1, 512, 512]⟩
abbrev S1024x512 : Shape := ⟨2, ![1024, 512]⟩
abbrev S512x1 : Shape := ⟨2, ![512, 1]⟩
abbrev S1024x1024 : Shape := ⟨2, ![1024, 1024]⟩
abbrev S8x1 : Shape := ⟨2, ![8, 1]⟩
abbrev S8x1x127 : Shape := ⟨3, ![8, 1, 127]⟩
abbrev S8x127 : Shape := ⟨2, ![8, 127]⟩
abbrev S8x1x639 : Shape := ⟨3, ![8, 1, 639]⟩
abbrev S8x639 : Shape := ⟨2, ![8, 639]⟩
abbrev S8x1023 : Shape := ⟨2, ![8, 1023]⟩
abbrev S8x768 : Shape := ⟨2, ![8, 768]⟩
abbrev S8x255 : Shape := ⟨2, ![8, 255]⟩
abbrev S8x1024 : Shape := ⟨2, ![8, 1024]⟩
abbrev S8x256x768 : Shape := ⟨3, ![8, 256, 768]⟩
abbrev S2048x1024 : Shape := ⟨2, ![2048, 1024]⟩
abbrev S256x768 : Shape := ⟨2, ![256, 768]⟩
abbrev S256x1024 : Shape := ⟨2, ![256, 1024]⟩
abbrev S1x256x768 : Shape := ⟨3, ![1, 256, 768]⟩
abbrev S1x256x512 : Shape := ⟨3, ![1, 256, 512]⟩
abbrev S256x128 : Shape := ⟨2, ![256, 128]⟩
abbrev S1x256x128 : Shape := ⟨3, ![1, 256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S768x128 : Shape := ⟨2, ![768, 128]⟩

abbrev nBuf : Space → Nat
  | .hbm => 63
  | .vmem => 52
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x4608, .f32⟩
  | .hbm, ⟨5, _⟩ => ⟨S64, .f32⟩
  | .hbm, ⟨6, _⟩ => ⟨S64, .f32⟩
  | .hbm, ⟨7, _⟩ => ⟨S8x257, .f32⟩
  | .hbm, ⟨8, _⟩ => ⟨S1024x2048, .f32⟩
  | .hbm, ⟨9, _⟩ => ⟨S16384x1024, .f32⟩
  | .hbm, ⟨10, _⟩ => ⟨S16384x1024, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S8x1x8x1, .f32⟩
  | .hbm, ⟨22, _⟩ => ⟨S1x64x1x64, .f32⟩
  | .hbm, ⟨23, _⟩ => ⟨S8x64x8x64, .f32⟩
  | .hbm, ⟨24, _⟩ => ⟨S8x64x8x64, .f32⟩
  | .hbm, ⟨25, _⟩ => ⟨S8x64x8x64, .f32⟩
  | .hbm, ⟨26, _⟩ => ⟨S512x512, .f32⟩
  | .hbm, ⟨27, _⟩ => ⟨S512x512, .bf16⟩
  | .hbm, ⟨28, _⟩ => ⟨S1x1024, .f32⟩
  | .hbm, ⟨29, _⟩ => ⟨S1024x4608, .bf16⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S1x64, .f32⟩
  | .hbm, ⟨35, _⟩ => ⟨S8x64, .f32⟩
  | .hbm, ⟨36, _⟩ => ⟨S512, .f32⟩
  | .hbm, ⟨37, _⟩ => ⟨S1x512, .f32⟩
  | .hbm, ⟨38, _⟩ => ⟨S4x4096x512, .f32⟩
  | .hbm, ⟨39, _⟩ => ⟨S4x4096x512, .bf16⟩
  | .hbm, ⟨40, _⟩ => ⟨S4x4096x512, .bf16⟩
  | .hbm, ⟨41, _⟩ => ⟨S4x4096x512, .bf16⟩
  | .hbm, ⟨42, _⟩ => ⟨S4x4096x1024, .f32⟩
  | .hbm, ⟨43, _⟩ => ⟨S4x4096x1024, .f32⟩
  | .hbm, ⟨44, _⟩ => ⟨S16384x1024, .bf16⟩
  | .hbm, ⟨45, _⟩ => ⟨S1024x16384, .bf16⟩
  | .hbm, ⟨46, _⟩ => ⟨S8x1, .f32⟩
  | .hbm, ⟨47, _⟩ => ⟨S8x1x127, .f32⟩
  | .hbm, ⟨48, _⟩ => ⟨S8x127, .f32⟩
  | .hbm, ⟨49, _⟩ => ⟨S8x1, .f32⟩
  | .hbm, ⟨50, _⟩ => ⟨S8x1x639, .f32⟩
  | .hbm, ⟨51, _⟩ => ⟨S8x639, .f32⟩
  | .hbm, ⟨52, _⟩ => ⟨S8x1023, .f32⟩
  | .hbm, ⟨53, _⟩ => ⟨S8x768, .f32⟩
  | .hbm, ⟨54, _⟩ => ⟨S8x768, .f32⟩
  | .hbm, ⟨55, _⟩ => ⟨S_, .f32⟩
  | .hbm, ⟨56, _⟩ => ⟨S8x1, .f32⟩
  | .hbm, ⟨57, _⟩ => ⟨S8x255, .f32⟩
  | .hbm, ⟨58, _⟩ => ⟨S8x255, .f32⟩
  | .hbm, ⟨59, _⟩ => ⟨S8x1024, .f32⟩
  | .hbm, ⟨60, _⟩ => ⟨S8x256x768, .f32⟩
  | .hbm, ⟨61, _⟩ => ⟨S2048x1024, .bf16⟩
  | .hbm, ⟨62, _⟩ => ⟨S4x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4608, .bf16⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S512x1024, .bf16⟩
  | .local _ .vmem, ⟨28, _⟩ => ⟨S512x1024, .bf16⟩
  | .local _ .vmem, ⟨29, _⟩ => ⟨S1024x512, .bf16⟩
  | .local _ .vmem, ⟨30, _⟩ => ⟨S1024x512, .bf16⟩
  | .local _ .vmem, ⟨31, _⟩ => ⟨S8x1024, .f32⟩
  | .local _ .vmem, ⟨32, _⟩ => ⟨S1024x2048, .f32⟩
  | .local _ .vmem, ⟨33, _⟩ => ⟨S8x256x768, .f32⟩
  | .local _ .vmem, ⟨34, _⟩ => ⟨S2048x1024, .bf16⟩
  | .local _ .vmem, ⟨35, _⟩ => ⟨S1x256x512, .bf16⟩
  | .local _ .vmem, ⟨36, _⟩ => ⟨S1x256x512, .bf16⟩
  | .local _ .vmem, ⟨37, _⟩ => ⟨S1x256x512, .bf16⟩
  | .local _ .vmem, ⟨38, _⟩ => ⟨S1x256x512, .bf16⟩
  | .local _ .vmem, ⟨39, _⟩ => ⟨S1x256x512, .bf16⟩
  | .local _ .vmem, ⟨40, _⟩ => ⟨S1x256x512, .bf16⟩
  | .local _ .vmem, ⟨41, _⟩ => ⟨S1x256x512, .bf16⟩
  | .local _ .vmem, ⟨42, _⟩ => ⟨S1x256x512, .bf16⟩
  | .local _ .vmem, ⟨43, _⟩ => ⟨S1x256x512, .bf16⟩
  | .local _ .vmem, ⟨44, _⟩ => ⟨S1x256x512, .bf16⟩
  | .local _ .vmem, ⟨45, _⟩ => ⟨S1x256x512, .bf16⟩
  | .local _ .vmem, ⟨46, _⟩ => ⟨S1x256x512, .bf16⟩
  | .local _ .vmem, ⟨47, _⟩ => ⟨S1x256x512, .bf16⟩
  | .local _ .vmem, ⟨48, _⟩ => ⟨S1x256x512, .bf16⟩
  | .local _ .vmem, ⟨49, _⟩ => ⟨S8x256x768, .f32⟩
  | .local _ .vmem, ⟨50, _⟩ => ⟨S1x256x512, .bf16⟩
  | .local _ .vmem, ⟨51, _⟩ => ⟨S1x256x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_v19_3 : Ref sig .tc := ⟨.hbm, 41, rfl⟩
abbrev main_v19_4 : Ref sig .tc := ⟨.hbm, 42, rfl⟩
abbrev main_v19_5 : Ref sig .tc := ⟨.hbm, 43, rfl⟩
abbrev main_v19_6 : Ref sig .tc := ⟨.hbm, 44, rfl⟩
abbrev main_v19_7 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33_0 : Ref sig .tc := ⟨.hbm, 60, rfl⟩
abbrev main_v33_1 : Ref sig .tc := ⟨.hbm, 61, rfl⟩
abbrev main_v34 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc1_stg0_0 : Ref sig .tc := ⟨.vmem, 31, rfl⟩
abbrev cc1_stg1_0 : Ref sig .tc := ⟨.vmem, 32, rfl⟩
abbrev cc1_stg2_0 : Ref sig .tc := ⟨.vmem, 33, rfl⟩
abbrev cc1_stg3_0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg4_1 : Ref sig .tc := ⟨.vmem, 44, rfl⟩
abbrev cc2_stg5_0 : Ref sig .tc := ⟨.vmem, 45, rfl⟩
abbrev cc2_stg5_1 : Ref sig .tc := ⟨.vmem, 46, rfl⟩
abbrev cc2_stg6_0 : Ref sig .tc := ⟨.vmem, 47, rfl⟩
abbrev cc2_stg6_1 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg8_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc1_sem0_0 : DmaSem sig := 31
abbrev cc1_sem1_0 : DmaSem sig := 32
abbrev cc1_sem2_0 : DmaSem sig := 33
abbrev cc1_sem3_0 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem3_1 : DmaSem sig := 42
abbrev cc2_sem4_0 : DmaSem sig := 43
abbrev cc2_sem4_1 : DmaSem sig := 44
abbrev cc2_sem5_0 : DmaSem sig := 45
abbrev cc2_sem5_1 : DmaSem sig := 46
abbrev cc2_sem6_0 : DmaSem sig := 47
abbrev cc2_sem6_1 : DmaSem sig := 48
abbrev cc2_sem7_0 : DmaSem sig := 49
abbrev cc2_sem8_0 : DmaSem sig := 50
abbrev cc2_sem8_1 : DmaSem sig := 51

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev grid1 : Pipeline.Grid := .none

abbrev stage1_0 : Fin 1 → Memref sig .tc .vmem S8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![4, 16], ![false, false]⟩

def k2_cond1 (i : grid2.Coords) : BitVec 1 :=
  let arg1 : BitVec 32 := BitVec.ofNat 32 (i 1).val
  let c2_i32 : BitVec 32 := 2#32
  let v3 : BitVec 1 := Scalar.cmpi .sge arg1 c2_i32
  let v4 : BitVec 32 := Scalar.extui v3
  let c0_i32 : BitVec 32 := 0#32
  let v5 : BitVec 1 := Scalar.cmpi .ne v4 c0_i32
  v5

def k2_cond2 (i : grid2.Coords) : BitVec 1 :=
  let arg1 : BitVec 32 := BitVec.ofNat 32 (i 1).val
  let c2_i32_0 : BitVec 32 := 2#32
  let v6 : BitVec 1 := Scalar.cmpi .slt arg1 c2_i32_0
  let v7 : BitVec 32 := Scalar.extui v6
  let c0_i32_1 : BitVec 32 := 0#32
  let v8 : BitVec 1 := Scalar.cmpi .ne v7 c0_i32_1
  v8

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc2_transform_2 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_3 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc2_transform_4 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc2_transform_5 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_6 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 1 → Memref sig .tc .vmem S8x256x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x256x512 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== ReferenceIdeal.lean ====
abbrev S4x4096x1024 : Shape := ⟨3, ![4, 4096, 1024]⟩
abbrev S1024 : Shape := ⟨1, ![1024]⟩
abbrev S4x1x1024 : Shape := ⟨3, ![4, 1, 1024]⟩
abbrev S1024x4608 : Shape := ⟨2, ![1024, 4608]⟩
abbrev S64 : Shape := ⟨1, ![64]⟩
abbrev S8x257 : Shape := ⟨2, ![8, 257]⟩
abbrev S1024x2048 : Shape := ⟨2, ![1024, 2048]⟩
abbrev S16384x1024 : Shape := ⟨2, ![16384, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4608 : Shape := ⟨3, ![4, 4096, 4608]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x64x64x8x64 : Shape := ⟨5, ![4, 64, 64, 8, 64]⟩
abbrev S4x4608x8x64 : Shape := ⟨4, ![4, 4608, 8, 64]⟩
abbrev S4x72x64x8x64 : Shape := ⟨5, ![4, 72, 64, 8, 64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S4x64x9x64x8x64 : Shape := ⟨6, ![4, 64, 9, 64, 8, 64]⟩
abbrev S4x64x576x8x64 : Shape := ⟨5, ![4, 64, 576, 8, 64]⟩
abbrev S4x64x8x64x576 : Shape := ⟨5, ![4, 64, 8, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x64x1x1x576 : Shape := ⟨5, ![1, 64, 1, 1, 576]⟩
abbrev S1x1x8x64x576 : Shape := ⟨5, ![1, 1, 8, 64, 576]⟩
abbrev S4x64x8x64 : Shape := ⟨4, ![4, 64, 8, 64]⟩
abbrev S4x64x8x64x1 : Shape := ⟨5, ![4, 64, 8, 64, 1]⟩
abbrev S4x64x8x64x64 : Shape := ⟨5, ![4, 64, 8, 64, 64]⟩

abbrev nBuf : Space → Nat
  | .hbm => 229
  | .vmem => 0
  | .smem => 0
  | _ => 0

abbrev hbmTy0_0 (i : Nat) : BufTy := match i % 128 with
  | 0 => ⟨S4x4096x1024, .f32⟩
  | 1 => ⟨S1024, .f32⟩
  | 2 => ⟨S4x1x1024, .f32⟩
  | 3 => ⟨S4x1x1024, .f32⟩
  | 4 => ⟨S1024x4608, .f32⟩
  | 5 => ⟨S64, .f32⟩
  | 6 => ⟨S64, .f32⟩
  | 7 => ⟨S8x257, .f32⟩
  | 8 => ⟨S1024x2048, .f32⟩
  | 9 => ⟨S16384x1024, .f32⟩
  | 10 => ⟨S16384x1024, .f32⟩
  | 11 => ⟨S4x4096x1024, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S_, .f32⟩
  | 19 => ⟨S4x4096x1, .f32⟩
  | 20 => ⟨S4x4096x1, .f32⟩
  | 21 => ⟨S4x4096x1, .f32⟩
  | 22 => ⟨S4x4096x1024, .f32⟩
  | 23 => ⟨S4x4096x1024, .f32⟩
  | 24 => ⟨S1x1x1024, .f32⟩
  | 25 => ⟨S4x4096x1024, .f32⟩
  | 26 => ⟨S4x4096x1024, .f32⟩
  | 27 => ⟨S_, .f32⟩
  | 28 => ⟨S4x1x1024, .f32⟩
  | 29 => ⟨S4x1x1024, .f32⟩
  | 30 => ⟨S4x4096x1024, .f32⟩
  | 31 => ⟨S4x4096x1024, .f32⟩
  | 32 => ⟨S4x4096x1024, .f32⟩
  | 33 => ⟨S4x4096x1024, .f32⟩
  | 34 => ⟨S4x4096x4608, .f32⟩
  | 35 => ⟨S4x4096x512, .f32⟩
  | 36 => ⟨S4x4096x512, .f32⟩
  | 37 => ⟨S4x4096x512, .f32⟩
  | 38 => ⟨S4x4096x512, .f32⟩
  | 39 => ⟨S4x4096x512, .f32⟩
  | 40 => ⟨S4x4096x1024, .f32⟩
  | 41 => ⟨S4x4096x1024, .f32⟩
  | 42 => ⟨S4x4096x512, .f32⟩
  | 43 => ⟨S4x4096x512, .f32⟩
  | 44 => ⟨S_, .f32⟩
  | 45 => ⟨S4x4096x512, .f32⟩
  | 46 => ⟨S4x4096x512, .f32⟩
  | 47 => ⟨S_, .f32⟩
  | 48 => ⟨S4x4096x512, .f32⟩
  | 49 => ⟨S4x4096x512, .f32⟩
  | 50 => ⟨S4x4096x512, .f32⟩
  | 51 => ⟨S4x4096x8x64, .f32⟩
  | 52 => ⟨S4x4096x8x64, .f32⟩
  | 53 => ⟨S_, .f32⟩
  | 54 => ⟨S4x4096x8, .f32⟩
  | 55 => ⟨S4x4096x8x1, .f32⟩
  | 56 => ⟨S_, .f32⟩
  | 57 => ⟨S4x4096x8x1, .f32⟩
  | 58 => ⟨S4x4096x8x1, .f32⟩
  | 59 => ⟨S_, .f32⟩
  | 60 => ⟨S4x4096x8x1, .f32⟩
  | 61 => ⟨S4x4096x8x1, .f32⟩
  | 62 => ⟨S4x4096x8x1, .f32⟩
  | 63 => ⟨S4x4096x8x64, .f32⟩
  | 64 => ⟨S4x4096x8x64, .f32⟩
  | 65 => ⟨S1x1x1x64, .f32⟩
  | 66 => ⟨S4x4096x8x64, .f32⟩
  | 67 => ⟨S4x4096x8x64, .f32⟩
  | 68 => ⟨S4x4096x8x64, .f32⟩
  | 69 => ⟨S4x4096x8x64, .f32⟩
  | 70 => ⟨S_, .f32⟩
  | 71 => ⟨S4x4096x8, .f32⟩
  | 72 => ⟨S4x4096x8x1, .f32⟩
  | 73 => ⟨S_, .f32⟩
  | 74 => ⟨S4x4096x8x1, .f32⟩
  | 75 => ⟨S4x4096x8x1, .f32⟩
  | 76 => ⟨S_, .f32⟩
  | 77 => ⟨S4x4096x8x1, .f32⟩
  | 78 => ⟨S4x4096x8x1, .f32⟩
  | 79 => ⟨S4x4096x8x1, .f32⟩
  | 80 => ⟨S4x4096x8x64, .f32⟩
  | 81 => ⟨S4x4096x8x64, .f32⟩
  | 82 => ⟨S1x1x1x64, .f32⟩
  | 83 => ⟨S4x4096x8x64, .f32⟩
  | 84 => ⟨S4x4096x8x64, .f32⟩
  | 85 => ⟨S4x4096x8x64, .f32⟩
  | 86 => ⟨S4x64x64x8x64, .f32⟩
  | 87 => ⟨S_, .i32⟩
  | 88 => ⟨S_, .f32⟩
  | 89 => ⟨S4x4608x8x64, .f32⟩
  | 90 => ⟨S4x72x64x8x64, .f32⟩
  | 91 => ⟨S_, .i32⟩
  | 92 => ⟨S_, .f32⟩
  | 93 => ⟨S4x4608x8x64, .f32⟩
  | 94 => ⟨S4x72x64x8x64, .f32⟩
  | 95 => ⟨S64, .i32⟩
  | 96 => ⟨S64x1, .i32⟩
  | 97 => ⟨S9, .i32⟩
  | 98 => ⟨S1x9, .i32⟩
  | 99 => ⟨S64x9, .i32⟩
  | 100 => ⟨S64x9, .i32⟩
  | 101 => ⟨S64x9, .i32⟩
  | 102 => ⟨S_, .i32⟩
  | 103 => ⟨S64x9, .i32⟩
  | 104 => ⟨S64x9, .i1⟩
  | 105 => ⟨S_, .i32⟩
  | 106 => ⟨S64x9, .i32⟩
  | 107 => ⟨S64x9, .i32⟩
  | 108 => ⟨S64x9, .i32⟩
  | 109 => ⟨S64x9x1, .i32⟩
  | 110 => ⟨S4x64x9x64x8x64, .f32⟩
  | 111 => ⟨S4x64x576x8x64, .f32⟩
  | 112 => ⟨S_, .i32⟩
  | 113 => ⟨S64x9, .i32⟩
  | 114 => ⟨S64x9, .i1⟩
  | 115 => ⟨S_, .i32⟩
  | 116 => ⟨S64x9, .i32⟩
  | 117 => ⟨S64x9, .i32⟩
  | 118 => ⟨S64x9, .i32⟩
  | 119 => ⟨S64x9x1, .i32⟩
  | 120 => ⟨S4x64x9x64x8x64, .f32⟩
  | 121 => ⟨S4x64x576x8x64, .f32⟩
  | 122 => ⟨S4x64x8x64x576, .f32⟩
  | 123 => ⟨S_, .f32⟩
  | 124 => ⟨S4x64x8x64x576, .f32⟩
  | 125 => ⟨S4x64x8x64x576, .f32⟩
  | 126 => ⟨S64, .i32⟩
  | 127 => ⟨S_, .i32⟩
  | _ => ⟨S4x4096x1024, .f32⟩

abbrev hbmTy0_1 (i : Nat) : BufTy := match i % 128 with
  | 0 => ⟨S64, .i32⟩
  | 1 => ⟨S64, .i32⟩
  | 2 => ⟨S576, .i32⟩
  | 3 => ⟨S64x1, .i32⟩
  | 4 => ⟨S1x576, .i32⟩
  | 5 => ⟨S64x576, .i32⟩
  | 6 => ⟨S64x576, .i32⟩
  | 7 => ⟨S64x576, .i32⟩
  | 8 => ⟨S_, .i32⟩
  | 9 => ⟨S_, .i32⟩
  | 10 => ⟨S_, .i32⟩
  | 11 => ⟨S64x576, .i32⟩
  | 12 => ⟨S64x576, .i32⟩
  | 13 => ⟨S_, .i32⟩
  | 14 => ⟨S64x576, .i32⟩
  | 15 => ⟨S64x576, .i32⟩
  | 16 => ⟨S_, .i32⟩
  | 17 => ⟨S64x576, .i32⟩
  | 18 => ⟨S64x576, .i32⟩
  | 19 => ⟨S_, .i32⟩
  | 20 => ⟨S64x576, .i32⟩
  | 21 => ⟨S64x576, .i1⟩
  | 22 => ⟨S_, .i32⟩
  | 23 => ⟨S64x576, .i32⟩
  | 24 => ⟨S64x576, .i32⟩
  | 25 => ⟨S64x576, .i32⟩
  | 26 => ⟨S64x576x1, .i32⟩
  | 27 => ⟨S8x64x576, .f32⟩
  | 28 => ⟨S64, .i32⟩
  | 29 => ⟨S64x1, .i32⟩
  | 30 => ⟨S_, .i32⟩
  | 31 => ⟨S64x1, .i32⟩
  | 32 => ⟨S64x1, .i32⟩
  | 33 => ⟨S1x576, .i32⟩
  | 34 => ⟨S_, .i32⟩
  | 35 => ⟨S_, .i32⟩
  | 36 => ⟨S1x576, .i32⟩
  | 37 => ⟨S1x576, .i32⟩
  | 38 => ⟨S1x576, .i32⟩
  | 39 => ⟨S_, .i32⟩
  | 40 => ⟨S1x576, .i32⟩
  | 41 => ⟨S1x576, .i1⟩
  | 42 => ⟨S1x576, .i32⟩
  | 43 => ⟨S1x576, .i32⟩
  | 44 => ⟨S_, .i32⟩
  | 45 => ⟨S1x576, .i32⟩
  | 46 => ⟨S1x576, .i1⟩
  | 47 => ⟨S1x576, .i1⟩
  | 48 => ⟨S_, .i32⟩
  | 49 => ⟨S1x576, .i32⟩
  | 50 => ⟨S1x576, .i32⟩
  | 51 => ⟨S1x576, .i32⟩
  | 52 => ⟨S64x576, .i32⟩
  | 53 => ⟨S64x576, .i32⟩
  | 54 => ⟨S64x576, .i32⟩
  | 55 => ⟨S_, .i32⟩
  | 56 => ⟨S64x576, .i32⟩
  | 57 => ⟨S64x576, .i1⟩
  | 58 => ⟨S1x64x1x1x576, .i1⟩
  | 59 => ⟨S1x1x8x64x576, .f32⟩
  | 60 => ⟨S4x64x8x64x576, .f32⟩
  | 61 => ⟨S4x64x8x64x576, .f32⟩
  | 62 => ⟨S_, .f32⟩
  | 63 => ⟨S_, .f32⟩
  | 64 => ⟨S4x64x8x64x576, .i1⟩
  | 65 => ⟨S4x64x8x64x576, .f32⟩
  | 66 => ⟨S4x64x8x64x576, .f32⟩
  | 67 => ⟨S_, .f32⟩
  | 68 => ⟨S4x64x8x64, .f32⟩
  | 69 => ⟨S_, .f32⟩
  | 70 => ⟨S4x64x8x64, .f32⟩
  | 71 => ⟨S4x64x8x64, .f32⟩
  | 72 => ⟨S4x64x8x64x1, .f32⟩
  | 73 => ⟨S4x64x8x64x576, .f32⟩
  | 74 => ⟨S4x64x8x64x576, .f32⟩
  | 75 => ⟨S4x64x8x64x576, .f32⟩
  | 76 => ⟨S_, .f32⟩
  | 77 => ⟨S4x64x8x64, .f32⟩
  | 78 => ⟨S4x64x8x64x1, .f32⟩
  | 79 => ⟨S4x64x8x64x576, .f32⟩
  | 80 => ⟨S4x64x8x64x576, .f32⟩
  | 81 => ⟨S4x64x8x64x64, .f32⟩
  | 82 => ⟨S4x64x64x8x64, .f32⟩
  | 83 => ⟨S4x4096x512, .f32⟩
  | 84 => ⟨S4x4096x1024, .f32⟩
  | 85 => ⟨S4x4096x1024, .f32⟩
  | 86 => ⟨S_, .f32⟩
  | 87 => ⟨S4x4096x1024, .f32⟩
  | 88 => ⟨S4x4096x1024, .f32⟩
  | 89 => ⟨S_, .f32⟩
  | 90 => ⟨S4x4096x1024, .f32⟩
  | 91 => ⟨S4x4096x1024, .f32⟩
  | 92 => ⟨S4x4096x1024, .f32⟩
  | 93 => ⟨S4x4096x1024, .f32⟩
  | 94 => ⟨S_, .f32⟩
  | 95 => ⟨S4x4096x1024, .f32⟩
  | 96 => ⟨S4x4096x1024, .f32⟩
  | 97 => ⟨S_, .f32⟩
  | 98 => ⟨S4x4096x1024, .f32⟩
  | 99 => ⟨S4x4096x1024, .f32⟩
  | 100 => ⟨S4x4096x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c : Ref sig .tc := ⟨.hbm, 87, rfl⟩
abbrev main_call0_v0 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_call1_v0 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_12 : Ref sig .tc := ⟨.hbm, 102, rfl⟩
abbrev main_v75 : Ref sig .tc := ⟨.hbm, 103, rfl⟩
abbrev main_v76 : Ref sig .tc := ⟨.hbm, 104, rfl⟩
abbrev main_c_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_14 : Ref sig .tc := ⟨.hbm, 112, rfl⟩
abbrev main_v83 : Ref sig .tc := ⟨.hbm, 113, rfl⟩
abbrev main_v84 : Ref sig .tc := ⟨.hbm, 114, rfl⟩
abbrev main_c_15 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_16 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_17 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_18 : Ref sig .tc := ⟨.hbm, 136, rfl⟩
abbrev main_c_19 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_v103 : Ref sig .tc := ⟨.hbm, 143, rfl⟩
abbrev main_c_20 : Ref sig .tc := ⟨.hbm, 144, rfl⟩
abbrev main_v104 : Ref sig .tc := ⟨.hbm, 145, rfl⟩
abbrev main_v105 : Ref sig .tc := ⟨.hbm, 146, rfl⟩
abbrev main_c_21 : Ref sig .tc := ⟨.hbm, 147, rfl⟩
abbrev main_v106 : Ref sig .tc := ⟨.hbm, 148, rfl⟩
abbrev main_v107 : Ref sig .tc := ⟨.hbm, 149, rfl⟩
abbrev main_c_22 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_c_23 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_24 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_c : Ref sig .tc := ⟨.hbm, 172, rfl⟩
abbrev main_call3_v9 : Ref sig .tc := ⟨.hbm, 173, rfl⟩
abbrev main_call3_v10 : Ref sig .tc := ⟨.hbm, 174, rfl⟩
abbrev main_call3_v11 : Ref sig .tc := ⟨.hbm, 175, rfl⟩
abbrev main_call3_c_0 : Ref sig .tc := ⟨.hbm, 176, rfl⟩
abbrev main_call3_v12 : Ref sig .tc := ⟨.hbm, 177, rfl⟩
abbrev main_call3_v13 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_c_25 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_26 : Ref sig .tc := ⟨.hbm, 190, rfl⟩
abbrev main_call4_v0 : Ref sig .tc := ⟨.hbm, 191, rfl⟩
abbrev main_call4_v1 : Ref sig .tc := ⟨.hbm, 192, rfl⟩
abbrev main_call4_v2 : Ref sig .tc := ⟨.hbm, 193, rfl⟩
abbrev main_v128 : Ref sig .tc := ⟨.hbm, 194, rfl⟩
abbrev main_cst_27 : Ref sig .tc := ⟨.hbm, 195, rfl⟩
abbrev main_v129 : Ref sig .tc := ⟨.hbm, 196, rfl⟩
abbrev main_cst_28 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_cst_29 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_cst_30 : Ref sig .tc := ⟨.hbm, 214, rfl⟩
abbrev main_v145 : Ref sig .tc := ⟨.hbm, 215, rfl⟩
abbrev main_v146 : Ref sig .tc := ⟨.hbm, 216, rfl⟩
abbrev main_cst_31 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_32 : Ref sig .tc := ⟨.hbm, 222, rfl⟩
abbrev main_v151 : Ref sig .tc := ⟨.hbm, 223, rfl⟩
abbrev main_v152 : Ref sig .tc := ⟨.hbm, 224, rfl⟩
abbrev main_cst_33 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩

abbrev nD : Nat := 1
abbrev τ : Topo := Topo.v7x

variable {F : FTy → Type} [FloatOps F]
-- ==== Merge.lean ====
abbrev S4x4096x512 : Shape := ⟨3, ![4, 4096, 512]⟩
abbrev S4x4096x1024 : Shape := ⟨3, ![4, 4096, 1024]⟩
abbrev S512x1024 : Shape := ⟨2, ![512, 1024]⟩
abbrev S1024x1024 : Shape := ⟨2, ![1024, 1024]⟩
abbrev S4x1x1024 : Shape := ⟨3, ![4, 1, 1024]⟩
abbrev S1024 : Shape := ⟨1, ![1024]⟩
abbrev S1x1024 : Shape := ⟨2, ![1, 1024]⟩
abbrev S1024x16384 : Shape := ⟨2, ![1024, 16384]⟩
abbrev S1x512x512 : Shape := ⟨3, ![1, 512, 512]⟩
abbrev S1x512x1024 : Shape := ⟨3, ![1, 512, 1024]⟩
abbrev S1x1x1024 : Shape := ⟨3, ![1, 1, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S4x4096x512, .bf16⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S512x1024, .f32⟩
  | .hbm, ⟨5, _⟩ => ⟨S1024x1024, .f32⟩
  | .hbm, ⟨6, _⟩ => ⟨S4x1x1024, .f32⟩
  | .hbm, ⟨7, _⟩ => ⟨S1024, .f32⟩
  | .hbm, ⟨8, _⟩ => ⟨S4x1x1024, .f32⟩
  | .hbm, ⟨9, _⟩ => ⟨S4x1x1024, .f32⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S4x4096x1024, .f32⟩
  | .hbm, ⟨14, _⟩ => ⟨S1024x16384, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .bf16⟩
  | .local _ .vmem, ⟨9, _⟩ => ⟨S1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1024x512, .bf16⟩
  | .local _ .vmem, ⟨20, _⟩ => ⟨S1024x512, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S4x4096x512 : Shape := ⟨3, ![4, 4096, 512]⟩
abbrev S4x4096x1024 : Shape := ⟨3, ![4, 4096, 1024]⟩
abbrev S512x1024 : Shape := ⟨2, ![512, 1024]⟩
abbrev S1024x1024 : Shape := ⟨2, ![1024, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S1024x16384 : Shape := ⟨2, ![1024, 16384]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S512x1024, .f32⟩
  | .hbm, ⟨5, _⟩ => ⟨S1024x1024, .f32⟩
  | .hbm, ⟨6, _⟩ => ⟨S4x1x1024, .f32⟩
  | .hbm, ⟨7, _⟩ => ⟨S1024, .f32⟩
  | .hbm, ⟨8, _⟩ => ⟨S4x1x1024, .f32⟩
  | .hbm, ⟨9, _⟩ => ⟨S4x1x1024, .f32⟩
  | .hbm, ⟨10, _⟩ => ⟨S4x4096x512, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S16384x1024, .f32⟩
  | .hbm, ⟨42, _⟩ => ⟨S1024x16384, .f32⟩
  | .hbm, ⟨43, _⟩ => ⟨S1024x16384, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Conv.lean ====
abbrev S4x4096x512 : Shape := ⟨3, ![4, 4096, 512]⟩
abbrev S31x512 : Shape := ⟨2, ![31, 512]⟩
abbrev S512 : Shape := ⟨1, ![512]⟩
abbrev S512x1024 : Shape := ⟨2, ![512, 1024]⟩
abbrev S4x4096x1024 : Shape := ⟨3, ![4, 4096, 1024]⟩
abbrev S1x512 : Shape := ⟨2, ![1, 512]⟩
abbrev S1x512x512 : Shape := ⟨3, ![1, 512, 512]⟩
abbrev S1x512x1024 : Shape := ⟨3, ![1, 512, 1024]⟩
abbrev S8x544x512 : Shape := ⟨3, ![8, 544, 512]⟩
abbrev S512x512 : Shape := ⟨2, ![512, 512]⟩
abbrev S1x32x512 : Shape := ⟨3, ![1, 32, 512]⟩
abbrev S32x512 : Shape := ⟨2, ![32, 512]⟩
abbrev S1x64x512 : Shape := ⟨3, ![1, 64, 512]⟩
abbrev S64x512 : Shape := ⟨2, ![64, 512]⟩
abbrev S1x24x512 : Shape := ⟨3, ![1, 24, 512]⟩
abbrev S24x512 : Shape := ⟨2, ![24, 512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x512, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x1024, .f32⟩
  | .hbm, ⟨6, _⟩ => ⟨S4x4096x1024, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S512x1024, .bf16⟩
  | .hbm, ⟨11, _⟩ => ⟨S4x4096x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S8x544x512, .f32⟩
  | .local _ .vmem, ⟨14, _⟩ => ⟨S512x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvReferenceIdeal.lean ====
abbrev S4x4096x512 : Shape := ⟨3, ![4, 4096, 512]⟩
abbrev S31x512 : Shape := ⟨2, ![31, 512]⟩
abbrev S512 : Shape := ⟨1, ![512]⟩
abbrev S512x1024 : Shape := ⟨2, ![512, 1024]⟩
abbrev S4x4096x1024 : Shape := ⟨3, ![4, 4096, 1024]⟩
abbrev S_ : Shape := ⟨0, ![]⟩
abbrev S4x4126x512 : Shape := ⟨3, ![4, 4126, 512]⟩
abbrev S1x512 : Shape := ⟨2, ![1, 512]⟩
abbrev S1x1x512 : Shape := ⟨3, ![1, 1, 512]⟩
abbrev S4x4096 : Shape := ⟨2, ![4, 4096]⟩
abbrev S4x4096x1 : Shape := ⟨3, ![4, 4096, 1]⟩

abbrev nBuf : Space → Nat
  | .hbm => 272
  | .vmem => 0
  | .smem => 0
  | _ => 0

abbrev hbmTy0_0 (i : Nat) : BufTy := match i % 128 with
  | 0 => ⟨S4x4096x512, .f32⟩
  | 1 => ⟨S31x512, .f32⟩
  | 2 => ⟨S512, .f32⟩
  | 3 => ⟨S512, .f32⟩
  | 4 => ⟨S512, .f32⟩
  | 5 => ⟨S512x1024, .f32⟩
  | 6 => ⟨S4x4096x1024, .f32⟩
  | 7 => ⟨S_, .i32⟩
  | 8 => ⟨S_, .f32⟩
  | 9 => ⟨S4x4126x512, .f32⟩
  | 10 => ⟨S4x4096x512, .f32⟩
  | 11 => ⟨S1x512, .f32⟩
  | 12 => ⟨S512, .f32⟩
  | 13 => ⟨S1x1x512, .f32⟩
  | 14 => ⟨S4x4096x512, .f32⟩
  | 15 => ⟨S4x4096x512, .f32⟩
  | 16 => ⟨S_, .f32⟩
  | 17 => ⟨S4x4096x512, .f32⟩
  | 18 => ⟨S4x4096x512, .f32⟩
  | 19 => ⟨S4x4096x512, .f32⟩
  | 20 => ⟨S1x512, .f32⟩
  | 21 => ⟨S512, .f32⟩
  | 22 => ⟨S1x1x512, .f32⟩
  | 23 => ⟨S4x4096x512, .f32⟩
  | 24 => ⟨S4x4096x512, .f32⟩
  | 25 => ⟨S4x4096x512, .f32⟩
  | 26 => ⟨S4x4096x512, .f32⟩
  | 27 => ⟨S1x512, .f32⟩
  | 28 => ⟨S512, .f32⟩
  | 29 => ⟨S1x1x512, .f32⟩
  | 30 => ⟨S4x4096x512, .f32⟩
  | 31 => ⟨S4x4096x512, .f32⟩
  | 32 => ⟨S4x4096x512, .f32⟩
  | 33 => ⟨S4x4096x512, .f32⟩
  | 34 => ⟨S1x512, .f32⟩
  | 35 => ⟨S512, .f32⟩
  | 36 => ⟨S1x1x512, .f32⟩
  | 37 => ⟨S4x4096x512, .f32⟩
  | 38 => ⟨S4x4096x512, .f32⟩
  | 39 => ⟨S4x4096x512, .f32⟩
  | 40 => ⟨S4x4096x512, .f32⟩
  | 41 => ⟨S1x512, .f32⟩
  | 42 => ⟨S512, .f32⟩
  | 43 => ⟨S1x1x512, .f32⟩
  | 44 => ⟨S4x4096x512, .f32⟩
  | 45 => ⟨S4x4096x512, .f32⟩
  | 46 => ⟨S4x4096x512, .f32⟩
  | 47 => ⟨S4x4096x512, .f32⟩
  | 48 => ⟨S1x512, .f32⟩
  | 49 => ⟨S512, .f32⟩
  | 50 => ⟨S1x1x512, .f32⟩
  | 51 => ⟨S4x4096x512, .f32⟩
  | 52 => ⟨S4x4096x512, .f32⟩
  | 53 => ⟨S4x4096x512, .f32⟩
  | 54 => ⟨S4x4096x512, .f32⟩
  | 55 => ⟨S1x512, .f32⟩
  | 56 => ⟨S512, .f32⟩
  | 57 => ⟨S1x1x512, .f32⟩
  | 58 => ⟨S4x4096x512, .f32⟩
  | 59 => ⟨S4x4096x512, .f32⟩
  | 60 => ⟨S4x4096x512, .f32⟩
  | 61 => ⟨S4x4096x512, .f32⟩
  | 62 => ⟨S1x512, .f32⟩
  | 63 => ⟨S512, .f32⟩
  | 64 => ⟨S1x1x512, .f32⟩
  | 65 => ⟨S4x4096x512, .f32⟩
  | 66 => ⟨S4x4096x512, .f32⟩
  | 67 => ⟨S4x4096x512, .f32⟩
  | 68 => ⟨S4x4096x512, .f32⟩
  | 69 => ⟨S1x512, .f32⟩
  | 70 => ⟨S512, .f32⟩
  | 71 => ⟨S1x1x512, .f32⟩
  | 72 => ⟨S4x4096x512, .f32⟩
  | 73 => ⟨S4x4096x512, .f32⟩
  | 74 => ⟨S4x4096x512, .f32⟩
  | 75 => ⟨S4x4096x512, .f32⟩
  | 76 => ⟨S1x512, .f32⟩
  | 77 => ⟨S512, .f32⟩
  | 78 => ⟨S1x1x512, .f32⟩
  | 79 => ⟨S4x4096x512, .f32⟩
  | 80 => ⟨S4x4096x512, .f32⟩
  | 81 => ⟨S4x4096x512, .f32⟩
  | 82 => ⟨S4x4096x512, .f32⟩
  | 83 => ⟨S1x512, .f32⟩
  | 84 => ⟨S512, .f32⟩
  | 85 => ⟨S1x1x512, .f32⟩
  | 86 => ⟨S4x4096x512, .f32⟩
  | 87 => ⟨S4x4096x512, .f32⟩
  | 88 => ⟨S4x4096x512, .f32⟩
  | 89 => ⟨S4x4096x512, .f32⟩
  | 90 => ⟨S1x512, .f32⟩
  | 91 => ⟨S512, .f32⟩
  | 92 => ⟨S1x1x512, .f32⟩
  | 93 => ⟨S4x4096x512, .f32⟩
  | 94 => ⟨S4x4096x512, .f32⟩
  | 95 => ⟨S4x4096x512, .f32⟩
  | 96 => ⟨S4x4096x512, .f32⟩
  | 97 => ⟨S1x512, .f32⟩
  | 98 => ⟨S512, .f32⟩
  | 99 => ⟨S1x1x512, .f32⟩
  | 100 => ⟨S4x4096x512, .f32⟩
  | 101 => ⟨S4x4096x512, .f32⟩
  | 102 => ⟨S4x4096x512, .f32⟩
  | 103 => ⟨S4x4096x512, .f32⟩
  | 104 => ⟨S1x512, .f32⟩
  | 105 => ⟨S512, .f32⟩
  | 106 => ⟨S1x1x512, .f32⟩
  | 107 => ⟨S4x4096x512, .f32⟩
  | 108 => ⟨S4x4096x512, .f32⟩
  | 109 => ⟨S4x4096x512, .f32⟩
  | 110 => ⟨S4x4096x512, .f32⟩
  | 111 => ⟨S1x512, .f32⟩
  | 112 => ⟨S512, .f32⟩
  | 113 => ⟨S1x1x512, .f32⟩
  | 114 => ⟨S4x4096x512, .f32⟩
  | 115 => ⟨S4x4096x512, .f32⟩
  | 116 => ⟨S4x4096x512, .f32⟩
  | 117 => ⟨S4x4096x512, .f32⟩
  | 118 => ⟨S1x512, .f32⟩
  | 119 => ⟨S512, .f32⟩
  | 120 => ⟨S1x1x512, .f32⟩
  | 121 => ⟨S4x4096x512, .f32⟩
  | 122 => ⟨S4x4096x512, .f32⟩
  | 123 => ⟨S4x4096x512, .f32⟩
  | 124 => ⟨S4x4096x512, .f32⟩
  | 125 => ⟨S1x512, .f32⟩
  | 126 => ⟨S512, .f32⟩
  | 127 => ⟨S1x1x512, .f32⟩
  | _ => ⟨S4x4096x512, .f32⟩

abbrev hbmTy0_1 (i : Nat) : BufTy := match i % 128 with
  | 0 => ⟨S4x4096x512, .f32⟩
  | 1 => ⟨S4x4096x512, .f32⟩
  | 2 => ⟨S4x4096x512, .f32⟩
  | 3 => ⟨S4x4096x512, .f32⟩
  | 4 => ⟨S1x512, .f32⟩
  | 5 => ⟨S512, .f32⟩
  | 6 => ⟨S1x1x512, .f32⟩
  | 7 => ⟨S4x4096x512, .f32⟩
  | 8 => ⟨S4x4096x512, .f32⟩
  | 9 => ⟨S4x4096x512, .f32⟩
  | 10 => ⟨S4x4096x512, .f32⟩
  | 11 => ⟨S1x512, .f32⟩
  | 12 => ⟨S512, .f32⟩
  | 13 => ⟨S1x1x512, .f32⟩
  | 14 => ⟨S4x4096x512, .f32⟩
  | 15 => ⟨S4x4096x512, .f32⟩
  | 16 => ⟨S4x4096x512, .f32⟩
  | 17 => ⟨S4x4096x512, .f32⟩
  | 18 => ⟨S1x512, .f32⟩
  | 19 => ⟨S512, .f32⟩
  | 20 => ⟨S1x1x512, .f32⟩
  | 21 => ⟨S4x4096x512, .f32⟩
  | 22 => ⟨S4x4096x512, .f32⟩
  | 23 => ⟨S4x4096x512, .f32⟩
  | 24 => ⟨S4x4096x512, .f32⟩
  | 25 => ⟨S1x512, .f32⟩
  | 26 => ⟨S512, .f32⟩
  | 27 => ⟨S1x1x512, .f32⟩
  | 28 => ⟨S4x4096x512, .f32⟩
  | 29 => ⟨S4x4096x512, .f32⟩
  | 30 => ⟨S4x4096x512, .f32⟩
  | 31 => ⟨S4x4096x512, .f32⟩
  | 32 => ⟨S1x512, .f32⟩
  | 33 => ⟨S512, .f32⟩
  | 34 => ⟨S1x1x512, .f32⟩
  | 35 => ⟨S4x4096x512, .f32⟩
  | 36 => ⟨S4x4096x512, .f32⟩
  | 37 => ⟨S4x4096x512, .f32⟩
  | 38 => ⟨S4x4096x512, .f32⟩
  | 39 => ⟨S1x512, .f32⟩
  | 40 => ⟨S512, .f32⟩
  | 41 => ⟨S1x1x512, .f32⟩
  | 42 => ⟨S4x4096x512, .f32⟩
  | 43 => ⟨S4x4096x512, .f32⟩
  | 44 => ⟨S4x4096x512, .f32⟩
  | 45 => ⟨S4x4096x512, .f32⟩
  | 46 => ⟨S1x512, .f32⟩
  | 47 => ⟨S512, .f32⟩
  | 48 => ⟨S1x1x512, .f32⟩
  | 49 => ⟨S4x4096x512, .f32⟩
  | 50 => ⟨S4x4096x512, .f32⟩
  | 51 => ⟨S4x4096x512, .f32⟩
  | 52 => ⟨S4x4096x512, .f32⟩
  | 53 => ⟨S1x512, .f32⟩
  | 54 => ⟨S512, .f32⟩
  | 55 => ⟨S1x1x512, .f32⟩
  | 56 => ⟨S4x4096x512, .f32⟩
  | 57 => ⟨S4x4096x512, .f32⟩
  | 58 => ⟨S4x4096x512, .f32⟩
  | 59 => ⟨S4x4096x512, .f32⟩
  | 60 => ⟨S1x512, .f32⟩
  | 61 => ⟨S512, .f32⟩
  | 62 => ⟨S1x1x512, .f32⟩
  | 63 => ⟨S4x4096x512, .f32⟩
  | 64 => ⟨S4x4096x512, .f32⟩
  | 65 => ⟨S4x4096x512, .f32⟩
  | 66 => ⟨S4x4096x512, .f32⟩
  | 67 => ⟨S1x512, .f32⟩
  | 68 => ⟨S512, .f32⟩
  | 69 => ⟨S1x1x512, .f32⟩
  | 70 => ⟨S4x4096x512, .f32⟩
  | 71 => ⟨S4x4096x512, .f32⟩
  | 72 => ⟨S4x4096x512, .f32⟩
  | 73 => ⟨S4x4096x512, .f32⟩
  | 74 => ⟨S1x512, .f32⟩
  | 75 => ⟨S512, .f32⟩
  | 76 => ⟨S1x1x512, .f32⟩
  | 77 => ⟨S4x4096x512, .f32⟩
  | 78 => ⟨S4x4096x512, .f32⟩
  | 79 => ⟨S4x4096x512, .f32⟩
  | 80 => ⟨S4x4096x512, .f32⟩
  | 81 => ⟨S1x512, .f32⟩
  | 82 => ⟨S512, .f32⟩
  | 83 => ⟨S1x1x512, .f32⟩
  | 84 => ⟨S4x4096x512, .f32⟩
  | 85 => ⟨S4x4096x512, .f32⟩
  | 86 => ⟨S4x4096x512, .f32⟩
  | 87 => ⟨S4x4096x512, .f32⟩
  | 88 => ⟨S1x512, .f32⟩
  | 89 => ⟨S512, .f32⟩
  | 90 => ⟨S1x1x512, .f32⟩
  | 91 => ⟨S4x4096x512, .f32⟩
  | 92 => ⟨S4x4096x512, .f32⟩
  | 93 => ⟨S4x4096x512, .f32⟩
  | 94 => ⟨S4x4096x512, .f32⟩
  | 95 => ⟨S1x512, .f32⟩
  | 96 => ⟨S512, .f32⟩
  | 97 => ⟨S1x1x512, .f32⟩
  | 98 => ⟨S4x4096x512, .f32⟩
  | 99 => ⟨S4x4096x512, .f32⟩
  | 100 => ⟨S4x4096x512, .f32⟩
  | 101 => ⟨S1x1x512, .f32⟩
  | 102 => ⟨S4x4096x512, .f32⟩
  | 103 => ⟨S4x4096x512, .f32⟩
  | 104 => ⟨S_, .f32⟩
  | 105 => ⟨S4x4096, .f32⟩
  | 106 => ⟨S4x4096x1, .f32⟩
  | 107 => ⟨S_, .f32⟩
  | 108 => ⟨S4x4096x1, .f32⟩
  | 109 => ⟨S4x4096x1, .f32⟩
  | 110 => ⟨S4x4096x512, .f32⟩
  | 111 => ⟨S4x4096x512, .f32⟩
  | 112 => ⟨S4x4096x512, .f32⟩
  | 113 => ⟨S_, .f32⟩
  | 114 => ⟨S4x4096, .f32⟩
  | 115 => ⟨S4x4096x1, .f32⟩
  | 116 => ⟨S_, .f32⟩
  | 117 => ⟨S4x4096x1, .f32⟩
  | 118 => ⟨S4x4096x1, .f32⟩
  | 119 => ⟨S4x4096x512, .f32⟩
  | 120 => ⟨S4x4096x512, .f32⟩
  | 121 => ⟨S_, .f32⟩
  | 122 => ⟨S4x4096x1, .f32⟩
  | 123 => ⟨S4x4096x1, .f32⟩
  | 124 => ⟨S4x4096x1, .f32⟩
  | 125 => ⟨S4x4096x512, .f32⟩
  | 126 => ⟨S4x4096x512, .f32⟩
  | 127 => ⟨S1x1x512, .f32⟩
  | _ => ⟨S4x4096x512, .f32⟩

abbrev hbmTy0_2 (i : Nat) : BufTy := match i % 128 with
  | 0 => ⟨S4x4096x512, .f32⟩
  | 1 => ⟨S4x4096x512, .f32⟩
  | 2 => ⟨S1x1x512, .f32⟩
  | 3 => ⟨S4x4096x512, .f32⟩
  | 4 => ⟨S4x4096x512, .f32⟩
  | 5 => ⟨S4x4096x512, .f32⟩
  | 6 => ⟨S4x4096x512, .f32⟩
  | 7 => ⟨S_, .f32⟩
  | 8 => ⟨S4x4096x512, .f32⟩
  | 9 => ⟨S4x4096x512, .f32⟩
  | 10 => ⟨S_, .f32⟩
  | 11 => ⟨S4x4096x512, .f32⟩
  | 12 => ⟨S4x4096x512, .f32⟩
  | 13 => ⟨S4x4096x512, .f32⟩
  | 14 => ⟨S4x4096x1024, .f32⟩
  | 15 => ⟨S4x4096x1024, .f32⟩
  | _ => ⟨S4x4096x512, .f32⟩

abbrev hbmTy (i : Nat) : BufTy := match i / 128 with
  | 0 => hbmTy0_0 i
  | 1 => hbmTy0_1 i
  | 2 => hbmTy0_2 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_cst_0 : Ref sig .tc := ⟨.hbm, 232, rfl⟩
abbrev main_v222 : Ref sig .tc := ⟨.hbm, 233, rfl⟩
abbrev main_v223 : Ref sig .tc := ⟨.hbm, 234, rfl⟩
abbrev main_cst_1 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_cst_2 : Ref sig .tc := ⟨.hbm, 241, rfl⟩
abbrev main_v229 : Ref sig .tc := ⟨.hbm, 242, rfl⟩
abbrev main_v230 : Ref sig .tc := ⟨.hbm, 243, rfl⟩
abbrev main_cst_3 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_cst_4 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_cst_5 : Ref sig .tc := ⟨.hbm, 263, rfl⟩
abbrev main_v248 : Ref sig .tc := ⟨.hbm, 264, rfl⟩
abbrev main_v249 : Ref sig .tc := ⟨.hbm, 265, rfl⟩
abbrev main_cst_6 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩

abbrev nD : Nat := 1
abbrev τ : Topo := Topo.v7x

variable {F : FTy → Type} [FloatOps F]
-- ==== Proof.KRun.lean ====
/- The kernel's run, with every buffer that outlives it at its final contents. -/
module

public import proofs.«01_k».proof.Proof.Gen.KernelIdeal.Frame
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c b hb => h c _ (mem_uc b hb))

end Cert.KernelIdeal.Run

end
-- ==== Proof.Softmax.lean ====
/- A softmax-weighted mean over the extended reals, in base two and in base e. -/
module

public import Idealize.ShloMosaic.PureOps.Ideal.Laws
public import Mathlib.Analysis.SpecialFunctions.Pow.Real

@[expose] public section

noncomputable section

namespace Cert.Softmax

open Idealize.ShloMosaic

/-- The weight of a score in base two: nothing at −∞. -/
def wt2 (x : EReal) : ℝ := if x = ⊥ then 0 else Real.rpow 2 x.toReal

/-- The weight of a score in base e. -/
def wtE (x : EReal) : ℝ := if x = ⊥ then 0 else Real.exp x.toReal

theorem wt2_nonneg (x : EReal) : 0 ≤ wt2 x := by
  unfold wt2; split
  · exact le_rfl
  · exact Real.rpow_nonneg (by norm_num) _

theorem wtE_nonneg (x : EReal) : 0 ≤ wtE x := by
  unfold wtE; split
  · exact le_rfl
  · exact (Real.exp_pos _).le

theorem wt2_pos {x : EReal} (h : x ≠ ⊥) : 0 < wt2 x := by
  rw [wt2, if_neg h]; exact Real.rpow_pos_of_pos (by norm_num) _

theorem wtE_pos {x : EReal} (h : x ≠ ⊥) : 0 < wtE x := by
  rw [wtE, if_neg h]; exact Real.exp_pos _

theorem exp2_sub {x : EReal} (hx : x ≠ ⊤) (m : ℝ) :
    Ideal.exp2 (x - (m : EReal)) = ((wt2 x * Real.rpow 2 (-m) : ℝ) : EReal) := by
  induction x using EReal.rec with
  | bot => simp [wt2]
  | top => exact absurd rfl hx
  | coe r =>
    rw [← EReal.coe_sub, Ideal.exp2_coe, wt2, if_neg (EReal.coe_ne_bot r), EReal.toReal_coe, sub_eq_add_neg]
    exact congrArg _ (Real.rpow_add (by norm_num) r (-m))

theorem exp_sub {x : EReal} (hx : x ≠ ⊤) (m : ℝ) :
    Ideal.exp (x - (m : EReal)) = ((wtE x * Real.exp (-m) : ℝ) : EReal) := by
  induction x using EReal.rec with
  | bot => simp [wtE]
  | top => exact absurd rfl hx
  | coe r =>
    rw [← EReal.coe_sub, Ideal.exp_coe, wtE, if_neg (EReal.coe_ne_bot r), EReal.toReal_coe, sub_eq_add_neg, Real.exp_add]

/-- A score in base two that is a score in base e times `1 / log 2`. -/
theorem wt2_scaled (x : ℝ) : wt2 ((x * (1 / Real.log 2) : ℝ) : EReal) = wtE (x : EReal) := by
  rw [wt2, wtE, if_neg (EReal.coe_ne_bot _), if_neg (EReal.coe_ne_bot _), EReal.toReal_coe, EReal.toReal_coe]
  have h2 : Real.log 2 ≠ 0 := (Real.log_pos (by norm_num)).ne'
  show (2 : ℝ) ^ (x * (1 / Real.log 2)) = _
  rw [Real.rpow_def_of_pos (by norm_num)]
  congr 1; field_simp

theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- The greatest of finitely many scores below +∞, one of them a number, is a number. -/
theorem sup_real {ι : Type*} [Fintype ι] (f : ι → EReal) (hf : ∀ i, f i ≠ ⊤) (i₀ : ι) (h₀ : f i₀ ≠ ⊥) :
    ∃ m : ℝ, Finset.univ.sup f = (m : EReal) := by
  have ht : Finset.univ.sup f ≠ ⊤ := by
    refine ne_of_lt ((Finset.sup_lt_iff (bot_lt_top)).mpr fun i _ => lt_top_iff_ne_top.mpr (hf i))
  have hb : Finset.univ.sup f ≠ ⊥ := by
    intro h
    exact h₀ (le_bot_iff.mp (h ▸ Finset.le_sup (f := f) (Finset.mem_univ i₀)))
  exact ⟨_, (EReal.coe_toReal ht hb).symm⟩

variable {ι : Type*} [Fintype ι]

/-- The quotient of the weighted sums, in base two. -/
theorem mean2 (s : ι → EReal) (v : ι → ℝ) (m : ℝ) (hs : ∀ i, s i ≠ ⊤) (i₀ : ι) (h₀ : s i₀ ≠ ⊥) :
    Ideal.div (∑ i, Ideal.exp2 (s i - (m : EReal)) * (v i : EReal)) (∑ i, Ideal.exp2 (s i - (m : EReal)))
      = (((∑ i, wt2 (s i) * v i) / (∑ i, wt2 (s i)) : ℝ) : EReal) := by
  have hc : 0 < Real.rpow 2 (-m) := Real.rpow_pos_of_pos (by norm_num) _
  have hpos : 0 < ∑ i, wt2 (s i) :=
    Finset.sum_pos' (fun i _ => wt2_nonneg _) ⟨i₀, Finset.mem_univ _, wt2_pos h₀⟩
  have hd : (∑ i, Ideal.exp2 (s i - (m : EReal))) = (((∑ i, wt2 (s i)) * Real.rpow 2 (-m) : ℝ) : EReal) := by
    rw [Finset.sum_mul, coe_sum]
    exact Finset.sum_congr rfl fun i _ => exp2_sub (hs i) m
  have hn : (∑ i, Ideal.exp2 (s i - (m : EReal)) * (v i : EReal)) = (((∑ i, wt2 (s i) * v i) * Real.rpow 2 (-m) : ℝ) : EReal) := by
    rw [Finset.sum_mul, coe_sum]
    refine Finset.sum_congr rfl fun i _ => ?_
    rw [exp2_sub (hs i) m, ← EReal.coe_mul]; congr 1; ring
  rw [hn, hd, Ideal.div_coe (mul_pos hpos hc).ne', ← EReal.coe_mul]
  congr 1
  field_simp

/-- Base e, each weight divided before it meets its value. -/
theorem meanE (s : ι → EReal) (v : ι → ℝ) (m : ℝ) (hs : ∀ i, s i ≠ ⊤) (i₀ : ι) (h₀ : s i₀ ≠ ⊥) :
    (∑ i, Ideal.div (Ideal.exp (s i - (m : EReal))) (∑ i, Ideal.exp (s i - (m : EReal))) * (v i : EReal))
      = (((∑ i, wtE (s i) * v i) / (∑ i, wtE (s i)) : ℝ) : EReal) := by
  have hc : 0 < Real.exp (-m) := Real.exp_pos _
  have hpos : 0 < ∑ i, wtE (s i) :=
    Finset.sum_pos' (fun i _ => wtE_nonneg _) ⟨i₀, Finset.mem_univ _, wtE_pos h₀⟩
  have hd : (∑ i, Ideal.exp (s i - (m : EReal))) = (((∑ i, wtE (s i)) * Real.exp (-m) : ℝ) : EReal) := by
    rw [Finset.sum_mul, coe_sum]
    exact Finset.sum_congr rfl fun i _ => exp_sub (hs i) m
  rw [hd, Finset.sum_div, coe_sum]
  refine Finset.sum_congr rfl fun i _ => ?_
  rw [exp_sub (hs i) m, Ideal.div_coe (mul_pos hpos hc).ne', ← EReal.coe_mul, ← EReal.coe_mul]
  congr 1
  field_simp

/-- A function on `768` places that vanishes off the `576` from `64 a` on. -/
theorem sum_band (f : ℕ → ℝ) (a : ℕ) (ha : a < 4) (h : ∀ k, k < 64 * a ∨ 64 * a + 576 ≤ k → f k = 0) :
    (∑ j : Fin 3, ∑ c : Fin 256, f (256 * j.val + c.val)) = ∑ k : Fin 576, f (64 * a + k.val) := by
  have h1 : (∑ j : Fin 3, ∑ c : Fin 256, f (256 * j.val + c.val)) = ∑ k ∈ Finset.range 768, f k := by
    rw [Fin.sum_univ_three]
    have e := fun b => Fin.sum_univ_eq_sum_range (fun c => f (b + c)) 256
    rw [e, e, e]
    rw [show (768 : ℕ) = 256 + (256 + 256) from rfl, Finset.sum_range_add, Finset.sum_range_add]
    simp only [Fin.val_zero, Fin.val_one, Fin.val_two, mul_zero, zero_add, mul_one, ← add_assoc]
  have h2 : (∑ k : Fin 576, f (64 * a + k.val)) = ∑ k ∈ Finset.Ico (64 * a) (64 * a + 576), f k := by
    rw [Fin.sum_univ_eq_sum_range (fun c => f (64 * a + c)), Finset.sum_Ico_eq_sum_range]
    simp
  rw [h1, h2]
  symm
  refine Finset.sum_subset (fun k hk => ?_) fun k _ hk => h k ?_
  · simp only [Finset.mem_Ico, Finset.mem_range] at hk ⊢; omega
  · simp only [Finset.mem_Ico] at hk; omega

end Cert.Softmax

end
-- ==== Proof.Spec.lean ====
/- Attention over a band of chunks, in real arithmetic: the value both programs come to, and the tile-wise form of it. -/
module

public import proofs.«01_k».proof.Proof.Softmax

@[expose] public section

set_option maxRecDepth 16384

noncomputable section

namespace Cert.Spec

open Idealize.ShloMosaic Cert.Softmax

/-! ## Literals -/

theorem one_f32 : Ideal.ofBits .f32 0x3F800000#32 = ((1 : ℝ) : EReal) := by
  simp [Ideal.ofBits, Ideal.ieee]; rw [← EReal.coe_one, ← EReal.coe_mul]; norm_num

theorem f1024 : Ideal.ofBits .f32 0x44800000#32 = ((1024 : ℝ) : EReal) := by
  simp [Ideal.ofBits, Ideal.ieee]; rw [← EReal.coe_mul]; norm_num

theorem f64 : Ideal.ofBits .f32 0x42800000#32 = ((64 : ℝ) : EReal) := by
  simp [Ideal.ofBits, Ideal.ieee]; rw [← EReal.coe_mul]; norm_num

theorem inv64 : Ideal.ofBits .f32 0x3C800000#32 = ((1 / 64 : ℝ) : EReal) := by
  simp [Ideal.ofBits, Ideal.ieee]; rw [← EReal.coe_mul]; norm_num

theorem inv8 : Ideal.ofBits .f32 0x3E000000#32 = ((1 / 8 : ℝ) : EReal) := by
  simp [Ideal.ofBits, Ideal.ieee]; rw [← EReal.coe_mul]; norm_num

theorem eps_real : ∃ e : ℝ, 0 < e ∧ Ideal.ofBits .f32 0x358637BD#32 = (e : EReal) := by
  refine ⟨8796093 * (2 ^ 43)⁻¹, by norm_num, ?_⟩
  simp [Ideal.ofBits, Ideal.ieee]

/-- The number added under the root. -/
def eps : ℝ := eps_real.choose
theorem eps_pos : 0 < eps := eps_real.choose_spec.1
theorem eps_eq : Ideal.ofBits .f32 0x358637BD#32 = (eps : EReal) := eps_real.choose_spec.2

/-! ## The projection -/

/-- A row normalised by its root mean square, one entry: over n entries. -/
def nrm {n : ℕ} (t g : Fin n → ℝ) (d : Fin n) : ℝ := t d * (√((∑ k, t k * t k) / n + eps))⁻¹ * g d

theorem ms_pos {n : ℕ} (t : Fin n → ℝ) : 0 < (∑ k, t k * t k) / n + eps :=
  add_pos_of_nonneg_of_pos (div_nonneg (Finset.sum_nonneg fun _ _ => mul_self_nonneg _) (Nat.cast_nonneg n)) eps_pos

theorem rsqrt_pos {x : ℝ} (h : 0 < x) : Ideal.rsqrt (x : EReal) = (((√x)⁻¹ : ℝ) : EReal) := by
  simp [h.le.not_gt, h.ne']

/-- One entry of the modulated activation. -/
def hid (x g sc sh : Fin 1024 → ℝ) (k : Fin 1024) : ℝ := nrm x g k * (1 + sc k) + sh k

/-! ## The attention -/

/-- The position of a key of the band of chunk n. -/
def kpos (n : Fin 64) (c : Fin 576) : Fin 4096 := ⟨64 * n.val + c.val - 512, by omega⟩

def qpos (n : Fin 64) (r : Fin 64) : Fin 4096 := ⟨64 * n.val + r.val, by omega⟩

/-- The distance from query r to key c of the band, clipped to the table. -/
def rel (r c : ℕ) : Fin 257 := ⟨min (640 + r - c) 256, by omega⟩

/-- A score before masking. -/
def raw (q k : Fin 64 → ℝ) (b : ℝ) : ℝ := (∑ d, q d * k d) * (1 / 8) + b

def logit (q k : Fin 4096 → Fin 64 → ℝ) (b : Fin 257 → ℝ) (n : Fin 64) (r : Fin 64) (c : Fin 576) : EReal :=
  if 512 ≤ 64 * n.val + c.val then ((raw (q (qpos n r)) (k (kpos n c)) (b (rel r.val c.val)) : ℝ) : EReal) else ⊥

/-- The attention's output at a query, one entry. -/
def att (q k v : Fin 4096 → Fin 64 → ℝ) (b : Fin 257 → ℝ) (n : Fin 64) (r : Fin 64) (d : Fin 64) : ℝ :=
  (∑ c, wtE (logit q k b n r c) * v (kpos n c) d) / (∑ c, wtE (logit q k b n r c))

theorem logit_ne_top (q k : Fin 4096 → Fin 64 → ℝ) (b : Fin 257 → ℝ) (n : Fin 64) (r : Fin 64) (c : Fin 576) : logit q k b n r c ≠ ⊤ := by
  unfold logit; split
  · exact EReal.coe_ne_top _
  · exact bot_ne_top

theorem logit_ne_bot (q k : Fin 4096 → Fin 64 → ℝ) (b : Fin 257 → ℝ) (n : Fin 64) (r : Fin 64) : logit q k b n r ⟨512, by omega⟩ ≠ ⊥ := by
  unfold logit; rw [if_pos (by simp)]; exact EReal.coe_ne_bot _

/-! ## The same by tiles of 256 keys -/

/-- A key's position by tile: tile j of the three before and at query tile i, the first tiles clamped. -/
def tpos (i : Fin 16) (j : Fin 3) (c : Fin 256) : Fin 4096 := ⟨256 * (i.val + j.val - 2) + c.val, by omega⟩

def tq (i : Fin 16) (r : Fin 256) : Fin 4096 := ⟨256 * i.val + r.val, by omega⟩

/-- In the band of the query's chunk, counted from the first tile. -/
def inBand (r : Fin 256) (j : Fin 3) (c : Fin 256) : Prop :=
  r.val / 64 ≤ (256 * j.val + c.val) / 64 ∧ (256 * j.val + c.val) / 64 ≤ r.val / 64 + 8

instance (r j c) : Decidable (inBand r j c) := by unfold inBand; infer_instance

/-- A tile's score, in base two. -/
def tlogit (q k : Fin 4096 → Fin 64 → ℝ) (b : Fin 257 → ℝ) (i : Fin 16) (r : Fin 256) (j : Fin 3) (c : Fin 256) : EReal :=
  if inBand r j c ∧ 2 ≤ i.val + j.val then
    ((raw (q (tq i r)) (k (tpos i j c)) (b (rel r.val (256 * j.val + c.val))) * (1 / Real.log 2) : ℝ) : EReal)
  else ⊥

theorem tlogit_ne_top (q k : Fin 4096 → Fin 64 → ℝ) (b : Fin 257 → ℝ) (i r j c) : tlogit q k b i r j c ≠ ⊤ := by
  unfold tlogit; split
  · exact EReal.coe_ne_top _
  · exact bot_ne_top

theorem tlogit_ne_bot (q k : Fin 4096 → Fin 64 → ℝ) (b : Fin 257 → ℝ) (i : Fin 16) (r : Fin 256) : tlogit q k b i r 2 r ≠ ⊥ := by
  unfold tlogit
  rw [if_pos]
  · exact EReal.coe_ne_bot _
  · refine ⟨⟨?_, ?_⟩, ?_⟩ <;> simp <;> omega

/-- The weight of key k counted from the first tile, with any further factor. -/
def tw (q k : Fin 4096 → Fin 64 → ℝ) (b : Fin 257 → ℝ) (i : Fin 16) (r : Fin 256) (f : Fin 3 → Fin 256 → ℝ) (m : ℕ) : ℝ :=
  if h : m < 768 then
    wt2 (tlogit q k b i r ⟨m / 256, by omega⟩ ⟨m % 256, by omega⟩) * f ⟨m / 256, by omega⟩ ⟨m % 256, by omega⟩
  else 0

theorem tw_at (q k : Fin 4096 → Fin 64 → ℝ) (b : Fin 257 → ℝ) (i : Fin 16) (r : Fin 256) (f) (j : Fin 3) (c : Fin 256) :
    tw q k b i r f (256 * j.val + c.val) = wt2 (tlogit q k b i r j c) * f j c := by
  have hd : (256 * j.val + c.val) / 256 = j.val := by omega
  have hm : (256 * j.val + c.val) % 256 = c.val := by omega
  unfold tw
  rw [dif_pos (by omega)]
  simp only [hd, hm]

theorem tiles (q k : Fin 4096 → Fin 64 → ℝ) (b : Fin 257 → ℝ) (i : Fin 16) (r : Fin 256) (n : Fin 64) (s : Fin 64)
    (hn : n.val = 4 * i.val + r.val / 64) (hs : s.val = r.val % 64) (g : Fin 4096 → ℝ) :
    (∑ j, ∑ c, wt2 (tlogit q k b i r j c) * g (tpos i j c)) = ∑ c, wtE (logit q k b n s c) * g (kpos n c) := by
  have h := sum_band (tw q k b i r fun j c => g (tpos i j c)) (r.val / 64) (by omega) (fun m hm => by
    unfold tw
    split
    · rw [tlogit, if_neg, wt2, if_pos rfl, zero_mul]
      rintro ⟨⟨h1, h2⟩, -⟩
      simp only at h1 h2
      omega
    · rfl)
  simp only [tw_at] at h
  refine h.trans (Finset.sum_congr rfl fun c _ => ?_)
  unfold tw
  rw [dif_pos (by omega)]
  have hb : inBand r ⟨(64 * (r.val / 64) + c.val) / 256, by omega⟩ ⟨(64 * (r.val / 64) + c.val) % 256, by omega⟩ := by
    refine ⟨?_, ?_⟩ <;> simp only <;> omega
  by_cases hv : 512 ≤ 64 * n.val + c.val
  · have hp : tpos i ⟨(64 * (r.val / 64) + c.val) / 256, by omega⟩ ⟨(64 * (r.val / 64) + c.val) % 256, by omega⟩ = kpos n c := by
      apply Fin.ext; simp only [tpos, kpos]; omega
    have hq : tq i r = qpos n s := by apply Fin.ext; simp only [tq, qpos]; omega
    have hr : rel r.val (256 * ((64 * (r.val / 64) + c.val) / 256) + (64 * (r.val / 64) + c.val) % 256) = rel s.val c.val := by
      apply Fin.ext; simp only [rel]; omega
    rw [tlogit, if_pos ⟨hb, by simp only; omega⟩, wt2_scaled, logit, if_pos hv, hp, hq, hr]
    exact congrArg (fun p => _ * g p) hp
  · rw [tlogit, if_neg (fun h => by have := h.2; simp only at this; omega), logit, if_neg hv, wt2, wtE, if_pos rfl, if_pos rfl, zero_mul, zero_mul]

theorem tile_att (q k v : Fin 4096 → Fin 64 → ℝ) (b : Fin 257 → ℝ) (i : Fin 16) (r : Fin 256) (n : Fin 64) (s : Fin 64) (d : Fin 64)
    (hn : n.val = 4 * i.val + r.val / 64) (hs : s.val = r.val % 64) :
    (∑ j, ∑ c, wt2 (tlogit q k b i r j c) * v (tpos i j c) d) / (∑ j, ∑ c, wt2 (tlogit q k b i r j c)) = att q k v b n s d := by
  have h1 := tiles q k b i r n s hn hs (fun p => v p d)
  have h2 := tiles q k b i r n s hn hs (fun _ => 1)
  simp only [mul_one] at h2
  rw [h1, h2]
  rfl

end Cert.Spec

end
-- ==== Proof.RefProj.lean ====
/- The reference's projection and its normalised heads at an index. -/
module

public import proofs.«01_k».proof.Proof.Spec
public import proofs.«01_k».proof.Proof.Gen.ReferenceIdeal.Read
public import Idealize.ShloMosaic.Lib.Pointwise
public import Idealize.ShloMosaic.PureOps.Ideal.Laws

@[expose] public section

set_option maxRecDepth 16384

noncomputable section

namespace Cert.ReferenceIdeal.Val

open Idealize.ShloMosaic Idealize.SL.Sem Cert.ReferenceIdeal Cert.ReferenceIdeal.Read

/-- One entry of a row normalised by its root mean square. -/
def rn {n : ℕ} (lit : BitVec 32) (t g : Fin n → EReal) (k : Fin n) : EReal :=
  t k * Ideal.rsqrt (Ideal.div (∑ k, t k * t k) (Ideal.ofBits .f32 lit) + Ideal.ofBits .f32 0x358637BD#32) * g k

variable (X : (⟨S4x4096x1024, .f32⟩ : BufTy).Contents (Elt Ideal)) (G : (⟨S1024, .f32⟩ : BufTy).Contents (Elt Ideal)) (SC SH : (⟨S4x1x1024, .f32⟩ : BufTy).Contents (Elt Ideal)) (W : (⟨S1024x4608, .f32⟩ : BufTy).Contents (Elt Ideal)) (QG KG : (⟨S64, .f32⟩ : BufTy).Contents (Elt Ideal)) (RB : (⟨S8x257, .f32⟩ : BufTy).Contents (Elt Ideal))

def hidE (b : Fin 4) (s : Fin 4096) (k : Fin 1024) : EReal :=
  rn 0x44800000#32 (fun k => X (ix3 b s k)) (fun k => G (ix1 k)) k * (1 + SC (ix3 b 0 k)) + SH (ix3 b 0 k)

theorem v18 (b : Fin 4) (s : Fin 4096) (k : Fin 1024) : val_main_v18 X G SC SH (ix3 b s k) = hidE X G SC SH b s k := by
  unfold val_main_v18 val_main_v17 val_main_v16 val_main_v15 val_main_v14 val_main_v13 val_main_cst_2 val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

def projE (b : Fin 4) (s : Fin 4096) (j : Fin 4608) : EReal := ∑ k, hidE X G SC SH b s k * W (ix2 k j)

theorem v19 (b : Fin 4) (s : Fin 4096) (j : Fin 4608) : val_main_v19 X G SC SH W (ix3 b s j) = projE X G SC SH W b s j := by
  unfold val_main_v19
  pointwise
  simp only [v18]
  rfl

theorem v20 (b : Fin 4) (s : Fin 4096) (l : Fin 512) : val_main_v20 X G SC SH W (ix3 b s l) = projE X G SC SH W b s ⟨0 + l.val, by omega⟩ := by
  unfold val_main_v20
  pointwise
  exact (v19 X G SC SH W b s _).trans (by congr 1; try (apply Fin.ext; simp))

theorem v21 (b : Fin 4) (s : Fin 4096) (l : Fin 512) : val_main_v21 X G SC SH W (ix3 b s l) = projE X G SC SH W b s ⟨512 + l.val, by omega⟩ := by
  unfold val_main_v21
  pointwise
  exact (v19 X G SC SH W b s _).trans (by congr 1; try (apply Fin.ext; simp))

theorem v22 (b : Fin 4) (s : Fin 4096) (l : Fin 512) : val_main_v22 X G SC SH W (ix3 b s l) = projE X G SC SH W b s ⟨1024 + l.val, by omega⟩ := by
  unfold val_main_v22
  pointwise
  exact (v19 X G SC SH W b s _).trans (by congr 1; try (apply Fin.ext; simp))

theorem v23 (b : Fin 4) (s : Fin 4096) (l : Fin 512) : val_main_v23 X G SC SH W (ix3 b s l) = projE X G SC SH W b s ⟨1536 + l.val, by omega⟩ := by
  unfold val_main_v23
  pointwise
  exact (v19 X G SC SH W b s _).trans (by congr 1; try (apply Fin.ext; simp))

theorem v24 (b : Fin 4) (s : Fin 4096) (l : Fin 512) : val_main_v24 X G SC SH W (ix3 b s l) = projE X G SC SH W b s ⟨2048 + l.val, by omega⟩ := by
  unfold val_main_v24
  pointwise
  exact (v19 X G SC SH W b s _).trans (by congr 1; try (apply Fin.ext; simp))

theorem v25 (b : Fin 4) (s : Fin 4096) (l : Fin 1024) : val_main_v25 X G SC SH W (ix3 b s l) = projE X G SC SH W b s ⟨2560 + l.val, by omega⟩ := by
  unfold val_main_v25
  pointwise
  exact (v19 X G SC SH W b s _).trans (by congr 1; try (apply Fin.ext; simp))

theorem v26 (b : Fin 4) (s : Fin 4096) (l : Fin 1024) : val_main_v26 X G SC SH W (ix3 b s l) = projE X G SC SH W b s ⟨3584 + l.val, by omega⟩ := by
  unfold val_main_v26
  pointwise
  exact (v19 X G SC SH W b s _).trans (by congr 1; try (apply Fin.ext; simp))

theorem v33 (b : Fin 4) (s : Fin 4096) (l : Fin 512) : val_main_v33 X G SC SH W (ix3 b s l)
    = projE X G SC SH W b s ⟨l.val, by omega⟩ * Ideal.div 1 (1 + Ideal.exp (-(projE X G SC SH W b s ⟨512 + l.val, by omega⟩))) := by
  unfold val_main_v33 val_main_v32 val_main_v31 val_main_v30 val_main_v29 val_main_v28 val_main_v27 val_main_cst_3 val_main_cst_4
  pointwise
  rw [v20, v21]
  rw [show (⟨0 + l.val, by omega⟩ : Fin 4608) = ⟨l.val, by omega⟩ from Fin.ext (Nat.zero_add _)]

theorem v148 (b : Fin 4) (s : Fin 4096) (l : Fin 1024) : val_main_v148 X G SC SH W (ix3 b s l)
    = Ideal.div 1 (1 + Ideal.exp (-(projE X G SC SH W b s ⟨2560 + l.val, by omega⟩))) := by
  unfold val_main_v148 val_main_v147 val_main_v146 val_main_v145 val_main_v144 val_main_v143 val_main_cst_30 val_main_cst_31
  pointwise
  simp only [v25]
  try rfl

theorem v154 (b : Fin 4) (s : Fin 4096) (l : Fin 1024) : val_main_v154 X G SC SH W (ix3 b s l)
    = Ideal.div 1 (1 + Ideal.exp (-(projE X G SC SH W b s ⟨3584 + l.val, by omega⟩))) := by
  unfold val_main_v154 val_main_v153 val_main_v152 val_main_v151 val_main_v150 val_main_v149 val_main_cst_32 val_main_cst_33
  pointwise
  simp only [v26]
  try rfl

theorem v47 (b : Fin 4) (s : Fin 4096) (h : Fin 8) (d : Fin 64) : val_main_v47 X G SC SH W QG (ix4 b s h d)
    = rn 0x42800000#32 (fun d : Fin 64 => projE X G SC SH W b s ⟨1024 + (h.val * 64 + d.val), by omega⟩) (fun d => QG (ix1 d)) d := by
  unfold val_main_v47 val_main_v46 val_main_v45 val_main_v44 val_main_v43 val_main_v42 val_main_v41 val_main_v40 val_main_v39 val_main_v38 val_main_v37 val_main_v36 val_main_v35 val_main_v34 val_main_cst_5 val_main_cst_6 val_main_cst_7
  pointwise
  simp only [v22]
  try rfl

theorem v61 (b : Fin 4) (s : Fin 4096) (h : Fin 8) (d : Fin 64) : val_main_v61 X G SC SH W KG (ix4 b s h d)
    = rn 0x42800000#32 (fun d : Fin 64 => projE X G SC SH W b s ⟨1536 + (h.val * 64 + d.val), by omega⟩) (fun d => KG (ix1 d)) d := by
  unfold val_main_v61 val_main_v60 val_main_v59 val_main_v58 val_main_v57 val_main_v56 val_main_v55 val_main_v54 val_main_v53 val_main_v52 val_main_v51 val_main_v50 val_main_v49 val_main_v48 val_main_cst_8 val_main_cst_9 val_main_cst_10
  pointwise
  simp only [v23]
  try rfl

theorem v62 (b : Fin 4) (s : Fin 4096) (h : Fin 8) (d : Fin 64) : val_main_v62 X G SC SH W (ix4 b s h d)
    = projE X G SC SH W b s ⟨2048 + (h.val * 64 + d.val), by omega⟩ := by
  unfold val_main_v62
  pointwise
  simp only [v24]

end Cert.ReferenceIdeal.Val

end
-- ==== Proof.Finite.lean ====
/- The precondition read: every argument that reaches a result is real. -/
module

public import proofs.«01_k».proof.Pre_finite
public import Idealize.ShloMosaic.Lib.ReduceAll
public import Idealize.ShloMosaic.Lib.Pointwise
public import Idealize.ShloMosaic.Lib.Affine
public import Idealize.ShloMosaic.PureOps.Ideal.Laws

@[expose] public section

set_option maxRecDepth 16384

noncomputable section

namespace Cert.Finite

open Idealize.ShloMosaic Idealize.SL.Sem Cert.Pre_finite

/-- An array of reals. -/
def IsReal {s : Shape} (x : s.Idx → EReal) : Prop := ∀ i, x i = ((x i).toReal : EReal)

theorem real_of_lt (a : EReal) (h : FloatOps.cmpf (F := Ideal) (φ := .f32) .olt (FloatOps.hostAbsf (F := Ideal) (φ := .f32) a) (Ideal.ofBits .f32 0x7F800000#32) = 1#1) :
    a = (a.toReal : EReal) := by
  have hi : Ideal.ofBits .f32 0x7F800000#32 = ⊤ := by simp [Ideal.ofBits, Ideal.ieee]
  rw [hi] at h
  induction a using EReal.rec with
  | bot => exact absurd h (by simp [FloatOps.cmpf, FloatOps.hostAbsf, Ideal.cmp])
  | coe r => rfl
  | top => exact absurd h (by simp [FloatOps.cmpf, FloatOps.hostAbsf, Ideal.cmp])

theorem real_of_all {s t u : Shape} {axes : List (Fin s.rank)} [Subsingleton t.Idx] (x : FVec Ideal s .f32) (init : u.Idx → BitVec 1)
    (hb : S_.BroadcastsInDim s (![] : Fin 0 → Fin s.rank)) (hr : s.ReducesTo axes t) (hu : 0 < u.numel) (j : t.Idx)
    (e : Host.reduce IntOp.andi (cmpf .olt (Host.absf x) (broadcastInDim s ![] hb (constant (F := Ideal) S_ .f32 0x7F800000#32))) init hr hu j = 1#1) :
    IsReal x := by
  intro i
  have h := Host.reduce_andi_all _ init hr hu j e i
  exact real_of_lt (x i) h

theorem and_left {s : Shape} (a b : IVec s 1) (j : s.Idx) (e : andi a b j = 1#1) : a j = 1#1 := (IntOp.andi_eq_one.1 e).1
theorem and_right {s : Shape} (a b : IVec s 1) (j : s.Idx) (e : andi a b j = 1#1) : b j = 1#1 := (IntOp.andi_eq_one.1 e).2

instance : Subsingleton S_.Idx := ⟨fun a b => funext fun i => i.elim0⟩

variable [Facts]

theorem reals (x0 : FVec Ideal S4x4096x1024 .f32) (x1 : FVec Ideal S1024 .f32) (x2 x3 : FVec Ideal S4x1x1024 .f32) (x4 : FVec Ideal S1024x4608 .f32)
    (x5 x6 : FVec Ideal S64 .f32) (x7 : FVec Ideal S8x257 .f32) (x8 : FVec Ideal S1024x2048 .f32) (x9 x10 : FVec Ideal S16384x1024 .f32)
    (h : fn (F := Ideal) x0 x1 x2 x3 x4 x5 x6 x7 x8 x9 x10 = fun _ => 1#1) :
    IsReal x0 ∧ IsReal x1 ∧ IsReal x2 ∧ IsReal x3 ∧ IsReal x4 ∧ IsReal x5 ∧ IsReal x6 ∧ IsReal x7 := by
  have e := congrFun h (Shape.Idx.first Facts.h_S_)
  dsimp only [fn, fn_part1, fn_part2] at e
  have e7 := and_right _ _ _ e
  replace e := and_left _ _ _ e
  have e6 := and_right _ _ _ e
  replace e := and_left _ _ _ e
  have e5 := and_right _ _ _ e
  replace e := and_left _ _ _ e
  have e4 := and_right _ _ _ e
  replace e := and_left _ _ _ e
  have e3 := and_right _ _ _ e
  replace e := and_left _ _ _ e
  have e2 := and_right _ _ _ e
  replace e := and_left _ _ _ e
  have e1 := and_right _ _ _ e
  have e0 := and_left _ _ _ e
  exact ⟨real_of_all _ _ _ _ _ _ e0, real_of_all _ _ _ _ _ _ e1, real_of_all _ _ _ _ _ _ e2, real_of_all _ _ _ _ _ _ e3,
    real_of_all _ _ _ _ _ _ e4, real_of_all _ _ _ _ _ _ e5, real_of_all _ _ _ _ _ _ e6, real_of_all _ _ _ _ _ _ e7⟩

end Cert.Finite

end
-- ==== Proof.InprojPay.lean ====
/- The input projection kernel's stored values at an index. -/
module

public import proofs.«01_k».proof.Proof.Spec
public import proofs.«01_k».proof.Proof.Gen.KernelIdeal.Skeleton
public import Idealize.ShloMosaic.Lib.Pointwise
public import Idealize.ShloMosaic.Lib.Pipeline.ValueKit
public import Idealize.ShloMosaic.PureOps.Ideal.Laws

@[expose] public section

set_option maxRecDepth 16384

noncomputable section

namespace Cert.KernelIdeal.Inproj

open Idealize.ShloMosaic Idealize.SL.Sem Cert.KernelIdeal Cert.KernelIdeal.Gen

/-- One over the root of the mean of squares. -/
def rs (t : Fin 1024 → EReal) : EReal :=
  Ideal.rsqrt (Ideal.div (∑ k, t k * t k) (Ideal.ofBits .f32 0x44800000#32) + Ideal.ofBits .f32 0x358637BD#32)

/-- The normalised and modulated activation. -/
def act (x g sc sh : Fin 1024 → EReal) (k : Fin 1024) : EReal :=
  x k * rs x * g k * (1 + sc k) + sh k

theorem pay5_apply (x : Vec Ideal S1x512x1024 .f32) (g : Vec Ideal S1x1024 .f32) (sc sh : Vec Ideal S1x1x1024 .f32) (r : Fin 512) (k : Fin 1024) :
    k0_pay5 x g sc sh (ix2 r k) = act (fun k => x (ix3 0 r k)) (fun k => g (ix2 0 k)) (fun k => sc (ix3 0 0 k)) (fun k => sh (ix3 0 0 k)) k := by
  unfold k0_pay5
  pointwise
  rfl

theorem pay6_apply (x : Vec Ideal S1x512x1024 .f32) (g : Vec Ideal S1x1024 .f32) (sc sh : Vec Ideal S1x1x1024 .f32) (w : Vec Ideal S1024x512 .bf16) (r l : Fin 512) :
    k0_pay6 x g sc sh w (ix2 r l) = ∑ k, k0_pay5 x g sc sh (ix2 r k) * w (ix2 k l) := by
  unfold k0_pay6
  pointwise

theorem pay7_apply (x : Vec Ideal S1x512x1024 .f32) (g : Vec Ideal S1x1024 .f32) (sc sh : Vec Ideal S1x1x1024 .f32) (w : Vec Ideal S1024x512 .bf16) (r l : Fin 512) :
    k0_pay7 x g sc sh w (ix2 r l) = ∑ k, k0_pay5 x g sc sh (ix2 r k) * w (ix2 k l) := by
  unfold k0_pay7
  pointwise

theorem pay8_eq (w : Vec Ideal S1024x512 .bf16) : k0_pay8 w = w := by
  funext j
  unfold k0_pay8
  idx_vars j
  pointwise

theorem pay9_apply (a b : FVec Ideal S512x512 .f32) (r l : Fin 512) :
    k0_pay9 a b (ix3 0 r l) = a (ix2 r l) * Ideal.logistic (b (ix2 r l)) := by
  unfold k0_pay9
  pointwise

theorem pay10_apply (h : FVec Ideal S512x1024 .bf16) (w : Vec Ideal S1024x512 .bf16) (r l : Fin 512) :
    k0_pay10 h w (ix2 r l) = ∑ k, h (ix2 r k) * w (ix2 k l) := by
  unfold k0_pay10
  pointwise

theorem pay13_apply (h : FVec Ideal S512x1024 .bf16) (w : Vec Ideal S1024x1024 .bf16) (r : Fin 512) (l : Fin 1024) :
    k0_pay13 h w (ix2 r l) = ∑ k, h (ix2 r k) * w (ix2 k l) := by
  unfold k0_pay13
  pointwise

theorem pay14_apply (h : FVec Ideal S512x1024 .bf16) (w : Vec Ideal S1024x512 .bf16) (r l : Fin 512) :
    k0_pay14 h w (ix3 0 r l) = ∑ k, h (ix2 r k) * w (ix2 k l) := by
  unfold k0_pay14
  pointwise

theorem pay3_apply (v : FVec Ideal S512x1024 .f32) (r : Fin 512) (l : Fin 1024) :
    k0_pay3 v (ix3 0 r l) = Ideal.logistic (v (ix2 r l)) := by
  unfold k0_pay3
  pointwise

theorem pay4_apply (h : FVec Ideal S512x1024 .bf16) (w : Vec Ideal S1024x1024 .bf16) (r : Fin 512) (l : Fin 1024) :
    k0_pay4 h w (ix3 0 r l) = Ideal.logistic (∑ k, h (ix2 r k) * w (ix2 k l)) := by
  unfold k0_pay4
  pointwise

/-- The reciprocal root of the mean of squares over a head, as the kernel computes it: the squares' rounded part and the
    remainder, each against the block-diagonal averaging matrix. -/
def hrs (t : Fin 512 → EReal) (bd : Fin 512 → EReal) : EReal :=
  Ideal.rsqrt ((∑ c, t c * t c * bd c) + (∑ c, (t c * t c - t c * t c) * bd c) + Ideal.ofBits .f32 0x358637BD#32)

theorem pay12_apply (t : FVec Ideal S512x512 .f32) (g : Vec Ideal S1x512 .f32) (bd bd' : Vec Ideal S512x512 .bf16) (hb : bd' = bd) (r l : Fin 512) :
    k0_pay12 t g bd bd' (ix3 0 r l) = t (ix2 r l) * hrs (fun c => t (ix2 r c)) (fun c => bd (ix2 c l)) * g (ix2 0 l) := by
  subst hb
  unfold k0_pay12
  pointwise
  rfl

theorem pay11_apply (h : FVec Ideal S512x1024 .bf16) (w : FVec Ideal S1024x512 .bf16) (g : Vec Ideal S1x512 .f32) (bd bd' : Vec Ideal S512x512 .bf16) (hb : bd' = bd) (r l : Fin 512) :
    k0_pay11 h w g bd bd' (ix3 0 r l) = k0_pay10 h w (ix2 r l) * hrs (fun c => k0_pay10 h w (ix2 r c)) (fun c => bd (ix2 c l)) * g (ix2 0 l)
      * Named.named (F := Ideal) κ "qscale" 0x3E38AA3B#32 := by
  subst hb
  unfold k0_pay11
  pointwise
  first | rfl | (simp only [pay10_apply]; rfl)

end Cert.KernelIdeal.Inproj

end
-- ==== Proof.InprojArr.lean ====
/- The input projection's result arrays. -/
module

public import proofs.«01_k».proof.Proof.InprojPay
public import proofs.«01_k».proof.Proof.Gen.KernelIdeal.Frame

@[expose] public section

set_option maxRecDepth 16384

noncomputable section

namespace Cert.KernelIdeal.Inproj

open Idealize.ShloMosaic Idealize.ShloMosaic.TcCoe Idealize.SL.Sem Cert.KernelIdeal Cert.KernelIdeal.Gen

/-- A projected activation: a normalised and modulated row against the weights. -/
def proj (x g sc sh : Fin 1024 → EReal) (w : Fin 1024 → Fin 4608 → EReal) (j : Fin 4608) : EReal :=
  ∑ k, act x g sc sh k * w k j

def uAt (p : Fin 4608 → EReal) (l : Fin 512) : EReal :=
  p ⟨l.val, by omega⟩ * Ideal.logistic (p ⟨512 + l.val, by omega⟩)

def qAt (p : Fin 4608 → EReal) (bd : Fin 512 → Fin 512 → EReal) (g : Fin 512 → EReal) (l : Fin 512) : EReal :=
  p ⟨1024 + l.val, by omega⟩ * hrs (fun c => p ⟨1024 + c.val, by omega⟩) (fun c => bd c l) * g l
    * Named.named (F := Ideal) (φ := .f32) κ "qscale" 0x3E38AA3B#32

def kAt (p : Fin 4608 → EReal) (bd : Fin 512 → Fin 512 → EReal) (g : Fin 512 → EReal) (l : Fin 512) : EReal :=
  p ⟨1536 + l.val, by omega⟩ * hrs (fun c => p ⟨1536 + c.val, by omega⟩) (fun c => bd c l) * g l

def vAt (p : Fin 4608 → EReal) (l : Fin 512) : EReal := p ⟨2048 + l.val, by omega⟩

def gcAt (p : Fin 4608 → EReal) (l : Fin 1024) : EReal := Ideal.logistic (p ⟨2560 + l.val, by omega⟩)

def gaAt (p : Fin 4608 → EReal) (l : Fin 1024) : EReal := Ideal.logistic (p ⟨3584 + l.val, by omega⟩)

section Block

theorem ldw {s : Shape} {e : EltTy} (x : Vec Ideal s e) (off : Fin s.rank → ℕ) (h0 : ∀ a, off a = 0) (inb) :
    View.ld x (Rect.unit (s := s) off s.size inb) = x := by
  funext j
  exact View.ld_unit_apply_of x off s.size inb j j fun a => by simp [h0 a]

theorem ldc {n m : ℕ} (x : Vec Ideal ⟨2, ![n, m]⟩ .bf16) (o : ℕ) (n' m' : ℕ) (inb) (k : Fin n') (l : Fin m') (k' : Fin n) (l' : Fin m)
    (hk : k'.val = k.val) (hl : l'.val = o + l.val) :
    View.ld x (Rect.unit (s := ⟨2, ![n, m]⟩) ![0, o] ![n', m'] inb) (ix2 k l) = x (ix2 k' l') :=
  View.ld_unit_apply_of x ![0, o] ![n', m'] inb (ix2 k l) (ix2 k' l') fun a => by
    match a with
    | 0 => simp [hk]
    | 1 => simp [hl]

theorem row {n m : ℕ} (y : (⟨3, ![1, n, m]⟩ : Shape).Idx) : ∃ r l, y = ix3 0 r l :=
  ⟨y 1, y 2, by rw [eq_ix3 y, Fin.fin_one_eq_zero (y 0)]; rfl⟩

variable (x0 : Vec Ideal S1x512x1024 .f32) (x1 : Vec Ideal S1x1024 .f32) (x2 x3 : Vec Ideal S1x1x1024 .f32) (x4 : Vec Ideal S1024x4608 .bf16) (x5 : Vec Ideal S512x512 .bf16) (x6 x7 : Vec Ideal S1x512 .f32) (x8 x9 : Vec Ideal S512x1024 .f32) (r : Fin 512)

theorem ld0 : View.ld x0 r0_0 = x0 := ldw _ _ (by decide) _
theorem ld1 : View.ld x1 r0_1 = x1 := ldw _ _ (by decide) _
theorem ld2 : View.ld x2 r0_2 = x2 := ldw _ _ (by decide) _
theorem ld6 : View.ld x6 r0_8 = x6 := ldw _ _ (by decide) _
theorem ld5 : View.ld x5 r0_9 = x5 := ldw _ _ (by decide) _

theorem pay16_apply (k : Fin 1024) : k0_pay16 x0 x1 x2 x3 x4 x5 x6 x7 x8 x9 (ix2 r k)
    = act (fun k => x0 (ix3 0 r k)) (fun k => x1 (ix2 0 k)) (fun k => x2 (ix3 0 0 k)) (fun k => x3 (ix3 0 0 k)) k := by
  unfold k0_pay16
  rw [ld0, ld1, ld2, ld2, pay5_apply]

theorem out10_apply (l : Fin 512) : out0_10 x0 x1 x2 x3 x4 x5 x6 x7 x8 x9 (ix3 0 r l)
    = uAt (proj (fun k => x0 (ix3 0 r k)) (fun k => x1 (ix2 0 k)) (fun k => x2 (ix3 0 0 k)) (fun k => x3 (ix3 0 0 k)) (fun k j => x4 (ix2 k j))) l := by
  unfold out0_10
  rw [View.canon_cons_unit_lit _ _ _ (by decide)]
  rw [pay9_apply, pay6_apply, pay7_apply]
  unfold uAt proj
  simp only [ld0, ld1, ld2, pay5_apply]
  refine congrArg₂ (fun a b => a * Ideal.logistic b) (Finset.sum_congr rfl fun k _ => ?_) (Finset.sum_congr rfl fun k _ => ?_)
  · exact congrArg _ (ldc x4 0 1024 512 _ k l k _ rfl (by simp))
  · exact congrArg _ (ldc x4 512 1024 512 _ k l k _ rfl rfl)

theorem out11_apply (l : Fin 512) : out0_11 x0 x1 x2 x3 x4 x5 x6 x7 x8 x9 (ix3 0 r l)
    = qAt (proj (fun k => x0 (ix3 0 r k)) (fun k => x1 (ix2 0 k)) (fun k => x2 (ix3 0 0 k)) (fun k => x3 (ix3 0 0 k)) (fun k j => x4 (ix2 k j))) (fun c l => x5 (ix2 c l)) (fun l => x6 (ix2 0 l)) l := by
  unfold out0_11
  rw [View.canon_cons_unit_lit _ _ _ (by decide)]
  rw [pay11_apply _ _ _ _ _ rfl, pay8_eq, ld6, ld5]
  have e : ∀ c : Fin 512, k0_pay10 (k0_pay16 x0 x1 x2 x3 x4 x5 x6 x7 x8 x9) (View.ld x4 r0_5) (ix2 r c) = (proj (fun k => x0 (ix3 0 r k)) (fun k => x1 (ix2 0 k)) (fun k => x2 (ix3 0 0 k)) (fun k => x3 (ix3 0 0 k)) (fun k j => x4 (ix2 k j))) ⟨1024 + c.val, by omega⟩ := fun c => by
    rw [pay10_apply]
    unfold proj
    exact Finset.sum_congr rfl fun k _ => congrArg₂ (· * ·) (pay16_apply ..) (ldc x4 1024 1024 512 _ k c k _ rfl rfl)
  simp only [e]
  rfl

theorem out12_apply (l : Fin 512) : out0_12 x0 x1 x2 x3 x4 x5 x6 x7 x8 x9 (ix3 0 r l)
    = kAt (proj (fun k => x0 (ix3 0 r k)) (fun k => x1 (ix2 0 k)) (fun k => x2 (ix3 0 0 k)) (fun k => x3 (ix3 0 0 k)) (fun k j => x4 (ix2 k j))) (fun c l => x5 (ix2 c l)) (fun l => x7 (ix2 0 l)) l := by
  unfold out0_12
  rw [View.canon_cons_unit_lit _ _ _ (by decide)]
  rw [pay12_apply _ _ _ _ rfl, ld6, ld5]
  have e : ∀ c : Fin 512, k0_pay10 (k0_pay16 x0 x1 x2 x3 x4 x5 x6 x7 x8 x9) (View.ld x4 r0_7) (ix2 r c) = (proj (fun k => x0 (ix3 0 r k)) (fun k => x1 (ix2 0 k)) (fun k => x2 (ix3 0 0 k)) (fun k => x3 (ix3 0 0 k)) (fun k j => x4 (ix2 k j))) ⟨1536 + c.val, by omega⟩ := fun c => by
    rw [pay10_apply]
    unfold proj
    exact Finset.sum_congr rfl fun k _ => congrArg₂ (· * ·) (pay16_apply ..) (ldc x4 1536 1024 512 _ k c k _ rfl rfl)
  simp only [e]
  rfl

theorem out13_apply (l : Fin 512) : out0_13 x0 x1 x2 x3 x4 x5 x6 x7 x8 x9 (ix3 0 r l)
    = vAt (proj (fun k => x0 (ix3 0 r k)) (fun k => x1 (ix2 0 k)) (fun k => x2 (ix3 0 0 k)) (fun k => x3 (ix3 0 0 k)) (fun k j => x4 (ix2 k j))) l := by
  unfold out0_13
  rw [View.canon_cons_unit_lit _ _ _ (by decide)]
  rw [pay14_apply]
  unfold vAt proj
  exact Finset.sum_congr rfl fun k _ => congrArg₂ (· * ·) (pay16_apply ..) (ldc x4 2048 1024 512 _ k l k _ rfl rfl)

theorem out14_apply (l : Fin 1024) : out0_14 x0 x1 x2 x3 x4 x5 x6 x7 x8 x9 (ix3 0 r l)
    = gcAt (proj (fun k => x0 (ix3 0 r k)) (fun k => x1 (ix2 0 k)) (fun k => x2 (ix3 0 0 k)) (fun k => x3 (ix3 0 0 k)) (fun k j => x4 (ix2 k j))) l := by
  unfold out0_14
  rw [View.canon_cons_unit_lit _ _ _ (by decide)]
  rw [pay3_apply, pay13_apply]
  unfold gcAt proj
  exact congrArg Ideal.logistic (Finset.sum_congr rfl fun k _ => congrArg₂ (· * ·) (pay16_apply ..) (ldc x4 2560 1024 1024 _ k l k _ rfl rfl))

theorem out15_apply (l : Fin 1024) : out0_15 x0 x1 x2 x3 x4 x5 x6 x7 x8 x9 (ix3 0 r l)
    = gaAt (proj (fun k => x0 (ix3 0 r k)) (fun k => x1 (ix2 0 k)) (fun k => x2 (ix3 0 0 k)) (fun k => x3 (ix3 0 0 k)) (fun k j => x4 (ix2 k j))) l := by
  unfold out0_15
  rw [View.canon_cons_unit_lit _ _ _ (by decide)]
  rw [pay4_apply]
  unfold gaAt proj
  exact congrArg Ideal.logistic (Finset.sum_congr rfl fun k _ => congrArg₂ (· * ·) (pay16_apply ..) (ldc x4 3584 1024 1024 _ k l k _ rfl rfl))

end Block

end Cert.KernelIdeal.Inproj

end
-- ==== Proof.InprojRes.lean ====
/- The input projection's results as whole arrays. -/
module

public import proofs.«01_k».proof.Proof.InprojArr

@[expose] public section

set_option maxRecDepth 16384

noncomputable section

namespace Cert.KernelIdeal.Inproj

open Idealize.ShloMosaic Idealize.ShloMosaic.TcCoe Idealize.SL.Sem Cert.KernelIdeal Cert.KernelIdeal.Gen

theorem n32 : cfg0.N = 32 := by decide +kernel

/-- The batch and the row of a grid point's tile. -/
def tb (t : Fin cfg0.N) : Fin 4 := ⟨t.val / 8, by have h := t.isLt; have e := n32; omega⟩
def ts (t : Fin cfg0.N) (r : Fin 512) : Fin 4096 := ⟨512 * (t.val % 8) + r.val, by omega⟩

theorem i0 : ∀ t : Fin cfg0.grid.N, win0_0.index t = ![t.val / 8, t.val % 8, 0] := by decide +kernel
theorem i10 : ∀ t : Fin cfg0.grid.N, win0_10.index t = ![t.val / 8, t.val % 8, 0] := by decide +kernel
theorem i11 : ∀ t : Fin cfg0.grid.N, win0_11.index t = ![t.val / 8, t.val % 8, 0] := by decide +kernel
theorem i12 : ∀ t : Fin cfg0.grid.N, win0_12.index t = ![t.val / 8, t.val % 8, 0] := by decide +kernel
theorem i13 : ∀ t : Fin cfg0.grid.N, win0_13.index t = ![t.val / 8, t.val % 8, 0] := by decide +kernel
theorem i14 : ∀ t : Fin cfg0.grid.N, win0_14.index t = ![t.val / 8, t.val % 8, 0] := by decide +kernel
theorem i15 : ∀ t : Fin cfg0.grid.N, win0_15.index t = ![t.val / 8, t.val % 8, 0] := by decide +kernel
theorem i2 : ∀ t : Fin cfg0.grid.N, win0_2.index t = ![t.val / 8, 0, 0] := by decide +kernel
theorem i3 : ∀ t : Fin cfg0.grid.N, win0_3.index t = ![t.val / 8, 0, 0] := by decide +kernel
theorem i1 : ∀ t : Fin cfg0.grid.N, win0_1.index t = ![0, 0] := by decide +kernel
theorem i4 : ∀ t : Fin cfg0.grid.N, win0_4.index t = ![0, 0] := by decide +kernel
theorem i5 : ∀ t : Fin cfg0.grid.N, win0_5.index t = ![0, 0] := by decide +kernel
theorem i6 : ∀ t : Fin cfg0.grid.N, win0_6.index t = ![0, 0] := by decide +kernel
theorem i7 : ∀ t : Fin cfg0.grid.N, win0_7.index t = ![0, 0] := by decide +kernel

variable (V : (c : Dev nD) → (b : Ref sig .tc) → Buf (Elt Ideal) ((c : Thread nD τ).loc b)) (c : Dev nD)
variable (X : (⟨S4x4096x1024, .f32⟩ : BufTy).Contents (Elt Ideal)) (G : (⟨S1x1024, .f32⟩ : BufTy).Contents (Elt Ideal)) (SC SH : (⟨S4x1x1024, .f32⟩ : BufTy).Contents (Elt Ideal)) (W : (⟨S1024x4608, .bf16⟩ : BufTy).Contents (Elt Ideal)) (BD : (⟨S512x512, .bf16⟩ : BufTy).Contents (Elt Ideal)) (QG KG : (⟨S1x512, .f32⟩ : BufTy).Contents (Elt Ideal))

/-- The projected row of batch `b` at position `s`. -/
def rowOf (b : Fin 4) (s : Fin 4096) : Fin 4608 → EReal :=
  proj (fun k => X (ix3 b s k)) (fun k => G (ix2 0 k)) (fun k => SC (ix3 b 0 k)) (fun k => SH (ix3 b 0 k)) (fun k j => W (ix2 k j))

theorem b0 (hX : V c main_arg0 = X) (t : Fin cfg0.N) (r : Fin 512) (k : Fin 1024) : iblk0 V c 0 t (ix3 0 r k) = X (ix3 (tb t) (ts t r) k) := by
  rw [← hX]; blk_ext [iblk0, i0 t, tb, ts]
theorem b1 (hG : V c main_v9 = G) (t : Fin cfg0.N) (k : Fin 1024) : iblk0 V c 1 t (ix2 0 k) = G (ix2 0 k) := by
  rw [← hG]; blk_ext [iblk0, i1 t]
theorem b2 (hSC : V c main_arg2 = SC) (t : Fin cfg0.N) (k : Fin 1024) : iblk0 V c 2 t (ix3 0 0 k) = SC (ix3 (tb t) 0 k) := by
  rw [← hSC]; blk_ext [iblk0, i2 t, tb]
theorem b3 (hSH : V c main_arg3 = SH) (t : Fin cfg0.N) (k : Fin 1024) : iblk0 V c 3 t (ix3 0 0 k) = SH (ix3 (tb t) 0 k) := by
  rw [← hSH]; blk_ext [iblk0, i3 t, tb]
theorem b4 (hW : V c main_v10 = W) (t : Fin cfg0.N) (k : Fin 1024) (j : Fin 4608) : iblk0 V c 4 t (ix2 k j) = W (ix2 k j) := by
  rw [← hW]; blk_ext [iblk0, i4 t]
theorem b5 (hBD : V c main_v8 = BD) (t : Fin cfg0.N) (k l : Fin 512) : iblk0 V c 5 t (ix2 k l) = BD (ix2 k l) := by
  rw [← hBD]; blk_ext [iblk0, i5 t]
theorem b6 (hQG : V c main_v14 = QG) (t : Fin cfg0.N) (l : Fin 512) : iblk0 V c 6 t (ix2 0 l) = QG (ix2 0 l) := by
  rw [← hQG]; blk_ext [iblk0, i6 t]
theorem b7 (hKG : V c main_v18 = KG) (t : Fin cfg0.N) (l : Fin 512) : iblk0 V c 7 t (ix2 0 l) = KG (ix2 0 l) := by
  rw [← hKG]; blk_ext [iblk0, i7 t]

section

variable (hX : V c main_arg0 = X) (hG : V c main_v9 = G) (hSC : V c main_arg2 = SC) (hSH : V c main_arg3 = SH) (hW : V c main_v10 = W)
include hX hG hSC hSH hW

theorem rows (t : Fin cfg0.N) (r : Fin 512) :
    proj (fun k => iblk0 V c 0 t (ix3 0 r k)) (fun k => iblk0 V c 1 t (ix2 0 k)) (fun k => iblk0 V c 2 t (ix3 0 0 k)) (fun k => iblk0 V c 3 t (ix3 0 0 k)) (fun k j => iblk0 V c 4 t (ix2 k j))
      = rowOf X G SC SH W (tb t) (ts t r) := by
  unfold rowOf
  simp only [b0 V c X hX t, b1 V c G hG t, b2 V c SC hSC t, b3 V c SH hSH t, b4 V c W hW t]

theorem arrU : (dat0 V c).arrAt 10 cfg0.N = (fun i => uAt (rowOf X G SC SH W (i 0) (i 1)) (i 2) : (⟨S4x4096x512, .bf16⟩ : BufTy).Contents (Elt Ideal)) := by
  refine (dat0 V c).arrAt_eq_of_covers 10 _ (by decide +kernel) fun t hf y => ?_
  blk_simp
  obtain ⟨r, l, rfl⟩ := row y
  have ey : (win0_10.blk t).view.emb (ix3 0 r l) = ix3 (tb t) (ts t r) l := by blk_ext [iblk0, i10 t, tb, ts]
  rw [after0_10, ey]
  refine (out10_apply _ _ _ _ _ _ _ _ _ _ r l).trans ?_
  rw [rows V c X G SC SH W hX hG hSC hSH hW t r]
  rfl

theorem arrQ (hBD : V c main_v8 = BD) (hQG : V c main_v14 = QG) : (dat0 V c).arrAt 11 cfg0.N = (fun i => qAt (rowOf X G SC SH W (i 0) (i 1)) (fun c l => BD (ix2 c l)) (fun l => QG (ix2 0 l)) (i 2) : (⟨S4x4096x512, .bf16⟩ : BufTy).Contents (Elt Ideal)) := by
  refine (dat0 V c).arrAt_eq_of_covers 11 _ (by decide +kernel) fun t hf y => ?_
  blk_simp
  obtain ⟨r, l, rfl⟩ := row y
  have ey : (win0_11.blk t).view.emb (ix3 0 r l) = ix3 (tb t) (ts t r) l := by blk_ext [iblk0, i11 t, tb, ts]
  rw [after0_11, ey]
  refine (out11_apply _ _ _ _ _ _ _ _ _ _ r l).trans ?_
  rw [rows V c X G SC SH W hX hG hSC hSH hW t r, show (fun c' l => iblk0 V c 5 t (ix2 c' l)) = (fun c' l => BD (ix2 c' l)) from funext fun c' => funext fun l => b5 V c BD hBD t c' l, show (fun l => iblk0 V c 6 t (ix2 0 l)) = (fun l => QG (ix2 0 l)) from funext fun l => b6 V c QG hQG t l]
  rfl

theorem arrK (hBD : V c main_v8 = BD) (hKG : V c main_v18 = KG) : (dat0 V c).arrAt 12 cfg0.N = (fun i => kAt (rowOf X G SC SH W (i 0) (i 1)) (fun c l => BD (ix2 c l)) (fun l => KG (ix2 0 l)) (i 2) : (⟨S4x4096x512, .bf16⟩ : BufTy).Contents (Elt Ideal)) := by
  refine (dat0 V c).arrAt_eq_of_covers 12 _ (by decide +kernel) fun t hf y => ?_
  blk_simp
  obtain ⟨r, l, rfl⟩ := row y
  have ey : (win0_12.blk t).view.emb (ix3 0 r l) = ix3 (tb t) (ts t r) l := by blk_ext [iblk0, i12 t, tb, ts]
  rw [after0_12, ey]
  refine (out12_apply _ _ _ _ _ _ _ _ _ _ r l).trans ?_
  rw [rows V c X G SC SH W hX hG hSC hSH hW t r, show (fun c' l => iblk0 V c 5 t (ix2 c' l)) = (fun c' l => BD (ix2 c' l)) from funext fun c' => funext fun l => b5 V c BD hBD t c' l, show (fun l => iblk0 V c 7 t (ix2 0 l)) = (fun l => KG (ix2 0 l)) from funext fun l => b7 V c KG hKG t l]
  rfl

theorem arrV : (dat0 V c).arrAt 13 cfg0.N = (fun i => vAt (rowOf X G SC SH W (i 0) (i 1)) (i 2) : (⟨S4x4096x512, .bf16⟩ : BufTy).Contents (Elt Ideal)) := by
  refine (dat0 V c).arrAt_eq_of_covers 13 _ (by decide +kernel) fun t hf y => ?_
  blk_simp
  obtain ⟨r, l, rfl⟩ := row y
  have ey : (win0_13.blk t).view.emb (ix3 0 r l) = ix3 (tb t) (ts t r) l := by blk_ext [iblk0, i13 t, tb, ts]
  rw [after0_13, ey]
  refine (out13_apply _ _ _ _ _ _ _ _ _ _ r l).trans ?_
  rw [rows V c X G SC SH W hX hG hSC hSH hW t r]
  rfl

theorem arrGc : (dat0 V c).arrAt 14 cfg0.N = (fun i => gcAt (rowOf X G SC SH W (i 0) (i 1)) (i 2) : (⟨S4x4096x1024, .f32⟩ : BufTy).Contents (Elt Ideal)) := by
  refine (dat0 V c).arrAt_eq_of_covers 14 _ (by decide +kernel) fun t hf y => ?_
  blk_simp
  obtain ⟨r, l, rfl⟩ := row y
  have ey : (win0_14.blk t).view.emb (ix3 0 r l) = ix3 (tb t) (ts t r) l := by blk_ext [iblk0, i14 t, tb, ts]
  rw [after0_14, ey]
  refine (out14_apply _ _ _ _ _ _ _ _ _ _ r l).trans ?_
  rw [rows V c X G SC SH W hX hG hSC hSH hW t r]
  rfl

theorem arrGa : (dat0 V c).arrAt 15 cfg0.N = (fun i => gaAt (rowOf X G SC SH W (i 0) (i 1)) (i 2) : (⟨S4x4096x1024, .f32⟩ : BufTy).Contents (Elt Ideal)) := by
  refine (dat0 V c).arrAt_eq_of_covers 15 _ (by decide +kernel) fun t hf y => ?_
  blk_simp
  obtain ⟨r, l, rfl⟩ := row y
  have ey : (win0_15.blk t).view.emb (ix3 0 r l) = ix3 (tb t) (ts t r) l := by blk_ext [iblk0, i15 t, tb, ts]
  rw [after0_15, ey]
  refine (out15_apply _ _ _ _ _ _ _ _ _ _ r l).trans ?_
  rw [rows V c X G SC SH W hX hG hSC hSH hW t r]
  rfl

end

end Cert.KernelIdeal.Inproj

end
-- ==== Proof.AttnPay.lean ====
/- The attention kernel's block as a function of its loads: two heads make one 128-lane slab. -/
module

public import proofs.«01_k».proof.Proof.Gen.KernelIdeal.Skeleton
public import Idealize.ShloMosaic.Lib.Pointwise
public import Idealize.ShloMosaic.Lib.Pipeline.ValueKit
public import Idealize.ShloMosaic.PureOps.Ideal.Laws
public import proofs.«01_k».proof.Proof.Softmax

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- The scores of one key block: masked queries against keys, plus the bias. -/
def score (q : FVec F S256x128 .bf16) (k : Vec F S1x256x128 .bf16) (b : Vec F S1x256x256 .f32) : FVec F S256x256 .f32 :=
  addf (matmul dot_S256x128_S256x128_S256x256_1_1_0_0_n_n none q (shapeCast S256x128 k shapeCasts_S1x256x128_S256x128)
    (constant S256x256 .f32 0x00000000#32)) (shapeCast S256x256 b shapeCasts_S1x256x256_S256x256)

/-- The same with a penalty for the whole block. -/
def scoreP (p : F .f32) (q : FVec F S256x128 .bf16) (k : Vec F S1x256x128 .bf16) (b : Vec F S1x256x256 .f32) : FVec F S256x256 .f32 :=
  addf (score q k b) (broadcast S256x256 p)

/-- The queries of the even head of a slab. -/
def qLow (q : Vec F S1x256x128 .bf16) : FVec F S256x128 .bf16 :=
  select k2_pay1 (shapeCast S256x128 q shapeCasts_S1x256x128_S256x128) (broadcast S256x128 (Scalar.ofBits .bf16 0x0000#16))

/-- The queries of the odd head of a slab. -/
def qHigh (q : Vec F S1x256x128 .bf16) : FVec F S256x128 .bf16 :=
  select (xori k2_pay1 (constantI S256x128 1 1#1)) (shapeCast S256x128 q shapeCasts_S1x256x128_S256x128)
    (broadcast S256x128 (Scalar.ofBits .bf16 0x0000#16))

def rowMax1 (s : FVec F S256x256 .f32) : FVec F S256x1 .f32 :=
  shapeCast S256x1 (multiReduction .maximumf [1] S256 s 0xFF800000#32 reduces_S256x256_S256 (.inl rfl) rfl) shapeCasts_S256_S256x1

def rowMax (s0 s1 s2 : FVec F S256x256 .f32) : FVec F S256x1 .f32 :=
  maximumf (maximumf (rowMax1 s0) (rowMax1 s1)) (rowMax1 s2)

def wexp (m : FVec F S256x1 .f32) (s : FVec F S256x256 .f32) : FVec F S256x256 .f32 :=
  exp2 (subf s (broadcastTo S256x256 m broadcasts_S256x1_S256x256))

/-- One head's output from its three blocks of exponentials and values. -/
def headP (p0 p1 p2 : FVec F S256x256 .f32) (v0 v1 v2 : Vec F S1x256x128 .bf16) : FVec F S256x128 .f32 :=
  divf (matmul dot_S256x768_S768x128_S256x128_1_0_0_1_n_n none
      (concatenate S256x768 1 [⟨S256x256, truncf .bf16 p0 bitsLt_bf16_f32⟩, ⟨S256x256, truncf .bf16 p1 bitsLt_bf16_f32⟩, ⟨S256x256, truncf .bf16 p2 bitsLt_bf16_f32⟩] concatenates_S256x256_S256x256_S256x256_S256x768_d1)
      (concatenate S768x128 0 [⟨S256x128, shapeCast S256x128 v0 shapeCasts_S1x256x128_S256x128⟩, ⟨S256x128, shapeCast S256x128 v1 shapeCasts_S1x256x128_S256x128⟩, ⟨S256x128, shapeCast S256x128 v2 shapeCasts_S1x256x128_S256x128⟩] concatenates_S256x128_S256x128_S256x128_S768x128_d0)
      (constant S256x128 .f32 0x00000000#32))
    (broadcastTo S256x128 (shapeCast S256x1 (multiReduction .add [1] S256 (addf (addf p0 p1) p2) 0x00000000#32 reduces_S256x256_S256 (.inl rfl) rfl) shapeCasts_S256_S256x1) broadcasts_S256x1_S256x128)

def head (s0 s1 s2 : FVec F S256x256 .f32) (v0 v1 v2 : Vec F S1x256x128 .bf16) : FVec F S256x128 .f32 :=
  headP (wexp (rowMax s0 s1 s2) s0) (wexp (rowMax s0 s1 s2) s1) (wexp (rowMax s0 s1 s2) s2) v0 v1 v2

/-- Two heads side by side. -/
def slab (lo hi : FVec F S256x128 .f32) : FVec F S1x256x128 .bf16 :=
  shapeCast S1x256x128 (truncf .bf16 (select k2_pay1 lo hi) bitsLt_bf16_f32) shapeCasts_S256x128_S1x256x128

section Ideal

theorem low_apply (r : Fin 256) (l : Fin 128) : k2_pay1 (ix2 r l) = if l.val < 64 then 1#1 else 0#1 := by
  unfold k2_pay1
  pointwise
  revert l; decide +kernel

theorem neg_inf : Ideal.ofBits .f32 0xFF800000#32 = ⊥ := by simp [Ideal.ofBits, Ideal.ieee]

theorem zero_bf16 : Ideal.ofBits .bf16 0x0000#16 = 0 := by simp [Ideal.ofBits, Ideal.ieee]

theorem score_apply (q : FVec Ideal S256x128 .bf16) (k b) (r c : Fin 256) :
    score q k b (ix2 r c) = (∑ d : Fin 128, q (ix2 r d) * k (ix3 0 c d)) + b (ix3 0 r c) := by
  unfold score
  pointwise

theorem scoreP_apply (p : EReal) (q : FVec Ideal S256x128 .bf16) (k b) (r c : Fin 256) :
    scoreP (F := Ideal) p q k b (ix2 r c) = score q k b (ix2 r c) + p := by
  unfold scoreP
  pointwise

theorem qLow_apply (q : Vec Ideal S1x256x128 .bf16) (r : Fin 256) (l : Fin 128) :
    qLow q (ix2 r l) = if l.val < 64 then q (ix3 0 r l) else 0 := by
  unfold qLow
  pointwise
  rw [low_apply]
  by_cases h : l.val < 64
  · simp [h, Scalar.select]
  · simp [h, Scalar.select, zero_bf16]

theorem qHigh_apply (q : Vec Ideal S1x256x128 .bf16) (r : Fin 256) (l : Fin 128) :
    qHigh q (ix2 r l) = if l.val < 64 then 0 else q (ix3 0 r l) := by
  unfold qHigh
  pointwise
  rw [low_apply]
  by_cases h : l.val < 64
  · simp [h, Scalar.select, zero_bf16, IntOp.xori]
  · simp [h, Scalar.select, IntOp.xori]

theorem rowMax1_apply (s : FVec Ideal S256x256 .f32) (r : Fin 256) :
    rowMax1 s (ix2 r 0) = Finset.univ.sup (fun c => s (ix2 r c)) := by
  unfold rowMax1
  pointwise
  rw [neg_inf]
  rfl

theorem rowMax_apply (s0 s1 s2 : FVec Ideal S256x256 .f32) (r : Fin 256) :
    rowMax s0 s1 s2 (ix2 r 0) = max (max (rowMax1 s0 (ix2 r 0)) (rowMax1 s1 (ix2 r 0))) (rowMax1 s2 (ix2 r 0)) := by
  unfold rowMax
  pointwise

theorem wexp_apply (m : FVec Ideal S256x1 .f32) (s) (r c : Fin 256) :
    wexp m s (ix2 r c) = Ideal.exp2 (s (ix2 r c) - m (ix2 r 0)) := by
  unfold wexp
  pointwise
  rfl

theorem sum768 (f : Fin 768 → EReal) : (∑ x, f x) = (∑ c : Fin 256, f ⟨c.val, by omega⟩)
    + (∑ c : Fin 256, f ⟨256 + c.val, by omega⟩) + (∑ c : Fin 256, f ⟨512 + c.val, by omega⟩) := by
  have h := Fin.sum_univ_add (a := 256) (b := 512) f
  have h' := Fin.sum_univ_add (a := 256) (b := 256) (fun i : Fin 512 => f (Fin.natAdd 256 i))
  refine (h.trans (congrArg _ h')).trans ?_
  rw [← add_assoc]
  refine congrArg _ (Finset.sum_congr rfl fun c _ => congrArg f (Fin.ext ?_))
  show 256 + (256 + c.val) = 512 + c.val
  omega

theorem headP_apply (p0 p1 p2 : FVec Ideal S256x256 .f32) (v0 v1 v2) (r : Fin 256) (l : Fin 128) :
    headP p0 p1 p2 v0 v1 v2 (ix2 r l) = Ideal.div
      ((∑ c, p0 (ix2 r c) * v0 (ix3 0 c l)) + (∑ c, p1 (ix2 r c) * v1 (ix3 0 c l)) + (∑ c, p2 (ix2 r c) * v2 (ix3 0 c l)))
      (∑ c, (p0 (ix2 r c) + p1 (ix2 r c) + p2 (ix2 r c))) := by
  unfold headP
  pointwise
  refine congrArg (fun z => Ideal.div z _) ((sum768 _).trans ?_)
  refine congrArg₂ (· + ·) (congrArg₂ (· + ·) ?_ ?_) ?_ <;> refine Finset.sum_congr rfl fun c _ => ?_
  · have h : c.val < 256 := c.isLt
    rw [dif_pos h, dif_pos h]
  · have h : ¬ 256 + c.val < 256 := by omega
    have h' : 256 + c.val - 256 < 256 := by have := c.isLt; omega
    have e' : (⟨256 + c.val - 256, h'⟩ : Fin 256) = c := Fin.ext (by show 256 + c.val - 256 = c.val; omega)
    rw [dif_neg h, dif_neg h, dif_pos h', dif_pos h', e']
  · have h : ¬ 512 + c.val < 256 := by omega
    have h' : ¬ 512 + c.val - 256 < 256 := by omega
    have h'' : 512 + c.val - 256 - 256 < 256 := by have := c.isLt; omega
    have e' : (⟨512 + c.val - 256 - 256, h''⟩ : Fin 256) = c := Fin.ext (by show 512 + c.val - 256 - 256 = c.val; omega)
    rw [dif_neg h, dif_neg h, dif_neg h', dif_neg h', e']

theorem slab_apply (lo hi : FVec Ideal S256x128 .f32) (r : Fin 256) (l : Fin 128) :
    slab lo hi (ix3 0 r l) = if l.val < 64 then lo (ix2 r l) else hi (ix2 r l) := by
  unfold slab
  pointwise
  rw [low_apply]
  by_cases h : l.val < 64 <;> simp [h, Scalar.select]

/-- One head's row: the mean of the values with the weights of the scores. -/
theorem head_row (s : Fin 3 → FVec Ideal S256x256 .f32) (v : Fin 3 → Vec Ideal S1x256x128 .bf16) (r : Fin 256) (l : Fin 128)
    (hs : ∀ j c, s j (ix2 r c) ≠ ⊤) (j₀ : Fin 3) (c₀ : Fin 256) (h₀ : s j₀ (ix2 r c₀) ≠ ⊥)
    (w : Fin 3 → Fin 256 → ℝ) (hv : ∀ j c, v j (ix3 0 c l) = ((w j c : ℝ) : EReal)) :
    head (s 0) (s 1) (s 2) (v 0) (v 1) (v 2) (ix2 r l)
      = (((∑ j, ∑ c, Softmax.wt2 (s j (ix2 r c)) * w j c) / (∑ j, ∑ c, Softmax.wt2 (s j (ix2 r c))) : ℝ) : EReal) := by
  obtain ⟨m, hm⟩ : ∃ m : ℝ, rowMax (s 0) (s 1) (s 2) (ix2 r 0) = (m : EReal) := by
    obtain ⟨m, hm⟩ := Softmax.sup_real (fun p : Fin 3 × Fin 256 => s p.1 (ix2 r p.2)) (fun p => hs p.1 p.2) (j₀, c₀) h₀
    refine ⟨m, hm ▸ ?_⟩
    rw [rowMax_apply, rowMax1_apply, rowMax1_apply, rowMax1_apply]
    refine le_antisymm (max_le (max_le ?_ ?_) ?_) (Finset.sup_le fun p _ => ?_)
    · exact Finset.sup_le fun c _ => Finset.le_sup (f := fun p : Fin 3 × Fin 256 => s p.1 (ix2 r p.2)) (Finset.mem_univ (0, c))
    · exact Finset.sup_le fun c _ => Finset.le_sup (f := fun p : Fin 3 × Fin 256 => s p.1 (ix2 r p.2)) (Finset.mem_univ (1, c))
    · exact Finset.sup_le fun c _ => Finset.le_sup (f := fun p : Fin 3 × Fin 256 => s p.1 (ix2 r p.2)) (Finset.mem_univ (2, c))
    · obtain ⟨j, c⟩ := p
      have h : s j (ix2 r c) ≤ Finset.univ.sup (fun c => s j (ix2 r c)) := Finset.le_sup (f := fun c => s j (ix2 r c)) (Finset.mem_univ c)
      match j with
      | 0 => exact le_trans h (le_trans (le_max_left _ _) (le_max_left _ _))
      | 1 => exact le_trans h (le_trans (le_max_right _ _) (le_max_left _ _))
      | 2 => exact le_trans h (le_max_right _ _)
  have key := Softmax.mean2 (fun p : Fin 3 × Fin 256 => s p.1 (ix2 r p.2)) (fun p => w p.1 p.2) m (fun p => hs p.1 p.2) (j₀, c₀) h₀
  rw [Fintype.sum_prod_type, Fintype.sum_prod_type, Fintype.sum_prod_type, Fintype.sum_prod_type] at key
  refine Eq.trans ?_ key
  unfold head
  rw [headP_apply]
  simp only [wexp_apply, hm, hv, Fin.sum_univ_three, Finset.sum_add_distrib]

end Ideal

end Cert.KernelIdeal.Attn

end
-- ==== Proof.AttnBlk.lean ====
/- The attention kernel's block: four slabs of two heads. -/
module

public import proofs.«01_k».proof.Proof.AttnPay
public import proofs.«01_k».proof.Proof.Gen.KernelIdeal.Frame

@[expose] public section

set_option maxRecDepth 16384

noncomputable section

namespace Cert.KernelIdeal.Attn

open Idealize.ShloMosaic Idealize.ShloMosaic.TcCoe Idealize.SL.Sem Cert.KernelIdeal Cert.KernelIdeal.Gen

/-- The 128 lanes of slab `p`. -/
def lanes (x : Vec Ideal S1x256x512 .bf16) (p : Fin 4) : Vec Ideal S1x256x128 .bf16 := fun i =>
  x (ix3 0 (i 1) ⟨128 * p.val + (i 2).val, by have := (i 2).isLt; have : (i 2).val < 128 := this; omega⟩)

/-- The biases of head `h` against key block `j`. -/
def tile (x : Vec Ideal S8x256x768 .f32) (h : Fin 8) (j : Fin 3) : Vec Ideal S1x256x256 .f32 := fun i =>
  x (ix3 h (i 1) ⟨256 * j.val + (i 2).val, by have := (i 2).isLt; have : (i 2).val < 256 := this; omega⟩)

theorem lanes_ld (x : Vec Ideal S1x256x512 .bf16) (p : Fin 4) (o : ℕ) (ho : o = 128 * p.val) (inb) :
    View.ld x (Rect.unit (s := S1x256x512) ![0, 0, o] ![1, 256, 128] inb) = lanes x p := by
  subst ho
  funext i
  refine View.ld_unit_apply_of x ![0, 0, 128 * p.val] ![1, 256, 128] inb i (ix3 0 (i 1) ⟨128 * p.val + (i 2).val, _⟩) fun a => ?_
  match a with
  | 0 => have := (i 0).isLt; have : (i 0).val < 1 := this; simp
  | 1 => simp
  | 2 => simp

theorem tile_ld (x : Vec Ideal S8x256x768 .f32) (h : Fin 8) (j : Fin 3) (o q : ℕ) (hq : q = h.val) (ho : o = 256 * j.val) (inb) :
    View.ld x (Rect.unit (s := S8x256x768) ![q, 0, o] ![1, 256, 256] inb) = tile x h j := by
  subst ho hq
  funext i
  refine View.ld_unit_apply_of x ![h.val, 0, 256 * j.val] ![1, 256, 256] inb i (ix3 h (i 1) ⟨256 * j.val + (i 2).val, _⟩) fun a => ?_
  match a with
  | 0 => have := (i 0).isLt; have : (i 0).val < 1 := this; simp
  | 1 => simp
  | 2 => simp

/-- A slab from its loads, every key block existing. -/
def slabL (q k0 k1 k2 v0 v1 v2 : Vec Ideal S1x256x128 .bf16) (a0 a1 a2 b0 b1 b2 : Vec Ideal S1x256x256 .f32) : FVec Ideal S1x256x128 .bf16 :=
  slab (head (score (qLow q) k0 a0) (score (qLow q) k1 a1) (score (qLow q) k2 a2) v0 v1 v2)
    (head (score (qHigh q) k0 b0) (score (qHigh q) k1 b1) (score (qHigh q) k2 b2) v0 v1 v2)

/-- A slab from its loads, with a penalty on each key block. -/
def slabE (e0 e1 e2 : EReal) (q k0 k1 k2 v0 v1 v2 : Vec Ideal S1x256x128 .bf16) (a0 a1 a2 b0 b1 b2 : Vec Ideal S1x256x256 .f32) :
    FVec Ideal S1x256x128 .bf16 :=
  slab (head (scoreP (F := Ideal) e0 (qLow q) k0 a0) (scoreP (F := Ideal) e1 (qLow q) k1 a1) (scoreP (F := Ideal) e2 (qLow q) k2 a2) v0 v1 v2)
    (head (scoreP (F := Ideal) e0 (qHigh q) k0 b0) (scoreP (F := Ideal) e1 (qHigh q) k1 b1) (scoreP (F := Ideal) e2 (qHigh q) k2 b2) v0 v1 v2)

/-- A block's slab where every key block exists. -/
def slabB (x0 x1 x2 x3 x4 x5 x6 : Vec Ideal S1x256x512 .bf16) (x7 : Vec Ideal S8x256x768 .f32) (p : Fin 4) : FVec Ideal S1x256x128 .bf16 :=
  slabL (lanes x0 p) (lanes x1 p) (lanes x2 p) (lanes x3 p) (lanes x4 p) (lanes x5 p) (lanes x6 p)
    (tile x7 ⟨2 * p.val, by omega⟩ 0) (tile x7 ⟨2 * p.val, by omega⟩ 1) (tile x7 ⟨2 * p.val, by omega⟩ 2) (tile x7 ⟨2 * p.val + 1, by omega⟩ 0) (tile x7 ⟨2 * p.val + 1, by omega⟩ 1) (tile x7 ⟨2 * p.val + 1, by omega⟩ 2)

/-- A block's slab where key blocks may lie before the sequence. -/
def slabA (e0 e1 e2 : EReal) (x0 x1 x2 x3 x4 x5 x6 : Vec Ideal S1x256x512 .bf16) (x7 : Vec Ideal S8x256x768 .f32) (p : Fin 4) : FVec Ideal S1x256x128 .bf16 :=
  slabE e0 e1 e2 (lanes x0 p) (lanes x1 p) (lanes x2 p) (lanes x3 p) (lanes x4 p) (lanes x5 p) (lanes x6 p)
    (tile x7 ⟨2 * p.val, by omega⟩ 0) (tile x7 ⟨2 * p.val, by omega⟩ 1) (tile x7 ⟨2 * p.val, by omega⟩ 2) (tile x7 ⟨2 * p.val + 1, by omega⟩ 0) (tile x7 ⟨2 * p.val + 1, by omega⟩ 1) (tile x7 ⟨2 * p.val + 1, by omega⟩ 2)

variable (V : (c : Dev nD) → (b : Ref sig .tc) → Buf (Elt Ideal) ((c : Thread nD τ).loc b))

theorem slice {z : EReal} (f : Fin 4 → FVec Ideal S1x256x128 .bf16) (y : S1x256x512.Idx) (p : Fin 4) (x : S1x256x128.Idx)
    (h1 : (y 1).val = (x 1).val) (h2 : (y 2).val = 128 * p.val + (x 2).val) (r : Fin 256) (q : Fin 4) (l : Fin 128)
    (hr : r.val = (y 1).val) (hl : 128 * q.val + l.val = (y 2).val) : f p x = f q (ix3 0 r l) := by
  have b2 : (x 2).val < 128 := (x 2).isLt
  have hq : p = q := Fin.ext (by have := l.isLt; omega)
  subst hq
  congr 1
  rw [eq_ix3 x, Fin.fin_one_eq_zero (x 0)]
  have e1 : x 1 = r := Fin.ext (by omega)
  have e2 : x 2 = l := Fin.ext (by omega)
  rw [e1, e2]

theorem outB (c : Dev nD) (t : Fin cfg2.N) (h0 : 2 ≤ t.val % 16) (h1 : ¬t.val % 16 ≤ 1) (y : S1x256x512.Idx) (r : Fin 256) (q : Fin 4) (l : Fin 128)
    (hr : r.val = (y 1).val) (hl : 128 * q.val + l.val = (y 2).val) : outsAt2 V c t.val t.isLt y
      = slabB (iblk2 V c 0 t) (iblk2 V c 1 t) (iblk2 V c 2 t) (iblk2 V c 3 t) (iblk2 V c 4 t) (iblk2 V c 5 t) (iblk2 V c 6 t) (iblk2 V c 7 t) q (ix3 0 r l) := by
  rw [outsAt2_B V c t h0 h1]
  frame_out
  canon_tiles x h
  · refine (show _ = slabL
      (View.ld (iblk2 V c 0 t) (Rect.unit (s := S1x256x512) ![0, 0, 384] ![1, 256, 128] inb_S1x256x512_S1x256x128_0_0_384))
      (View.ld (iblk2 V c 1 t) (Rect.unit (s := S1x256x512) ![0, 0, 384] ![1, 256, 128] inb_S1x256x512_S1x256x128_0_0_384))
      (View.ld (iblk2 V c 2 t) (Rect.unit (s := S1x256x512) ![0, 0, 384] ![1, 256, 128] inb_S1x256x512_S1x256x128_0_0_384))
      (View.ld (iblk2 V c 3 t) (Rect.unit (s := S1x256x512) ![0, 0, 384] ![1, 256, 128] inb_S1x256x512_S1x256x128_0_0_384))
      (View.ld (iblk2 V c 4 t) (Rect.unit (s := S1x256x512) ![0, 0, 384] ![1, 256, 128] inb_S1x256x512_S1x256x128_0_0_384))
      (View.ld (iblk2 V c 5 t) (Rect.unit (s := S1x256x512) ![0, 0, 384] ![1, 256, 128] inb_S1x256x512_S1x256x128_0_0_384))
      (View.ld (iblk2 V c 6 t) (Rect.unit (s := S1x256x512) ![0, 0, 384] ![1, 256, 128] inb_S1x256x512_S1x256x128_0_0_384))
      (View.ld (iblk2 V c 7 t) (Rect.unit (s := S8x256x768) ![6, 0, 0] ![1, 256, 256] inb_S8x256x768_S1x256x256_6_0_0))
      (View.ld (iblk2 V c 7 t) (Rect.unit (s := S8x256x768) ![6, 0, 256] ![1, 256, 256] inb_S8x256x768_S1x256x256_6_0_256))
      (View.ld (iblk2 V c 7 t) (Rect.unit (s := S8x256x768) ![6, 0, 512] ![1, 256, 256] inb_S8x256x768_S1x256x256_6_0_512))
      (View.ld (iblk2 V c 7 t) (Rect.unit (s := S8x256x768) ![7, 0, 0] ![1, 256, 256] inb_S8x256x768_S1x256x256_7_0_0))
      (View.ld (iblk2 V c 7 t) (Rect.unit (s := S8x256x768) ![7, 0, 256] ![1, 256, 256] inb_S8x256x768_S1x256x256_7_0_256))
      (View.ld (iblk2 V c 7 t) (Rect.unit (s := S8x256x768) ![7, 0, 512] ![1, 256, 256] inb_S8x256x768_S1x256x256_7_0_512)) x from rfl).trans ?_
    rw [lanes_ld _ 3 384 rfl, lanes_ld _ 3 384 rfl, lanes_ld _ 3 384 rfl, lanes_ld _ 3 384 rfl, lanes_ld _ 3 384 rfl, lanes_ld _ 3 384 rfl, lanes_ld _ 3 384 rfl, tile_ld _ 6 0 0 6 rfl rfl, tile_ld _ 6 1 256 6 rfl rfl, tile_ld _ 6 2 512 6 rfl rfl, tile_ld _ 7 0 0 7 rfl rfl, tile_ld _ 7 1 256 7 rfl rfl, tile_ld _ 7 2 512 7 rfl rfl]
    exact slice (z := 0) (slabB  (iblk2 V c 0 t) (iblk2 V c 1 t) (iblk2 V c 2 t) (iblk2 V c 3 t) (iblk2 V c 4 t) (iblk2 V c 5 t) (iblk2 V c 6 t) (iblk2 V c 7 t)) y 3 x h1 (h2.trans (by simp)) r q l hr hl
  · refine (show _ = slabL
      (View.ld (iblk2 V c 0 t) (Rect.unit (s := S1x256x512) ![0, 0, 256] ![1, 256, 128] inb_S1x256x512_S1x256x128_0_0_256))
      (View.ld (iblk2 V c 1 t) (Rect.unit (s := S1x256x512) ![0, 0, 256] ![1, 256, 128] inb_S1x256x512_S1x256x128_0_0_256))
      (View.ld (iblk2 V c 2 t) (Rect.unit (s := S1x256x512) ![0, 0, 256] ![1, 256, 128] inb_S1x256x512_S1x256x128_0_0_256))
      (View.ld (iblk2 V c 3 t) (Rect.unit (s := S1x256x512) ![0, 0, 256] ![1, 256, 128] inb_S1x256x512_S1x256x128_0_0_256))
      (View.ld (iblk2 V c 4 t) (Rect.unit (s := S1x256x512) ![0, 0, 256] ![1, 256, 128] inb_S1x256x512_S1x256x128_0_0_256))
      (View.ld (iblk2 V c 5 t) (Rect.unit (s := S1x256x512) ![0, 0, 256] ![1, 256, 128] inb_S1x256x512_S1x256x128_0_0_256))
      (View.ld (iblk2 V c 6 t) (Rect.unit (s := S1x256x512) ![0, 0, 256] ![1, 256, 128] inb_S1x256x512_S1x256x128_0_0_256))
      (View.ld (iblk2 V c 7 t) (Rect.unit (s := S8x256x768) ![4, 0, 0] ![1, 256, 256] inb_S8x256x768_S1x256x256_4_0_0))
      (View.ld (iblk2 V c 7 t) (Rect.unit (s := S8x256x768) ![4, 0, 256] ![1, 256, 256] inb_S8x256x768_S1x256x256_4_0_256))
      (View.ld (iblk2 V c 7 t) (Rect.unit (s := S8x256x768) ![4, 0, 512] ![1, 256, 256] inb_S8x256x768_S1x256x256_4_0_512))
      (View.ld (iblk2 V c 7 t) (Rect.unit (s := S8x256x768) ![5, 0, 0] ![1, 256, 256] inb_S8x256x768_S1x256x256_5_0_0))
      (View.ld (iblk2 V c 7 t) (Rect.unit (s := S8x256x768) ![5, 0, 256] ![1, 256, 256] inb_S8x256x768_S1x256x256_5_0_256))
      (View.ld (iblk2 V c 7 t) (Rect.unit (s := S8x256x768) ![5, 0, 512] ![1, 256, 256] inb_S8x256x768_S1x256x256_5_0_512)) x from rfl).trans ?_
    rw [lanes_ld _ 2 256 rfl, lanes_ld _ 2 256 rfl, lanes_ld _ 2 256 rfl, lanes_ld _ 2 256 rfl, lanes_ld _ 2 256 rfl, lanes_ld _ 2 256 rfl, lanes_ld _ 2 256 rfl, tile_ld _ 4 0 0 4 rfl rfl, tile_ld _ 4 1 256 4 rfl rfl, tile_ld _ 4 2 512 4 rfl rfl, tile_ld _ 5 0 0 5 rfl rfl, tile_ld _ 5 1 256 5 rfl rfl, tile_ld _ 5 2 512 5 rfl rfl]
    exact slice (z := 0) (slabB  (iblk2 V c 0 t) (iblk2 V c 1 t) (iblk2 V c 2 t) (iblk2 V c 3 t) (iblk2 V c 4 t) (iblk2 V c 5 t) (iblk2 V c 6 t) (iblk2 V c 7 t)) y 2 x h1 (h2.trans (by simp)) r q l hr hl
  · refine (show _ = slabL
      (View.ld (iblk2 V c 0 t) (Rect.unit (s := S1x256x512) ![0, 0, 128] ![1, 256, 128] inb_S1x256x512_S1x256x128_0_0_128))
      (View.ld (iblk2 V c 1 t) (Rect.unit (s := S1x256x512) ![0, 0, 128] ![1, 256, 128] inb_S1x256x512_S1x256x128_0_0_128))
      (View.ld (iblk2 V c 2 t) (Rect.unit (s := S1x256x512) ![0, 0, 128] ![1, 256, 128] inb_S1x256x512_S1x256x128_0_0_128))
      (View.ld (iblk2 V c 3 t) (Rect.unit (s := S1x256x512) ![0, 0, 128] ![1, 256, 128] inb_S1x256x512_S1x256x128_0_0_128))
      (View.ld (iblk2 V c 4 t) (Rect.unit (s := S1x256x512) ![0, 0, 128] ![1, 256, 128] inb_S1x256x512_S1x256x128_0_0_128))
      (View.ld (iblk2 V c 5 t) (Rect.unit (s := S1x256x512) ![0, 0, 128] ![1, 256, 128] inb_S1x256x512_S1x256x128_0_0_128))
      (View.ld (iblk2 V c 6 t) (Rect.unit (s := S1x256x512) ![0, 0, 128] ![1, 256, 128] inb_S1x256x512_S1x256x128_0_0_128))
      (View.ld (iblk2 V c 7 t) (Rect.unit (s := S8x256x768) ![2, 0, 0] ![1, 256, 256] inb_S8x256x768_S1x256x256_2_0_0))
      (View.ld (iblk2 V c 7 t) (Rect.unit (s := S8x256x768) ![2, 0, 256] ![1, 256, 256] inb_S8x256x768_S1x256x256_2_0_256))
      (View.ld (iblk2 V c 7 t) (Rect.unit (s := S8x256x768) ![2, 0, 512] ![1, 256, 256] inb_S8x256x768_S1x256x256_2_0_512))
      (View.ld (iblk2 V c 7 t) (Rect.unit (s := S8x256x768) ![3, 0, 0] ![1, 256, 256] inb_S8x256x768_S1x256x256_3_0_0))
      (View.ld (iblk2 V c 7 t) (Rect.unit (s := S8x256x768) ![3, 0, 256] ![1, 256, 256] inb_S8x256x768_S1x256x256_3_0_256))
      (View.ld (iblk2 V c 7 t) (Rect.unit (s := S8x256x768) ![3, 0, 512] ![1, 256, 256] inb_S8x256x768_S1x256x256_3_0_512)) x from rfl).trans ?_
    rw [lanes_ld _ 1 128 rfl, lanes_ld _ 1 128 rfl, lanes_ld _ 1 128 rfl, lanes_ld _ 1 128 rfl, lanes_ld _ 1 128 rfl, lanes_ld _ 1 128 rfl, lanes_ld _ 1 128 rfl, tile_ld _ 2 0 0 2 rfl rfl, tile_ld _ 2 1 256 2 rfl rfl, tile_ld _ 2 2 512 2 rfl rfl, tile_ld _ 3 0 0 3 rfl rfl, tile_ld _ 3 1 256 3 rfl rfl, tile_ld _ 3 2 512 3 rfl rfl]
    exact slice (z := 0) (slabB  (iblk2 V c 0 t) (iblk2 V c 1 t) (iblk2 V c 2 t) (iblk2 V c 3 t) (iblk2 V c 4 t) (iblk2 V c 5 t) (iblk2 V c 6 t) (iblk2 V c 7 t)) y 1 x h1 (h2.trans (by simp)) r q l hr hl
  · refine (show _ = slabL
      (View.ld (iblk2 V c 0 t) (Rect.unit (s := S1x256x512) ![0, 0, 0] ![1, 256, 128] inb_S1x256x512_S1x256x128_0_0_0))
      (View.ld (iblk2 V c 1 t) (Rect.unit (s := S1x256x512) ![0, 0, 0] ![1, 256, 128] inb_S1x256x512_S1x256x128_0_0_0))
      (View.ld (iblk2 V c 2 t) (Rect.unit (s := S1x256x512) ![0, 0, 0] ![1, 256, 128] inb_S1x256x512_S1x256x128_0_0_0))
      (View.ld (iblk2 V c 3 t) (Rect.unit (s := S1x256x512) ![0, 0, 0] ![1, 256, 128] inb_S1x256x512_S1x256x128_0_0_0))
      (View.ld (iblk2 V c 4 t) (Rect.unit (s := S1x256x512) ![0, 0, 0] ![1, 256, 128] inb_S1x256x512_S1x256x128_0_0_0))
      (View.ld (iblk2 V c 5 t) (Rect.unit (s := S1x256x512) ![0, 0, 0] ![1, 256, 128] inb_S1x256x512_S1x256x128_0_0_0))
      (View.ld (iblk2 V c 6 t) (Rect.unit (s := S1x256x512) ![0, 0, 0] ![1, 256, 128] inb_S1x256x512_S1x256x128_0_0_0))
      (View.ld (iblk2 V c 7 t) (Rect.unit (s := S8x256x768) ![0, 0, 0] ![1, 256, 256] inb_S8x256x768_S1x256x256_0_0_0))
      (View.ld (iblk2 V c 7 t) (Rect.unit (s := S8x256x768) ![0, 0, 256] ![1, 256, 256] inb_S8x256x768_S1x256x256_0_0_256))
      (View.ld (iblk2 V c 7 t) (Rect.unit (s := S8x256x768) ![0, 0, 512] ![1, 256, 256] inb_S8x256x768_S1x256x256_0_0_512))
      (View.ld (iblk2 V c 7 t) (Rect.unit (s := S8x256x768) ![1, 0, 0] ![1, 256, 256] inb_S8x256x768_S1x256x256_1_0_0))
      (View.ld (iblk2 V c 7 t) (Rect.unit (s := S8x256x768) ![1, 0, 256] ![1, 256, 256] inb_S8x256x768_S1x256x256_1_0_256))
      (View.ld (iblk2 V c 7 t) (Rect.unit (s := S8x256x768) ![1, 0, 512] ![1, 256, 256] inb_S8x256x768_S1x256x256_1_0_512)) x from rfl).trans ?_
    rw [lanes_ld _ 0 0 rfl, lanes_ld _ 0 0 rfl, lanes_ld _ 0 0 rfl, lanes_ld _ 0 0 rfl, lanes_ld _ 0 0 rfl, lanes_ld _ 0 0 rfl, lanes_ld _ 0 0 rfl, tile_ld _ 0 0 0 0 rfl rfl, tile_ld _ 0 1 256 0 rfl rfl, tile_ld _ 0 2 512 0 rfl rfl, tile_ld _ 1 0 0 1 rfl rfl, tile_ld _ 1 1 256 1 rfl rfl, tile_ld _ 1 2 512 1 rfl rfl]
    exact slice (z := 0) (slabB  (iblk2 V c 0 t) (iblk2 V c 1 t) (iblk2 V c 2 t) (iblk2 V c 3 t) (iblk2 V c 4 t) (iblk2 V c 5 t) (iblk2 V c 6 t) (iblk2 V c 7 t)) y 0 x h1 (h2.trans (by simp)) r q l hr hl

theorem piecesA (c : Dev nD) (i : grid2.Coords) (arg2 : Memref sig .tc .vmem S1x256x512 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S8x256x768 .f32) (harg9 : arg9.IsWhole) (arg10 : Memref sig .tc .vmem S1x256x512 .bf16) (harg10 : arg10.IsWhole) (hc0 : ¬cond2_0 i) (hc1 : cond2_1 i)
    (x0 : Vec Ideal S1x256x512 .bf16) (x1 : Vec Ideal S1x256x512 .bf16) (x2 : Vec Ideal S1x256x512 .bf16) (x3 : Vec Ideal S1x256x512 .bf16) (x4 : Vec Ideal S1x256x512 .bf16) (x5 : Vec Ideal S1x256x512 .bf16) (x6 : Vec Ideal S1x256x512 .bf16) (x7 : Vec Ideal S8x256x768 .f32) :
    (kernelRun2_A (F := Ideal) c i arg2 harg2 arg3 harg3 arg4 harg4 arg5 harg5 arg6 harg6 arg7 harg7 arg8 harg8 arg9 harg9 arg10 harg10 hc0 hc1 x0 x1 x2 x3 x4 x5 x6 x7).1 = [⟨Rect.unit (s := S1x256x512) ![0, 0, 384] S1x256x128.size inb_S1x256x512_S1x256x128_0_0_384,
      slabE (k2_pay75 (F := Ideal) (BitVec.ofNat 32 (i 1))) (k2_pay76 (F := Ideal) (BitVec.ofNat 32 (i 1))) (k2_pay77 (F := Ideal) (BitVec.ofNat 32 (i 1)))
      (View.ld (arg2.view.read (Elt Ideal) (harg2.unread x0)) (Rect.unit (s := S1x256x512) ![0, 0, 384] ![1, 256, 128] inb_S1x256x512_S1x256x128_0_0_384))
      (View.ld (arg3.view.read (Elt Ideal) (harg3.unread x1)) (Rect.unit (s := S1x256x512) ![0, 0, 384] ![1, 256, 128] inb_S1x256x512_S1x256x128_0_0_384))
      (View.ld (arg4.view.read (Elt Ideal) (harg4.unread x2)) (Rect.unit (s := S1x256x512) ![0, 0, 384] ![1, 256, 128] inb_S1x256x512_S1x256x128_0_0_384))
      (View.ld (arg5.view.read (Elt Ideal) (harg5.unread x3)) (Rect.unit (s := S1x256x512) ![0, 0, 384] ![1, 256, 128] inb_S1x256x512_S1x256x128_0_0_384))
      (View.ld (arg6.view.read (Elt Ideal) (harg6.unread x4)) (Rect.unit (s := S1x256x512) ![0, 0, 384] ![1, 256, 128] inb_S1x256x512_S1x256x128_0_0_384))
      (View.ld (arg7.view.read (Elt Ideal) (harg7.unread x5)) (Rect.unit (s := S1x256x512) ![0, 0, 384] ![1, 256, 128] inb_S1x256x512_S1x256x128_0_0_384))
      (View.ld (arg8.view.read (Elt Ideal) (harg8.unread x6)) (Rect.unit (s := S1x256x512) ![0, 0, 384] ![1, 256, 128] inb_S1x256x512_S1x256x128_0_0_384))
      (View.ld (arg9.view.read (Elt Ideal) (harg9.unread x7)) (Rect.unit (s := S8x256x768) ![6, 0, 0] ![1, 256, 256] inb_S8x256x768_S1x256x256_6_0_0))
      (View.ld (arg9.view.read (Elt Ideal) (harg9.unread x7)) (Rect.unit (s := S8x256x768) ![6, 0, 256] ![1, 256, 256] inb_S8x256x768_S1x256x256_6_0_256))
      (View.ld (arg9.view.read (Elt Ideal) (harg9.unread x7)) (Rect.unit (s := S8x256x768) ![6, 0, 512] ![1, 256, 256] inb_S8x256x768_S1x256x256_6_0_512))
      (View.ld (arg9.view.read (Elt Ideal) (harg9.unread x7)) (Rect.unit (s := S8x256x768) ![7, 0, 0] ![1, 256, 256] inb_S8x256x768_S1x256x256_7_0_0))
      (View.ld (arg9.view.read (Elt Ideal) (harg9.unread x7)) (Rect.unit (s := S8x256x768) ![7, 0, 256] ![1, 256, 256] inb_S8x256x768_S1x256x256_7_0_256))
      (View.ld (arg9.view.read (Elt Ideal) (harg9.unread x7)) (Rect.unit (s := S8x256x768) ![7, 0, 512] ![1, 256, 256] inb_S8x256x768_S1x256x256_7_0_512))⟩,
    ⟨Rect.unit (s := S1x256x512) ![0, 0, 256] S1x256x128.size inb_S1x256x512_S1x256x128_0_0_256,
      slabE (k2_pay75 (F := Ideal) (BitVec.ofNat 32 (i 1))) (k2_pay76 (F := Ideal) (BitVec.ofNat 32 (i 1))) (k2_pay77 (F := Ideal) (BitVec.ofNat 32 (i 1)))
      (View.ld (arg2.view.read (Elt Ideal) (harg2.unread x0)) (Rect.unit (s := S1x256x512) ![0, 0, 256] ![1, 256, 128] inb_S1x256x512_S1x256x128_0_0_256))
      (View.ld (arg3.view.read (Elt Ideal) (harg3.unread x1)) (Rect.unit (s := S1x256x512) ![0, 0, 256] ![1, 256, 128] inb_S1x256x512_S1x256x128_0_0_256))
      (View.ld (arg4.view.read (Elt Ideal) (harg4.unread x2)) (Rect.unit (s := S1x256x512) ![0, 0, 256] ![1, 256, 128] inb_S1x256x512_S1x256x128_0_0_256))
      (View.ld (arg5.view.read (Elt Ideal) (harg5.unread x3)) (Rect.unit (s := S1x256x512) ![0, 0, 256] ![1, 256, 128] inb_S1x256x512_S1x256x128_0_0_256))
      (View.ld (arg6.view.read (Elt Ideal) (harg6.unread x4)) (Rect.unit (s := S1x256x512) ![0, 0, 256] ![1, 256, 128] inb_S1x256x512_S1x256x128_0_0_256))
      (View.ld (arg7.view.read (Elt Ideal) (harg7.unread x5)) (Rect.unit (s := S1x256x512) ![0, 0, 256] ![1, 256, 128] inb_S1x256x512_S1x256x128_0_0_256))
      (View.ld (arg8.view.read (Elt Ideal) (harg8.unread x6)) (Rect.unit (s := S1x256x512) ![0, 0, 256] ![1, 256, 128] inb_S1x256x512_S1x256x128_0_0_256))
      (View.ld (arg9.view.read (Elt Ideal) (harg9.unread x7)) (Rect.unit (s := S8x256x768) ![4, 0, 0] ![1, 256, 256] inb_S8x256x768_S1x256x256_4_0_0))
      (View.ld (arg9.view.read (Elt Ideal) (harg9.unread x7)) (Rect.unit (s := S8x256x768) ![4, 0, 256] ![1, 256, 256] inb_S8x256x768_S1x256x256_4_0_256))
      (View.ld (arg9.view.read (Elt Ideal) (harg9.unread x7)) (Rect.unit (s := S8x256x768) ![4, 0, 512] ![1, 256, 256] inb_S8x256x768_S1x256x256_4_0_512))
      (View.ld (arg9.view.read (Elt Ideal) (harg9.unread x7)) (Rect.unit (s := S8x256x768) ![5, 0, 0] ![1, 256, 256] inb_S8x256x768_S1x256x256_5_0_0))
      (View.ld (arg9.view.read (Elt Ideal) (harg9.unread x7)) (Rect.unit (s := S8x256x768) ![5, 0, 256] ![1, 256, 256] inb_S8x256x768_S1x256x256_5_0_256))
      (View.ld (arg9.view.read (Elt Ideal) (harg9.unread x7)) (Rect.unit (s := S8x256x768) ![5, 0, 512] ![1, 256, 256] inb_S8x256x768_S1x256x256_5_0_512))⟩,
    ⟨Rect.unit (s := S1x256x512) ![0, 0, 128] S1x256x128.size inb_S1x256x512_S1x256x128_0_0_128,
      slabE (k2_pay75 (F := Ideal) (BitVec.ofNat 32 (i 1))) (k2_pay76 (F := Ideal) (BitVec.ofNat 32 (i 1))) (k2_pay77 (F := Ideal) (BitVec.ofNat 32 (i 1)))
      (View.ld (arg2.view.read (Elt Ideal) (harg2.unread x0)) (Rect.unit (s := S1x256x512) ![0, 0, 128] ![1, 256, 128] inb_S1x256x512_S1x256x128_0_0_128))
      (View.ld (arg3.view.read (Elt Ideal) (harg3.unread x1)) (Rect.unit (s := S1x256x512) ![0, 0, 128] ![1, 256, 128] inb_S1x256x512_S1x256x128_0_0_128))
      (View.ld (arg4.view.read (Elt Ideal) (harg4.unread x2)) (Rect.unit (s := S1x256x512) ![0, 0, 128] ![1, 256, 128] inb_S1x256x512_S1x256x128_0_0_128))
      (View.ld (arg5.view.read (Elt Ideal) (harg5.unread x3)) (Rect.unit (s := S1x256x512) ![0, 0, 128] ![1, 256, 128] inb_S1x256x512_S1x256x128_0_0_128))
      (View.ld (arg6.view.read (Elt Ideal) (harg6.unread x4)) (Rect.unit (s := S1x256x512) ![0, 0, 128] ![1, 256, 128] inb_S1x256x512_S1x256x128_0_0_128))
      (View.ld (arg7.view.read (Elt Ideal) (harg7.unread x5)) (Rect.unit (s := S1x256x512) ![0, 0, 128] ![1, 256, 128] inb_S1x256x512_S1x256x128_0_0_128))
      (View.ld (arg8.view.read (Elt Ideal) (harg8.unread x6)) (Rect.unit (s := S1x256x512) ![0, 0, 128] ![1, 256, 128] inb_S1x256x512_S1x256x128_0_0_128))
      (View.ld (arg9.view.read (Elt Ideal) (harg9.unread x7)) (Rect.unit (s := S8x256x768) ![2, 0, 0] ![1, 256, 256] inb_S8x256x768_S1x256x256_2_0_0))
      (View.ld (arg9.view.read (Elt Ideal) (harg9.unread x7)) (Rect.unit (s := S8x256x768) ![2, 0, 256] ![1, 256, 256] inb_S8x256x768_S1x256x256_2_0_256))
      (View.ld (arg9.view.read (Elt Ideal) (harg9.unread x7)) (Rect.unit (s := S8x256x768) ![2, 0, 512] ![1, 256, 256] inb_S8x256x768_S1x256x256_2_0_512))
      (View.ld (arg9.view.read (Elt Ideal) (harg9.unread x7)) (Rect.unit (s := S8x256x768) ![3, 0, 0] ![1, 256, 256] inb_S8x256x768_S1x256x256_3_0_0))
      (View.ld (arg9.view.read (Elt Ideal) (harg9.unread x7)) (Rect.unit (s := S8x256x768) ![3, 0, 256] ![1, 256, 256] inb_S8x256x768_S1x256x256_3_0_256))
      (View.ld (arg9.view.read (Elt Ideal) (harg9.unread x7)) (Rect.unit (s := S8x256x768) ![3, 0, 512] ![1, 256, 256] inb_S8x256x768_S1x256x256_3_0_512))⟩,
    ⟨Rect.unit (s := S1x256x512) ![0, 0, 0] S1x256x128.size inb_S1x256x512_S1x256x128_0_0_0,
      slabE (k2_pay75 (F := Ideal) (BitVec.ofNat 32 (i 1))) (k2_pay76 (F := Ideal) (BitVec.ofNat 32 (i 1))) (k2_pay77 (F := Ideal) (BitVec.ofNat 32 (i 1)))
      (View.ld (arg2.view.read (Elt Ideal) (harg2.unread x0)) (Rect.unit (s := S1x256x512) ![0, 0, 0] ![1, 256, 128] inb_S1x256x512_S1x256x128_0_0_0))
      (View.ld (arg3.view.read (Elt Ideal) (harg3.unread x1)) (Rect.unit (s := S1x256x512) ![0, 0, 0] ![1, 256, 128] inb_S1x256x512_S1x256x128_0_0_0))
      (View.ld (arg4.view.read (Elt Ideal) (harg4.unread x2)) (Rect.unit (s := S1x256x512) ![0, 0, 0] ![1, 256, 128] inb_S1x256x512_S1x256x128_0_0_0))
      (View.ld (arg5.view.read (Elt Ideal) (harg5.unread x3)) (Rect.unit (s := S1x256x512) ![0, 0, 0] ![1, 256, 128] inb_S1x256x512_S1x256x128_0_0_0))
      (View.ld (arg6.view.read (Elt Ideal) (harg6.unread x4)) (Rect.unit (s := S1x256x512) ![0, 0, 0] ![1, 256, 128] inb_S1x256x512_S1x256x128_0_0_0))
      (View.ld (arg7.view.read (Elt Ideal) (harg7.unread x5)) (Rect.unit (s := S1x256x512) ![0, 0, 0] ![1, 256, 128] inb_S1x256x512_S1x256x128_0_0_0))
      (View.ld (arg8.view.read (Elt Ideal) (harg8.unread x6)) (Rect.unit (s := S1x256x512) ![0, 0, 0] ![1, 256, 128] inb_S1x256x512_S1x256x128_0_0_0))
      (View.ld (arg9.view.read (Elt Ideal) (harg9.unread x7)) (Rect.unit (s := S8x256x768) ![0, 0, 0] ![1, 256, 256] inb_S8x256x768_S1x256x256_0_0_0))
      (View.ld (arg9.view.read (Elt Ideal) (harg9.unread x7)) (Rect.unit (s := S8x256x768) ![0, 0, 256] ![1, 256, 256] inb_S8x256x768_S1x256x256_0_0_256))
      (View.ld (arg9.view.read (Elt Ideal) (harg9.unread x7)) (Rect.unit (s := S8x256x768) ![0, 0, 512] ![1, 256, 256] inb_S8x256x768_S1x256x256_0_0_512))
      (View.ld (arg9.view.read (Elt Ideal) (harg9.unread x7)) (Rect.unit (s := S8x256x768) ![1, 0, 0] ![1, 256, 256] inb_S8x256x768_S1x256x256_1_0_0))
      (View.ld (arg9.view.read (Elt Ideal) (harg9.unread x7)) (Rect.unit (s := S8x256x768) ![1, 0, 256] ![1, 256, 256] inb_S8x256x768_S1x256x256_1_0_256))
      (View.ld (arg9.view.read (Elt Ideal) (harg9.unread x7)) (Rect.unit (s := S8x256x768) ![1, 0, 512] ![1, 256, 256] inb_S8x256x768_S1x256x256_1_0_512))⟩] := by
  sl_kernel_rfl

theorem outA (c : Dev nD) (t : Fin cfg2.N) (h0 : ¬ 2 ≤ t.val % 16) (h1 : t.val % 16 ≤ 1) (y : S1x256x512.Idx) (r : Fin 256) (q : Fin 4) (l : Fin 128)
    (hr : r.val = (y 1).val) (hl : 128 * q.val + l.val = (y 2).val) : outsAt2 V c t.val t.isLt y
      = slabA (k2_pay75 (F := Ideal) (BitVec.ofNat 32 (grid2.coords t 1))) (k2_pay76 (F := Ideal) (BitVec.ofNat 32 (grid2.coords t 1))) (k2_pay77 (F := Ideal) (BitVec.ofNat 32 (grid2.coords t 1)))
        (iblk2 V c 0 t) (iblk2 V c 1 t) (iblk2 V c 2 t) (iblk2 V c 3 t) (iblk2 V c 4 t) (iblk2 V c 5 t) (iblk2 V c 6 t) (iblk2 V c 7 t) q (ix3 0 r l) := by
  rw [outsAt2_A V c t h0 h1]
  unfold out2_A_8
  rw [View.read_writes_junk_eq_canon, piecesA]
  simp only [Memref.IsWhole.read_unread]
  canon_tiles x h
  · rw [lanes_ld _ 3 384 rfl, lanes_ld _ 3 384 rfl, lanes_ld _ 3 384 rfl, lanes_ld _ 3 384 rfl, lanes_ld _ 3 384 rfl, lanes_ld _ 3 384 rfl, lanes_ld _ 3 384 rfl, tile_ld _ 6 0 0 6 rfl rfl, tile_ld _ 6 1 256 6 rfl rfl, tile_ld _ 6 2 512 6 rfl rfl, tile_ld _ 7 0 0 7 rfl rfl, tile_ld _ 7 1 256 7 rfl rfl, tile_ld _ 7 2 512 7 rfl rfl]
    exact slice (z := 0) (slabA (k2_pay75 (F := Ideal) (BitVec.ofNat 32 (grid2.coords t 1))) (k2_pay76 (F := Ideal) (BitVec.ofNat 32 (grid2.coords t 1))) (k2_pay77 (F := Ideal) (BitVec.ofNat 32 (grid2.coords t 1))) (iblk2 V c 0 t) (iblk2 V c 1 t) (iblk2 V c 2 t) (iblk2 V c 3 t) (iblk2 V c 4 t) (iblk2 V c 5 t) (iblk2 V c 6 t) (iblk2 V c 7 t)) y 3 x h1 (h2.trans (by simp)) r q l hr hl
  · rw [lanes_ld _ 2 256 rfl, lanes_ld _ 2 256 rfl, lanes_ld _ 2 256 rfl, lanes_ld _ 2 256 rfl, lanes_ld _ 2 256 rfl, lanes_ld _ 2 256 rfl, lanes_ld _ 2 256 rfl, tile_ld _ 4 0 0 4 rfl rfl, tile_ld _ 4 1 256 4 rfl rfl, tile_ld _ 4 2 512 4 rfl rfl, tile_ld _ 5 0 0 5 rfl rfl, tile_ld _ 5 1 256 5 rfl rfl, tile_ld _ 5 2 512 5 rfl rfl]
    exact slice (z := 0) (slabA (k2_pay75 (F := Ideal) (BitVec.ofNat 32 (grid2.coords t 1))) (k2_pay76 (F := Ideal) (BitVec.ofNat 32 (grid2.coords t 1))) (k2_pay77 (F := Ideal) (BitVec.ofNat 32 (grid2.coords t 1))) (iblk2 V c 0 t) (iblk2 V c 1 t) (iblk2 V c 2 t) (iblk2 V c 3 t) (iblk2 V c 4 t) (iblk2 V c 5 t) (iblk2 V c 6 t) (iblk2 V c 7 t)) y 2 x h1 (h2.trans (by simp)) r q l hr hl
  · rw [lanes_ld _ 1 128 rfl, lanes_ld _ 1 128 rfl, lanes_ld _ 1 128 rfl, lanes_ld _ 1 128 rfl, lanes_ld _ 1 128 rfl, lanes_ld _ 1 128 rfl, lanes_ld _ 1 128 rfl, tile_ld _ 2 0 0 2 rfl rfl, tile_ld _ 2 1 256 2 rfl rfl, tile_ld _ 2 2 512 2 rfl rfl, tile_ld _ 3 0 0 3 rfl rfl, tile_ld _ 3 1 256 3 rfl rfl, tile_ld _ 3 2 512 3 rfl rfl]
    exact slice (z := 0) (slabA (k2_pay75 (F := Ideal) (BitVec.ofNat 32 (grid2.coords t 1))) (k2_pay76 (F := Ideal) (BitVec.ofNat 32 (grid2.coords t 1))) (k2_pay77 (F := Ideal) (BitVec.ofNat 32 (grid2.coords t 1))) (iblk2 V c 0 t) (iblk2 V c 1 t) (iblk2 V c 2 t) (iblk2 V c 3 t) (iblk2 V c 4 t) (iblk2 V c 5 t) (iblk2 V c 6 t) (iblk2 V c 7 t)) y 1 x h1 (h2.trans (by simp)) r q l hr hl
  · rw [lanes_ld _ 0 0 rfl, lanes_ld _ 0 0 rfl, lanes_ld _ 0 0 rfl, lanes_ld _ 0 0 rfl, lanes_ld _ 0 0 rfl, lanes_ld _ 0 0 rfl, lanes_ld _ 0 0 rfl, tile_ld _ 0 0 0 0 rfl rfl, tile_ld _ 0 1 256 0 rfl rfl, tile_ld _ 0 2 512 0 rfl rfl, tile_ld _ 1 0 0 1 rfl rfl, tile_ld _ 1 1 256 1 rfl rfl, tile_ld _ 1 2 512 1 rfl rfl]
    exact slice (z := 0) (slabA (k2_pay75 (F := Ideal) (BitVec.ofNat 32 (grid2.coords t 1))) (k2_pay76 (F := Ideal) (BitVec.ofNat 32 (grid2.coords t 1))) (k2_pay77 (F := Ideal) (BitVec.ofNat 32 (grid2.coords t 1))) (iblk2 V c 0 t) (iblk2 V c 1 t) (iblk2 V c 2 t) (iblk2 V c 3 t) (iblk2 V c 4 t) (iblk2 V c 5 t) (iblk2 V c 6 t) (iblk2 V c 7 t)) y 0 x h1 (h2.trans (by simp)) r q l hr hl

end Cert.KernelIdeal.Attn

end
-- ==== Proof.AttnVal.lean ====
/- The attention kernel's block over the reals: softmax attention in a band of chunks. -/
module

public import proofs.«01_k».proof.Proof.AttnBlk
public import proofs.«01_k».proof.Proof.Spec

@[expose] public section

set_option maxRecDepth 16384

noncomputable section

namespace Cert.KernelIdeal.Attn

open Idealize.ShloMosaic Idealize.ShloMosaic.TcCoe Idealize.SL.Sem Cert.KernelIdeal Cert.KernelIdeal.Gen Cert.Spec

/-- The head of a lane and its place in the head. -/
def hd (l : Fin 512) : Fin 8 := ⟨l.val / 64, by omega⟩
def ln (l : Fin 512) : Fin 64 := ⟨l.val % 64, by omega⟩

/-- The column of key `c` of key tile `j` in the band. -/
def colAt (j : Fin 3) (c : Fin 256) : Fin 768 := ⟨256 * j.val + c.val, by omega⟩

/-- The queries' factor: one over the root of the head's width, times the base change from e to 2. -/
def qs : ℝ := 1 / 8 * (1 / Real.log 2)

theorem slabL_eq (q k0 k1 k2 v0 v1 v2 : Vec Ideal S1x256x128 .bf16) (a0 a1 a2 b0 b1 b2 : Vec Ideal S1x256x256 .f32) :
    slabL q k0 k1 k2 v0 v1 v2 a0 a1 a2 b0 b1 b2 = slabE 0 0 0 q k0 k1 k2 v0 v1 v2 a0 a1 a2 b0 b1 b2 := by
  have e : ∀ (q : FVec Ideal S256x128 .bf16) (k : Vec Ideal S1x256x128 .bf16) (b : Vec Ideal S1x256x256 .f32),
      scoreP (F := Ideal) (0 : EReal) q k b = score q k b := fun q k b => by
    funext j
    rw [show j = ix2 (j 0) (j 1) from eq_ix2 j]
    exact (scoreP_apply 0 q k b (j 0) (j 1)).trans (add_zero _)
  unfold slabL slabE
  rw [e, e, e, e, e, e]

theorem sum128 (f : Fin 128 → EReal) : (∑ d, f d) = (∑ d : Fin 64, f ⟨d.val, by omega⟩) + (∑ d : Fin 64, f ⟨64 + d.val, by omega⟩) :=
  Fin.sum_univ_add (a := 64) (b := 64) f

section

variable (q k v : Fin 8 → Fin 4096 → Fin 64 → ℝ) (b : Fin 8 → Fin 257 → ℝ) (i : Fin 16)
variable (x0 : Vec Ideal S1x256x512 .bf16) (xk xv : Fin 3 → Vec Ideal S1x256x512 .bf16) (x7 : Vec Ideal S8x256x768 .f32) (e : Fin 3 → EReal)
variable (hq : ∀ r l, x0 (ix3 0 r l) = ((q (hd l) (tq i r) (ln l) * qs : ℝ) : EReal))
variable (hk : ∀ j c l, xk j (ix3 0 c l) = ((k (hd l) (tpos i j c) (ln l) : ℝ) : EReal))
variable (hv : ∀ j c l, xv j (ix3 0 c l) = ((v (hd l) (tpos i j c) (ln l) : ℝ) : EReal))
variable (hb : ∀ h r (j : Fin 3) (c : Fin 256), x7 (ix3 h r (colAt j c))
  = if inBand r j c then ((b h (rel r.val (256 * j.val + c.val)) * (1 / Real.log 2) : ℝ) : EReal) else ⊥)
variable (he : ∀ j : Fin 3, e j = if 2 ≤ i.val + j.val then 0 else ⊥)

include hb he in
theorem score_eq (h : Fin 8) (r : Fin 256) (j : Fin 3) (c : Fin 256) (Q : FVec Ideal S256x128 .bf16) (K : Vec Ideal S1x256x128 .bf16)
    (hs : (∑ d : Fin 128, Q (ix2 r d) * K (ix3 0 c d)) = ((∑ d, q h (tq i r) d * qs * k h (tpos i j c) d : ℝ) : EReal)) :
    scoreP (F := Ideal) (e j) Q K (tile x7 h j) (ix2 r c) = tlogit (q h) (k h) (b h) i r j c := by
  rw [scoreP_apply, score_apply, hs, he]
  have ht : tile x7 h j (ix3 0 r c) = if inBand r j c then ((b h (rel r.val (256 * j.val + c.val)) * (1 / Real.log 2) : ℝ) : EReal) else ⊥ := hb h r j c
  rw [ht]
  unfold tlogit
  by_cases h1 : inBand r j c
  · by_cases h2 : 2 ≤ i.val + j.val
    · rw [if_pos h1, if_pos h2, if_pos ⟨h1, h2⟩, add_zero, ← EReal.coe_add]
      refine congrArg _ ?_
      unfold raw qs
      rw [add_mul, Finset.sum_mul, Finset.sum_mul]
      refine congrArg (· + _) (Finset.sum_congr rfl fun d _ => ?_)
      ring
    · rw [if_neg h2, if_neg (fun h' => h2 (And.right (a := inBand r j c) h')), EReal.add_bot]
  · rw [if_neg h1, if_neg (fun h' => h1 (And.left (b := 2 ≤ i.val + j.val) h')), EReal.add_bot, EReal.bot_add]

include hq hk in
theorem dot_low (p : Fin 4) (h : Fin 8) (hh : h.val = 2 * p.val) (r : Fin 256) (j : Fin 3) (c : Fin 256) :
    (∑ d : Fin 128, qLow (lanes x0 p) (ix2 r d) * lanes (xk j) p (ix3 0 c d)) = ((∑ d, q h (tq i r) d * qs * k h (tpos i j c) d : ℝ) : EReal) := by
  rw [sum128, Softmax.coe_sum]
  have z : (∑ d : Fin 64, qLow (lanes x0 p) (ix2 r (⟨64 + d.val, by omega⟩ : Fin 128)) * lanes (xk j) p (ix3 0 c (⟨64 + d.val, by omega⟩ : Fin 128))) = 0 := by
    refine Finset.sum_eq_zero fun d _ => ?_
    rw [qLow_apply, if_neg (by simp), zero_mul]
  rw [z, add_zero]
  refine Finset.sum_congr rfl fun d _ => ?_
  rw [qLow_apply, if_pos d.isLt]
  have e1 : lanes x0 p (ix3 0 r (⟨d.val, by omega⟩ : Fin 128)) = ((q h (tq i r) d * qs : ℝ) : EReal) := by
    refine (hq r ⟨128 * p.val + d.val, by omega⟩).trans ?_
    rw [show hd ⟨128 * p.val + d.val, by omega⟩ = h from Fin.ext (by simp only [hd]; omega), show ln ⟨128 * p.val + d.val, by omega⟩ = d from Fin.ext (by simp only [ln]; omega)]
  have e2 : lanes (xk j) p (ix3 0 c (⟨d.val, by omega⟩ : Fin 128)) = ((k h (tpos i j c) d : ℝ) : EReal) := by
    refine (hk j c ⟨128 * p.val + d.val, by omega⟩).trans ?_
    rw [show hd ⟨128 * p.val + d.val, by omega⟩ = h from Fin.ext (by simp only [hd]; omega), show ln ⟨128 * p.val + d.val, by omega⟩ = d from Fin.ext (by simp only [ln]; omega)]
  rw [e1, e2, ← EReal.coe_mul]

include hq hk in
theorem dot_high (p : Fin 4) (h : Fin 8) (hh : h.val = 2 * p.val + 1) (r : Fin 256) (j : Fin 3) (c : Fin 256) :
    (∑ d : Fin 128, qHigh (lanes x0 p) (ix2 r d) * lanes (xk j) p (ix3 0 c d)) = ((∑ d, q h (tq i r) d * qs * k h (tpos i j c) d : ℝ) : EReal) := by
  rw [sum128, Softmax.coe_sum]
  have z : (∑ d : Fin 64, qHigh (lanes x0 p) (ix2 r (⟨d.val, by omega⟩ : Fin 128)) * lanes (xk j) p (ix3 0 c (⟨d.val, by omega⟩ : Fin 128))) = 0 := by
    refine Finset.sum_eq_zero fun d _ => ?_
    rw [qHigh_apply, if_pos d.isLt, zero_mul]
  rw [z, zero_add]
  refine Finset.sum_congr rfl fun d _ => ?_
  rw [qHigh_apply, if_neg (by simp)]
  have e1 : lanes x0 p (ix3 0 r (⟨64 + d.val, by omega⟩ : Fin 128)) = ((q h (tq i r) d * qs : ℝ) : EReal) := by
    refine (hq r ⟨128 * p.val + (64 + d.val), by omega⟩).trans ?_
    rw [show hd ⟨128 * p.val + (64 + d.val), by omega⟩ = h from Fin.ext (by simp only [hd]; omega), show ln ⟨128 * p.val + (64 + d.val), by omega⟩ = d from Fin.ext (by simp only [ln]; omega)]
  have e2 : lanes (xk j) p (ix3 0 c (⟨64 + d.val, by omega⟩ : Fin 128)) = ((k h (tpos i j c) d : ℝ) : EReal) := by
    refine (hk j c ⟨128 * p.val + (64 + d.val), by omega⟩).trans ?_
    rw [show hd ⟨128 * p.val + (64 + d.val), by omega⟩ = h from Fin.ext (by simp only [hd]; omega), show ln ⟨128 * p.val + (64 + d.val), by omega⟩ = d from Fin.ext (by simp only [ln]; omega)]
  rw [e1, e2, ← EReal.coe_mul]

include hv in
/-- A head's output is the attention of its chunk. -/
theorem head_att (p : Fin 4) (l : Fin 128) (L : Fin 512) (hL : L.val = 128 * p.val + l.val) (r : Fin 256) (n s : Fin 64)
    (hn : n.val = 4 * i.val + r.val / 64) (hs : s.val = r.val % 64) (S : Fin 3 → FVec Ideal S256x256 .f32)
    (hS : ∀ j c, S j (ix2 r c) = tlogit (q (hd L)) (k (hd L)) (b (hd L)) i r j c) :
    head (S 0) (S 1) (S 2) (lanes (xv 0) p) (lanes (xv 1) p) (lanes (xv 2) p) (ix2 r l)
      = ((att (q (hd L)) (k (hd L)) (v (hd L)) (b (hd L)) n s (ln L) : ℝ) : EReal) := by
  have e := head_row S (fun j => lanes (xv j) p) r l (fun j c => by rw [hS]; exact tlogit_ne_top _ _ _ _ _ _ _) 2 r (by rw [hS]; exact tlogit_ne_bot _ _ _ _ _)
    (fun j c => v (hd L) (tpos i j c) (ln L)) (fun j c => by
      have h := hv j c L
      rw [← h]
      exact congrArg (xv j) (by congr 1; exact Fin.ext hL.symm))
  refine e.trans (congrArg _ ?_)
  rw [← tile_att (q (hd L)) (k (hd L)) (v (hd L)) (b (hd L)) i r n s (ln L) hn hs]
  simp only [hS]

include hq hk hv hb he in
theorem slab_att (p : Fin 4) (l : Fin 128) (L : Fin 512) (hL : L.val = 128 * p.val + l.val) (r : Fin 256) (n s : Fin 64)
    (hn : n.val = 4 * i.val + r.val / 64) (hs : s.val = r.val % 64) :
    slabA (e 0) (e 1) (e 2) x0 (xk 0) (xk 1) (xk 2) (xv 0) (xv 1) (xv 2) x7 p (ix3 0 r l)
      = ((att (q (hd L)) (k (hd L)) (v (hd L)) (b (hd L)) n s (ln L) : ℝ) : EReal) := by
  unfold slabA slabE
  rw [slab_apply]
  by_cases h : l.val < 64
  · rw [if_pos h]
    have hh : hd L = ⟨2 * p.val, by omega⟩ := Fin.ext (by simp only [hd]; omega)
    refine head_att q k v b i xv hv p l L hL r n s hn hs (fun j => scoreP (F := Ideal) (e j) (qLow (lanes x0 p)) (lanes (xk j) p) (tile x7 ⟨2 * p.val, by omega⟩ j)) fun j c => ?_
    rw [← hh]
    exact score_eq q k b i x7 e hb he (hd L) r j c _ _ (dot_low q k i x0 xk hq hk p (hd L) (by rw [hh]) r j c)
  · rw [if_neg h]
    have hh : hd L = ⟨2 * p.val + 1, by omega⟩ := Fin.ext (by simp only [hd]; omega)
    refine head_att q k v b i xv hv p l L hL r n s hn hs (fun j => scoreP (F := Ideal) (e j) (qHigh (lanes x0 p)) (lanes (xk j) p) (tile x7 ⟨2 * p.val + 1, by omega⟩ j)) fun j c => ?_
    rw [← hh]
    exact score_eq q k b i x7 e hb he (hd L) r j c _ _ (dot_high q k i x0 xk hq hk p (hd L) (by rw [hh]) r j c)

end

end Cert.KernelIdeal.Attn

end
-- ==== Proof.Reals.lean ====
/- Queries, keys, values and gates of both programs as reals. -/
module

public import proofs.«01_k».proof.Proof.RefProj
public import proofs.«01_k».proof.Proof.Softmax
public import proofs.«01_k».proof.Proof.Finite
public import proofs.«01_k».proof.Proof.InprojRes
public import proofs.«01_k».proof.Proof.AttnVal

@[expose] public section

set_option maxRecDepth 16384

noncomputable section

namespace Cert.Reals

open Idealize.ShloMosaic Idealize.SL.Sem Cert.KernelIdeal Cert.Spec Cert.Softmax Cert.Finite Cert.ReferenceIdeal.Val Cert.KernelIdeal.Inproj Cert.KernelIdeal.Attn

theorem rn_real {n : ℕ} (lit : BitVec 32) (hl : Ideal.ofBits .f32 lit = ((n : ℝ) : EReal)) (hn : (n : ℝ) ≠ 0) (t g : Fin n → ℝ) (k : Fin n) :
    rn lit (fun k => (t k : EReal)) (fun k => (g k : EReal)) k = ((nrm t g k : ℝ) : EReal) := by
  unfold rn nrm
  simp only [← EReal.coe_mul]
  rw [← coe_sum, hl, Ideal.div_coe hn, ← EReal.coe_mul, eps_eq, ← EReal.coe_add, mul_one_div, rsqrt_pos (ms_pos t), ← EReal.coe_mul, ← EReal.coe_mul]

variable (X : (⟨S4x4096x1024, .f32⟩ : BufTy).Contents (Elt Ideal)) (G : (⟨S1024, .f32⟩ : BufTy).Contents (Elt Ideal)) (SC SH : (⟨S4x1x1024, .f32⟩ : BufTy).Contents (Elt Ideal)) (W : (⟨S1024x4608, .f32⟩ : BufTy).Contents (Elt Ideal)) (QG KG : (⟨S64, .f32⟩ : BufTy).Contents (Elt Ideal))

/-- A projected row, as reals. -/
def pr (b : Fin 4) (s : Fin 4096) (j : Fin 4608) : ℝ :=
  ∑ k : Fin 1024, hid (fun k => EReal.toReal (X (ix3 b s k))) (fun k => EReal.toReal (G (ix1 k))) (fun k => EReal.toReal (SC (ix3 b 0 k))) (fun k => EReal.toReal (SH (ix3 b 0 k))) k
    * EReal.toReal (W (ix2 k j))

def qh (b : Fin 4) (h : Fin 8) (s : Fin 4096) (d : Fin 64) : ℝ :=
  nrm (fun d : Fin 64 => pr X G SC SH W b s ⟨1024 + (h.val * 64 + d.val), by omega⟩) (fun d => EReal.toReal (QG (ix1 d))) d
def kh (b : Fin 4) (h : Fin 8) (s : Fin 4096) (d : Fin 64) : ℝ :=
  nrm (fun d : Fin 64 => pr X G SC SH W b s ⟨1536 + (h.val * 64 + d.val), by omega⟩) (fun d => EReal.toReal (KG (ix1 d))) d
def vh (b : Fin 4) (h : Fin 8) (s : Fin 4096) (d : Fin 64) : ℝ := pr X G SC SH W b s ⟨2048 + (h.val * 64 + d.val), by omega⟩

variable (hX : IsReal X) (hG : IsReal G) (hSC : IsReal SC) (hSH : IsReal SH) (hW : IsReal W)

include hX hG hSC hSH in
theorem hid_real (b : Fin 4) (s : Fin 4096) (k : Fin 1024) : hidE X G SC SH b s k
    = ((hid (fun k => EReal.toReal (X (ix3 b s k))) (fun k => EReal.toReal (G (ix1 k))) (fun k => EReal.toReal (SC (ix3 b 0 k))) (fun k => EReal.toReal (SH (ix3 b 0 k))) k : ℝ) : EReal) := by
  unfold hidE hid
  rw [show (fun k => X (ix3 b s k)) = fun k => ((EReal.toReal (X (ix3 b s k)) : ℝ) : EReal) from funext fun k => hX _,
    show (fun k => G (ix1 k)) = fun k => ((EReal.toReal (G (ix1 k)) : ℝ) : EReal) from funext fun k => hG _,
    rn_real 0x44800000#32 (by rw [f1024]; norm_num) (by norm_num), hSC (ix3 b 0 k), hSH (ix3 b 0 k)]
  show _ * ((1 : EReal) + _) + _ = _
  rw [EReal.coe_add, EReal.coe_mul, EReal.coe_add, EReal.coe_one]

include hX hG hSC hSH hW

theorem proj_real (b : Fin 4) (s : Fin 4096) (j : Fin 4608) : projE X G SC SH W b s j = ((pr X G SC SH W b s j : ℝ) : EReal) := by
  unfold projE pr
  rw [coe_sum]
  refine Finset.sum_congr rfl fun k _ => ?_
  rw [hid_real X G SC SH hX hG hSC hSH, EReal.coe_mul]
  exact congrArg _ (hW _)

theorem q_real (hQ : IsReal QG) (b s h d) : Cert.ReferenceIdeal.Read.val_main_v47 X G SC SH W QG (ix4 b s h d) = ((qh X G SC SH W QG b h s d : ℝ) : EReal) := by
  rw [v47]
  simp only [proj_real X G SC SH W hX hG hSC hSH hW]
  rw [show (fun k => QG (ix1 k)) = fun k => ((EReal.toReal (QG (ix1 k)) : ℝ) : EReal) from funext fun k => hQ _]
  exact rn_real 0x42800000#32 (by rw [f64]; norm_num) (by norm_num) _ _ d

theorem k_real (hK : IsReal KG) (b s h d) : Cert.ReferenceIdeal.Read.val_main_v61 X G SC SH W KG (ix4 b s h d) = ((kh X G SC SH W KG b h s d : ℝ) : EReal) := by
  rw [v61]
  simp only [proj_real X G SC SH W hX hG hSC hSH hW]
  rw [show (fun k => KG (ix1 k)) = fun k => ((EReal.toReal (KG (ix1 k)) : ℝ) : EReal) from funext fun k => hK _]
  exact rn_real 0x42800000#32 (by rw [f64]; norm_num) (by norm_num) _ _ d

theorem v_real (b s h d) : Cert.ReferenceIdeal.Read.val_main_v62 X G SC SH W (ix4 b s h d) = ((vh X G SC SH W b h s d : ℝ) : EReal) := by
  rw [v62, proj_real X G SC SH W hX hG hSC hSH hW]
  rfl

omit hX hG hSC hSH hW

/-! ## The kernel's normalisation of a head, through the block-diagonal average -/

theorem sum512 (f : Fin 512 → ℝ) : ∑ c, f c = ∑ h : Fin 8, ∑ d : Fin 64, f ⟨h.val * 64 + d.val, by omega⟩ := by
  rw [← Finset.sum_product', Finset.univ_product_univ]
  refine (Fintype.sum_equiv (finProdFinEquiv : Fin 8 × Fin 64 ≃ Fin (8 * 64)) _ _ fun x => ?_).symm
  exact congrArg f (Fin.ext (by show x.1.val * 64 + x.2.val = x.2.val + 64 * x.1.val; ring))

theorem hrs_real (t : Fin 512 → ℝ) (bd : Fin 512 → EReal) (l : Fin 512)
    (hb : ∀ c, bd c = (((if c.val / 64 = l.val / 64 then 1 else 0) * (1 / 64) : ℝ) : EReal)) :
    hrs (fun c => (t c : EReal)) bd = (((√((∑ d : Fin 64, t ⟨l.val / 64 * 64 + d.val, by omega⟩ * t ⟨l.val / 64 * 64 + d.val, by omega⟩) / (64 : ℕ) + eps))⁻¹ : ℝ) : EReal) := by
  unfold hrs
  simp only [hb, ← EReal.coe_mul, ← EReal.coe_sub, ← coe_sum, sub_self, zero_mul, Finset.sum_const_zero]
  rw [eps_eq, ← EReal.coe_add, ← EReal.coe_add, add_zero]
  have e : (∑ c : Fin 512, t c * t c * ((if c.val / 64 = l.val / 64 then 1 else 0) * (1 / 64)) : ℝ)
      = (∑ d : Fin 64, t ⟨l.val / 64 * 64 + d.val, by omega⟩ * t ⟨l.val / 64 * 64 + d.val, by omega⟩) / (64 : ℕ) := by
    rw [sum512, Finset.sum_eq_single (⟨l.val / 64, by omega⟩ : Fin 8), Finset.sum_div]
    · refine Finset.sum_congr rfl fun d _ => ?_
      rw [if_pos (show (l.val / 64 * 64 + d.val) / 64 = l.val / 64 by omega), one_mul, mul_one_div]
      norm_num
    · intro h _ hh
      refine Finset.sum_eq_zero fun d _ => ?_
      rw [if_neg (show ¬ (h.val * 64 + d.val) / 64 = l.val / 64 from fun q => hh (Fin.ext (by show h.val = l.val / 64; omega))), zero_mul, mul_zero]
    · intro hh; exact absurd (Finset.mem_univ _) hh
  rw [e]
  exact rsqrt_pos (ms_pos (fun d : Fin 64 => t ⟨l.val / 64 * 64 + d.val, by omega⟩))

theorem head_real (p : Fin 4608 → ℝ) (o : ℕ) (ho : o + 512 ≤ 4608) (bd : Fin 512 → Fin 512 → EReal) (g : Fin 512 → EReal) (gr : Fin 64 → ℝ)
    (hb : ∀ c l, bd c l = (((if c.val / 64 = l.val / 64 then 1 else 0) * (1 / 64) : ℝ) : EReal))
    (hg : ∀ l, g l = ((gr (ln l) : ℝ) : EReal)) (l : Fin 512) :
    ((p ⟨o + l.val, by omega⟩ : ℝ) : EReal) * hrs (fun c => ((p ⟨o + c.val, by omega⟩ : ℝ) : EReal)) (fun c => bd c l) * g l
      = ((nrm (fun d : Fin 64 => p ⟨o + ((hd l).val * 64 + d.val), by have := (hd l).isLt; omega⟩) gr (ln l) : ℝ) : EReal) := by
  rw [hrs_real (fun c => p ⟨o + c.val, by omega⟩) _ l (fun c => hb c l), hg, ← EReal.coe_mul, ← EReal.coe_mul]
  unfold nrm
  have e : (⟨o + l.val, by omega⟩ : Fin 4608) = ⟨o + ((hd l).val * 64 + (ln l).val), by have := (hd l).isLt; have := (ln l).isLt; omega⟩ :=
    Fin.ext (by show o + l.val = o + (l.val / 64 * 64 + l.val % 64); omega)
  rw [e]
  rfl

/-! ## The kernel's row is the reference's -/

theorem row_eq (G' : (⟨S1x1024, .f32⟩ : BufTy).Contents (Elt Ideal)) (W' : (⟨S1024x4608, .bf16⟩ : BufTy).Contents (Elt Ideal))
    (hG' : ∀ k, G' (ix2 0 k) = G (ix1 k)) (hW' : ∀ k j, W' (ix2 k j) = W (ix2 k j)) (b : Fin 4) (s : Fin 4096) (j : Fin 4608) :
    rowOf X G' SC SH W' b s j = projE X G SC SH W b s j := by
  unfold rowOf
  rw [funext hG', funext fun k => funext (hW' k)]
  rfl

end Cert.Reals

end
-- ==== Proof.KHost.lean ====
/- What the host prepares for the kernels, entry by entry. -/
module

public import proofs.«01_k».proof.Proof.Gen.KernelIdeal.Launch
public import Idealize.ShloMosaic.Lib.StableHlo.RunRead
public import Idealize.ShloMosaic.Lib.Tactic
public import Idealize.ShloMosaic.Lib.Pointwise
public import Idealize.ShloMosaic.PureOps.Ideal.Laws

@[expose] public section

set_option maxRecDepth 16384

noncomputable section

namespace Cert.KernelIdeal.Host

open Idealize.ShloMosaic Idealize.ShloMosaic.TcCoe Idealize.SL.Sem Cert.KernelIdeal Cert.KernelIdeal.Gen

variable (V : Valuation τ sig (Elt Ideal))

theorem v9 (k : Fin 1024) : (StableHlo.after hostOps0_2 V (Proc.devRef .tc main_v9) : (⟨S1x1024, .f32⟩ : BufTy).Contents (Elt Ideal)) (ix2 0 k)
    = (V (Proc.devRef .tc main_arg1) : (⟨S1024, .f32⟩ : BufTy).Contents (Elt Ideal)) (ix1 k) := by
  after_results_simp
  pointwise

theorem v10 (k : Fin 1024) (j : Fin 4608) : (StableHlo.after hostOps0_2 V (Proc.devRef .tc main_v10) : (⟨S1024x4608, .bf16⟩ : BufTy).Contents (Elt Ideal)) (ix2 k j)
    = (V (Proc.devRef .tc main_arg4) : (⟨S1024x4608, .f32⟩ : BufTy).Contents (Elt Ideal)) (ix2 k j) := by
  after_results_simp
  pointwise

theorem v14 (l : Fin 512) : (StableHlo.after hostOps0_2 V (Proc.devRef .tc main_v14) : (⟨S1x512, .f32⟩ : BufTy).Contents (Elt Ideal)) (ix2 0 l)
    = (V (Proc.devRef .tc main_arg5) : (⟨S64, .f32⟩ : BufTy).Contents (Elt Ideal)) (ix1 ⟨l.val % 64, by omega⟩) := by
  after_results_simp
  pointwise

theorem v18 (l : Fin 512) : (StableHlo.after hostOps0_2 V (Proc.devRef .tc main_v18) : (⟨S1x512, .f32⟩ : BufTy).Contents (Elt Ideal)) (ix2 0 l)
    = (V (Proc.devRef .tc main_arg6) : (⟨S64, .f32⟩ : BufTy).Contents (Elt Ideal)) (ix1 ⟨l.val % 64, by omega⟩) := by
  after_results_simp
  pointwise

theorem v5 (a b : Fin 8) : @Eq EReal ((StableHlo.after hostOps0 V (Proc.devRef .tc main_v5) : (⟨S8x8, .f32⟩ : BufTy).Contents (Elt Ideal)) (ix2 a b))
    (if a = b then 1 else 0) := by
  after_results_simp
  pointwise
  have w : ∀ a b : Fin 8, IntOp.cmpi .eq (IntOp.addi (BitVec.ofNat 32 a.val) 0#32) (BitVec.ofNat 32 b.val) = if a = b then 1#1 else 0#1 := by decide +kernel
  rw [w]
  show ((((if a = b then 1#1 else 0#1 : BitVec 1).toNat : ℝ)) : EReal) = _
  split <;> simp

theorem v6 (a b : Fin 64) : @Eq EReal ((StableHlo.after hostOps0 V (Proc.devRef .tc main_v6) : (⟨S64x64, .f32⟩ : BufTy).Contents (Elt Ideal)) (ix2 a b))
    ((1 / 64 : ℝ) : EReal) := by
  after_results_simp
  pointwise
  simp [Ideal.ofBits, Ideal.ieee]
  rw [← EReal.coe_mul]; norm_num

/-- The block diagonal matrix of a block `N` and the pattern `M` of blocks. -/
def kron (M : (⟨S8x8, .f32⟩ : BufTy).Contents (Elt Ideal)) (N : (⟨S64x64, .f32⟩ : BufTy).Contents (Elt Ideal)) : (⟨S512x512, .f32⟩ : BufTy).Contents (Elt Ideal) :=
  shapeCast S512x512 (mulf (F := Ideal) (φ := .f32) (broadcastInDim S8x64x8x64 ![0, 1, 2, 3] bcast_S8x1x8x1_S8x64x8x64_0_1_2_3 (broadcastInDim S8x1x8x1 ![0, 2] bcast_S8x8_S8x1x8x1_0_2 M))
    (broadcastInDim S8x64x8x64 ![0, 1, 2, 3] bcast_S1x64x1x64_S8x64x8x64_0_1_2_3 (broadcastInDim S1x64x1x64 ![1, 3] bcast_S64x64_S1x64x1x64_1_3 N))) shapeCasts_S8x64x8x64_S512x512

theorem kron_apply (M : (⟨S8x8, .f32⟩ : BufTy).Contents (Elt Ideal)) (N : (⟨S64x64, .f32⟩ : BufTy).Contents (Elt Ideal)) (k l : Fin 512) :
    @Eq EReal (kron M N (ix2 k l)) (M (ix2 ⟨k.val / 64, by omega⟩ ⟨l.val / 64, by omega⟩) * N (ix2 ⟨k.val % 64, by omega⟩ ⟨l.val % 64, by omega⟩)) := by
  unfold kron
  pointwise

theorem v7 (M : (⟨S8x8, .f32⟩ : BufTy).Contents (Elt Ideal)) (N : (⟨S64x64, .f32⟩ : BufTy).Contents (Elt Ideal))
    (hM : V (Proc.devRef .tc main_v5) = M) (hN : V (Proc.devRef .tc main_v6) = N) :
    (StableHlo.after hostOps0_1 V (Proc.devRef .tc main_v7) : (⟨S512x512, .f32⟩ : BufTy).Contents (Elt Ideal)) = kron M N := by
  subst hM hN
  sl_kernel_rfl

theorem v8 (k l : Fin 512) : (StableHlo.after hostOps0_2 V (Proc.devRef .tc main_v8) : (⟨S512x512, .bf16⟩ : BufTy).Contents (Elt Ideal)) (ix2 k l)
    = (V (Proc.devRef .tc main_v7) : (⟨S512x512, .f32⟩ : BufTy).Contents (Elt Ideal)) (ix2 k l) := by
  after_results_simp
  pointwise

/-- The biases by lag, held at the band's ends. -/
def lags (B : (⟨S8x257, .f32⟩ : BufTy).Contents (Elt Ideal)) : (⟨S8x1023, .f32⟩ : BufTy).Contents (Elt Ideal) :=
  concatenate S8x1023 1 [⟨S8x127, shapeCast S8x127 (broadcastInDim S8x1x127 ![0, 1] bcast_S8x1_S8x1x127_0_1 (extractStridedSlice S8x1 ![0, 0] B slices_S8x257_S8x1_0_0)) shapeCasts_S8x1x127_S8x127⟩, ⟨S8x257, B⟩,
    ⟨S8x639, shapeCast S8x639 (broadcastInDim S8x1x639 ![0, 1] bcast_S8x1_S8x1x639_0_1 (extractStridedSlice S8x1 ![0, 256] B slices_S8x257_S8x1_0_256)) shapeCasts_S8x1x639_S8x639⟩] concatenates_S8x127_S8x257_S8x639_S8x1023_d1

/-- The lags turned round and wrapped. -/
def ring (L : (⟨S8x1023, .f32⟩ : BufTy).Contents (Elt Ideal)) : (⟨S8x1024, .f32⟩ : BufTy).Contents (Elt Ideal) :=
  concatenate S8x1024 1 [⟨S8x768, Host.reverse [1] (extractStridedSlice S8x768 ![0, 0] L slices_S8x1023_S8x768_0_0)⟩, ⟨S8x1, broadcastInDim S8x1 ![] bcast_S_S8x1 (constant (F := Ideal) S_ .f32 0x00000000#32)⟩,
    ⟨S8x255, Host.reverse [1] (extractStridedSlice S8x255 ![0, 768] L slices_S8x1023_S8x255_0_768)⟩] concatenates_S8x768_S8x1_S8x255_S8x1024_d1

theorem lags_apply (B : (⟨S8x257, .f32⟩ : BufTy).Contents (Elt Ideal)) (h : Fin 8) (m : Fin 1023) :
    lags B (ix2 h m) = B (ix2 h ⟨min (m.val - 127) 256, by omega⟩) := by
  unfold lags
  pointwise
  split
  · exact congrArg (fun c => B (ix2 h c)) (Fin.ext (by show 0 = min (m.val - 127) 256; omega))
  · split
    · exact congrArg (fun c => B (ix2 h c)) (Fin.ext (by show m.val - 127 = min (m.val - 127) 256; omega))
    · exact congrArg (fun c => B (ix2 h c)) (Fin.ext (by show 256 = min (m.val - 127) 256; omega))

theorem ring_apply (L : (⟨S8x1023, .f32⟩ : BufTy).Contents (Elt Ideal)) (h : Fin 8) (j : Fin 1024) (hj : j.val ≠ 768) :
    ring L (ix2 h j) = L (ix2 h ⟨if j.val < 768 then 767 - j.val else 1791 - j.val, by split <;> omega⟩) := by
  unfold ring
  pointwise
  split
  · rename_i h1
    exact congrArg (fun c => L (ix2 h c)) (Fin.ext (by simp [Fin.rev, h1] <;> omega))
  · rename_i h1
    rw [dif_neg (by omega)]
    exact congrArg (fun c => L (ix2 h c)) (Fin.ext (by simp [Fin.rev, h1]; omega))

theorem v32_eq (B : (⟨S8x257, .f32⟩ : BufTy).Contents (Elt Ideal)) (hB : V (Proc.devRef .tc main_arg7) = B) :
    (StableHlo.after hostOps1 V (Proc.devRef .tc main_v32) : (⟨S8x1024, .f32⟩ : BufTy).Contents (Elt Ideal)) = ring (lags B) := by
  subst hB
  sl_kernel_rfl

end Cert.KernelIdeal.Host

end
-- ==== Proof.AttnRes.lean ====
/- The attention kernel's result as a whole array. -/
module

public import proofs.«01_k».proof.Proof.AttnVal

@[expose] public section

set_option maxRecDepth 16384

noncomputable section

namespace Cert.KernelIdeal.Attn

open Idealize.ShloMosaic Idealize.ShloMosaic.TcCoe Idealize.SL.Sem Cert.KernelIdeal Cert.KernelIdeal.Gen Cert.Spec

theorem n64 : cfg2.N = 64 := by decide +kernel

/-- The batch of a grid point and its tile of queries. -/
def tb (t : Fin cfg2.N) : Fin 4 := ⟨t.val / 16, by have h := t.isLt; have e := n64; omega⟩
def ti (t : Fin cfg2.N) : Fin 16 := ⟨t.val % 16, by omega⟩

theorem i0 : ∀ t : Fin cfg2.grid.N, win2_0.index t = ![t.val / 16, t.val % 16, 0] := by decide +kernel
theorem i8 : ∀ t : Fin cfg2.grid.N, win2_8.index t = ![t.val / 16, t.val % 16, 0] := by decide +kernel
theorem i1 : ∀ t : Fin cfg2.grid.N, win2_1.index t = ![t.val / 16, t.val % 16 + 0 - 2, 0] := by decide +kernel
theorem i2 : ∀ t : Fin cfg2.grid.N, win2_2.index t = ![t.val / 16, t.val % 16 + 1 - 2, 0] := by decide +kernel
theorem i3 : ∀ t : Fin cfg2.grid.N, win2_3.index t = ![t.val / 16, t.val % 16 + 2 - 2, 0] := by decide +kernel
theorem i4 : ∀ t : Fin cfg2.grid.N, win2_4.index t = ![t.val / 16, t.val % 16 + 0 - 2, 0] := by decide +kernel
theorem i5 : ∀ t : Fin cfg2.grid.N, win2_5.index t = ![t.val / 16, t.val % 16 + 1 - 2, 0] := by decide +kernel
theorem i6 : ∀ t : Fin cfg2.grid.N, win2_6.index t = ![t.val / 16, t.val % 16 + 2 - 2, 0] := by decide +kernel
theorem i7 : ∀ t : Fin cfg2.grid.N, win2_7.index t = ![0, 0, 0] := by decide +kernel

theorem word0 : ∀ t : Fin cfg2.N, Scalar.cmpi .sge (Scalar.addi (Scalar.subi (BitVec.ofNat 32 (grid2.coords t 1)) 2#32) 0#32) 0#32 = if 2 ≤ t.val % 16 + 0 then 1#1 else 0#1 := by decide +kernel

theorem pen0 (t : Fin cfg2.N) : k2_pay75 (F := Ideal) (BitVec.ofNat 32 (grid2.coords t 1)) = if 2 ≤ (ti t).val + 0 then (0 : EReal) else ⊥ := by
  unfold k2_pay75
  dsimp only
  rw [word0 t]
  have z : (Scalar.ofBits (F := Ideal) .f32 0x00000000#32 : EReal) = 0 := by simp [Scalar.ofBits, Ideal.ofBits, Ideal.ieee]
  have m : (Named.named (F := Ideal) (φ := .f32) κ "mask" 0xF149F2CA#32 : EReal) = ⊥ := rfl
  show Scalar.select (if 2 ≤ t.val % 16 + 0 then 1#1 else 0#1) (Scalar.ofBits (F := Ideal) .f32 0x00000000#32 : EReal) (Named.named (F := Ideal) (φ := .f32) κ "mask" 0xF149F2CA#32) = if 2 ≤ t.val % 16 + 0 then (0 : EReal) else ⊥
  rw [z, m]
  split <;> simp [Scalar.select]

theorem word1 : ∀ t : Fin cfg2.N, Scalar.cmpi .sge (Scalar.addi (Scalar.subi (BitVec.ofNat 32 (grid2.coords t 1)) 2#32) 1#32) 0#32 = if 2 ≤ t.val % 16 + 1 then 1#1 else 0#1 := by decide +kernel

theorem pen1 (t : Fin cfg2.N) : k2_pay76 (F := Ideal) (BitVec.ofNat 32 (grid2.coords t 1)) = if 2 ≤ (ti t).val + 1 then (0 : EReal) else ⊥ := by
  unfold k2_pay76
  dsimp only
  rw [word1 t]
  have z : (Scalar.ofBits (F := Ideal) .f32 0x00000000#32 : EReal) = 0 := by simp [Scalar.ofBits, Ideal.ofBits, Ideal.ieee]
  have m : (Named.named (F := Ideal) (φ := .f32) κ "mask" 0xF149F2CA#32 : EReal) = ⊥ := rfl
  show Scalar.select (if 2 ≤ t.val % 16 + 1 then 1#1 else 0#1) (Scalar.ofBits (F := Ideal) .f32 0x00000000#32 : EReal) (Named.named (F := Ideal) (φ := .f32) κ "mask" 0xF149F2CA#32) = if 2 ≤ t.val % 16 + 1 then (0 : EReal) else ⊥
  rw [z, m]
  split <;> simp [Scalar.select]

theorem word2 : ∀ t : Fin cfg2.N, Scalar.cmpi .sge (Scalar.addi (Scalar.subi (BitVec.ofNat 32 (grid2.coords t 1)) 2#32) 2#32) 0#32 = if 2 ≤ t.val % 16 + 2 then 1#1 else 0#1 := by decide +kernel

theorem pen2 (t : Fin cfg2.N) : k2_pay77 (F := Ideal) (BitVec.ofNat 32 (grid2.coords t 1)) = if 2 ≤ (ti t).val + 2 then (0 : EReal) else ⊥ := by
  unfold k2_pay77
  dsimp only
  rw [word2 t]
  have z : (Scalar.ofBits (F := Ideal) .f32 0x00000000#32 : EReal) = 0 := by simp [Scalar.ofBits, Ideal.ofBits, Ideal.ieee]
  have m : (Named.named (F := Ideal) (φ := .f32) κ "mask" 0xF149F2CA#32 : EReal) = ⊥ := rfl
  show Scalar.select (if 2 ≤ t.val % 16 + 2 then 1#1 else 0#1) (Scalar.ofBits (F := Ideal) .f32 0x00000000#32 : EReal) (Named.named (F := Ideal) (φ := .f32) κ "mask" 0xF149F2CA#32) = if 2 ≤ t.val % 16 + 2 then (0 : EReal) else ⊥
  rw [z, m]
  split <;> simp [Scalar.select]

section

variable (V : (c : Dev nD) → (b : Ref sig .tc) → Buf (Elt Ideal) ((c : Thread nD τ).loc b)) (c : Dev nD)
variable (q k v : Fin 4 → Fin 8 → Fin 4096 → Fin 64 → ℝ) (b : Fin 8 → Fin 257 → ℝ)
variable (hq : V c main_v19_1 = (fun i => ((q (i 0) (hd (i 2)) (i 1) (ln (i 2)) * qs : ℝ) : EReal) : (⟨S4x4096x512, .bf16⟩ : BufTy).Contents (Elt Ideal)))
variable (hk : V c main_v19_2 = (fun i => ((k (i 0) (hd (i 2)) (i 1) (ln (i 2)) : ℝ) : EReal) : (⟨S4x4096x512, .bf16⟩ : BufTy).Contents (Elt Ideal)))
variable (hv : V c main_v19_3 = (fun i => ((v (i 0) (hd (i 2)) (i 1) (ln (i 2)) : ℝ) : EReal) : (⟨S4x4096x512, .bf16⟩ : BufTy).Contents (Elt Ideal)))
variable (T : (⟨S8x256x768, .f32⟩ : BufTy).Contents (Elt Ideal)) (hT : V c main_v33_0 = T)
variable (hb : ∀ h r (j : Fin 3) (c : Fin 256), T (ix3 h r (colAt j c))
  = if inBand r j c then ((b h (rel r.val (256 * j.val + c.val)) * (1 / Real.log 2) : ℝ) : EReal) else ⊥)

def kblk (t : Fin cfg2.N) : Fin 3 → Vec Ideal S1x256x512 .bf16 := fun | 0 => iblk2 V c 1 t | 1 => iblk2 V c 2 t | 2 => iblk2 V c 3 t
def vblk (t : Fin cfg2.N) : Fin 3 → Vec Ideal S1x256x512 .bf16 := fun | 0 => iblk2 V c 4 t | 1 => iblk2 V c 5 t | 2 => iblk2 V c 6 t

include hq in
theorem blkQ (t : Fin cfg2.N) (r : Fin 256) (l : Fin 512) : iblk2 V c 0 t (ix3 0 r l) = ((q (tb t) (hd l) (tq (ti t) r) (ln l) * qs : ℝ) : EReal) := by
  have e : iblk2 V c 0 t (ix3 0 r l) = V c main_v19_1 (ix3 (tb t) (tq (ti t) r) l) := by blk_ext [iblk2, i0 t, tb, ti, tq]
  rw [e, hq]; rfl

include hk in
theorem kblk_apply (t : Fin cfg2.N) (j : Fin 3) (r : Fin 256) (l : Fin 512) : kblk V c t j (ix3 0 r l) = ((k (tb t) (hd l) (tpos (ti t) j r) (ln l) : ℝ) : EReal) := by
  have e : kblk V c t j (ix3 0 r l) = V c main_v19_2 (ix3 (tb t) (tpos (ti t) j r) l) := by
    match j with
    | 0 => show iblk2 V c 1 t (ix3 0 r l) = _; blk_ext [iblk2, i1 t, tb, ti, tpos]
    | 1 => show iblk2 V c 2 t (ix3 0 r l) = _; blk_ext [iblk2, i2 t, tb, ti, tpos]
    | 2 => show iblk2 V c 3 t (ix3 0 r l) = _; blk_ext [iblk2, i3 t, tb, ti, tpos]
  rw [e, hk]; rfl

include hv in
theorem vblk_apply (t : Fin cfg2.N) (j : Fin 3) (r : Fin 256) (l : Fin 512) : vblk V c t j (ix3 0 r l) = ((v (tb t) (hd l) (tpos (ti t) j r) (ln l) : ℝ) : EReal) := by
  have e : vblk V c t j (ix3 0 r l) = V c main_v19_3 (ix3 (tb t) (tpos (ti t) j r) l) := by
    match j with
    | 0 => show iblk2 V c 4 t (ix3 0 r l) = _; blk_ext [iblk2, i4 t, tb, ti, tpos]
    | 1 => show iblk2 V c 5 t (ix3 0 r l) = _; blk_ext [iblk2, i5 t, tb, ti, tpos]
    | 2 => show iblk2 V c 6 t (ix3 0 r l) = _; blk_ext [iblk2, i6 t, tb, ti, tpos]
  rw [e, hv]; rfl

include hT in
theorem blkT (t : Fin cfg2.N) (h : Fin 8) (r : Fin 256) (l : Fin 768) : iblk2 V c 7 t (ix3 h r l) = T (ix3 h r l) := by
  rw [← hT]; blk_ext [iblk2, i7 t]

/-- The attention of a lane's head at a position, its chunk and the place in the chunk read off it. -/
def attAt (q k v : Fin 8 → Fin 4096 → Fin 64 → ℝ) (b : Fin 8 → Fin 257 → ℝ) (s : Fin 4096) (l : Fin 512) : ℝ :=
  att (q (hd l)) (k (hd l)) (v (hd l)) (b (hd l)) ⟨s.val / 64, by omega⟩ ⟨s.val % 64, by omega⟩ (ln l)

def attArr (q k v : Fin 4 → Fin 8 → Fin 4096 → Fin 64 → ℝ) (b : Fin 8 → Fin 257 → ℝ) : (⟨S4x4096x512, .bf16⟩ : BufTy).Contents (Elt Ideal) :=
  fun i => ((attAt (q (i 0)) (k (i 0)) (v (i 0)) b (i 1) (i 2) : ℝ) : EReal)

theorem slabB_eq (x0 x1 x2 x3 x4 x5 x6 : Vec Ideal S1x256x512 .bf16) (x7 : Vec Ideal S8x256x768 .f32) (p : Fin 4) :
    slabB x0 x1 x2 x3 x4 x5 x6 x7 p = slabA 0 0 0 x0 x1 x2 x3 x4 x5 x6 x7 p := by
  unfold slabB slabA
  exact slabL_eq ..

include hq hk hv hT hb in
theorem arr : (dat2 V c).arrAt 8 cfg2.N = attArr q k v b := by
  refine (dat2 V c).arrAt_eq_of_covers 8 _ (by decide +kernel) fun t hf y => ?_
  blk_simp
  obtain ⟨r, l, rfl⟩ : ∃ r l, y = ix3 0 r l := ⟨y 1, y 2, by rw [eq_ix3 y, Fin.fin_one_eq_zero (y 0)]; rfl⟩
  have ey : (win2_8.blk t).view.emb (ix3 0 r l) = ix3 (tb t) (tq (ti t) r) l := by blk_ext [iblk2, i8 t, tb, ti, tq]
  rw [after2_8, ey]
  have hn : (tq (ti t) r).val / 64 = 4 * (ti t).val + r.val / 64 := by simp only [tq]; omega
  have hs : (tq (ti t) r).val % 64 = r.val % 64 := by simp only [tq]; omega
  have main : ∀ e : Fin 3 → EReal, (∀ j : Fin 3, e j = if 2 ≤ (ti t).val + j.val then 0 else ⊥) →
      slabA (e 0) (e 1) (e 2) (iblk2 V c 0 t) (iblk2 V c 1 t) (iblk2 V c 2 t) (iblk2 V c 3 t) (iblk2 V c 4 t) (iblk2 V c 5 t) (iblk2 V c 6 t) (iblk2 V c 7 t) ⟨l.val / 128, by omega⟩ (ix3 0 r ⟨l.val % 128, by omega⟩)
        = ((att (q (tb t) (hd l)) (k (tb t) (hd l)) (v (tb t) (hd l)) (b (hd l)) ⟨(tq (ti t) r).val / 64, by omega⟩ ⟨(tq (ti t) r).val % 64, by omega⟩ (ln l) : ℝ) : EReal) := fun e he =>
    slab_att (q (tb t)) (k (tb t)) (v (tb t)) b (ti t) (iblk2 V c 0 t) (kblk V c t) (vblk V c t) (iblk2 V c 7 t) e
      (blkQ V c q hq t) (kblk_apply V c k hk t) (vblk_apply V c v hv t) (fun h r j c' => (blkT V c T hT t h r _).trans (hb h r j c')) he
      ⟨l.val / 128, by omega⟩ ⟨l.val % 128, by omega⟩ l (by show l.val = 128 * (l.val / 128) + l.val % 128; omega) r _ _ hn hs
  by_cases h0 : 2 ≤ t.val % 16
  · refine (outB V c t h0 (by omega) (ix3 0 r l) r ⟨l.val / 128, by omega⟩ ⟨l.val % 128, by omega⟩ rfl (by show 128 * (l.val / 128) + l.val % 128 = l.val; omega)).trans ?_
    rw [slabB_eq]
    refine main (fun _ => 0) fun j => ?_
    rw [if_pos (by show 2 ≤ t.val % 16 + j.val; omega)]
  · refine (outA V c t h0 (by omega) (ix3 0 r l) r ⟨l.val / 128, by omega⟩ ⟨l.val % 128, by omega⟩ rfl (by show 128 * (l.val / 128) + l.val % 128 = l.val; omega)).trans ?_
    rw [pen0, pen1, pen2]
    exact main (fun j => if 2 ≤ (ti t).val + j.val then 0 else ⊥) fun j => rfl

end

end Cert.KernelIdeal.Attn

end
-- ==== Proof.BiasPay.lean ====
/- The bias kernel's stored values at an index. -/
module

public import proofs.«01_k».proof.Proof.Gen.KernelIdeal.Skeleton
public import Idealize.ShloMosaic.Lib.Pointwise
public import Idealize.ShloMosaic.Lib.Pipeline.ValueKit
public import Idealize.ShloMosaic.PureOps.Ideal.Laws

@[expose] public section

set_option maxRecDepth 16384

noncomputable section

namespace Cert.KernelIdeal.Bias

open Idealize.ShloMosaic Idealize.SL.Sem Cert.KernelIdeal Cert.KernelIdeal.Gen

/-- The bias at a query row and a key column: the head's row of the table at the column less the row, or −∞ outside the band. -/
def biasAt (b : Fin 1024 → EReal) (m : Prop) [Decidable m] (r : Fin 256) (c : Fin 768) : EReal :=
  if m then b ⟨(c.val + 1024 - r.val) % 1024, Nat.mod_lt _ (by norm_num)⟩ * Named.named (F := Ideal) (φ := .f32) κ "log2e" 0x3FB8AA3B#32
  else Named.named (F := Ideal) (φ := .f32) κ "mask" 0xF149F2CA#32

theorem select_at (v : BitVec 1) (b : Fin 1024 → EReal) (r : Fin 256) (c : Fin 768) :
    Scalar.select v (b ⟨(c.val + 1024 - r.val % 1024) % 1024, Nat.mod_lt _ (by norm_num)⟩ * Named.named (F := Ideal) (φ := .f32) κ "log2e" 0x3FB8AA3B#32)
      (Named.named (F := Ideal) (φ := .f32) κ "mask" 0xF149F2CA#32) = biasAt b (v = 1#1) r c := by
  have h : r.val % 1024 = r.val := Nat.mod_eq_of_lt (by omega)
  simp only [h]
  rfl

theorem k1_pay3_apply (r : Fin 256) (c : Fin 768) : k1_pay3 (ix2 r c) = BitVec.ofNat 32 (r.val / 64 + 8) := by
  unfold k1_pay3
  pointwise
  revert r; decide +kernel

theorem k1_pay4_apply (r : Fin 256) (c : Fin 768) : k1_pay4 (ix2 r c) = BitVec.ofNat 32 (c.val / 64) := by
  unfold k1_pay4
  pointwise
  revert c; decide +kernel

theorem k1_pay5_apply (r : Fin 256) (c : Fin 768) : k1_pay5 (ix2 r c) = if c.val = 0 then 0#32 else 1#32 := by
  unfold k1_pay5
  pointwise
  revert c; decide +kernel

/-- The mask the kernel computes from its own iotas. -/
def mask : IVec S256x768 1 :=
  k1_pay6 (iota .tc S256x768 32 [1] iota_S256x768_d1_w32) k1_pay3 64#32 k1_pay4 k1_pay5 (Scalar.extui (Scalar.cmpi .sgt 64#32 0#32))

theorem band_bits : ∀ (a : Fin 4) (c : Fin 768),
    (IntOp.andi (IntOp.cmpi .sge (BitVec.ofNat 32 (c.val / 64)) (IntOp.subi (BitVec.ofNat 32 (a.val + 8)) 8#32))
      (IntOp.cmpi .sle (BitVec.ofNat 32 (c.val / 64)) (BitVec.ofNat 32 (a.val + 8))) = 1#1) ↔ (a.val ≤ c.val / 64 ∧ c.val / 64 ≤ a.val + 8) := by
  decide +kernel

theorem floor_bits : ∀ c : Fin 768,
    Scalar.select (IntOp.andi
        (IntOp.cmpi .ne (if c.val = 0 then 0#32 else 1#32)
          (Scalar.subi (Scalar.extui (Scalar.cmpi .sgt 64#32 0#32)) (Scalar.extui (Scalar.cmpi .slt 64#32 0#32))))
        (IntOp.cmpi .ne (IntOp.remsi .vector (BitVec.ofNat 32 c.val) 64#32) 0#32))
      (IntOp.subi (BitVec.ofNat 32 (c.val / 64)) 1#32) (BitVec.ofNat 32 (c.val / 64)) = BitVec.ofNat 32 (c.val / 64) := by
  decide +kernel

theorem mask_iff (r : Fin 256) (c : Fin 768) : mask (ix2 r c) = 1#1 ↔ (r.val / 64 ≤ c.val / 64 ∧ c.val / 64 ≤ r.val / 64 + 8) := by
  unfold mask k1_pay6
  pointwise
  rw [k1_pay3_apply, k1_pay4_apply, k1_pay5_apply, floor_bits c]
  exact band_bits ⟨r.val / 64, by omega⟩ c

variable (v : IVec S256x768 1) (b : Vec Ideal S1x1024 .f32) (r : Fin 256) (c : Fin 768)

theorem k1_pay1_apply : k1_pay1 v (k1_pay16 b) (ix3 0 r c) = biasAt (fun j => b (ix2 0 j)) (v (ix2 r c) = 1#1) r c := by
  unfold k1_pay1 k1_pay16
  pointwise
  exact select_at _ (fun j => b (ix2 0 j)) r c

theorem k1_pay7_apply : k1_pay7 (iota .tc S256x768 32 [1] iota_S256x768_d1_w32) k1_pay3 64#32 k1_pay4 k1_pay5 (Scalar.extui (Scalar.cmpi .sgt 64#32 0#32)) b (ix3 0 r c) = biasAt (fun j => b (ix2 0 j)) (mask (ix2 r c) = 1#1) r c := by
  unfold k1_pay7
  pointwise
  exact select_at _ (fun j => b (ix2 0 j)) r c

theorem k1_pay9_apply : k1_pay9 (k1_pay8 (iota .tc S256x768 32 [1] iota_S256x768_d1_w32) k1_pay3 64#32 k1_pay4 k1_pay5 (Scalar.extui (Scalar.cmpi .sgt 64#32 0#32)) b) (ix3 0 r c) = biasAt (fun j => b (ix2 0 j)) (mask (ix2 r c) = 1#1) r c := by
  unfold k1_pay9 k1_pay8
  pointwise
  exact select_at _ (fun j => b (ix2 0 j)) r c

theorem k1_pay10_apply : k1_pay10 v b (ix3 0 r c) = biasAt (fun j => b (ix2 0 j)) (v (ix2 r c) = 1#1) r c := by
  unfold k1_pay10
  pointwise
  exact select_at _ (fun j => b (ix2 0 j)) r c

theorem k1_pay11_apply : k1_pay11 v b (ix3 0 r c) = biasAt (fun j => b (ix2 0 j)) (v (ix2 r c) = 1#1) r c := by
  unfold k1_pay11
  pointwise
  exact select_at _ (fun j => b (ix2 0 j)) r c

theorem k1_pay13_apply : k1_pay13 v (k1_pay12 b) 0#32 (ix3 0 r c) = biasAt (fun j => b (ix2 0 j)) (v (ix2 r c) = 1#1) r c := by
  unfold k1_pay13 k1_pay12
  pointwise
  exact select_at _ (fun j => b (ix2 0 j)) r c

theorem k1_pay14_apply : k1_pay14 v b (ix3 0 r c) = biasAt (fun j => b (ix2 0 j)) (v (ix2 r c) = 1#1) r c := by
  unfold k1_pay14
  pointwise
  exact select_at _ (fun j => b (ix2 0 j)) r c

theorem k1_pay15_apply : k1_pay15 v b (ix3 0 r c) = biasAt (fun j => b (ix2 0 j)) (v (ix2 r c) = 1#1) r c := by
  unfold k1_pay15
  pointwise
  exact select_at _ (fun j => b (ix2 0 j)) r c

end Cert.KernelIdeal.Bias

end
-- ==== Proof.BiasArr.lean ====
/- The bias kernel's result array. -/
module

public import proofs.«01_k».proof.Proof.BiasPay
public import proofs.«01_k».proof.Proof.Gen.KernelIdeal.Frame

@[expose] public section

set_option maxRecDepth 16384

noncomputable section

namespace Cert.KernelIdeal.Bias

open Idealize.ShloMosaic Idealize.ShloMosaic.TcCoe Idealize.SL.Sem Cert.KernelIdeal Cert.KernelIdeal.Gen

/-- The table of biases: head, query row, key column. -/
def table (b : Fin 8 → Fin 1024 → EReal) : (⟨S8x256x768, .f32⟩ : BufTy).Contents (Elt Ideal) := fun i =>
  biasAt (b (i 0)) (mask (ix2 (i 1) (i 2)) = 1#1) (i 1) (i 2)

theorem piece (x0 : Vec Ideal S8x1024 .f32) (g : Fin 8) (y : S8x256x768.Idx) (r : Fin 256) (c : Fin 768) (inb)
    (h0 : (y 0).val = g.val) (h1 : (y 1).val = r.val) (h2 : (y 2).val = c.val) :
    biasAt (fun j => View.ld x0 (Rect.unit (s := S8x1024) ![g.val, 0] S1x1024.size inb) (ix2 0 j)) (mask (ix2 r c) = 1#1) r c
      = table (fun h j => x0 (ix2 h j)) y := by
  have e0 : y 0 = g := Fin.ext h0
  have e1 : y 1 = r := Fin.ext h1
  have e2 : y 2 = c := Fin.ext h2
  unfold table
  rw [e0, e1, e2]
  congr 1
  funext j
  rw [View.ld_unit_apply_of x0 _ _ inb _ (ix2 g j)]
  intro a
  match a with
  | 0 => simp
  | 1 => simp

theorem row3 (x : S1x256x768.Idx) : ∃ r c, x = ix3 0 r c :=
  ⟨x 1, x 2, by rw [eq_ix3 x, Fin.fin_one_eq_zero (x 0)]; rfl⟩

theorem block (x0 : Vec Ideal S8x1024 .f32) (x1 : Vec Ideal S1024x2048 .f32) (y : S8x256x768.Idx) :
    out1_2 x0 x1 y = table (fun h j => x0 (ix2 h j)) y := by
  unfold out1_2
  canon_tiles x h
  all_goals obtain ⟨r, c, rfl⟩ := row3 x
  · rw [k1_pay1_apply]; exact piece x0 7 y _ _ _ (h0.trans (by simp)) h1 h2
  · rw [k1_pay15_apply]; exact piece x0 6 y _ _ _ (h0.trans (by simp)) h1 h2
  · rw [k1_pay14_apply]; exact piece x0 5 y _ _ _ (h0.trans (by simp)) h1 h2
  · rw [k1_pay13_apply]; exact piece x0 4 y _ _ _ (h0.trans (by simp)) h1 h2
  · rw [k1_pay11_apply]; exact piece x0 3 y _ _ _ (h0.trans (by simp)) h1 h2
  · rw [k1_pay10_apply]; exact piece x0 2 y _ _ _ (h0.trans (by simp)) h1 h2
  · exact (k1_pay9_apply (View.ld x0 r1_4) r c).trans (piece x0 1 y _ _ _ (h0.trans (by simp)) h1 h2)
  · exact (k1_pay7_apply (View.ld x0 r1_2) r c).trans (piece x0 0 y _ _ _ (h0.trans (by simp)) h1 h2)

theorem i0 : ∀ t : Fin cfg1.grid.N, win1_0.index t = ![0, 0] := by decide +kernel

theorem i2 : ∀ t : Fin cfg1.grid.N, win1_2.index t = ![0, 0, 0] := by decide +kernel

variable (V : (c : Dev nD) → (b : Ref sig .tc) → Buf (Elt Ideal) ((c : Thread nD τ).loc b))

theorem arr (c : Dev nD) (X : (⟨S8x1024, .f32⟩ : BufTy).Contents (Elt Ideal)) (hX : V c main_v32 = X) :
    (dat1 V c).arrAt 2 cfg1.N = table (fun h j => X (ix2 h j)) := by
  refine (dat1 V c).arrAt_eq_of_covers 2 _ (by decide +kernel) fun t hf y => ?_
  blk_simp
  rw [after1_2, block]
  have e : (fun (h : Fin 8) (j : Fin 1024) => iblk1 V c 0 t (ix2 h j)) = fun h j => X (ix2 h j) := by
    funext h j
    rw [← hX]
    blk_ext [iblk1, i0 t]
  have ey : (win1_2.blk t).view.emb y = y := by
    blk_ext [iblk1, i2 t]
  rw [e, ey]

end Cert.KernelIdeal.Bias

end
-- ==== Proof.RefGather.lean ====
/- The reference's two gathers, of chunks and of biases, at an index. -/
module

public import proofs.«01_k».proof.Proof.Spec
public import proofs.«01_k».proof.Proof.Gen.ReferenceIdeal.Read
public import Idealize.ShloMosaic.Lib.Pointwise
public import Idealize.ShloMosaic.Lib.ValueIdxRank6
public import Idealize.ShloMosaic.PureOps.Ideal.Laws

@[expose] public section

set_option maxRecDepth 16384

noncomputable section

namespace Cert.ReferenceIdeal.Val

open Idealize.ShloMosaic Idealize.SL.Sem Cert.ReferenceIdeal Cert.ReferenceIdeal.Gen Cert.ReferenceIdeal.Read Cert.Spec

abbrev gd := gather_S4x72x64x8x64_S64x9x1_S4x64x9x64x8x64_0345_1_n_n_1_2_4164864
abbrev gb := gather_S8x257_S64x576x1_S8x64x576_0_1_n_n_1_2_81

theorem gather_chunk (x : (⟨S4x72x64x8x64, .f32⟩ : BufTy).Contents (Elt Ideal)) (idx : IVec S64x9x1 32)
    (b : Fin 4) (n : Fin 64) (w : Fin 9) (r : Fin 64) (h : Fin 8) (d : Fin 64) (m : Fin 72) (hm : (idx (ix3 n w 0)).toInt.toNat = m.val) :
    Host.gather gd x idx (ix6 b n w r h d) = x (ix5 b m r h d) := by
  unfold Host.gather
  congr 1
  have hs : gd.siIdx (ix6 b n w r h d) ⟨List.idxOf (1 : Fin 5) gd.startIndexMap, List.idxOf_lt_length_iff.2 (List.mem_singleton.mpr rfl)⟩ = ix3 n w 0 := by
    funext c; refine Fin.ext ?_
    match c with
    | ⟨0, _⟩ => rfl
    | ⟨1, _⟩ => rfl
    | ⟨2, _⟩ => rfl
  funext a
  refine Fin.ext ?_
  show gd.start (ix6 b n w r h d) idx a + gd.batchCoord (ix6 b n w r h d) a + gd.offCoord (ix6 b n w r h d) a = _
  match a with
  | ⟨0, _⟩ =>
    show 0 + 0 + b.val = b.val
    omega
  | ⟨1, _⟩ =>
    show gd.start (ix6 b n w r h d) idx 1 + 0 + 0 = m.val
    unfold GatherDims.start
    rw [dif_pos (show (1 : Fin 5) ∈ gd.startIndexMap from List.mem_singleton.mpr rfl), hs, hm]
    have := m.isLt
    show min m.val 71 + 0 + 0 = m.val
    omega
  | ⟨2, _⟩ =>
    show 0 + 0 + r.val = r.val
    omega
  | ⟨3, _⟩ =>
    show 0 + 0 + h.val = h.val
    omega
  | ⟨4, _⟩ =>
    show 0 + 0 + d.val = d.val
    omega

theorem gather_bias (x : (⟨S8x257, .f32⟩ : BufTy).Contents (Elt Ideal)) (idx : IVec S64x576x1 32)
    (h : Fin 8) (r : Fin 64) (c : Fin 576) (m : Fin 257) (hm : (idx (ix3 r c 0)).toInt.toNat = m.val) :
    Host.gather gb x idx (ix3 h r c) = x (ix2 h m) := by
  unfold Host.gather
  congr 1
  have hs : gb.siIdx (ix3 h r c) ⟨List.idxOf (1 : Fin 2) gb.startIndexMap, List.idxOf_lt_length_iff.2 (List.mem_singleton.mpr rfl)⟩ = ix3 r c 0 := by
    funext c; refine Fin.ext ?_
    match c with
    | ⟨0, _⟩ => rfl
    | ⟨1, _⟩ => rfl
    | ⟨2, _⟩ => rfl
  funext a
  refine Fin.ext ?_
  show gb.start (ix3 h r c) idx a + gb.batchCoord (ix3 h r c) a + gb.offCoord (ix3 h r c) a = _
  match a with
  | ⟨0, _⟩ =>
    show 0 + 0 + h.val = h.val
    omega
  | ⟨1, _⟩ =>
    show gb.start (ix3 h r c) idx 1 + 0 + 0 = m.val
    unfold GatherDims.start
    rw [dif_pos (show (1 : Fin 2) ∈ gb.startIndexMap from List.mem_singleton.mpr rfl), hs, hm]
    have := m.isLt
    show min m.val 256 + 0 + 0 = m.val
    omega

end Cert.ReferenceIdeal.Val

end
-- ==== Proof.RefWords.lean ====
/- The index words of the reference's band. -/
module

public import proofs.«01_k».proof.Proof.Spec
public import proofs.«01_k».proof.Proof.Gen.ReferenceIdeal.Read
public import Idealize.ShloMosaic.Lib.Pointwise
public import Idealize.ShloMosaic.PureOps.Ideal.Laws

@[expose] public section

set_option maxRecDepth 16384

noncomputable section

namespace Cert.ReferenceIdeal.Val

open Idealize.ShloMosaic Idealize.SL.Sem Cert.ReferenceIdeal Cert.ReferenceIdeal.Read Cert.Spec

theorem w74 (n : Fin 64) (w : Fin 9) : val_main_v74 (F := Ideal) (ix2 n w) = BitVec.ofNat 32 (n.val + w.val) := by
  unfold val_main_v74 val_main_v73 val_main_v72 val_main_v71 val_main_v70 val_main_v69 val_main_v68
  pointwise
  revert n w
  decide +kernel

theorem w80 (n : Fin 64) (w : Fin 9) (z : Fin 1) : val_main_v80 (F := Ideal) (ix3 n w z) = BitVec.ofNat 32 (n.val + w.val) := by
  unfold val_main_v80 val_main_v79 val_main_v78 val_main_v77 val_main_c_13 val_main_v76 val_main_v75 val_main_c_12
  pointwise
  simp only [w74]
  revert n w
  decide +kernel

theorem w88 (n : Fin 64) (w : Fin 9) (z : Fin 1) : val_main_v88 (F := Ideal) (ix3 n w z) = BitVec.ofNat 32 (n.val + w.val) := by
  unfold val_main_v88 val_main_v87 val_main_v86 val_main_v85 val_main_c_15 val_main_v84 val_main_v83 val_main_c_14
  pointwise
  simp only [w74]
  revert n w
  decide +kernel

theorem w111 (r : Fin 64) (c : Fin 576) (z : Fin 1) : (val_main_v111 (F := Ideal) (ix3 r c z)).toInt.toNat = (rel r.val c.val).val := by
  unfold val_main_v111 val_main_v110 val_main_v109 val_main_v108 val_main_c_22 val_main_v107 val_main_v106 val_main_c_21 val_main_v105 val_main_v104 val_main_c_20 val_main_v103 val_main_call2_v4 val_main_call2_v3 val_main_c_19 val_main_call2_v2 val_main_call2_v1 val_main_call2_v0 val_main_c_18 val_main_v102 val_main_v101 val_main_v100 val_main_v99 val_main_v98 val_main_v97 val_main_v96 val_main_v95 val_main_c_17 val_main_v94
  pointwise
  revert r c
  decide +kernel

theorem w118 (z : Fin 1) (c : Fin 576) : val_main_v118 (F := Ideal) (ix2 z c) = BitVec.ofNat 32 (c.val / 64) := by
  unfold val_main_v118 val_main_call3_v13 val_main_call3_v12 val_main_call3_c_0 val_main_call3_v11 val_main_call3_v10 val_main_call3_v9 val_main_call3_c val_main_call3_v8 val_main_call3_v7 val_main_call3_v6 val_main_call3_v5 val_main_call3_v4 val_main_call3_v3 val_main_call3_v2 val_main_call3_v1 val_main_call3_v0 val_main_c_24 val_main_v117 val_main_v97
  pointwise
  revert c
  decide +kernel

theorem w123 (n : Fin 64) (c : Fin 576) : val_main_v123 (F := Ideal) (ix2 n c) = if 512 ≤ 64 * n.val + c.val then 1#1 else 0#1 := by
  unfold val_main_v123 val_main_v122 val_main_c_25 val_main_v121 val_main_v120 val_main_v119 val_main_v116 val_main_v115 val_main_c_23 val_main_v114 val_main_v113
  pointwise
  simp only [w118]
  revert n c
  decide +kernel

end Cert.ReferenceIdeal.Val

end
-- ==== Proof.RefPad.lean ====
/- The reference's chunks of keys and values at an index. -/
module

public import proofs.«01_k».proof.Proof.RefGather
public import proofs.«01_k».proof.Proof.RefWords
public import proofs.«01_k».proof.Proof.Softmax
public import Idealize.ShloMosaic.Lib.KernelVsHost

@[expose] public section

set_option maxRecDepth 16384

noncomputable section

namespace Cert.ReferenceIdeal.Val

open Idealize.ShloMosaic Idealize.SL.Sem Cert.ReferenceIdeal Cert.ReferenceIdeal.Gen Cert.ReferenceIdeal.Read Cert.Spec Cert.Softmax

variable (X : (⟨S4x4096x1024, .f32⟩ : BufTy).Contents (Elt Ideal)) (G : (⟨S1024, .f32⟩ : BufTy).Contents (Elt Ideal)) (SC SH : (⟨S4x1x1024, .f32⟩ : BufTy).Contents (Elt Ideal)) (W : (⟨S1024x4608, .f32⟩ : BufTy).Contents (Elt Ideal)) (QG KG : (⟨S64, .f32⟩ : BufTy).Contents (Elt Ideal)) (RB : (⟨S8x257, .f32⟩ : BufTy).Contents (Elt Ideal))
variable (q k v : Fin 4 → Fin 8 → Fin 4096 → Fin 64 → ℝ) (bi : Fin 8 → Fin 257 → ℝ)

/-- A padded row: zero before the sequence. -/
def padAt (f : Fin 4096 → Fin 64 → ℝ) (s : ℕ) (d : Fin 64) : EReal := if h : 512 ≤ s ∧ s < 4608 then ((f ⟨s - 512, by omega⟩ d : ℝ) : EReal) else 0

def row72 (m : Fin 72) (r : Fin 64) : Fin 4608 := ⟨m.val * 64 + r.val, by omega⟩
def chunkOf (n : Fin 64) (w : Fin 9) : Fin 72 := ⟨n.val + w.val, by omega⟩
def w9 (c : Fin 576) : Fin 9 := ⟨c.val / 64, by omega⟩
def r64 (c : Fin 576) : Fin 64 := ⟨c.val % 64, by omega⟩

theorem toInt_chunk (n : Fin 64) (w : Fin 9) : (BitVec.ofNat 32 (n.val + w.val)).toInt.toNat = (chunkOf n w).val := by
  revert n w; decide +kernel

theorem p64 (hK : ∀ b s h d, val_main_v61 X G SC SH W KG (ix4 b s h d) = ((k b h s d : ℝ) : EReal)) (b : Fin 4) (s : Fin 4608) (h : Fin 8) (d : Fin 64) :
    val_main_v64 X G SC SH W KG (ix4 b s h d) = padAt (k b h) s.val d := by
  unfold val_main_v64 val_main_call0_v0 val_main_c
  generalize hx : val_main_v61 X G SC SH W KG = x at *
  unfold padAt
  by_cases hs : 512 ≤ s.val
  · rw [dif_pos ⟨hs, s.isLt⟩, ← hK]
    pointwise
    exact dif_pos ⟨hs, by omega⟩
  · rw [dif_neg (fun e => hs e.1)]
    pointwise
    rw [dif_neg (fun e => hs e.1)]
    show ((((0#32 : BitVec 32).toInt : ℝ)) : EReal) = 0
    simp

theorem p65 (hK : ∀ b s h d, val_main_v61 X G SC SH W KG (ix4 b s h d) = ((k b h s d : ℝ) : EReal)) (b : Fin 4) (m : Fin 72) (r : Fin 64) (h : Fin 8) (d : Fin 64) :
    val_main_v65 X G SC SH W KG (ix5 b m r h d) = padAt (k b h) (row72 m r).val d := by
  rw [← p64 X G SC SH W KG k hK b (row72 m r) h d]
  unfold val_main_v65
  generalize val_main_v64 X G SC SH W KG = x
  pointwise
  try rfl

theorem p82 (hK : ∀ b s h d, val_main_v61 X G SC SH W KG (ix4 b s h d) = ((k b h s d : ℝ) : EReal)) (b : Fin 4) (n : Fin 64) (c : Fin 576) (h : Fin 8) (d : Fin 64) :
    val_main_v82 X G SC SH W KG (ix5 b n c h d) = padAt (k b h) (64 * n.val + c.val) d := by
  have e : (row72 (chunkOf n (w9 c)) (r64 c)).val = 64 * n.val + c.val := by
    show (n.val + c.val / 64) * 64 + c.val % 64 = _
    omega
  rw [← e, ← p65 X G SC SH W KG k hK b (chunkOf n (w9 c)) (r64 c) h d]
  unfold val_main_v82
  have hg := gather_chunk (val_main_v65 X G SC SH W KG) (val_main_v80 (F := Ideal)) b n (w9 c) (r64 c) h d (chunkOf n (w9 c)) (by rw [w80]; exact toInt_chunk n (w9 c))
  rw [← hg]
  show _ = val_main_v81 X G SC SH W KG (ix6 b n (w9 c) (r64 c) h d)
  generalize val_main_v81 X G SC SH W KG = y
  refine shapeCast_apply y shapeCasts_S4x64x9x64x8x64_S4x64x576x8x64 (ix5 b n c h d) (ix6 b n (w9 c) (r64 c) h d) ?_
  rw [Shape.rowMajor_val_six, Shape.rowMajor_val_five]
  show ((((b.val * 64 + n.val) * 9 + c.val / 64) * 64 + c.val % 64) * 8 + h.val) * 64 + d.val = (((b.val * 64 + n.val) * 576 + c.val) * 8 + h.val) * 64 + d.val
  omega

theorem p66 (hV : ∀ b s h d, val_main_v62 X G SC SH W (ix4 b s h d) = ((v b h s d : ℝ) : EReal)) (b : Fin 4) (s : Fin 4608) (h : Fin 8) (d : Fin 64) :
    val_main_v66 X G SC SH W (ix4 b s h d) = padAt (v b h) s.val d := by
  unfold val_main_v66 val_main_call1_v0 val_main_c_11
  generalize hx : val_main_v62 X G SC SH W = x at *
  unfold padAt
  by_cases hs : 512 ≤ s.val
  · rw [dif_pos ⟨hs, s.isLt⟩, ← hV]
    pointwise
    exact dif_pos ⟨hs, by omega⟩
  · rw [dif_neg (fun e => hs e.1)]
    pointwise
    rw [dif_neg (fun e => hs e.1)]
    show ((((0#32 : BitVec 32).toInt : ℝ)) : EReal) = 0
    simp

theorem p67 (hV : ∀ b s h d, val_main_v62 X G SC SH W (ix4 b s h d) = ((v b h s d : ℝ) : EReal)) (b : Fin 4) (m : Fin 72) (r : Fin 64) (h : Fin 8) (d : Fin 64) :
    val_main_v67 X G SC SH W (ix5 b m r h d) = padAt (v b h) (row72 m r).val d := by
  rw [← p66 X G SC SH W v hV b (row72 m r) h d]
  unfold val_main_v67
  generalize val_main_v66 X G SC SH W = x
  pointwise
  try rfl

theorem p90 (hV : ∀ b s h d, val_main_v62 X G SC SH W (ix4 b s h d) = ((v b h s d : ℝ) : EReal)) (b : Fin 4) (n : Fin 64) (c : Fin 576) (h : Fin 8) (d : Fin 64) :
    val_main_v90 X G SC SH W (ix5 b n c h d) = padAt (v b h) (64 * n.val + c.val) d := by
  have e : (row72 (chunkOf n (w9 c)) (r64 c)).val = 64 * n.val + c.val := by
    show (n.val + c.val / 64) * 64 + c.val % 64 = _
    omega
  rw [← e, ← p67 X G SC SH W v hV b (chunkOf n (w9 c)) (r64 c) h d]
  unfold val_main_v90
  have hg := gather_chunk (val_main_v67 X G SC SH W) (val_main_v88 (F := Ideal)) b n (w9 c) (r64 c) h d (chunkOf n (w9 c)) (by rw [w88]; exact toInt_chunk n (w9 c))
  rw [← hg]
  show _ = val_main_v89 X G SC SH W (ix6 b n (w9 c) (r64 c) h d)
  generalize val_main_v89 X G SC SH W = y
  refine shapeCast_apply y shapeCasts_S4x64x9x64x8x64_S4x64x576x8x64 (ix5 b n c h d) (ix6 b n (w9 c) (r64 c) h d) ?_
  rw [Shape.rowMajor_val_six, Shape.rowMajor_val_five]
  show ((((b.val * 64 + n.val) * 9 + c.val / 64) * 64 + c.val % 64) * 8 + h.val) * 64 + d.val = (((b.val * 64 + n.val) * 576 + c.val) * 8 + h.val) * 64 + d.val
  omega

end Cert.ReferenceIdeal.Val

end
-- ==== Proof.RefMax.lean ====
/- A row's maximum in the reference. -/
module

public import proofs.«01_k».proof.Proof.RefPad
public import proofs.«01_k».proof.Proof.Softmax
public import Idealize.ShloMosaic.Lib.KernelVsHost

@[expose] public section

set_option maxRecDepth 16384

noncomputable section

namespace Cert.ReferenceIdeal.Val

open Idealize.ShloMosaic Idealize.SL.Sem Cert.ReferenceIdeal Cert.ReferenceIdeal.Gen Cert.ReferenceIdeal.Read Cert.Spec Cert.Softmax

variable (X : (⟨S4x4096x1024, .f32⟩ : BufTy).Contents (Elt Ideal)) (G : (⟨S1024, .f32⟩ : BufTy).Contents (Elt Ideal)) (SC SH : (⟨S4x1x1024, .f32⟩ : BufTy).Contents (Elt Ideal)) (W : (⟨S1024x4608, .f32⟩ : BufTy).Contents (Elt Ideal)) (QG KG : (⟨S64, .f32⟩ : BufTy).Contents (Elt Ideal)) (RB : (⟨S8x257, .f32⟩ : BufTy).Contents (Elt Ideal))
variable (q k v : Fin 4 → Fin 8 → Fin 4096 → Fin 64 → ℝ) (bi : Fin 8 → Fin 257 → ℝ)

theorem neg_inf : Ideal.ofBits .f32 0xFF800000#32 = ⊥ := by simp [Ideal.ofBits, Ideal.ieee]

theorem v129 (y : S4x64x8x64x576.Idx → EReal) (b : Fin 4) (n : Fin 64) (h : Fin 8) (r : Fin 64) :
    @Eq EReal (Host.reduce (FloatOps.maximumf (F := Ideal) (φ := .f32)) y (constant (F := Ideal) S_ .f32 0xFF800000#32) reducesTo_S4x64x8x64x576_S4x64x8x64_d4 h_S_ (ix4 b n h r)) (Finset.univ.sup fun x => (y (ix5 b n h r x) : EReal)) := by
  pointwise
  rw [neg_inf]
  rfl

end Cert.ReferenceIdeal.Val

end
-- ==== Proof.RefAttn.lean ====
/- The reference's attention at an index, from real queries, keys, values and biases. -/
module

public import proofs.«01_k».proof.Proof.RefPad
public import proofs.«01_k».proof.Proof.RefMax
public import proofs.«01_k».proof.Proof.Softmax
public import Idealize.ShloMosaic.Lib.KernelVsHost

@[expose] public section

set_option maxRecDepth 16384

noncomputable section

namespace Cert.ReferenceIdeal.Val

open Idealize.ShloMosaic Idealize.SL.Sem Cert.ReferenceIdeal Cert.ReferenceIdeal.Gen Cert.ReferenceIdeal.Read Cert.Spec Cert.Softmax

variable (X : (⟨S4x4096x1024, .f32⟩ : BufTy).Contents (Elt Ideal)) (G : (⟨S1024, .f32⟩ : BufTy).Contents (Elt Ideal)) (SC SH : (⟨S4x1x1024, .f32⟩ : BufTy).Contents (Elt Ideal)) (W : (⟨S1024x4608, .f32⟩ : BufTy).Contents (Elt Ideal)) (QG KG : (⟨S64, .f32⟩ : BufTy).Contents (Elt Ideal)) (RB : (⟨S8x257, .f32⟩ : BufTy).Contents (Elt Ideal))
variable (q k v : Fin 4 → Fin 8 → Fin 4096 → Fin 64 → ℝ) (bi : Fin 8 → Fin 257 → ℝ)

theorem p63 (hQ : ∀ b s h d, val_main_v47 X G SC SH W QG (ix4 b s h d) = ((q b h s d : ℝ) : EReal)) (b : Fin 4) (n r : Fin 64) (h : Fin 8) (d : Fin 64) :
    val_main_v63 X G SC SH W QG (ix5 b n r h d) = ((q b h (qpos n r) d : ℝ) : EReal) := by
  rw [← hQ]
  unfold val_main_v63
  generalize val_main_v47 X G SC SH W QG = x
  refine shapeCast_apply x shapeCasts_S4x4096x8x64_S4x64x64x8x64 (ix5 b n r h d) (ix4 b (qpos n r) h d) ?_
  rw [Shape.rowMajor_val_four, Shape.rowMajor_val_five]
  show ((b.val * 4096 + (64 * n.val + r.val)) * 8 + h.val) * 64 + d.val = (((b.val * 64 + n.val) * 64 + r.val) * 8 + h.val) * 64 + d.val
  omega

theorem p112 (hB : ∀ h m, RB (ix2 h m) = ((bi h m : ℝ) : EReal)) (h : Fin 8) (r : Fin 64) (c : Fin 576) :
    val_main_v112 RB (ix3 h r c) = ((bi h (rel r.val c.val) : ℝ) : EReal) := by
  unfold val_main_v112
  rw [← hB]
  exact gather_bias RB _ h r c _ (w111 r c 0)

theorem p127 (hQ : ∀ b s h d, val_main_v47 X G SC SH W QG (ix4 b s h d) = ((q b h s d : ℝ) : EReal))
    (hK : ∀ b s h d, val_main_v61 X G SC SH W KG (ix4 b s h d) = ((k b h s d : ℝ) : EReal))
    (hB : ∀ h m, RB (ix2 h m) = ((bi h m : ℝ) : EReal)) (b : Fin 4) (n : Fin 64) (h : Fin 8) (r : Fin 64) (c : Fin 576) (hc : 512 ≤ 64 * n.val + c.val) :
    val_main_v127 X G SC SH W QG KG RB (ix5 b n h r c) = ((raw (q b h (qpos n r)) (k b h (kpos n c)) (bi h (rel r.val c.val)) : ℝ) : EReal) := by
  have e91 : val_main_v91 X G SC SH W QG KG (ix5 b n h r c) = ((∑ d, q b h (qpos n r) d * k b h (kpos n c) d : ℝ) : EReal) := by
    rw [val_main_v91_apply, coe_sum]
    refine Finset.sum_congr rfl fun d _ => ?_
    rw [show lidx_main_v91 (ix5 b n h r c) d = ix5 b n r h d from by (funext a; match a with | ⟨0, _⟩ => rfl | ⟨1, _⟩ => rfl | ⟨2, _⟩ => rfl | ⟨3, _⟩ => rfl | ⟨4, _⟩ => rfl),
      show ridx_main_v91 (ix5 b n h r c) d = ix5 b n c h d from by (funext a; match a with | ⟨0, _⟩ => rfl | ⟨1, _⟩ => rfl | ⟨2, _⟩ => rfl | ⟨3, _⟩ => rfl | ⟨4, _⟩ => rfl),
      p63 X G SC SH W QG q hQ, p82 X G SC SH W KG k hK, padAt, dif_pos ⟨hc, by omega⟩, ← EReal.coe_mul]
    rfl
  unfold val_main_v127 val_main_v126 val_main_v125 val_main_v93 val_main_v92 val_main_cst_16
  pointwise
  rw [e91, p112 RB bi hB, inv8, ← EReal.coe_mul, ← EReal.coe_add]
  rfl

theorem p128 (hQ : ∀ b s h d, val_main_v47 X G SC SH W QG (ix4 b s h d) = ((q b h s d : ℝ) : EReal))
    (hK : ∀ b s h d, val_main_v61 X G SC SH W KG (ix4 b s h d) = ((k b h s d : ℝ) : EReal))
    (hB : ∀ h m, RB (ix2 h m) = ((bi h m : ℝ) : EReal)) (b : Fin 4) (n : Fin 64) (h : Fin 8) (r : Fin 64) (c : Fin 576) :
    val_main_v128 X G SC SH W QG KG RB (ix5 b n h r c) = logit (q b h) (k b h) (bi h) n r c := by
  unfold val_main_v128 val_main_call4_v2 val_main_call4_v1 val_main_call4_v0 val_main_cst_26 val_main_v124
  pointwise
  rw [w123]
  unfold logit
  by_cases hc : 512 ≤ 64 * n.val + c.val
  · rw [if_pos hc, if_pos hc, ← p127 X G SC SH W QG KG RB q k bi hQ hK hB b n h r c hc]
    rfl
  · rw [if_neg hc, if_neg hc]
    exact neg_inf

theorem p131 (hQ : ∀ b s h d, val_main_v47 X G SC SH W QG (ix4 b s h d) = ((q b h s d : ℝ) : EReal))
    (hK : ∀ b s h d, val_main_v61 X G SC SH W KG (ix4 b s h d) = ((k b h s d : ℝ) : EReal))
    (hB : ∀ h m, RB (ix2 h m) = ((bi h m : ℝ) : EReal)) (b : Fin 4) (n : Fin 64) (h : Fin 8) (r : Fin 64) :
    ∃ m : ℝ, val_main_v131 X G SC SH W QG KG RB (ix4 b n h r) = ((m : ℝ) : EReal) := by
  obtain ⟨m, hm⟩ := sup_real (fun c => logit (q b h) (k b h) (bi h) n r c) (fun c => logit_ne_top _ _ _ _ _ c) ⟨512, by omega⟩ (logit_ne_bot _ _ _ _ _)
  refine ⟨m, ?_⟩
  rw [← hm]
  have e129 : val_main_v129 X G SC SH W QG KG RB (ix4 b n h r) = Finset.univ.sup (fun c => logit (q b h) (k b h) (bi h) n r c) := by
    unfold val_main_v129 val_main_cst_27
    refine (v129 (val_main_v128 X G SC SH W QG KG RB) b n h r).trans ?_
    exact congrArg _ (funext fun c => p128 X G SC SH W QG KG RB q k bi hQ hK hB b n h r c)
  rw [val_main_v131_apply, e129]
  have e130 : val_main_v130 (F := Ideal) (ix4 b n h r) = (⊥ : EReal) := by
    unfold val_main_v130 val_main_cst_28
    pointwise
    exact neg_inf
  rw [e130]
  exact max_eq_right bot_le

theorem sumE_real {ι : Type} [Fintype ι] (s : ι → EReal) (m : ℝ) (hs : ∀ i, s i ≠ ⊤) :
    (∑ i, Ideal.exp (s i - (m : EReal))) = ((∑ i, wtE (s i) * Real.exp (-m) : ℝ) : EReal) := by
  rw [coe_sum]
  exact Finset.sum_congr rfl fun i _ => exp_sub (hs i) m

theorem sumE_pos {ι : Type} [Fintype ι] (s : ι → EReal) (m : ℝ) (i : ι) (h : s i ≠ ⊥) : 0 < ∑ i, wtE (s i) * Real.exp (-m) :=
  Finset.sum_pos' (fun i _ => mul_nonneg (wtE_nonneg _) (Real.exp_pos _).le) ⟨i, Finset.mem_univ _, mul_pos (wtE_pos h) (Real.exp_pos _)⟩

theorem p140 (hQ : ∀ b s h d, val_main_v47 X G SC SH W QG (ix4 b s h d) = ((q b h s d : ℝ) : EReal))
    (hK : ∀ b s h d, val_main_v61 X G SC SH W KG (ix4 b s h d) = ((k b h s d : ℝ) : EReal))
    (hV : ∀ b s h d, val_main_v62 X G SC SH W (ix4 b s h d) = ((v b h s d : ℝ) : EReal))
    (hB : ∀ h m, RB (ix2 h m) = ((bi h m : ℝ) : EReal)) (b : Fin 4) (n : Fin 64) (h : Fin 8) (d r : Fin 64) :
    val_main_v140 X G SC SH W QG KG RB (ix5 b n h d r) = ((att (q b h) (k b h) (v b h) (bi h) n r d : ℝ) : EReal) := by
  obtain ⟨m, hm⟩ := p131 X G SC SH W QG KG RB q k bi hQ hK hB b n h r
  have e135 : ∀ c, val_main_v135 X G SC SH W QG KG RB (ix5 b n h r c) = Ideal.exp (logit (q b h) (k b h) (bi h) n r c - (m : EReal)) := by
    intro c
    unfold val_main_v135 val_main_v134 val_main_v133 val_main_v132
    pointwise
    rw [p128 X G SC SH W QG KG RB q k bi hQ hK hB, hm]
  have e139 : ∀ c, val_main_v139 X G SC SH W QG KG RB (ix5 b n h r c) = Ideal.div (Ideal.exp (logit (q b h) (k b h) (bi h) n r c - (m : EReal))) (∑ c, Ideal.exp (logit (q b h) (k b h) (bi h) n r c - (m : EReal))) := by
    intro c
    unfold val_main_v139 val_main_v138 val_main_v137 val_main_v136 val_main_cst_29
    pointwise
    simp only [e135]
  rw [val_main_v140_apply]
  unfold att
  rw [← meanE (fun c => logit (q b h) (k b h) (bi h) n r c) (fun c => v b h (kpos n c) d) m (fun c => logit_ne_top _ _ _ _ _ c) ⟨512, by omega⟩ (logit_ne_bot _ _ _ _ _)]
  refine Finset.sum_congr rfl fun c _ => ?_
  rw [show lidx_main_v140 (ix5 b n h d r) c = ix5 b n c h d from by (funext a; match a with | ⟨0, _⟩ => rfl | ⟨1, _⟩ => rfl | ⟨2, _⟩ => rfl | ⟨3, _⟩ => rfl | ⟨4, _⟩ => rfl),
    show ridx_main_v140 (ix5 b n h d r) c = ix5 b n h r c from by (funext a; match a with | ⟨0, _⟩ => rfl | ⟨1, _⟩ => rfl | ⟨2, _⟩ => rfl | ⟨3, _⟩ => rfl | ⟨4, _⟩ => rfl), e139, p90 X G SC SH W v hV, mul_comm]
  by_cases hc : 512 ≤ 64 * n.val + c.val
  · rw [padAt, dif_pos ⟨hc, by omega⟩]
    rfl
  · rw [padAt, dif_neg (fun e => hc e.1), mul_zero]
    have hb : logit (q b h) (k b h) (bi h) n r c = ⊥ := if_neg hc
    rw [hb, EReal.bot_sub, sumE_real _ m (fun c => logit_ne_top _ _ _ _ _ c), Ideal.div_coe (sumE_pos _ m ⟨512, by omega⟩ (logit_ne_bot _ _ _ _ _)).ne']
    show (0 : EReal) = Ideal.exp ⊥ * _ * _
    rw [show Ideal.exp ⊥ = 0 from by simp, zero_mul, zero_mul]

def chunk (s : Fin 4096) : Fin 64 := ⟨s.val / 64, by omega⟩
def inChunk (s : Fin 4096) : Fin 64 := ⟨s.val % 64, by omega⟩
def headOf (l : Fin 512) : Fin 8 := ⟨l.val / 64, by omega⟩
def laneOf (l : Fin 512) : Fin 64 := ⟨l.val % 64, by omega⟩

theorem p155 (hQ : ∀ b s h d, val_main_v47 X G SC SH W QG (ix4 b s h d) = ((q b h s d : ℝ) : EReal))
    (hK : ∀ b s h d, val_main_v61 X G SC SH W KG (ix4 b s h d) = ((k b h s d : ℝ) : EReal))
    (hV : ∀ b s h d, val_main_v62 X G SC SH W (ix4 b s h d) = ((v b h s d : ℝ) : EReal))
    (hB : ∀ h m, RB (ix2 h m) = ((bi h m : ℝ) : EReal)) (b : Fin 4) (s : Fin 4096) (l : Fin 512) :
    val_main_v155 X G SC SH W QG KG RB (ix3 b s l) = ((att (q b (headOf l)) (k b (headOf l)) (v b (headOf l)) (bi (headOf l)) (chunk s) (inChunk s) (laneOf l) : ℝ) : EReal) := by
  rw [← p140 X G SC SH W QG KG RB q k v bi hQ hK hV hB b (chunk s) (headOf l) (laneOf l) (inChunk s)]
  unfold val_main_v155 val_main_v142
  show shapeCast _ (val_main_v141 X G SC SH W QG KG RB) shapeCasts_S4x64x64x8x64_S4x4096x512 (ix3 b s l) = _
  rw [shapeCast_apply (val_main_v141 X G SC SH W QG KG RB) shapeCasts_S4x64x64x8x64_S4x4096x512 (ix3 b s l) (ix5 b (chunk s) (inChunk s) (headOf l) (laneOf l)) (by
    rw [Shape.rowMajor_val_five, Shape.rowMajor_val_three]
    show (((b.val * 64 + s.val / 64) * 64 + s.val % 64) * 8 + l.val / 64) * 64 + l.val % 64 = (b.val * 4096 + s.val) * 512 + l.val
    omega)]
  unfold val_main_v141
  generalize val_main_v140 X G SC SH W QG KG RB = y
  pointwise
  try rfl

end Cert.ReferenceIdeal.Val

end
-- ==== Proof.Results.lean ====
/- The kernel's four results are the reference's. -/
module

public import proofs.«01_k».proof.Proof.Reals
public import proofs.«01_k».proof.Proof.KHost
public import proofs.«01_k».proof.Proof.AttnRes
public import proofs.«01_k».proof.Proof.BiasArr
public import proofs.«01_k».proof.Proof.RefAttn

@[expose] public section

set_option maxRecDepth 16384

noncomputable section

namespace Cert.Results

open Idealize.ShloMosaic Idealize.ShloMosaic.TcCoe Idealize.SL.Sem Cert.KernelIdeal Cert.KernelIdeal.Gen Cert.Spec Cert.Finite Cert.Reals Cert.ReferenceIdeal.Read

variable (m : (ℓ : Loc nD τ sig) → Buf (Elt Ideal) ℓ) (ρ : Dev nD → PrngReg) (c : Dev nD)

abbrev aX : (⟨S4x4096x1024, .f32⟩ : BufTy).Contents (Elt Ideal) := m ((c : Thread nD τ).loc main_arg0)
abbrev aG : (⟨S1024, .f32⟩ : BufTy).Contents (Elt Ideal) := m ((c : Thread nD τ).loc main_arg1)
abbrev aSC : (⟨S4x1x1024, .f32⟩ : BufTy).Contents (Elt Ideal) := m ((c : Thread nD τ).loc main_arg2)
abbrev aSH : (⟨S4x1x1024, .f32⟩ : BufTy).Contents (Elt Ideal) := m ((c : Thread nD τ).loc main_arg3)
abbrev aW : (⟨S1024x4608, .f32⟩ : BufTy).Contents (Elt Ideal) := m ((c : Thread nD τ).loc main_arg4)
abbrev aQG : (⟨S64, .f32⟩ : BufTy).Contents (Elt Ideal) := m ((c : Thread nD τ).loc main_arg5)
abbrev aKG : (⟨S64, .f32⟩ : BufTy).Contents (Elt Ideal) := m ((c : Thread nD τ).loc main_arg6)
abbrev aRB : (⟨S8x257, .f32⟩ : BufTy).Contents (Elt Ideal) := m ((c : Thread nD τ).loc main_arg7)

/-! ## What the first launch reads -/

theorem g_at (k : Fin 1024) : (W3 m ρ c (Proc.devRef .tc main_v9) : (⟨S1x1024, .f32⟩ : BufTy).Contents (Elt Ideal)) (ix2 0 k) = aG m c (ix1 k) :=
  (Host.v9 (W2 m ρ c) k).trans (congrFun (W2_args m ρ c main_arg1 (by decide)) _)

theorem w_at (k : Fin 1024) (j : Fin 4608) : (W3 m ρ c (Proc.devRef .tc main_v10) : (⟨S1024x4608, .bf16⟩ : BufTy).Contents (Elt Ideal)) (ix2 k j) = aW m c (ix2 k j) :=
  (Host.v10 (W2 m ρ c) k j).trans (congrFun (W2_args m ρ c main_arg4 (by decide)) _)

theorem qg_at (l : Fin 512) : (W3 m ρ c (Proc.devRef .tc main_v14) : (⟨S1x512, .f32⟩ : BufTy).Contents (Elt Ideal)) (ix2 0 l) = aQG m c (ix1 (Attn.ln l)) :=
  (Host.v14 (W2 m ρ c) l).trans (congrFun (W2_args m ρ c main_arg5 (by decide)) _)

theorem kg_at (l : Fin 512) : (W3 m ρ c (Proc.devRef .tc main_v18) : (⟨S1x512, .f32⟩ : BufTy).Contents (Elt Ideal)) (ix2 0 l) = aKG m c (ix1 (Attn.ln l)) :=
  (Host.v18 (W2 m ρ c) l).trans (congrFun (W2_args m ρ c main_arg6 (by decide)) _)

theorem bd_at (k l : Fin 512) : (W3 m ρ c (Proc.devRef .tc main_v8) : (⟨S512x512, .bf16⟩ : BufTy).Contents (Elt Ideal)) (ix2 k l)
    = (((if k.val / 64 = l.val / 64 then 1 else 0) * (1 / 64) : ℝ) : EReal) := by
  refine (Host.v8 (W2 m ρ c) k l).trans ?_
  rw [show (W2 m ρ c (Proc.devRef .tc main_v7) : (⟨S512x512, .f32⟩ : BufTy).Contents (Elt Ideal)) = _ from Host.v7 (W1 m ρ c) _ _ rfl rfl]
  refine (Host.kron_apply _ _ k l).trans ?_
  refine (congrArg₂ (fun a b : EReal => a * b) (Host.v5 (W0 m ρ c) _ _) (Host.v6 (W0 m ρ c) _ _)).trans ?_
  show (if (⟨k.val / 64, _⟩ : Fin 8) = ⟨l.val / 64, _⟩ then (1 : EReal) else 0) * ((1 / 64 : ℝ) : EReal) = _
  by_cases h : k.val / 64 = l.val / 64
  · rw [if_pos (Fin.ext h), if_pos h, one_mul, one_mul]
  · rw [if_neg (fun e => h (congrArg Fin.val e)), if_neg h, zero_mul, zero_mul, EReal.coe_zero]

theorem row_at (b : Fin 4) (s : Fin 4096) (j : Fin 4608) :
    Inproj.rowOf (aX m c) (W3 m ρ c (Proc.devRef .tc main_v9)) (aSC m c) (aSH m c) (W3 m ρ c (Proc.devRef .tc main_v10)) b s j
      = Cert.ReferenceIdeal.Val.projE (aX m c) (aG m c) (aSC m c) (aSH m c) (aW m c) b s j :=
  row_eq (aX m c) (aG m c) (aSC m c) (aSH m c) (aW m c) _ _ (g_at m ρ c) (w_at m ρ c) b s j

/-! ## The unit and the two gates -/

theorem keeps (r : Ref sig .tc) (h2 : ∀ w : Fin cfg2.W, Pipeline.arrRef spec2 w = r → (cfg2.win w).isOut = false)
    (h1 : ∀ w : Fin cfg1.W, Pipeline.arrRef spec1 w = r → (cfg1.win w).isOut = false) (h0 : r ∉ hostOps1_W) :
    W7 m ρ c (Proc.devRef .tc r) = W4 m ρ c (Proc.devRef .tc r) :=
  (W7_of m ρ c r h2).trans ((W6_of m ρ c r h1).trans (W5_of m ρ c r h0))

theorem keeps6 (r : Ref sig .tc)
    (h1 : ∀ w : Fin cfg1.W, Pipeline.arrRef spec1 w = r → (cfg1.win w).isOut = false) (h0 : r ∉ hostOps1_W) :
    W6 m ρ c (Proc.devRef .tc r) = W4 m ρ c (Proc.devRef .tc r) :=
  (W6_of m ρ c r h1).trans (W5_of m ρ c r h0)

theorem unit : (W7 m ρ c (Proc.devRef .tc main_v19_0) : (⟨S4x4096x512, .f32⟩ : BufTy).Contents (Elt Ideal)) = val_main_v33 (aX m c) (aG m c) (aSC m c) (aSH m c) (aW m c) := by
  refine (keeps m ρ c main_v19_0 (by decide +kernel) (by decide +kernel) (by decide)).trans ?_
  refine (W4_arr m ρ c 10).trans ?_
  refine (Inproj.arrU (V3 m ρ) c (aX m c) (W3 m ρ c (Proc.devRef .tc main_v9)) (aSC m c) (aSH m c) (W3 m ρ c (Proc.devRef .tc main_v10)) (W3_args m ρ c main_arg0 (by decide)) rfl (W3_args m ρ c main_arg2 (by decide)) (W3_args m ρ c main_arg3 (by decide)) rfl).trans ?_
  funext i
  obtain ⟨b, s, l, rfl⟩ : ∃ b s l, i = ix3 b s l := ⟨i 0, i 1, i 2, eq_ix3 i⟩
  refine Eq.trans ?_ (Cert.ReferenceIdeal.Val.v33 (aX m c) (aG m c) (aSC m c) (aSH m c) (aW m c) b s l).symm
  exact congrArg (fun p => Inproj.uAt p l) (funext (row_at m ρ c b s))

theorem gateC : (W7 m ρ c (Proc.devRef .tc main_v19_4) : (⟨S4x4096x1024, .f32⟩ : BufTy).Contents (Elt Ideal)) = val_main_v148 (aX m c) (aG m c) (aSC m c) (aSH m c) (aW m c) := by
  refine (keeps m ρ c main_v19_4 (by decide +kernel) (by decide +kernel) (by decide)).trans ?_
  refine (W4_arr m ρ c 14).trans ?_
  refine (Inproj.arrGc (V3 m ρ) c (aX m c) (W3 m ρ c (Proc.devRef .tc main_v9)) (aSC m c) (aSH m c) (W3 m ρ c (Proc.devRef .tc main_v10)) (W3_args m ρ c main_arg0 (by decide)) rfl (W3_args m ρ c main_arg2 (by decide)) (W3_args m ρ c main_arg3 (by decide)) rfl).trans ?_
  funext i
  obtain ⟨b, s, l, rfl⟩ : ∃ b s l, i = ix3 b s l := ⟨i 0, i 1, i 2, eq_ix3 i⟩
  refine Eq.trans ?_ (Cert.ReferenceIdeal.Val.v148 (aX m c) (aG m c) (aSC m c) (aSH m c) (aW m c) b s l).symm
  exact congrArg (fun p => Inproj.gcAt p l) (funext (row_at m ρ c b s))

theorem gateA : (W7 m ρ c (Proc.devRef .tc main_v19_5) : (⟨S4x4096x1024, .f32⟩ : BufTy).Contents (Elt Ideal)) = val_main_v154 (aX m c) (aG m c) (aSC m c) (aSH m c) (aW m c) := by
  refine (keeps m ρ c main_v19_5 (by decide +kernel) (by decide +kernel) (by decide)).trans ?_
  refine (W4_arr m ρ c 15).trans ?_
  refine (Inproj.arrGa (V3 m ρ) c (aX m c) (W3 m ρ c (Proc.devRef .tc main_v9)) (aSC m c) (aSH m c) (W3 m ρ c (Proc.devRef .tc main_v10)) (W3_args m ρ c main_arg0 (by decide)) rfl (W3_args m ρ c main_arg2 (by decide)) (W3_args m ρ c main_arg3 (by decide)) rfl).trans ?_
  funext i
  obtain ⟨b, s, l, rfl⟩ : ∃ b s l, i = ix3 b s l := ⟨i 0, i 1, i 2, eq_ix3 i⟩
  refine Eq.trans ?_ (Cert.ReferenceIdeal.Val.v154 (aX m c) (aG m c) (aSC m c) (aSH m c) (aW m c) b s l).symm
  exact congrArg (fun p => Inproj.gaAt p l) (funext (row_at m ρ c b s))

/-! ## The bias table -/

theorem log2e_named : Named.named (F := Ideal) (φ := .f32) κ "log2e" 0x3FB8AA3B#32 = ((1 / Real.log 2 : ℝ) : EReal) := by
  rw [one_div]; rfl

theorem qscale_named : Named.named (F := Ideal) (φ := .f32) κ "qscale" 0x3E38AA3B#32 = ((Attn.qs : ℝ) : EReal) := by
  unfold Attn.qs; rw [one_div (Real.log 2)]; rfl

theorem ring_lag (B : (⟨S8x257, .f32⟩ : BufTy).Contents (Elt Ideal)) (h : Fin 8) (r : Fin 256) (c' : Fin 768) :
    Host.ring (Host.lags B) (ix2 h ⟨(c'.val + 1024 - r.val) % 1024, Nat.mod_lt _ (by norm_num)⟩) = B (ix2 h (rel r.val c'.val)) := by
  rw [Host.ring_apply _ _ _ (by show (c'.val + 1024 - r.val) % 1024 ≠ 768; omega), Host.lags_apply]
  refine congrArg (fun z => B (ix2 h z)) (Fin.ext ?_)
  show min ((if (c'.val + 1024 - r.val) % 1024 < 768 then 767 - (c'.val + 1024 - r.val) % 1024 else 1791 - (c'.val + 1024 - r.val) % 1024) - 127) 256 = min (640 + r.val - c'.val) 256
  split <;> omega

theorem table_at (B : (⟨S8x257, .f32⟩ : BufTy).Contents (Elt Ideal)) (hB : IsReal B) (h : Fin 8) (r : Fin 256) (j : Fin 3) (c' : Fin 256) :
    Bias.table (fun h j => Host.ring (Host.lags B) (ix2 h j)) (ix3 h r (Attn.colAt j c'))
      = if inBand r j c' then ((EReal.toReal (B (ix2 h (rel r.val (256 * j.val + c'.val)))) * (1 / Real.log 2) : ℝ) : EReal) else ⊥ := by
  show Bias.biasAt (fun j => Host.ring (Host.lags B) (ix2 h j)) (Bias.mask (ix2 r (Attn.colAt j c')) = 1#1) r (Attn.colAt j c') = _
  unfold Bias.biasAt
  by_cases hm : inBand r j c'
  · rw [if_pos ((Bias.mask_iff r (Attn.colAt j c')).mpr hm), if_pos hm]
    beta_reduce
    rw [ring_lag, log2e_named, EReal.coe_mul, ← hB]
    rfl
  · rw [if_neg (fun e => hm ((Bias.mask_iff r (Attn.colAt j c')).mp e)), if_neg hm]
    rfl

/-! ## The attention -/

variable (hX : IsReal (aX m c)) (hG : IsReal (aG m c)) (hSC : IsReal (aSC m c)) (hSH : IsReal (aSH m c)) (hW : IsReal (aW m c)) (hQ : IsReal (aQG m c)) (hK : IsReal (aKG m c)) (hB : IsReal (aRB m c))

include hX hG hSC hSH hW hQ in
theorem q_at : (W6 m ρ c (Proc.devRef .tc main_v19_1) : (⟨S4x4096x512, .bf16⟩ : BufTy).Contents (Elt Ideal))
    = fun i => ((qh (aX m c) (aG m c) (aSC m c) (aSH m c) (aW m c) (aQG m c) (i 0) (Attn.hd (i 2)) (i 1) (Attn.ln (i 2)) * Attn.qs : ℝ) : EReal) := by
  refine (keeps6 m ρ c main_v19_1 (by decide +kernel) (by decide)).trans ?_
  refine (W4_arr m ρ c 11).trans ?_
  refine (Inproj.arrQ (V3 m ρ) c (aX m c) (W3 m ρ c (Proc.devRef .tc main_v9)) (aSC m c) (aSH m c) (W3 m ρ c (Proc.devRef .tc main_v10)) (W3 m ρ c (Proc.devRef .tc main_v8)) (W3 m ρ c (Proc.devRef .tc main_v14)) (W3_args m ρ c main_arg0 (by decide)) rfl (W3_args m ρ c main_arg2 (by decide)) (W3_args m ρ c main_arg3 (by decide)) rfl rfl rfl).trans ?_
  funext i
  obtain ⟨b, s, l, rfl⟩ : ∃ b s l, i = ix3 b s l := ⟨i 0, i 1, i 2, eq_ix3 i⟩
  refine (congrArg (fun p => Inproj.qAt p (fun c' l => (W3 m ρ c (Proc.devRef .tc main_v8) : (⟨S512x512, .bf16⟩ : BufTy).Contents (Elt Ideal)) (ix2 c' l)) (fun l => (W3 m ρ c (Proc.devRef .tc main_v14) : (⟨S1x512, .f32⟩ : BufTy).Contents (Elt Ideal)) (ix2 0 l)) l)
    (funext fun j => (row_at m ρ c b s j).trans (proj_real (aX m c) (aG m c) (aSC m c) (aSH m c) (aW m c) hX hG hSC hSH hW b s j))).trans ?_
  have hh := head_real (fun j => pr (aX m c) (aG m c) (aSC m c) (aSH m c) (aW m c) b s j) 1024 (by norm_num) _ _ (fun d => EReal.toReal (aQG m c (ix1 d))) (fun c' l' => bd_at m ρ c c' l')
    (fun l' => (qg_at m ρ c l').trans (hQ _)) l
  exact (congrArg₂ (fun a b : EReal => a * b) hh qscale_named).trans (EReal.coe_mul _ _).symm

include hX hG hSC hSH hW hK in
theorem k_at : (W6 m ρ c (Proc.devRef .tc main_v19_2) : (⟨S4x4096x512, .bf16⟩ : BufTy).Contents (Elt Ideal))
    = fun i => ((kh (aX m c) (aG m c) (aSC m c) (aSH m c) (aW m c) (aKG m c) (i 0) (Attn.hd (i 2)) (i 1) (Attn.ln (i 2)) : ℝ) : EReal) := by
  refine (keeps6 m ρ c main_v19_2 (by decide +kernel) (by decide)).trans ?_
  refine (W4_arr m ρ c 12).trans ?_
  refine (Inproj.arrK (V3 m ρ) c (aX m c) (W3 m ρ c (Proc.devRef .tc main_v9)) (aSC m c) (aSH m c) (W3 m ρ c (Proc.devRef .tc main_v10)) (W3 m ρ c (Proc.devRef .tc main_v8)) (W3 m ρ c (Proc.devRef .tc main_v18)) (W3_args m ρ c main_arg0 (by decide)) rfl (W3_args m ρ c main_arg2 (by decide)) (W3_args m ρ c main_arg3 (by decide)) rfl rfl rfl).trans ?_
  funext i
  obtain ⟨b, s, l, rfl⟩ : ∃ b s l, i = ix3 b s l := ⟨i 0, i 1, i 2, eq_ix3 i⟩
  refine (congrArg (fun p => Inproj.kAt p (fun c' l => (W3 m ρ c (Proc.devRef .tc main_v8) : (⟨S512x512, .bf16⟩ : BufTy).Contents (Elt Ideal)) (ix2 c' l)) (fun l => (W3 m ρ c (Proc.devRef .tc main_v18) : (⟨S1x512, .f32⟩ : BufTy).Contents (Elt Ideal)) (ix2 0 l)) l)
    (funext fun j => (row_at m ρ c b s j).trans (proj_real (aX m c) (aG m c) (aSC m c) (aSH m c) (aW m c) hX hG hSC hSH hW b s j))).trans ?_
  have hh := head_real (fun j => pr (aX m c) (aG m c) (aSC m c) (aSH m c) (aW m c) b s j) 1536 (by norm_num) _ _ (fun d => EReal.toReal (aKG m c (ix1 d))) (fun c' l' => bd_at m ρ c c' l')
    (fun l' => (kg_at m ρ c l').trans (hK _)) l
  exact hh

include hX hG hSC hSH hW in
theorem v_at : (W6 m ρ c (Proc.devRef .tc main_v19_3) : (⟨S4x4096x512, .bf16⟩ : BufTy).Contents (Elt Ideal))
    = fun i => ((vh (aX m c) (aG m c) (aSC m c) (aSH m c) (aW m c) (i 0) (Attn.hd (i 2)) (i 1) (Attn.ln (i 2)) : ℝ) : EReal) := by
  refine (keeps6 m ρ c main_v19_3 (by decide +kernel) (by decide)).trans ?_
  refine (W4_arr m ρ c 13).trans ?_
  refine (Inproj.arrV (V3 m ρ) c (aX m c) (W3 m ρ c (Proc.devRef .tc main_v9)) (aSC m c) (aSH m c) (W3 m ρ c (Proc.devRef .tc main_v10)) (W3_args m ρ c main_arg0 (by decide)) rfl (W3_args m ρ c main_arg2 (by decide)) (W3_args m ρ c main_arg3 (by decide)) rfl).trans ?_
  funext i
  obtain ⟨b, s, l, rfl⟩ : ∃ b s l, i = ix3 b s l := ⟨i 0, i 1, i 2, eq_ix3 i⟩
  show Inproj.vAt (Inproj.rowOf _ _ _ _ _ b s) l = ((vh (aX m c) (aG m c) (aSC m c) (aSH m c) (aW m c) b (Attn.hd l) s (Attn.ln l) : ℝ) : EReal)
  unfold Inproj.vAt vh
  rw [row_at, proj_real (aX m c) (aG m c) (aSC m c) (aSH m c) (aW m c) hX hG hSC hSH hW]
  exact congrArg (fun j => ((pr (aX m c) (aG m c) (aSC m c) (aSH m c) (aW m c) b s j : ℝ) : EReal)) (Fin.ext (by show 2048 + l.val = 2048 + (l.val / 64 * 64 + l.val % 64); omega))

theorem t_at : (W6 m ρ c (Proc.devRef .tc main_v33_0) : (⟨S8x256x768, .f32⟩ : BufTy).Contents (Elt Ideal))
    = Bias.table (fun h j => Host.ring (Host.lags (aRB m c)) (ix2 h j)) :=
  (W6_arr m ρ c 2).trans (Bias.arr (V5 m ρ) c _ (Host.v32_eq (W4 m ρ c) (aRB m c) (W4_args m ρ c main_arg7 (by decide))))

include hX hG hSC hSH hW hQ hK hB in
theorem attention : (W7 m ρ c (Proc.devRef .tc main_v34) : (⟨S4x4096x512, .bf16⟩ : BufTy).Contents (Elt Ideal))
    = val_main_v155 (aX m c) (aG m c) (aSC m c) (aSH m c) (aW m c) (aQG m c) (aKG m c) (aRB m c) := by
  refine (W7_arr m ρ c 8).trans ?_
  refine (Attn.arr (V6 m ρ) c (qh (aX m c) (aG m c) (aSC m c) (aSH m c) (aW m c) (aQG m c)) (kh (aX m c) (aG m c) (aSC m c) (aSH m c) (aW m c) (aKG m c)) (vh (aX m c) (aG m c) (aSC m c) (aSH m c) (aW m c)) (fun h n => EReal.toReal (aRB m c (ix2 h n)))
    (q_at m ρ c hX hG hSC hSH hW hQ) (k_at m ρ c hX hG hSC hSH hW hK) (v_at m ρ c hX hG hSC hSH hW) _ (t_at m ρ c) (table_at (aRB m c) hB)).trans ?_
  funext i
  obtain ⟨b, s, l, rfl⟩ : ∃ b s l, i = ix3 b s l := ⟨i 0, i 1, i 2, eq_ix3 i⟩
  exact (Cert.ReferenceIdeal.Val.p155 (aX m c) (aG m c) (aSC m c) (aSH m c) (aW m c) (aQG m c) (aKG m c) (aRB m c) (qh (aX m c) (aG m c) (aSC m c) (aSH m c) (aW m c) (aQG m c)) (kh (aX m c) (aG m c) (aSC m c) (aSH m c) (aW m c) (aKG m c)) (vh (aX m c) (aG m c) (aSC m c) (aSH m c) (aW m c)) (fun h n => EReal.toReal (aRB m c (ix2 h n)))
    (q_real (aX m c) (aG m c) (aSC m c) (aSH m c) (aW m c) (aQG m c) hX hG hSC hSH hW hQ) (k_real (aX m c) (aG m c) (aSC m c) (aSH m c) (aW m c) (aKG m c) hX hG hSC hSH hW hK) (v_real (aX m c) (aG m c) (aSC m c) (aSH m c) (aW m c) hX hG hSC hSH hW) (fun h n => hB _) b s l).symm

end Cert.Results

end
-- ==== Proof.Claims.lean ====
/- The claims, one theorem each. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KRun
public import proofs.«01_k».proof.Proof.Results

@[expose] public section

set_option maxRecDepth 16384

noncomputable section

namespace Cert.Claims

open Idealize.ShloMosaic Idealize.ShloMosaic.TcCoe Idealize.SL.Sem

/-- The side conditions of the precondition's operations. -/
theorem facts : Cert.Pre_finite.Facts where
  bcast_S_S4x4096x1024 := by decide
  reducesTo_S4x4096x1024_S_d0_1_2 := by decide
  h_S_ := by decide
  bcast_S_S1024 := by decide
  reducesTo_S1024_S_d0 := by decide
  bcast_S_S4x1x1024 := by decide
  reducesTo_S4x1x1024_S_d0_1_2 := by decide
  bcast_S_S1024x4608 := by decide
  reducesTo_S1024x4608_S_d0_1 := by decide
  bcast_S_S64 := by decide
  reducesTo_S64_S_d0 := by decide
  bcast_S_S8x257 := by decide
  reducesTo_S8x257_S_d0_1 := by decide

attribute [local instance] facts

theorem frame_kernel : Cert.quiescent_Kernel := fun m ρ _ => Cert.Kernel.Gen.frame (F := Bits) m ρ

theorem frame_ideal : Cert.quiescent_KernelIdeal := fun m ρ _ => Cert.KernelIdeal.Gen.frame (F := Ideal) m ρ

theorem frame_ideal_pre : Cert.quiescent_KernelIdeal_pre_finite := fun m ρ _ => Cert.KernelIdeal.Gen.frame (F := Ideal) m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_reference_pre : Cert.quiescent_ReferenceIdeal_pre_finite := fun m ρ _ => frame_reference m ρ trivial

theorem preserves : Cert.preserves_Kernel_KernelIdeal :=
  ⟨IdealRules.named_const.statement Cert.KernelIdeal.κ "qscale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

open Cert.ReferenceIdeal.Read (val_main_v33 val_main_v148 val_main_v154 val_main_v155) in
/-- The reference's run, its results named. -/
theorem reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      (r.2.mem ((c.tc : Thread Cert.ReferenceIdeal.nD Cert.ReferenceIdeal.τ).loc Cert.ReferenceIdeal.main_v33) = val_main_v33 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v148) = val_main_v148 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v154) = val_main_v154 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v155) = val_main_v155 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run Cert.ReferenceIdeal.defs _ _).mono (fun r h c => ⟨⟨(h c).1.trans (Cert.ReferenceIdeal.Read.val_main_v33_eq _), (h c).2.1.trans (Cert.ReferenceIdeal.Read.val_main_v148_eq _),
      (h c).2.2.1.trans (Cert.ReferenceIdeal.Read.val_main_v154_eq _), (h c).2.2.2.1.trans (Cert.ReferenceIdeal.Read.val_main_v155_eq _)⟩, (h c).2.2.2.2⟩)
    (Cert.ReferenceIdeal.Value.run (F := Ideal) m ρ)

theorem same5 {α β γ δ ε ζ : Type} (f : α → β → γ → δ → ε → ζ) {a a' b b' c c' d d' e e'} (ha : a = a') (hb : b = b') (hc : c = c') (hd : d = d') (he : e = e') :
    f a b c d e = f a' b' c' d' e' := by
  subst ha hb hc hd he; rfl

theorem same8 {α β γ δ ε ζ η θ ι : Type} (f : α → β → γ → δ → ε → ζ → η → θ → ι) {a a' b b' c c' d d' e e' g g' h h' i i'} (ha : a = a') (hb : b = b') (hc : c = c') (hd : d = d')
    (he : e = e') (hg : g = g') (hh : h = h') (hi : i = i') : f a b c d e g h i = f a' b' c' d' e' g' h' i' := by
  subst ha hb hc hd he hg hh hi; rfl

/-- The kernel's four results and the reference's are one function of the arguments. -/
theorem algebraic : Cert.algebraic_KernelIdeal_ReferenceIdeal_pre_finite := by
  intro m ρ m' ρ' hpre hagree
  refine ⟨fun c => Cert.KernelIdeal.Gen.W7 m ρ c (Proc.devRef .tc Cert.KernelIdeal.main_v19_0), fun c => Cert.KernelIdeal.Gen.W7 m ρ c (Proc.devRef .tc Cert.KernelIdeal.main_v19_4),
    fun c => Cert.KernelIdeal.Gen.W7 m ρ c (Proc.devRef .tc Cert.KernelIdeal.main_v19_5), fun c => Cert.KernelIdeal.Gen.W7 m ρ c (Proc.devRef .tc Cert.KernelIdeal.main_v34), ?_, ?_⟩
  · refine (θ_run Cert.KernelIdeal.defs _ _).mono (fun r h c => ⟨h c _ (by decide), h c _ (by decide), h c _ (by decide), h c _ (by decide),
      (h c _ (by decide)).trans (Cert.KernelIdeal.Gen.W7_main_arg0 m ρ c),
      (h c _ (by decide)).trans (Cert.KernelIdeal.Gen.W7_main_arg1 m ρ c),
      (h c _ (by decide)).trans (Cert.KernelIdeal.Gen.W7_main_arg2 m ρ c),
      (h c _ (by decide)).trans (Cert.KernelIdeal.Gen.W7_main_arg3 m ρ c),
      (h c _ (by decide)).trans (Cert.KernelIdeal.Gen.W7_main_arg4 m ρ c),
      (h c _ (by decide)).trans (Cert.KernelIdeal.Gen.W7_main_arg5 m ρ c),
      (h c _ (by decide)).trans (Cert.KernelIdeal.Gen.W7_main_arg6 m ρ c),
      (h c _ (by decide)).trans (Cert.KernelIdeal.Gen.W7_main_arg7 m ρ c),
      (h c _ (by decide)).trans (Cert.KernelIdeal.Gen.W7_main_arg8 m ρ c),
      (h c _ (by decide)).trans (Cert.KernelIdeal.Gen.W7_main_arg9 m ρ c),
      (h c _ (by decide)).trans (Cert.KernelIdeal.Gen.W7_main_arg10 m ρ c)⟩) (Cert.KernelIdeal.Run.run (F := Ideal) m ρ)
  · refine (θ_run Cert.ReferenceIdeal.defs _ _).mono (fun r h c => ?_) (reference m' ρ')
    obtain ⟨⟨h0, h1, h2, h3⟩, hk⟩ := h c
    obtain ⟨e0, e1, e2, e3, e4, e5, e6, e7, -⟩ := hagree c
    obtain ⟨r0, r1, r2, r3, r4, r5, r6, r7⟩ := Cert.Finite.reals _ _ _ _ _ _ _ _ _ _ _ (hpre c)
    exact ⟨h0.trans ((same5 (Cert.ReferenceIdeal.Read.val_main_v33 (F := Ideal)) e0 e1 e2 e3 e4).trans (Cert.Results.unit m ρ c).symm),
      h1.trans ((same5 (Cert.ReferenceIdeal.Read.val_main_v148 (F := Ideal)) e0 e1 e2 e3 e4).trans (Cert.Results.gateC m ρ c).symm),
      h2.trans ((same5 (Cert.ReferenceIdeal.Read.val_main_v154 (F := Ideal)) e0 e1 e2 e3 e4).trans (Cert.Results.gateA m ρ c).symm),
      h3.trans ((same8 (Cert.ReferenceIdeal.Read.val_main_v155 (F := Ideal)) e0 e1 e2 e3 e4 e5 e6 e7).trans (Cert.Results.attention m ρ c r0 r1 r2 r3 r4 r5 r6 r7).symm), hk⟩

end Cert.Claims

end
-- ==== Proof.MergeSpec.lean ====
/- The merge of the two branches, the residual and the norm after it, row by row. -/
module

public import Idealize.ShloMosaic.PureOps.Ideal.Laws

@[expose] public section

set_option maxRecDepth 16384

noncomputable section

namespace Cert.MergeSpec

open Idealize.ShloMosaic

/-- The row after the residual: the convolution's row plus the gated attention output's projection, projected, scaled
    and added to the input's row. -/
def res (o : Fin 512 → EReal) (mc ga x : Fin 1024 → EReal) (wa : Fin 512 → Fin 1024 → EReal) (wo : Fin 1024 → Fin 1024 → EReal) (g1 : Fin 1024 → EReal) (j : Fin 1024) : EReal :=
  x j + g1 j * ∑ k, (mc k + ga k * ∑ l, o l * wa l k) * wo k j

/-- A row over the root of its mean square, scaled and modulated. -/
def norm (y g sc sh : Fin 1024 → EReal) (k : Fin 1024) : EReal :=
  y k * Ideal.rsqrt (Ideal.div (∑ k, y k * y k) (Ideal.ofBits .f32 0x44800000#32) + Ideal.ofBits .f32 0x358637BD#32) * g k * (1 + sc k) + sh k

end Cert.MergeSpec

end
-- ==== Proof.MergePay.lean ====
/- The merge kernel's stored values at an index. -/
module

public import proofs.«01_k».proof.Proof.MergeSpec
public import proofs.«01_k».proof.Proof.Gen.MergeIdeal.Frame
public import Idealize.ShloMosaic.Lib.Pointwise
public import Idealize.ShloMosaic.Lib.Pipeline.ValueKit
public import Idealize.ShloMosaic.PureOps.Ideal.Laws

@[expose] public section

set_option maxRecDepth 16384

noncomputable section

namespace Cert.MergeIdeal.Val

open Idealize.ShloMosaic Idealize.SL.Sem Cert.MergeIdeal Cert.MergeIdeal.Gen Cert.MergeSpec

section Payloads

variable (o : Vec Ideal S1x512x512 .bf16) (wa : Vec Ideal S512x1024 .bf16) (mc ga : Vec Ideal S1x512x1024 .f32) (wo : Vec Ideal S1024x1024 .bf16) (x : Vec Ideal S1x512x1024 .f32) (g1 : Vec Ideal S1x1x1024 .f32)

/-- A row of the tile after the residual. -/
def rowE (r : Fin 512) : Fin 1024 → EReal :=
  res (fun l => o (ix3 0 r l)) (fun k => mc (ix3 0 r k)) (fun k => ga (ix3 0 r k)) (fun k => x (ix3 0 r k)) (fun l k => wa (ix2 l k)) (fun k j => wo (ix2 k j)) (fun j => g1 (ix3 0 0 j))

theorem pay2_apply (r : Fin 512) (j : Fin 1024) : k0_pay2 o wa mc ga wo x g1 (ix2 r j) = rowE o wa mc ga wo x g1 r j := by
  unfold k0_pay2
  pointwise
  rfl

theorem pay3_apply (r : Fin 512) (j : Fin 1024) : k0_pay3 o wa mc ga wo x g1 (ix3 0 r j) = rowE o wa mc ga wo x g1 r j := by
  unfold k0_pay3
  pointwise
  exact pay2_apply o wa mc ga wo x g1 r j

theorem pay4_apply (r : Fin 512) : k0_pay4 o wa mc ga wo x g1 (ix2 r 0)
    = Ideal.div (∑ k, rowE o wa mc ga wo x g1 r k * rowE o wa mc ga wo x g1 r k) (Ideal.ofBits .f32 0x44800000#32) := by
  unfold k0_pay4
  pointwise
  simp only [pay2_apply]

theorem pay1_apply (v : FVec Ideal S512x1024 .f32) (q : FVec Ideal S512x1 .f32) (e : EReal) (g : Vec Ideal S1x1024 .f32) (sc sh : Vec Ideal S1x1x1024 .f32) (k : Fin 1024) (r : Fin 512) :
    k0_pay1 v q e g sc sh (ix2 k r) = v (ix2 r k) * Ideal.rsqrt (q (ix2 r 0) + e) * g (ix2 0 k) * (1 + sc (ix3 0 0 k)) + sh (ix3 0 0 k) := by
  unfold k0_pay1
  pointwise

end Payloads

section Block

theorem ldw {s : Shape} {e : EltTy} (x : Vec Ideal s e) (off : Fin s.rank → ℕ) (h0 : ∀ a, off a = 0) (inb) :
    View.ld x (Rect.unit (s := s) off s.size inb) = x := by
  funext j
  exact View.ld_unit_apply_of x off s.size inb j j fun a => by simp [h0 a]

theorem row {n m : ℕ} (y : (⟨3, ![1, n, m]⟩ : Shape).Idx) : ∃ r l, y = ix3 0 r l :=
  ⟨y 1, y 2, by rw [eq_ix3 y, Fin.fin_one_eq_zero (y 0)]; rfl⟩

variable (x0 : Vec Ideal S1x512x512 .bf16) (x1 x2 x3 : Vec Ideal S1x512x1024 .f32) (x4 : Vec Ideal S512x1024 .bf16) (x5 : Vec Ideal S1024x1024 .bf16) (x6 : Vec Ideal S1x1x1024 .f32) (x7 : Vec Ideal S1x1024 .f32) (x8 x9 : Vec Ideal S1x1x1024 .f32)

theorem out10_apply (r : Fin 512) (j : Fin 1024) : out0_10 x0 x1 x2 x3 x4 x5 x6 x7 x8 x9 (ix3 0 r j) = rowE x0 x4 x1 x2 x5 x3 x6 r j := by
  have h0 : ∀ inb, View.ld x0 (Rect.unit (s := S1x512x512) ![0, 0, 0] S1x512x512.size inb) = x0 := fun _ => ldw _ _ (by decide) _
  have h1 : ∀ x : Vec Ideal S1x512x1024 .f32, ∀ inb, View.ld x (Rect.unit (s := S1x512x1024) ![0, 0, 0] S1x512x1024.size inb) = x := fun _ _ => ldw _ _ (by decide) _
  have h4 : ∀ inb, View.ld x4 (Rect.unit (s := S512x1024) ![0, 0] S512x1024.size inb) = x4 := fun _ => ldw _ _ (by decide) _
  have h5 : ∀ inb, View.ld x5 (Rect.unit (s := S1024x1024) ![0, 0] S1024x1024.size inb) = x5 := fun _ => ldw _ _ (by decide) _
  have h6 : ∀ x : Vec Ideal S1x1x1024 .f32, ∀ inb, View.ld x (Rect.unit (s := S1x1x1024) ![0, 0, 0] S1x1x1024.size inb) = x := fun _ _ => ldw _ _ (by decide) _
  unfold out0_10
  rw [View.canon_cons_unit_lit _ _ _ (by decide)]
  simp only [h0, h1, h4, h5, h6]
  exact pay3_apply x0 x4 x1 x2 x5 x3 x6 r j

theorem out11_apply (k : Fin 1024) (r : Fin 512) : out0_11 x0 x1 x2 x3 x4 x5 x6 x7 x8 x9 (ix2 k r)
    = norm (rowE x0 x4 x1 x2 x5 x3 x6 r) (fun k => x7 (ix2 0 k)) (fun k => x8 (ix3 0 0 k)) (fun k => x9 (ix3 0 0 k)) k := by
  have h0 : ∀ inb, View.ld x0 (Rect.unit (s := S1x512x512) ![0, 0, 0] S1x512x512.size inb) = x0 := fun _ => ldw _ _ (by decide) _
  have h1 : ∀ x : Vec Ideal S1x512x1024 .f32, ∀ inb, View.ld x (Rect.unit (s := S1x512x1024) ![0, 0, 0] S1x512x1024.size inb) = x := fun _ _ => ldw _ _ (by decide) _
  have h4 : ∀ inb, View.ld x4 (Rect.unit (s := S512x1024) ![0, 0] S512x1024.size inb) = x4 := fun _ => ldw _ _ (by decide) _
  have h5 : ∀ inb, View.ld x5 (Rect.unit (s := S1024x1024) ![0, 0] S1024x1024.size inb) = x5 := fun _ => ldw _ _ (by decide) _
  have h6 : ∀ x : Vec Ideal S1x1x1024 .f32, ∀ inb, View.ld x (Rect.unit (s := S1x1x1024) ![0, 0, 0] S1x1x1024.size inb) = x := fun _ _ => ldw _ _ (by decide) _
  have h7 : ∀ inb, View.ld x7 (Rect.unit (s := S1x1024) ![0, 0] S1x1024.size inb) = x7 := fun _ => ldw _ _ (by decide) _
  unfold out0_11
  rw [View.canon_cons_unit_lit _ _ _ (by decide)]
  simp only [h0, h1, h4, h5, h6, h7]
  refine (pay1_apply _ _ _ _ _ _ k r).trans ?_
  rw [pay2_apply, pay4_apply]
  rfl

end Block

end Cert.MergeIdeal.Val

end
-- ==== Proof.MergeRef.lean ====
/- The merge's reference at an index. -/
module

public import proofs.«01_k».proof.Proof.MergeSpec
public import proofs.«01_k».proof.Proof.Gen.MergeReferenceIdeal.Read
public import Idealize.ShloMosaic.Lib.Pointwise
public import Idealize.ShloMosaic.PureOps.Ideal.Laws

@[expose] public section

set_option maxRecDepth 16384

noncomputable section

namespace Cert.MergeReferenceIdeal.Val

open Idealize.ShloMosaic Idealize.SL.Sem Cert.MergeReferenceIdeal Cert.MergeReferenceIdeal.Read Cert.MergeSpec

variable (O : (⟨S4x4096x512, .bf16⟩ : BufTy).Contents (Elt Ideal)) (MC GA X : (⟨S4x4096x1024, .f32⟩ : BufTy).Contents (Elt Ideal)) (WA : (⟨S512x1024, .f32⟩ : BufTy).Contents (Elt Ideal)) (WO : (⟨S1024x1024, .f32⟩ : BufTy).Contents (Elt Ideal))
  (G1 : (⟨S4x1x1024, .f32⟩ : BufTy).Contents (Elt Ideal)) (G : (⟨S1024, .f32⟩ : BufTy).Contents (Elt Ideal)) (SC SH : (⟨S4x1x1024, .f32⟩ : BufTy).Contents (Elt Ideal))

/-- A row after the residual. -/
def rowE (b : Fin 4) (s : Fin 4096) : Fin 1024 → EReal :=
  res (fun l => O (ix3 b s l)) (fun k => MC (ix3 b s k)) (fun k => GA (ix3 b s k)) (fun k => X (ix3 b s k)) (fun l k => WA (ix2 l k)) (fun k j => WO (ix2 k j)) (fun j => G1 (ix3 b 0 j))

theorem v3 (b : Fin 4) (s : Fin 4096) (k : Fin 1024) : @Eq EReal (val_main_v3 O MC GA WA (ix3 b s k)) (MC (ix3 b s k) + GA (ix3 b s k) * ∑ l : Fin 512, O (ix3 b s l) * WA (ix2 l k)) := by
  unfold val_main_v3 val_main_v2 val_main_v1 val_main_v0
  pointwise

theorem v7 (b : Fin 4) (s : Fin 4096) (j : Fin 1024) : val_main_v7 O MC GA X WA WO G1 (ix3 b s j) = rowE O MC GA X WA WO G1 b s j := by
  unfold val_main_v7 val_main_v6 val_main_v5 val_main_v4
  pointwise
  simp only [v3]
  rfl

theorem v26 (b : Fin 4) (s : Fin 4096) (k : Fin 1024) : val_main_v26 O MC GA X WA WO G1 G SC SH (ix3 b s k)
    = norm (rowE O MC GA X WA WO G1 b s) (fun k => G (ix1 k)) (fun k => SC (ix3 b 0 k)) (fun k => SH (ix3 b 0 k)) k := by
  unfold val_main_v26 val_main_v25 val_main_v24 val_main_v23 val_main_v22 val_main_v21 val_main_cst_2 val_main_v20 val_main_v19 val_main_v18 val_main_v17 val_main_v16 val_main_v15 val_main_v14 val_main_v13 val_main_cst_1 val_main_v12 val_main_v11 val_main_cst_0 val_main_v10 val_main_v9 val_main_cst val_main_v8
  pointwise
  simp only [v7]
  rfl

theorem v29 (k : Fin 1024) (n : Fin 16384) : val_main_v29 O MC GA X WA WO G1 G SC SH (ix2 k n)
    = norm (rowE O MC GA X WA WO G1 ⟨n.val / 4096, by omega⟩ ⟨n.val % 4096, by omega⟩) (fun k => G (ix1 k)) (fun k => SC (ix3 ⟨n.val / 4096, by omega⟩ 0 k)) (fun k => SH (ix3 ⟨n.val / 4096, by omega⟩ 0 k)) k := by
  unfold val_main_v29 val_main_v28 val_main_v27
  pointwise
  exact v26 O MC GA X WA WO G1 G SC SH _ _ k

end Cert.MergeReferenceIdeal.Val

end
-- ==== Proof.MergeVal.lean ====
/- The merge's result arrays. -/
module

public import proofs.«01_k».proof.Proof.MergePay
public import proofs.«01_k».proof.Proof.MergeRef
public import proofs.«01_k».proof.Proof.Gen.MergeIdeal.Value

@[expose] public section

set_option maxRecDepth 16384

noncomputable section

namespace Cert.MergeIdeal.Val

open Idealize.ShloMosaic Idealize.ShloMosaic.TcCoe Idealize.SL.Sem Cert.MergeIdeal Cert.MergeIdeal.Gen Cert.MergeSpec

theorem n32 : cfg0.N = 32 := by decide +kernel

/-- The batch, the row and the row of the whole of a grid point's tile. -/
def tb (t : Fin cfg0.N) : Fin 4 := ⟨t.val / 8, by have h := t.isLt; have e := n32; omega⟩
def ts (t : Fin cfg0.N) (r : Fin 512) : Fin 4096 := ⟨512 * (t.val % 8) + r.val, by omega⟩
def tn (t : Fin cfg0.N) (r : Fin 512) : Fin 16384 := ⟨512 * t.val + r.val, by have h := t.isLt; have e := n32; omega⟩

theorem i0 : ∀ t : Fin cfg0.grid.N, win0_0.index t = ![t.val / 8, t.val % 8, 0] := by decide +kernel
theorem i1 : ∀ t : Fin cfg0.grid.N, win0_1.index t = ![t.val / 8, t.val % 8, 0] := by decide +kernel
theorem i2 : ∀ t : Fin cfg0.grid.N, win0_2.index t = ![t.val / 8, t.val % 8, 0] := by decide +kernel
theorem i3 : ∀ t : Fin cfg0.grid.N, win0_3.index t = ![t.val / 8, t.val % 8, 0] := by decide +kernel
theorem i10 : ∀ t : Fin cfg0.grid.N, win0_10.index t = ![t.val / 8, t.val % 8, 0] := by decide +kernel
theorem i6 : ∀ t : Fin cfg0.grid.N, win0_6.index t = ![t.val / 8, 0, 0] := by decide +kernel
theorem i8 : ∀ t : Fin cfg0.grid.N, win0_8.index t = ![t.val / 8, 0, 0] := by decide +kernel
theorem i9 : ∀ t : Fin cfg0.grid.N, win0_9.index t = ![t.val / 8, 0, 0] := by decide +kernel
theorem i4 : ∀ t : Fin cfg0.grid.N, win0_4.index t = ![0, 0] := by decide +kernel
theorem i5 : ∀ t : Fin cfg0.grid.N, win0_5.index t = ![0, 0] := by decide +kernel
theorem i7 : ∀ t : Fin cfg0.grid.N, win0_7.index t = ![0, 0] := by decide +kernel
theorem i11 : ∀ t : Fin cfg0.grid.N, win0_11.index t = ![0, t.val] := by decide +kernel

variable (m : (ℓ : Loc nD τ sig) → Buf (Elt Ideal) ℓ) (c : Dev nD)

section Host

variable (U : Valuation τ sig (Elt Ideal))

theorem v0 (l : Fin 512) (k : Fin 1024) : (StableHlo.after hostOps0 U (Proc.devRef .tc main_v0) : (⟨S512x1024, .bf16⟩ : BufTy).Contents (Elt Ideal)) (ix2 l k)
    = (U (Proc.devRef .tc main_arg4) : (⟨S512x1024, .f32⟩ : BufTy).Contents (Elt Ideal)) (ix2 l k) := by
  after_results_simp
  pointwise

theorem v1 (k j : Fin 1024) : (StableHlo.after hostOps0 U (Proc.devRef .tc main_v1) : (⟨S1024x1024, .bf16⟩ : BufTy).Contents (Elt Ideal)) (ix2 k j)
    = (U (Proc.devRef .tc main_arg5) : (⟨S1024x1024, .f32⟩ : BufTy).Contents (Elt Ideal)) (ix2 k j) := by
  after_results_simp
  pointwise

theorem v2 (k : Fin 1024) : (StableHlo.after hostOps0 U (Proc.devRef .tc main_v2) : (⟨S1x1024, .f32⟩ : BufTy).Contents (Elt Ideal)) (ix2 0 k)
    = (U (Proc.devRef .tc main_arg7) : (⟨S1024, .f32⟩ : BufTy).Contents (Elt Ideal)) (ix1 k) := by
  after_results_simp
  pointwise

end Host

theorem b0 (t : Fin cfg0.N) (r : Fin 512) (k : Fin 512) : iblk m c 0 t (ix3 0 r k) = (m ((c : Thread nD τ).loc main_arg0) : (⟨S4x4096x512, .bf16⟩ : BufTy).Contents (Elt Ideal)) (ix3 (tb t) (ts t r) k) := by
  rw [← V_main_arg0 m c]; blk_ext [iblk, i0 t, tb, ts]
theorem b1 (t : Fin cfg0.N) (r : Fin 512) (k : Fin 1024) : iblk m c 1 t (ix3 0 r k) = (m ((c : Thread nD τ).loc main_arg1) : (⟨S4x4096x1024, .f32⟩ : BufTy).Contents (Elt Ideal)) (ix3 (tb t) (ts t r) k) := by
  rw [← V_main_arg1 m c]; blk_ext [iblk, i1 t, tb, ts]
theorem b2 (t : Fin cfg0.N) (r : Fin 512) (k : Fin 1024) : iblk m c 2 t (ix3 0 r k) = (m ((c : Thread nD τ).loc main_arg2) : (⟨S4x4096x1024, .f32⟩ : BufTy).Contents (Elt Ideal)) (ix3 (tb t) (ts t r) k) := by
  rw [← V_main_arg2 m c]; blk_ext [iblk, i2 t, tb, ts]
theorem b3 (t : Fin cfg0.N) (r : Fin 512) (k : Fin 1024) : iblk m c 3 t (ix3 0 r k) = (m ((c : Thread nD τ).loc main_arg3) : (⟨S4x4096x1024, .f32⟩ : BufTy).Contents (Elt Ideal)) (ix3 (tb t) (ts t r) k) := by
  rw [← V_main_arg3 m c]; blk_ext [iblk, i3 t, tb, ts]
theorem b6 (t : Fin cfg0.N) (k : Fin 1024) : iblk m c 6 t (ix3 0 0 k) = (m ((c : Thread nD τ).loc main_arg6) : (⟨S4x1x1024, .f32⟩ : BufTy).Contents (Elt Ideal)) (ix3 (tb t) 0 k) := by
  rw [← V_main_arg6 m c]; blk_ext [iblk, i6 t, tb]
theorem b8 (t : Fin cfg0.N) (k : Fin 1024) : iblk m c 8 t (ix3 0 0 k) = (m ((c : Thread nD τ).loc main_arg8) : (⟨S4x1x1024, .f32⟩ : BufTy).Contents (Elt Ideal)) (ix3 (tb t) 0 k) := by
  rw [← V_main_arg8 m c]; blk_ext [iblk, i8 t, tb]
theorem b9 (t : Fin cfg0.N) (k : Fin 1024) : iblk m c 9 t (ix3 0 0 k) = (m ((c : Thread nD τ).loc main_arg9) : (⟨S4x1x1024, .f32⟩ : BufTy).Contents (Elt Ideal)) (ix3 (tb t) 0 k) := by
  rw [← V_main_arg9 m c]; blk_ext [iblk, i9 t, tb]
theorem b4 (t : Fin cfg0.N) (l : Fin 512) (k : Fin 1024) : iblk m c 4 t (ix2 l k) = (m ((c : Thread nD τ).loc main_arg4) : (⟨S512x1024, .f32⟩ : BufTy).Contents (Elt Ideal)) (ix2 l k) :=
  (by blk_ext [iblk, i4 t] : iblk m c 4 t (ix2 l k) = V m c main_v0 (ix2 l k)).trans (v0 _ l k)
theorem b5 (t : Fin cfg0.N) (k j : Fin 1024) : iblk m c 5 t (ix2 k j) = (m ((c : Thread nD τ).loc main_arg5) : (⟨S1024x1024, .f32⟩ : BufTy).Contents (Elt Ideal)) (ix2 k j) :=
  (by blk_ext [iblk, i5 t] : iblk m c 5 t (ix2 k j) = V m c main_v1 (ix2 k j)).trans (v1 _ k j)
theorem b7 (t : Fin cfg0.N) (k : Fin 1024) : iblk m c 7 t (ix2 0 k) = (m ((c : Thread nD τ).loc main_arg7) : (⟨S1024, .f32⟩ : BufTy).Contents (Elt Ideal)) (ix1 k) :=
  (by blk_ext [iblk, i7 t] : iblk m c 7 t (ix2 0 k) = V m c main_v2 (ix2 0 k)).trans (v2 _ k)

/-- A row after the residual, of the arguments. -/
def fullRow (b : Fin 4) (s : Fin 4096) : Fin 1024 → EReal :=
  Cert.MergeReferenceIdeal.Val.rowE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s

theorem rows (t : Fin cfg0.N) (r : Fin 512) :
    rowE (iblk m c 0 t) (iblk m c 4 t) (iblk m c 1 t) (iblk m c 2 t) (iblk m c 5 t) (iblk m c 3 t) (iblk m c 6 t) r = fullRow m c (tb t) (ts t r) := by
  unfold rowE fullRow Cert.MergeReferenceIdeal.Val.rowE
  simp only [b0, b1, b2, b3, b4, b5, b6]

theorem arrX : (dats m 0 c).arrAt 10 cfg0.N = (fun i => fullRow m c (i 0) (i 1) (i 2) : (⟨S4x4096x1024, .f32⟩ : BufTy).Contents (Elt Ideal)) := by
  refine (dats m 0 c).arrAt_eq_of_covers 10 _ (by decide +kernel) fun t hf y => ?_
  blk_simp
  obtain ⟨r, l, rfl⟩ := row y
  have ey : (win0_10.blk t).view.emb (ix3 0 r l) = ix3 (tb t) (ts t r) l := by blk_ext [iblk, i10 t, tb, ts]
  rw [after0_10, ey]
  refine (out10_apply _ _ _ _ _ _ _ _ _ _ r l).trans ?_
  rw [rows m c t r]
  rfl

/-- An entry of the row after the norm, of the arguments, the rows of all batches counted through. -/
def normE (k : Fin 1024) (n : Fin 16384) : EReal :=
  norm (fullRow m c ⟨n.val / 4096, by omega⟩ ⟨n.val % 4096, by omega⟩)
    (fun k => (m ((c : Thread nD τ).loc main_arg7) : (⟨S1024, .f32⟩ : BufTy).Contents (Elt Ideal)) (ix1 k)) (fun k => (m ((c : Thread nD τ).loc main_arg8) : (⟨S4x1x1024, .f32⟩ : BufTy).Contents (Elt Ideal)) (ix3 ⟨n.val / 4096, by omega⟩ 0 k))
    (fun k => (m ((c : Thread nD τ).loc main_arg9) : (⟨S4x1x1024, .f32⟩ : BufTy).Contents (Elt Ideal)) (ix3 ⟨n.val / 4096, by omega⟩ 0 k)) k

theorem normE_tile (t : Fin cfg0.N) (r : Fin 512) (k : Fin 1024) : normE m c k (tn t r) = norm (fullRow m c (tb t) (ts t r))
    (fun k => (m ((c : Thread nD τ).loc main_arg7) : (⟨S1024, .f32⟩ : BufTy).Contents (Elt Ideal)) (ix1 k)) (fun k => (m ((c : Thread nD τ).loc main_arg8) : (⟨S4x1x1024, .f32⟩ : BufTy).Contents (Elt Ideal)) (ix3 (tb t) 0 k)) (fun k => (m ((c : Thread nD τ).loc main_arg9) : (⟨S4x1x1024, .f32⟩ : BufTy).Contents (Elt Ideal)) (ix3 (tb t) 0 k)) k := by
  have hb : ∀ h, (⟨(tn t r).val / 4096, h⟩ : Fin 4) = tb t := fun h => Fin.ext (by show (512 * t.val + r.val) / 4096 = t.val / 8; omega)
  have hs : ∀ h, (⟨(tn t r).val % 4096, h⟩ : Fin 4096) = ts t r := fun h => Fin.ext (by show (512 * t.val + r.val) % 4096 = 512 * (t.val % 8) + r.val; omega)
  unfold normE
  simp only [hb, hs]

theorem arrH : (dats m 0 c).arrAt 11 cfg0.N = (fun i => normE m c (i 0) (i 1) : (⟨S1024x16384, .bf16⟩ : BufTy).Contents (Elt Ideal)) := by
  refine (dats m 0 c).arrAt_eq_of_covers 11 _ (by decide +kernel) fun t hf y => ?_
  blk_simp
  obtain ⟨k, r, rfl⟩ : ∃ k r, y = ix2 k r := ⟨y 0, y 1, eq_ix2 y⟩
  have ey : (win0_11.blk t).view.emb (ix2 k r) = ix2 k (tn t r) := by blk_ext [iblk, i11 t, tn]
  rw [after0_11, ey]
  refine (out11_apply _ _ _ _ _ _ _ _ _ _ k r).trans ?_
  rw [rows m c t r]
  simp only [b7, b8, b9]
  exact (normE_tile m c t r k).symm

open Cert.MergeReferenceIdeal.Read (val_main_v7 val_main_v29)

theorem residual : (dats m 0 c).arrAt 10 cfg0.N = (val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : (⟨S4x4096x1024, .f32⟩ : BufTy).Contents (Elt Ideal)) := by
  rw [arrX]
  funext i
  rw [eq_ix3 i]
  exact (Cert.MergeReferenceIdeal.Val.v7 _ _ _ _ _ _ _ _ _ _).symm

theorem normed : (dats m 0 c).arrAt 11 cfg0.N = (val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) : (⟨S1024x16384, .bf16⟩ : BufTy).Contents (Elt Ideal)) := by
  rw [arrH]
  funext i
  rw [eq_ix2 i]
  show normE m c (i 0) (i 1) = _
  exact (Cert.MergeReferenceIdeal.Val.v29 _ _ _ _ _ _ _ _ _ _ _ _).symm

end Cert.MergeIdeal.Val

end
-- ==== Proof.MergeClaims.lean ====
/- The merge's claims, one theorem each. -/
module

public import proofs.«01_k».proof.Defs
public import proofs.«01_k».proof.Proof.Gen.Merge.Frame
public import proofs.«01_k».proof.Proof.MergeVal

@[expose] public section

set_option maxRecDepth 16384

noncomputable section

namespace Cert.MergeClaims

open Idealize.ShloMosaic Idealize.ShloMosaic.TcCoe Idealize.SL.Sem

theorem frame_kernel : Cert.quiescent_Merge := fun m ρ _ => Cert.Merge.Gen.frame (F := Bits) m ρ

theorem frame_ideal : Cert.quiescent_MergeIdeal := fun m ρ _ => Cert.MergeIdeal.Gen.frame (F := Ideal) m ρ

theorem frame_reference : Cert.quiescent_MergeReferenceIdeal := fun m ρ _ =>
  (θ_run Cert.MergeReferenceIdeal.defs _ _).mono (fun r h => ⟨fun c => (h c).2.2, sem_eq_zero_of_no_sems (by decide) r.2⟩)
    (Cert.MergeReferenceIdeal.Value.run (F := Ideal) m ρ)

theorem preserves : Cert.preserves_Merge_MergeIdeal := trivial

open Cert.MergeReferenceIdeal.Read (val_main_v7 val_main_v29) in
/-- The reference's run, its results named. -/
theorem reference (m : (ℓ : Loc Cert.MergeReferenceIdeal.nD Cert.MergeReferenceIdeal.τ Cert.MergeReferenceIdeal.sig) → Buf (Elt Ideal) ℓ) (ρ : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, ρ⟩ (fun r => ∀ c : Dev Cert.MergeReferenceIdeal.nD,
      (r.2.mem ((c.tc : Thread Cert.MergeReferenceIdeal.nD Cert.MergeReferenceIdeal.τ).loc Cert.MergeReferenceIdeal.main_v7) = val_main_v7 (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6))
      ∧ r.2.mem ((c.tc : Thread Cert.MergeReferenceIdeal.nD Cert.MergeReferenceIdeal.τ).loc Cert.MergeReferenceIdeal.main_v29) = val_main_v29 (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)))
      ∧ r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)) :=
  (θ_run Cert.MergeReferenceIdeal.defs _ _).mono (fun r h c => ⟨⟨(h c).1.trans (Cert.MergeReferenceIdeal.Read.val_main_v7_eq _ _ _ _ _ _ _), (h c).2.1.trans (Cert.MergeReferenceIdeal.Read.val_main_v29_eq _ _ _ _ _ _ _ _ _ _)⟩, (h c).2.2⟩)
    (Cert.MergeReferenceIdeal.Value.run (F := Ideal) m ρ)

theorem same7 {A B C D E F G Z : Type} (f : A → B → C → D → E → F → G → Z) {a a' b b' c c' d d' e e' g g' h h'} (ha : a = a') (hb : b = b') (hc : c = c') (hd : d = d')
    (he : e = e') (hg : g = g') (hh : h = h') : f a b c d e g h = f a' b' c' d' e' g' h' := by
  subst ha hb hc hd he hg hh; rfl

theorem same10 {A B C D E F G H I J Z : Type} (f : A → B → C → D → E → F → G → H → I → J → Z) {a a' b b' c c' d d' e e' g g' h h' i i' j j' k k'} (ha : a = a') (hb : b = b') (hc : c = c')
    (hd : d = d') (he : e = e') (hg : g = g') (hh : h = h') (hi : i = i') (hj : j = j') (hk : k = k') : f a b c d e g h i j k = f a' b' c' d' e' g' h' i' j' k' := by
  subst ha hb hc hd he hg hh hi hj hk; rfl

/-- The kernel's two results and the reference's are one function of the arguments. -/
theorem algebraic : Cert.algebraic_MergeIdeal_MergeReferenceIdeal := by
  intro m ρ m' ρ' _ hagree
  refine ⟨fun c => (Cert.MergeIdeal.Gen.dats m 0 c).arrAt 10 Cert.MergeIdeal.cfg0.N, fun c => (Cert.MergeIdeal.Gen.dats m 0 c).arrAt 11 Cert.MergeIdeal.cfg0.N, ?_, ?_⟩
  · exact Cert.MergeIdeal.Value.run_blocks (F := Ideal) m ρ
  · refine (θ_run Cert.MergeReferenceIdeal.defs _ _).mono (fun r h c => ?_) (reference m' ρ')
    obtain ⟨⟨h0, h1⟩, hk⟩ := h c
    obtain ⟨e0, e1, e2, e3, e4, e5, e6, e7, e8, e9⟩ := hagree c
    exact ⟨h0.trans ((same7 (Cert.MergeReferenceIdeal.Read.val_main_v7 (F := Ideal)) e0 e1 e2 e3 e4 e5 e6).trans (Cert.MergeIdeal.Val.residual m c).symm),
      h1.trans ((same10 (Cert.MergeReferenceIdeal.Read.val_main_v29 (F := Ideal)) e0 e1 e2 e3 e4 e5 e6 e7 e8 e9).trans (Cert.MergeIdeal.Val.normed m c).symm), hk⟩

end Cert.MergeClaims

end
-- ==== Proof.ConvExt.lean ====
/- What the convolution kernel keeps in its scratch buffer of shifted copies. -/
module

public import proofs.«01_k».proof.Proof.Gen.ConvIdeal.Frame
public import Idealize.ShloMosaic.Lib.Pointwise
public import Idealize.ShloMosaic.Lib.Pipeline.ValueKit
public import Idealize.ShloMosaic.PureOps.Ideal.Laws

@[expose] public section

set_option maxRecDepth 16384

noncomputable section

namespace Cert.ConvIdeal.Val

open Idealize.ShloMosaic Idealize.ShloMosaic.TcCoe Idealize.SL.Sem Cert.ConvIdeal Cert.ConvIdeal.Gen Cert.ConvIdeal.Gen.kernelRun0_A.sl

/-- Row `r` of a tile, nothing past its end. -/
def at3 (x : Vec Ideal S1x512x512 .f32) (r : ℕ) (ch : Fin 512) : EReal := if h : r < 512 then x (ix3 0 ⟨r, h⟩ ch) else 0

/-- Row `j` of the tile with its halo of 32 rows, which is nothing before the first tile. -/
def ext0 (i1 : ℕ) (x0 x1 : Vec Ideal S1x512x512 .f32) (j : ℕ) (ch : Fin 512) : EReal :=
  if j < 32 then (if 0 < i1 then at3 x1 (480 + j) ch else 0) else at3 x0 (j - 32) ch

/-- The buffer: copy `s` is the tile with its halo shifted by `s` rows. -/
def G (i1 : ℕ) (x0 x1 : Vec Ideal S1x512x512 .f32) (y : S8x544x512.Idx) : EReal :=
  ext0 i1 x0 x1 ((y 0).val + (y 1).val) ⟨(y 2).val, (y 2).isLt⟩

/-- Where the first `k` shifted blocks reach. -/
def D (k : ℕ) (y : S8x544x512.Idx) : Prop := (y 0).val = 0 ∨ ((y 1).val < 536 ∧ 9 * ((y 0).val - 1) + (y 1).val / 64 < k)

theorem castcast {n : ℕ} (w : Vec Ideal ⟨3, ![1, n, 512]⟩ .f32) (h : (⟨3, ![1, n, 512]⟩ : Shape).ShapeCasts ⟨2, ![n, 512]⟩) (h' : (⟨2, ![n, 512]⟩ : Shape).ShapeCasts ⟨3, ![1, n, 512]⟩) :
    shapeCast ⟨3, ![1, n, 512]⟩ (shapeCast ⟨2, ![n, 512]⟩ w h) h' = w :=
  shapeCast_shapeCast w h h'

theorem idxv (off size : Fin S8x544x512.rank → ℕ) (inb : ∀ a, off a + size a ≤ S8x544x512.size a) (x : (Rect.unit off size inb).shape.Idx) (a : Fin S8x544x512.rank) :
    ((Rect.unit off size inb).idx x a).val = off a + (x a).val := Rect.idx_unit_val off size inb x a

theorem nm (R : Rect S8x544x512) (w : R.shape.Idx → Elt Ideal .f32) (L : List (View.Piece (Elt Ideal) S8x544x512 .f32)) (y : S8x544x512.Idx) (h : y ∉ R.set) :
    View.canon (⟨R, w⟩ :: L) y = View.canon L y :=
  View.canon_cons_of_not_mem ⟨R, w⟩ L h

theorem step (v : View sig .tc .vmem S8x544x512 .f32) (L : List (View.Piece (Elt Ideal) S8x544x512 .f32)) (i1 : ℕ) (x0 x1 : Vec Ideal S1x512x512 .f32)
    (m s q n : ℕ) (b : ℕ) (hs : 1 ≤ s) (hm : m = 9 * (s - 1) + q) (hn : n = 64 ∧ q < 8 ∨ n = 24 ∧ q = 8) (off : ℕ) (ho : off = 64 * q) (hb : b = off + s)
    (hL : ∀ y, D m y → View.canon L y = G i1 x0 x1 y) (inb) (inb')
    (h : (⟨3, ![1, n, 512]⟩ : Shape).ShapeCasts ⟨2, ![n, 512]⟩) (h' : (⟨2, ![n, 512]⟩ : Shape).ShapeCasts ⟨3, ![1, n, 512]⟩) (y : S8x544x512.Idx) (hy : D (m + 1) y) :
    View.canon (⟨Rect.unit (s := S8x544x512) ![s, off, 0] ![1, n, 512] inb,
      shapeCast ⟨3, ![1, n, 512]⟩ (shapeCast ⟨2, ![n, 512]⟩ (v.readCov L (Rect.unit (s := S8x544x512) ![0, b, 0] ![1, n, 512] inb').toLoadRect) h) h'⟩ :: L) y = G i1 x0 x1 y := by
  by_cases hmem : y ∈ (Rect.unit (s := S8x544x512) ![s, off, 0] ![1, n, 512] inb).set
  · obtain ⟨x, rfl⟩ := (Rect.unit (s := S8x544x512) ![s, off, 0] ![1, n, 512] inb).exists_idx_of_mem hmem
    refine (View.canon_cons_emb _ _ _ x).trans ?_
    have hx : (x 0).val < 1 := (x 0).isLt
    rw [castcast, View.readCov_eq_canon']
    refine (hL ((Rect.unit (s := S8x544x512) ![0, b, 0] ![1, n, 512] inb').idx x) (Or.inl ?_)).trans ?_
    · simp
    · unfold G
      have e0 : (((Rect.unit (s := S8x544x512) ![0, b, 0] ![1, n, 512] inb').idx x) 0).val = 0 + (x 0).val := idxv ![0, b, 0] ![1, n, 512] inb' x 0
      have e1 : (((Rect.unit (s := S8x544x512) ![0, b, 0] ![1, n, 512] inb').idx x) 1).val = b + (x 1).val := idxv ![0, b, 0] ![1, n, 512] inb' x 1
      have e2 : (((Rect.unit (s := S8x544x512) ![0, b, 0] ![1, n, 512] inb').idx x) 2).val = 0 + (x 2).val := idxv ![0, b, 0] ![1, n, 512] inb' x 2
      have f0 : (((Rect.unit (s := S8x544x512) ![s, off, 0] ![1, n, 512] inb).idx x) 0).val = s + (x 0).val := idxv ![s, off, 0] ![1, n, 512] inb x 0
      have f1 : (((Rect.unit (s := S8x544x512) ![s, off, 0] ![1, n, 512] inb).idx x) 1).val = off + (x 1).val := idxv ![s, off, 0] ![1, n, 512] inb x 1
      have f2 : (((Rect.unit (s := S8x544x512) ![s, off, 0] ![1, n, 512] inb).idx x) 2).val = 0 + (x 2).val := idxv ![s, off, 0] ![1, n, 512] inb x 2
      have ea : (((Rect.unit (s := S8x544x512) ![0, b, 0] ![1, n, 512] inb').idx x) 0).val + (((Rect.unit (s := S8x544x512) ![0, b, 0] ![1, n, 512] inb').idx x) 1).val
          = (((Rect.unit (s := S8x544x512) ![s, off, 0] ![1, n, 512] inb).idx x) 0).val + (((Rect.unit (s := S8x544x512) ![s, off, 0] ![1, n, 512] inb).idx x) 1).val := by omega
      exact congrArg₂ (ext0 i1 x0 x1) ea (Fin.ext (e2.trans f2.symm))
  · refine (nm _ _ _ _ hmem).trans ?_
    apply hL
    rw [Rect.mem_set_unit] at hmem
    rcases hy with hy | ⟨h1, h2⟩
    · exact Or.inl hy
    · by_cases h0 : (y 0).val = 0
      · exact Or.inl h0
      · refine Or.inr ⟨h1, ?_⟩
        by_contra hc
        apply hmem
        have h5 := (y 2).isLt
        have k0 : s ≤ (y 0).val ∧ (y 0).val < s + 1 := by omega
        have k1 : off ≤ (y 1).val ∧ (y 1).val < off + n := by omega
        have k2 : 0 ≤ (y 2).val ∧ (y 2).val < 0 + 512 := ⟨Nat.zero_le _, by simpa using h5⟩
        intro a
        match a with
        | 0 => exact k0
        | 1 => exact k1
        | 2 => exact k2

section

variable (c : Dev nD) (i : grid0.Coords) (arg2 : Memref sig .tc .vmem S1x512x512 .f32) (harg2 : arg2.IsWhole) (arg3 : Memref sig .tc .vmem S1x512x512 .f32) (harg3 : arg3.IsWhole)
  (arg11 : Memref sig .tc .vmem S8x544x512 .f32) (x0 x1 : Vec Ideal S1x512x512 .f32)

theorem pay2_apply (v : Vec Ideal S1x32x512 .f32) (r : Fin 32) (ch : Fin 512) :
    k0_pay2 i v (ix3 0 r ch) = if 0 < (i 1).val then v (ix3 0 r ch) else (0 : EReal) := by
  have hi : (i 1).val < 8 := (i 1).isLt
  have key : Scalar.cmpi .sgt (BitVec.ofNat 32 (i 1).val) 0#32 = if 0 < (i 1).val then 1#1 else 0#1 := by
    generalize (i 1).val = n at hi ⊢
    interval_cases n <;> decide
  unfold k0_pay2
  simp only [key]
  split <;> pointwise

theorem pay3_apply (v : Vec Ideal S1x512x512 .f32) (r : Fin 512) (ch : Fin 512) : k0_pay3 v (ix3 0 r ch) = v (ix3 0 r ch) := by
  unfold k0_pay3
  pointwise

theorem split3 {n : ℕ} (x : (⟨3, ![1, n, 512]⟩ : Shape).Idx) : ∃ (r : Fin n) (ch : Fin 512), x = ix3 0 r ch :=
  ⟨x 1, x 2, (eq_ix3 x).trans (congrArg (fun z => ix3 z (x 1) (x 2)) (Subsingleton.elim (α := Fin 1) (x 0) 0))⟩

theorem rd2 (a : Memref sig .tc .vmem S1x512x512 .f32) (ha : a.IsWhole) (x : Vec Ideal S1x512x512 .f32) (r : Fin 512) (ch : Fin 512) :
    View.readAt (Elt Ideal) a.view (Rect.unit ![0, 0, 0] S1x512x512.size inb_S1x512x512_S1x512x512_0_0_0).toLoadRect (ha.unread x) (ix3 0 r ch) = x (ix3 0 r ch) := by
  rw [View.readAt_apply, ha.read_unread]
  congr 1
  funext a
  apply Fin.ext
  match a with
  | 0 => exact (Rect.idx_unit_val _ _ _ _ 0).trans (Nat.zero_add _)
  | 1 => exact (Rect.idx_unit_val _ _ _ _ 1).trans (Nat.zero_add _)
  | 2 => exact (Rect.idx_unit_val _ _ _ _ 2).trans (Nat.zero_add _)

theorem rd3 (a : Memref sig .tc .vmem S1x512x512 .f32) (ha : a.IsWhole) (x : Vec Ideal S1x512x512 .f32) (r : Fin 32) (ch : Fin 512) :
    View.readAt (Elt Ideal) a.view (Rect.unit (s := S1x512x512) ![0, 480, 0] S1x32x512.size inb_S1x512x512_S1x32x512_0_480_0).toLoadRect (ha.unread x) (ix3 0 r ch) = x (ix3 0 ⟨480 + r.val, by omega⟩ ch) := by
  rw [View.readAt_apply, ha.read_unread]
  congr 1
  funext a
  apply Fin.ext
  match a with
  | 0 => exact (Rect.idx_unit_val _ _ _ _ 0).trans (Nat.zero_add _)
  | 1 => exact Rect.idx_unit_val _ _ _ _ 1
  | 2 => exact (Rect.idx_unit_val _ _ _ _ 2).trans (Nat.zero_add _)

theorem good2 (y : S8x544x512.Idx) (hy : D 0 y) : View.canon (HS0_2 (F := Ideal) c i arg2 harg2 arg3 harg3 x0 x1) y = G (i 1).val x0 x1 y := by
  have hy0 : (y 0).val = 0 := by
    rcases hy with h | h
    · exact h
    · omega
  have hy1 : (y 1).val < 544 := (y 1).isLt
  unfold HS0_2
  by_cases hm : y ∈ (Rect.unit (s := S8x544x512) ![0, 32, 0] S1x512x512.size inb_S8x544x512_S1x512x512_0_32_0).set
  · obtain ⟨x, rfl⟩ := (Rect.unit (s := S8x544x512) ![0, 32, 0] S1x512x512.size inb_S8x544x512_S1x512x512_0_32_0).exists_idx_of_mem hm
    refine (View.canon_cons_emb _ _ _ x).trans ?_
    obtain ⟨r, ch, rfl⟩ := split3 x
    refine (pay3_apply _ r ch).trans ((rd2 arg2 harg2 x0 r ch).trans ?_)
    have f0 : (((Rect.unit (s := S8x544x512) ![0, 32, 0] S1x512x512.size inb_S8x544x512_S1x512x512_0_32_0).idx (ix3 0 r ch)) 0).val = 0 + 0 := Rect.idx_unit_val _ _ _ _ 0
    have f1 : (((Rect.unit (s := S8x544x512) ![0, 32, 0] S1x512x512.size inb_S8x544x512_S1x512x512_0_32_0).idx (ix3 0 r ch)) 1).val = 32 + r.val := Rect.idx_unit_val _ _ _ _ 1
    have f2 : (((Rect.unit (s := S8x544x512) ![0, 32, 0] S1x512x512.size inb_S8x544x512_S1x512x512_0_32_0).idx (ix3 0 r ch)) 2).val = 0 + ch.val := Rect.idx_unit_val _ _ _ _ 2
    refine Eq.trans ?_ (congrArg₂ (ext0 (i 1).val x0 x1) (show 32 + r.val = (((Rect.unit (s := S8x544x512) ![0, 32, 0] S1x512x512.size inb_S8x544x512_S1x512x512_0_32_0).idx (ix3 0 r ch)) 0).val + (((Rect.unit (s := S8x544x512) ![0, 32, 0] S1x512x512.size inb_S8x544x512_S1x512x512_0_32_0).idx (ix3 0 r ch)) 1).val from by omega) (Fin.ext ((Nat.zero_add _).symm.trans f2.symm) : ch = _))
    unfold ext0 at3
    rw [if_neg (by omega), dif_pos (by omega)]
    congr 2
    exact Fin.ext (by simp)
  · refine (nm _ _ _ _ hm).trans ?_
    have hlt : (y 1).val < 32 := by
      by_contra hc
      apply hm
      rw [Rect.mem_set_unit]
      have k0 : 0 ≤ (y 0).val ∧ (y 0).val < 0 + 1 := by omega
      have k1 : 32 ≤ (y 1).val ∧ (y 1).val < 32 + 512 := by omega
      have k2 : 0 ≤ (y 2).val ∧ (y 2).val < 0 + 512 := ⟨Nat.zero_le _, by simpa using (y 2).isLt⟩
      intro a
      match a with
      | 0 => exact k0
      | 1 => exact k1
      | 2 => exact k2
    have hm' : y ∈ (Rect.unit (s := S8x544x512) ![0, 0, 0] S1x32x512.size inb_S8x544x512_S1x32x512_0_0_0).set := by
      rw [Rect.mem_set_unit]
      have k0 : 0 ≤ (y 0).val ∧ (y 0).val < 0 + 1 := by omega
      have k1 : 0 ≤ (y 1).val ∧ (y 1).val < 0 + 32 := by omega
      have k2 : 0 ≤ (y 2).val ∧ (y 2).val < 0 + 512 := ⟨Nat.zero_le _, by simpa using (y 2).isLt⟩
      intro a
      match a with
      | 0 => exact k0
      | 1 => exact k1
      | 2 => exact k2
    obtain ⟨x, rfl⟩ := (Rect.unit (s := S8x544x512) ![0, 0, 0] S1x32x512.size inb_S8x544x512_S1x32x512_0_0_0).exists_idx_of_mem hm'
    refine (View.canon_cons_emb _ _ _ x).trans ?_
    obtain ⟨r, ch, rfl⟩ := split3 x
    refine (pay2_apply i _ r ch).trans ?_
    rw [rd3 arg3 harg3 x1 r ch]
    have f0 : (((Rect.unit (s := S8x544x512) ![0, 0, 0] S1x32x512.size inb_S8x544x512_S1x32x512_0_0_0).idx (ix3 0 r ch)) 0).val = 0 + 0 := Rect.idx_unit_val _ _ _ _ 0
    have f1 : (((Rect.unit (s := S8x544x512) ![0, 0, 0] S1x32x512.size inb_S8x544x512_S1x32x512_0_0_0).idx (ix3 0 r ch)) 1).val = 0 + r.val := Rect.idx_unit_val _ _ _ _ 1
    have f2 : (((Rect.unit (s := S8x544x512) ![0, 0, 0] S1x32x512.size inb_S8x544x512_S1x32x512_0_0_0).idx (ix3 0 r ch)) 2).val = 0 + ch.val := Rect.idx_unit_val _ _ _ _ 2
    refine Eq.trans ?_ (congrArg₂ (ext0 (i 1).val x0 x1) (show r.val = (((Rect.unit (s := S8x544x512) ![0, 0, 0] S1x32x512.size inb_S8x544x512_S1x32x512_0_0_0).idx (ix3 0 r ch)) 0).val + (((Rect.unit (s := S8x544x512) ![0, 0, 0] S1x32x512.size inb_S8x544x512_S1x32x512_0_0_0).idx (ix3 0 r ch)) 1).val from by omega) (Fin.ext ((Nat.zero_add _).symm.trans f2.symm) : ch = _))
    unfold ext0 at3
    rw [if_pos r.isLt, dif_pos (by omega)]

theorem good3 (y : S8x544x512.Idx) (hy : D 1 y) : View.canon (HS0_3 (F := Ideal) c i arg2 harg2 arg3 harg3 arg11 x0 x1) y = G (i 1).val x0 x1 y :=
  step arg11.view _ (i 1).val x0 x1 0 1 0 64 1 (by decide) (by decide) (by decide) 0 (by decide) (by decide) (good2 c i arg2 harg2 arg3 harg3 x0 x1) _ _ shapeCasts_S1x64x512_S64x512 shapeCasts_S64x512_S1x64x512 y hy

theorem good4 (y : S8x544x512.Idx) (hy : D 2 y) : View.canon (HS0_4 (F := Ideal) c i arg2 harg2 arg3 harg3 arg11 x0 x1) y = G (i 1).val x0 x1 y :=
  step arg11.view _ (i 1).val x0 x1 1 1 1 64 65 (by decide) (by decide) (by decide) 64 (by decide) (by decide) (good3 c i arg2 harg2 arg3 harg3 arg11 x0 x1) _ _ shapeCasts_S1x64x512_S64x512 shapeCasts_S64x512_S1x64x512 y hy

theorem good5 (y : S8x544x512.Idx) (hy : D 3 y) : View.canon (HS0_5 (F := Ideal) c i arg2 harg2 arg3 harg3 arg11 x0 x1) y = G (i 1).val x0 x1 y :=
  step arg11.view _ (i 1).val x0 x1 2 1 2 64 129 (by decide) (by decide) (by decide) 128 (by decide) (by decide) (good4 c i arg2 harg2 arg3 harg3 arg11 x0 x1) _ _ shapeCasts_S1x64x512_S64x512 shapeCasts_S64x512_S1x64x512 y hy

theorem good6 (y : S8x544x512.Idx) (hy : D 4 y) : View.canon (HS0_6 (F := Ideal) c i arg2 harg2 arg3 harg3 arg11 x0 x1) y = G (i 1).val x0 x1 y :=
  step arg11.view _ (i 1).val x0 x1 3 1 3 64 193 (by decide) (by decide) (by decide) 192 (by decide) (by decide) (good5 c i arg2 harg2 arg3 harg3 arg11 x0 x1) _ _ shapeCasts_S1x64x512_S64x512 shapeCasts_S64x512_S1x64x512 y hy

theorem good7 (y : S8x544x512.Idx) (hy : D 5 y) : View.canon (HS0_7 (F := Ideal) c i arg2 harg2 arg3 harg3 arg11 x0 x1) y = G (i 1).val x0 x1 y :=
  step arg11.view _ (i 1).val x0 x1 4 1 4 64 257 (by decide) (by decide) (by decide) 256 (by decide) (by decide) (good6 c i arg2 harg2 arg3 harg3 arg11 x0 x1) _ _ shapeCasts_S1x64x512_S64x512 shapeCasts_S64x512_S1x64x512 y hy

theorem good8 (y : S8x544x512.Idx) (hy : D 6 y) : View.canon (HS0_8 (F := Ideal) c i arg2 harg2 arg3 harg3 arg11 x0 x1) y = G (i 1).val x0 x1 y :=
  step arg11.view _ (i 1).val x0 x1 5 1 5 64 321 (by decide) (by decide) (by decide) 320 (by decide) (by decide) (good7 c i arg2 harg2 arg3 harg3 arg11 x0 x1) _ _ shapeCasts_S1x64x512_S64x512 shapeCasts_S64x512_S1x64x512 y hy

theorem good9 (y : S8x544x512.Idx) (hy : D 7 y) : View.canon (HS0_9 (F := Ideal) c i arg2 harg2 arg3 harg3 arg11 x0 x1) y = G (i 1).val x0 x1 y :=
  step arg11.view _ (i 1).val x0 x1 6 1 6 64 385 (by decide) (by decide) (by decide) 384 (by decide) (by decide) (good8 c i arg2 harg2 arg3 harg3 arg11 x0 x1) _ _ shapeCasts_S1x64x512_S64x512 shapeCasts_S64x512_S1x64x512 y hy

theorem good10 (y : S8x544x512.Idx) (hy : D 8 y) : View.canon (HS0_10 (F := Ideal) c i arg2 harg2 arg3 harg3 arg11 x0 x1) y = G (i 1).val x0 x1 y :=
  step arg11.view _ (i 1).val x0 x1 7 1 7 64 449 (by decide) (by decide) (by decide) 448 (by decide) (by decide) (good9 c i arg2 harg2 arg3 harg3 arg11 x0 x1) _ _ shapeCasts_S1x64x512_S64x512 shapeCasts_S64x512_S1x64x512 y hy

theorem good11 (y : S8x544x512.Idx) (hy : D 9 y) : View.canon (HS0_11 (F := Ideal) c i arg2 harg2 arg3 harg3 arg11 x0 x1) y = G (i 1).val x0 x1 y :=
  step arg11.view _ (i 1).val x0 x1 8 1 8 24 513 (by decide) (by decide) (by decide) 512 (by decide) (by decide) (good10 c i arg2 harg2 arg3 harg3 arg11 x0 x1) _ _ shapeCasts_S1x24x512_S24x512 shapeCasts_S24x512_S1x24x512 y hy

theorem good12 (y : S8x544x512.Idx) (hy : D 10 y) : View.canon (HS0_12 (F := Ideal) c i arg2 harg2 arg3 harg3 arg11 x0 x1) y = G (i 1).val x0 x1 y :=
  step arg11.view _ (i 1).val x0 x1 9 2 0 64 2 (by decide) (by decide) (by decide) 0 (by decide) (by decide) (good11 c i arg2 harg2 arg3 harg3 arg11 x0 x1) _ _ shapeCasts_S1x64x512_S64x512 shapeCasts_S64x512_S1x64x512 y hy

theorem good13 (y : S8x544x512.Idx) (hy : D 11 y) : View.canon (HS0_13 (F := Ideal) c i arg2 harg2 arg3 harg3 arg11 x0 x1) y = G (i 1).val x0 x1 y :=
  step arg11.view _ (i 1).val x0 x1 10 2 1 64 66 (by decide) (by decide) (by decide) 64 (by decide) (by decide) (good12 c i arg2 harg2 arg3 harg3 arg11 x0 x1) _ _ shapeCasts_S1x64x512_S64x512 shapeCasts_S64x512_S1x64x512 y hy

theorem good14 (y : S8x544x512.Idx) (hy : D 12 y) : View.canon (HS0_14 (F := Ideal) c i arg2 harg2 arg3 harg3 arg11 x0 x1) y = G (i 1).val x0 x1 y :=
  step arg11.view _ (i 1).val x0 x1 11 2 2 64 130 (by decide) (by decide) (by decide) 128 (by decide) (by decide) (good13 c i arg2 harg2 arg3 harg3 arg11 x0 x1) _ _ shapeCasts_S1x64x512_S64x512 shapeCasts_S64x512_S1x64x512 y hy

theorem good15 (y : S8x544x512.Idx) (hy : D 13 y) : View.canon (HS0_15 (F := Ideal) c i arg2 harg2 arg3 harg3 arg11 x0 x1) y = G (i 1).val x0 x1 y :=
  step arg11.view _ (i 1).val x0 x1 12 2 3 64 194 (by decide) (by decide) (by decide) 192 (by decide) (by decide) (good14 c i arg2 harg2 arg3 harg3 arg11 x0 x1) _ _ shapeCasts_S1x64x512_S64x512 shapeCasts_S64x512_S1x64x512 y hy

theorem good16 (y : S8x544x512.Idx) (hy : D 14 y) : View.canon (HS0_16 (F := Ideal) c i arg2 harg2 arg3 harg3 arg11 x0 x1) y = G (i 1).val x0 x1 y :=
  step arg11.view _ (i 1).val x0 x1 13 2 4 64 258 (by decide) (by decide) (by decide) 256 (by decide) (by decide) (good15 c i arg2 harg2 arg3 harg3 arg11 x0 x1) _ _ shapeCasts_S1x64x512_S64x512 shapeCasts_S64x512_S1x64x512 y hy

theorem good17 (y : S8x544x512.Idx) (hy : D 15 y) : View.canon (HS0_17 (F := Ideal) c i arg2 harg2 arg3 harg3 arg11 x0 x1) y = G (i 1).val x0 x1 y :=
  step arg11.view _ (i 1).val x0 x1 14 2 5 64 322 (by decide) (by decide) (by decide) 320 (by decide) (by decide) (good16 c i arg2 harg2 arg3 harg3 arg11 x0 x1) _ _ shapeCasts_S1x64x512_S64x512 shapeCasts_S64x512_S1x64x512 y hy

theorem good18 (y : S8x544x512.Idx) (hy : D 16 y) : View.canon (HS0_18 (F := Ideal) c i arg2 harg2 arg3 harg3 arg11 x0 x1) y = G (i 1).val x0 x1 y :=
  step arg11.view _ (i 1).val x0 x1 15 2 6 64 386 (by decide) (by decide) (by decide) 384 (by decide) (by decide) (good17 c i arg2 harg2 arg3 harg3 arg11 x0 x1) _ _ shapeCasts_S1x64x512_S64x512 shapeCasts_S64x512_S1x64x512 y hy

theorem good19 (y : S8x544x512.Idx) (hy : D 17 y) : View.canon (HS0_19 (F := Ideal) c i arg2 harg2 arg3 harg3 arg11 x0 x1) y = G (i 1).val x0 x1 y :=
  step arg11.view _ (i 1).val x0 x1 16 2 7 64 450 (by decide) (by decide) (by decide) 448 (by decide) (by decide) (good18 c i arg2 harg2 arg3 harg3 arg11 x0 x1) _ _ shapeCasts_S1x64x512_S64x512 shapeCasts_S64x512_S1x64x512 y hy

theorem good20 (y : S8x544x512.Idx) (hy : D 18 y) : View.canon (HS0_20 (F := Ideal) c i arg2 harg2 arg3 harg3 arg11 x0 x1) y = G (i 1).val x0 x1 y :=
  step arg11.view _ (i 1).val x0 x1 17 2 8 24 514 (by decide) (by decide) (by decide) 512 (by decide) (by decide) (good19 c i arg2 harg2 arg3 harg3 arg11 x0 x1) _ _ shapeCasts_S1x24x512_S24x512 shapeCasts_S24x512_S1x24x512 y hy

theorem good21 (y : S8x544x512.Idx) (hy : D 19 y) : View.canon (HS0_21 (F := Ideal) c i arg2 harg2 arg3 harg3 arg11 x0 x1) y = G (i 1).val x0 x1 y :=
  step arg11.view _ (i 1).val x0 x1 18 3 0 64 3 (by decide) (by decide) (by decide) 0 (by decide) (by decide) (good20 c i arg2 harg2 arg3 harg3 arg11 x0 x1) _ _ shapeCasts_S1x64x512_S64x512 shapeCasts_S64x512_S1x64x512 y hy

theorem good22 (y : S8x544x512.Idx) (hy : D 20 y) : View.canon (HS0_22 (F := Ideal) c i arg2 harg2 arg3 harg3 arg11 x0 x1) y = G (i 1).val x0 x1 y :=
  step arg11.view _ (i 1).val x0 x1 19 3 1 64 67 (by decide) (by decide) (by decide) 64 (by decide) (by decide) (good21 c i arg2 harg2 arg3 harg3 arg11 x0 x1) _ _ shapeCasts_S1x64x512_S64x512 shapeCasts_S64x512_S1x64x512 y hy

theorem good23 (y : S8x544x512.Idx) (hy : D 21 y) : View.canon (HS0_23 (F := Ideal) c i arg2 harg2 arg3 harg3 arg11 x0 x1) y = G (i 1).val x0 x1 y :=
  step arg11.view _ (i 1).val x0 x1 20 3 2 64 131 (by decide) (by decide) (by decide) 128 (by decide) (by decide) (good22 c i arg2 harg2 arg3 harg3 arg11 x0 x1) _ _ shapeCasts_S1x64x512_S64x512 shapeCasts_S64x512_S1x64x512 y hy

theorem good24 (y : S8x544x512.Idx) (hy : D 22 y) : View.canon (HS0_24 (F := Ideal) c i arg2 harg2 arg3 harg3 arg11 x0 x1) y = G (i 1).val x0 x1 y :=
  step arg11.view _ (i 1).val x0 x1 21 3 3 64 195 (by decide) (by decide) (by decide) 192 (by decide) (by decide) (good23 c i arg2 harg2 arg3 harg3 arg11 x0 x1) _ _ shapeCasts_S1x64x512_S64x512 shapeCasts_S64x512_S1x64x512 y hy

theorem good25 (y : S8x544x512.Idx) (hy : D 23 y) : View.canon (HS0_25 (F := Ideal) c i arg2 harg2 arg3 harg3 arg11 x0 x1) y = G (i 1).val x0 x1 y :=
  step arg11.view _ (i 1).val x0 x1 22 3 4 64 259 (by decide) (by decide) (by decide) 256 (by decide) (by decide) (good24 c i arg2 harg2 arg3 harg3 arg11 x0 x1) _ _ shapeCasts_S1x64x512_S64x512 shapeCasts_S64x512_S1x64x512 y hy

theorem good26 (y : S8x544x512.Idx) (hy : D 24 y) : View.canon (HS0_26 (F := Ideal) c i arg2 harg2 arg3 harg3 arg11 x0 x1) y = G (i 1).val x0 x1 y :=
  step arg11.view _ (i 1).val x0 x1 23 3 5 64 323 (by decide) (by decide) (by decide) 320 (by decide) (by decide) (good25 c i arg2 harg2 arg3 harg3 arg11 x0 x1) _ _ shapeCasts_S1x64x512_S64x512 shapeCasts_S64x512_S1x64x512 y hy

theorem good27 (y : S8x544x512.Idx) (hy : D 25 y) : View.canon (HS0_27 (F := Ideal) c i arg2 harg2 arg3 harg3 arg11 x0 x1) y = G (i 1).val x0 x1 y :=
  step arg11.view _ (i 1).val x0 x1 24 3 6 64 387 (by decide) (by decide) (by decide) 384 (by decide) (by decide) (good26 c i arg2 harg2 arg3 harg3 arg11 x0 x1) _ _ shapeCasts_S1x64x512_S64x512 shapeCasts_S64x512_S1x64x512 y hy

theorem good28 (y : S8x544x512.Idx) (hy : D 26 y) : View.canon (HS0_28 (F := Ideal) c i arg2 harg2 arg3 harg3 arg11 x0 x1) y = G (i 1).val x0 x1 y :=
  step arg11.view _ (i 1).val x0 x1 25 3 7 64 451 (by decide) (by decide) (by decide) 448 (by decide) (by decide) (good27 c i arg2 harg2 arg3 harg3 arg11 x0 x1) _ _ shapeCasts_S1x64x512_S64x512 shapeCasts_S64x512_S1x64x512 y hy

theorem good29 (y : S8x544x512.Idx) (hy : D 27 y) : View.canon (HS0_29 (F := Ideal) c i arg2 harg2 arg3 harg3 arg11 x0 x1) y = G (i 1).val x0 x1 y :=
  step arg11.view _ (i 1).val x0 x1 26 3 8 24 515 (by decide) (by decide) (by decide) 512 (by decide) (by decide) (good28 c i arg2 harg2 arg3 harg3 arg11 x0 x1) _ _ shapeCasts_S1x24x512_S24x512 shapeCasts_S24x512_S1x24x512 y hy

theorem good30 (y : S8x544x512.Idx) (hy : D 28 y) : View.canon (HS0_30 (F := Ideal) c i arg2 harg2 arg3 harg3 arg11 x0 x1) y = G (i 1).val x0 x1 y :=
  step arg11.view _ (i 1).val x0 x1 27 4 0 64 4 (by decide) (by decide) (by decide) 0 (by decide) (by decide) (good29 c i arg2 harg2 arg3 harg3 arg11 x0 x1) _ _ shapeCasts_S1x64x512_S64x512 shapeCasts_S64x512_S1x64x512 y hy

theorem good31 (y : S8x544x512.Idx) (hy : D 29 y) : View.canon (HS0_31 (F := Ideal) c i arg2 harg2 arg3 harg3 arg11 x0 x1) y = G (i 1).val x0 x1 y :=
  step arg11.view _ (i 1).val x0 x1 28 4 1 64 68 (by decide) (by decide) (by decide) 64 (by decide) (by decide) (good30 c i arg2 harg2 arg3 harg3 arg11 x0 x1) _ _ shapeCasts_S1x64x512_S64x512 shapeCasts_S64x512_S1x64x512 y hy

theorem good32 (y : S8x544x512.Idx) (hy : D 30 y) : View.canon (HS0_32 (F := Ideal) c i arg2 harg2 arg3 harg3 arg11 x0 x1) y = G (i 1).val x0 x1 y :=
  step arg11.view _ (i 1).val x0 x1 29 4 2 64 132 (by decide) (by decide) (by decide) 128 (by decide) (by decide) (good31 c i arg2 harg2 arg3 harg3 arg11 x0 x1) _ _ shapeCasts_S1x64x512_S64x512 shapeCasts_S64x512_S1x64x512 y hy

theorem good33 (y : S8x544x512.Idx) (hy : D 31 y) : View.canon (HS0_33 (F := Ideal) c i arg2 harg2 arg3 harg3 arg11 x0 x1) y = G (i 1).val x0 x1 y :=
  step arg11.view _ (i 1).val x0 x1 30 4 3 64 196 (by decide) (by decide) (by decide) 192 (by decide) (by decide) (good32 c i arg2 harg2 arg3 harg3 arg11 x0 x1) _ _ shapeCasts_S1x64x512_S64x512 shapeCasts_S64x512_S1x64x512 y hy

theorem good34 (y : S8x544x512.Idx) (hy : D 32 y) : View.canon (HS0_34 (F := Ideal) c i arg2 harg2 arg3 harg3 arg11 x0 x1) y = G (i 1).val x0 x1 y :=
  step arg11.view _ (i 1).val x0 x1 31 4 4 64 260 (by decide) (by decide) (by decide) 256 (by decide) (by decide) (good33 c i arg2 harg2 arg3 harg3 arg11 x0 x1) _ _ shapeCasts_S1x64x512_S64x512 shapeCasts_S64x512_S1x64x512 y hy

theorem good35 (y : S8x544x512.Idx) (hy : D 33 y) : View.canon (HS0_35 (F := Ideal) c i arg2 harg2 arg3 harg3 arg11 x0 x1) y = G (i 1).val x0 x1 y :=
  step arg11.view _ (i 1).val x0 x1 32 4 5 64 324 (by decide) (by decide) (by decide) 320 (by decide) (by decide) (good34 c i arg2 harg2 arg3 harg3 arg11 x0 x1) _ _ shapeCasts_S1x64x512_S64x512 shapeCasts_S64x512_S1x64x512 y hy

theorem good36 (y : S8x544x512.Idx) (hy : D 34 y) : View.canon (HS0_36 (F := Ideal) c i arg2 harg2 arg3 harg3 arg11 x0 x1) y = G (i 1).val x0 x1 y :=
  step arg11.view _ (i 1).val x0 x1 33 4 6 64 388 (by decide) (by decide) (by decide) 384 (by decide) (by decide) (good35 c i arg2 harg2 arg3 harg3 arg11 x0 x1) _ _ shapeCasts_S1x64x512_S64x512 shapeCasts_S64x512_S1x64x512 y hy

theorem good37 (y : S8x544x512.Idx) (hy : D 35 y) : View.canon (HS0_37 (F := Ideal) c i arg2 harg2 arg3 harg3 arg11 x0 x1) y = G (i 1).val x0 x1 y :=
  step arg11.view _ (i 1).val x0 x1 34 4 7 64 452 (by decide) (by decide) (by decide) 448 (by decide) (by decide) (good36 c i arg2 harg2 arg3 harg3 arg11 x0 x1) _ _ shapeCasts_S1x64x512_S64x512 shapeCasts_S64x512_S1x64x512 y hy

theorem good38 (y : S8x544x512.Idx) (hy : D 36 y) : View.canon (HS0_38 (F := Ideal) c i arg2 harg2 arg3 harg3 arg11 x0 x1) y = G (i 1).val x0 x1 y :=
  step arg11.view _ (i 1).val x0 x1 35 4 8 24 516 (by decide) (by decide) (by decide) 512 (by decide) (by decide) (good37 c i arg2 harg2 arg3 harg3 arg11 x0 x1) _ _ shapeCasts_S1x24x512_S24x512 shapeCasts_S24x512_S1x24x512 y hy

theorem good39 (y : S8x544x512.Idx) (hy : D 37 y) : View.canon (HS0_39 (F := Ideal) c i arg2 harg2 arg3 harg3 arg11 x0 x1) y = G (i 1).val x0 x1 y :=
  step arg11.view _ (i 1).val x0 x1 36 5 0 64 5 (by decide) (by decide) (by decide) 0 (by decide) (by decide) (good38 c i arg2 harg2 arg3 harg3 arg11 x0 x1) _ _ shapeCasts_S1x64x512_S64x512 shapeCasts_S64x512_S1x64x512 y hy

theorem good40 (y : S8x544x512.Idx) (hy : D 38 y) : View.canon (HS0_40 (F := Ideal) c i arg2 harg2 arg3 harg3 arg11 x0 x1) y = G (i 1).val x0 x1 y :=
  step arg11.view _ (i 1).val x0 x1 37 5 1 64 69 (by decide) (by decide) (by decide) 64 (by decide) (by decide) (good39 c i arg2 harg2 arg3 harg3 arg11 x0 x1) _ _ shapeCasts_S1x64x512_S64x512 shapeCasts_S64x512_S1x64x512 y hy

theorem good41 (y : S8x544x512.Idx) (hy : D 39 y) : View.canon (HS0_41 (F := Ideal) c i arg2 harg2 arg3 harg3 arg11 x0 x1) y = G (i 1).val x0 x1 y :=
  step arg11.view _ (i 1).val x0 x1 38 5 2 64 133 (by decide) (by decide) (by decide) 128 (by decide) (by decide) (good40 c i arg2 harg2 arg3 harg3 arg11 x0 x1) _ _ shapeCasts_S1x64x512_S64x512 shapeCasts_S64x512_S1x64x512 y hy

theorem good42 (y : S8x544x512.Idx) (hy : D 40 y) : View.canon (HS0_42 (F := Ideal) c i arg2 harg2 arg3 harg3 arg11 x0 x1) y = G (i 1).val x0 x1 y :=
  step arg11.view _ (i 1).val x0 x1 39 5 3 64 197 (by decide) (by decide) (by decide) 192 (by decide) (by decide) (good41 c i arg2 harg2 arg3 harg3 arg11 x0 x1) _ _ shapeCasts_S1x64x512_S64x512 shapeCasts_S64x512_S1x64x512 y hy

theorem good43 (y : S8x544x512.Idx) (hy : D 41 y) : View.canon (HS0_43 (F := Ideal) c i arg2 harg2 arg3 harg3 arg11 x0 x1) y = G (i 1).val x0 x1 y :=
  step arg11.view _ (i 1).val x0 x1 40 5 4 64 261 (by decide) (by decide) (by decide) 256 (by decide) (by decide) (good42 c i arg2 harg2 arg3 harg3 arg11 x0 x1) _ _ shapeCasts_S1x64x512_S64x512 shapeCasts_S64x512_S1x64x512 y hy

theorem good44 (y : S8x544x512.Idx) (hy : D 42 y) : View.canon (HS0_44 (F := Ideal) c i arg2 harg2 arg3 harg3 arg11 x0 x1) y = G (i 1).val x0 x1 y :=
  step arg11.view _ (i 1).val x0 x1 41 5 5 64 325 (by decide) (by decide) (by decide) 320 (by decide) (by decide) (good43 c i arg2 harg2 arg3 harg3 arg11 x0 x1) _ _ shapeCasts_S1x64x512_S64x512 shapeCasts_S64x512_S1x64x512 y hy

theorem good45 (y : S8x544x512.Idx) (hy : D 43 y) : View.canon (HS0_45 (F := Ideal) c i arg2 harg2 arg3 harg3 arg11 x0 x1) y = G (i 1).val x0 x1 y :=
  step arg11.view _ (i 1).val x0 x1 42 5 6 64 389 (by decide) (by decide) (by decide) 384 (by decide) (by decide) (good44 c i arg2 harg2 arg3 harg3 arg11 x0 x1) _ _ shapeCasts_S1x64x512_S64x512 shapeCasts_S64x512_S1x64x512 y hy

theorem good46 (y : S8x544x512.Idx) (hy : D 44 y) : View.canon (HS0_46 (F := Ideal) c i arg2 harg2 arg3 harg3 arg11 x0 x1) y = G (i 1).val x0 x1 y :=
  step arg11.view _ (i 1).val x0 x1 43 5 7 64 453 (by decide) (by decide) (by decide) 448 (by decide) (by decide) (good45 c i arg2 harg2 arg3 harg3 arg11 x0 x1) _ _ shapeCasts_S1x64x512_S64x512 shapeCasts_S64x512_S1x64x512 y hy

theorem good47 (y : S8x544x512.Idx) (hy : D 45 y) : View.canon (HS0_47 (F := Ideal) c i arg2 harg2 arg3 harg3 arg11 x0 x1) y = G (i 1).val x0 x1 y :=
  step arg11.view _ (i 1).val x0 x1 44 5 8 24 517 (by decide) (by decide) (by decide) 512 (by decide) (by decide) (good46 c i arg2 harg2 arg3 harg3 arg11 x0 x1) _ _ shapeCasts_S1x24x512_S24x512 shapeCasts_S24x512_S1x24x512 y hy

theorem good48 (y : S8x544x512.Idx) (hy : D 46 y) : View.canon (HS0_48 (F := Ideal) c i arg2 harg2 arg3 harg3 arg11 x0 x1) y = G (i 1).val x0 x1 y :=
  step arg11.view _ (i 1).val x0 x1 45 6 0 64 6 (by decide) (by decide) (by decide) 0 (by decide) (by decide) (good47 c i arg2 harg2 arg3 harg3 arg11 x0 x1) _ _ shapeCasts_S1x64x512_S64x512 shapeCasts_S64x512_S1x64x512 y hy

theorem good49 (y : S8x544x512.Idx) (hy : D 47 y) : View.canon (HS0_49 (F := Ideal) c i arg2 harg2 arg3 harg3 arg11 x0 x1) y = G (i 1).val x0 x1 y :=
  step arg11.view _ (i 1).val x0 x1 46 6 1 64 70 (by decide) (by decide) (by decide) 64 (by decide) (by decide) (good48 c i arg2 harg2 arg3 harg3 arg11 x0 x1) _ _ shapeCasts_S1x64x512_S64x512 shapeCasts_S64x512_S1x64x512 y hy

theorem good50 (y : S8x544x512.Idx) (hy : D 48 y) : View.canon (HS0_50 (F := Ideal) c i arg2 harg2 arg3 harg3 arg11 x0 x1) y = G (i 1).val x0 x1 y :=
  step arg11.view _ (i 1).val x0 x1 47 6 2 64 134 (by decide) (by decide) (by decide) 128 (by decide) (by decide) (good49 c i arg2 harg2 arg3 harg3 arg11 x0 x1) _ _ shapeCasts_S1x64x512_S64x512 shapeCasts_S64x512_S1x64x512 y hy

theorem good51 (y : S8x544x512.Idx) (hy : D 49 y) : View.canon (HS0_51 (F := Ideal) c i arg2 harg2 arg3 harg3 arg11 x0 x1) y = G (i 1).val x0 x1 y :=
  step arg11.view _ (i 1).val x0 x1 48 6 3 64 198 (by decide) (by decide) (by decide) 192 (by decide) (by decide) (good50 c i arg2 harg2 arg3 harg3 arg11 x0 x1) _ _ shapeCasts_S1x64x512_S64x512 shapeCasts_S64x512_S1x64x512 y hy

theorem good52 (y : S8x544x512.Idx) (hy : D 50 y) : View.canon (HS0_52 (F := Ideal) c i arg2 harg2 arg3 harg3 arg11 x0 x1) y = G (i 1).val x0 x1 y :=
  step arg11.view _ (i 1).val x0 x1 49 6 4 64 262 (by decide) (by decide) (by decide) 256 (by decide) (by decide) (good51 c i arg2 harg2 arg3 harg3 arg11 x0 x1) _ _ shapeCasts_S1x64x512_S64x512 shapeCasts_S64x512_S1x64x512 y hy

theorem good53 (y : S8x544x512.Idx) (hy : D 51 y) : View.canon (HS0_53 (F := Ideal) c i arg2 harg2 arg3 harg3 arg11 x0 x1) y = G (i 1).val x0 x1 y :=
  step arg11.view _ (i 1).val x0 x1 50 6 5 64 326 (by decide) (by decide) (by decide) 320 (by decide) (by decide) (good52 c i arg2 harg2 arg3 harg3 arg11 x0 x1) _ _ shapeCasts_S1x64x512_S64x512 shapeCasts_S64x512_S1x64x512 y hy

theorem good54 (y : S8x544x512.Idx) (hy : D 52 y) : View.canon (HS0_54 (F := Ideal) c i arg2 harg2 arg3 harg3 arg11 x0 x1) y = G (i 1).val x0 x1 y :=
  step arg11.view _ (i 1).val x0 x1 51 6 6 64 390 (by decide) (by decide) (by decide) 384 (by decide) (by decide) (good53 c i arg2 harg2 arg3 harg3 arg11 x0 x1) _ _ shapeCasts_S1x64x512_S64x512 shapeCasts_S64x512_S1x64x512 y hy

theorem good55 (y : S8x544x512.Idx) (hy : D 53 y) : View.canon (HS0_55 (F := Ideal) c i arg2 harg2 arg3 harg3 arg11 x0 x1) y = G (i 1).val x0 x1 y :=
  step arg11.view _ (i 1).val x0 x1 52 6 7 64 454 (by decide) (by decide) (by decide) 448 (by decide) (by decide) (good54 c i arg2 harg2 arg3 harg3 arg11 x0 x1) _ _ shapeCasts_S1x64x512_S64x512 shapeCasts_S64x512_S1x64x512 y hy

theorem good56 (y : S8x544x512.Idx) (hy : D 54 y) : View.canon (HS0_56 (F := Ideal) c i arg2 harg2 arg3 harg3 arg11 x0 x1) y = G (i 1).val x0 x1 y :=
  step arg11.view _ (i 1).val x0 x1 53 6 8 24 518 (by decide) (by decide) (by decide) 512 (by decide) (by decide) (good55 c i arg2 harg2 arg3 harg3 arg11 x0 x1) _ _ shapeCasts_S1x24x512_S24x512 shapeCasts_S24x512_S1x24x512 y hy

theorem good57 (y : S8x544x512.Idx) (hy : D 55 y) : View.canon (HS0_57 (F := Ideal) c i arg2 harg2 arg3 harg3 arg11 x0 x1) y = G (i 1).val x0 x1 y :=
  step arg11.view _ (i 1).val x0 x1 54 7 0 64 7 (by decide) (by decide) (by decide) 0 (by decide) (by decide) (good56 c i arg2 harg2 arg3 harg3 arg11 x0 x1) _ _ shapeCasts_S1x64x512_S64x512 shapeCasts_S64x512_S1x64x512 y hy

theorem good58 (y : S8x544x512.Idx) (hy : D 56 y) : View.canon (HS0_58 (F := Ideal) c i arg2 harg2 arg3 harg3 arg11 x0 x1) y = G (i 1).val x0 x1 y :=
  step arg11.view _ (i 1).val x0 x1 55 7 1 64 71 (by decide) (by decide) (by decide) 64 (by decide) (by decide) (good57 c i arg2 harg2 arg3 harg3 arg11 x0 x1) _ _ shapeCasts_S1x64x512_S64x512 shapeCasts_S64x512_S1x64x512 y hy

theorem good59 (y : S8x544x512.Idx) (hy : D 57 y) : View.canon (HS0_59 (F := Ideal) c i arg2 harg2 arg3 harg3 arg11 x0 x1) y = G (i 1).val x0 x1 y :=
  step arg11.view _ (i 1).val x0 x1 56 7 2 64 135 (by decide) (by decide) (by decide) 128 (by decide) (by decide) (good58 c i arg2 harg2 arg3 harg3 arg11 x0 x1) _ _ shapeCasts_S1x64x512_S64x512 shapeCasts_S64x512_S1x64x512 y hy

theorem good60 (y : S8x544x512.Idx) (hy : D 58 y) : View.canon (HS0_60 (F := Ideal) c i arg2 harg2 arg3 harg3 arg11 x0 x1) y = G (i 1).val x0 x1 y :=
  step arg11.view _ (i 1).val x0 x1 57 7 3 64 199 (by decide) (by decide) (by decide) 192 (by decide) (by decide) (good59 c i arg2 harg2 arg3 harg3 arg11 x0 x1) _ _ shapeCasts_S1x64x512_S64x512 shapeCasts_S64x512_S1x64x512 y hy

theorem good61 (y : S8x544x512.Idx) (hy : D 59 y) : View.canon (HS0_61 (F := Ideal) c i arg2 harg2 arg3 harg3 arg11 x0 x1) y = G (i 1).val x0 x1 y :=
  step arg11.view _ (i 1).val x0 x1 58 7 4 64 263 (by decide) (by decide) (by decide) 256 (by decide) (by decide) (good60 c i arg2 harg2 arg3 harg3 arg11 x0 x1) _ _ shapeCasts_S1x64x512_S64x512 shapeCasts_S64x512_S1x64x512 y hy

theorem good62 (y : S8x544x512.Idx) (hy : D 60 y) : View.canon (HS0_62 (F := Ideal) c i arg2 harg2 arg3 harg3 arg11 x0 x1) y = G (i 1).val x0 x1 y :=
  step arg11.view _ (i 1).val x0 x1 59 7 5 64 327 (by decide) (by decide) (by decide) 320 (by decide) (by decide) (good61 c i arg2 harg2 arg3 harg3 arg11 x0 x1) _ _ shapeCasts_S1x64x512_S64x512 shapeCasts_S64x512_S1x64x512 y hy

theorem good63 (y : S8x544x512.Idx) (hy : D 61 y) : View.canon (HS0_63 (F := Ideal) c i arg2 harg2 arg3 harg3 arg11 x0 x1) y = G (i 1).val x0 x1 y :=
  step arg11.view _ (i 1).val x0 x1 60 7 6 64 391 (by decide) (by decide) (by decide) 384 (by decide) (by decide) (good62 c i arg2 harg2 arg3 harg3 arg11 x0 x1) _ _ shapeCasts_S1x64x512_S64x512 shapeCasts_S64x512_S1x64x512 y hy

theorem good64 (y : S8x544x512.Idx) (hy : D 62 y) : View.canon (HS0_64 (F := Ideal) c i arg2 harg2 arg3 harg3 arg11 x0 x1) y = G (i 1).val x0 x1 y :=
  step arg11.view _ (i 1).val x0 x1 61 7 7 64 455 (by decide) (by decide) (by decide) 448 (by decide) (by decide) (good63 c i arg2 harg2 arg3 harg3 arg11 x0 x1) _ _ shapeCasts_S1x64x512_S64x512 shapeCasts_S64x512_S1x64x512 y hy

theorem good65 (y : S8x544x512.Idx) (hy : D 63 y) : View.canon (HS0_65 (F := Ideal) c i arg2 harg2 arg3 harg3 arg11 x0 x1) y = G (i 1).val x0 x1 y :=
  step arg11.view _ (i 1).val x0 x1 62 7 8 24 519 (by decide) (by decide) (by decide) 512 (by decide) (by decide) (good64 c i arg2 harg2 arg3 harg3 arg11 x0 x1) _ _ shapeCasts_S1x24x512_S24x512 shapeCasts_S24x512_S1x24x512 y hy

end

end Cert.ConvIdeal.Val

end
-- ==== Proof.ConvSpec.lean ====
/- The convolution with its norm and projection, at one position. -/
module

public import Idealize.ShloMosaic.Lib.Pointwise
public import Idealize.ShloMosaic.Lib.Pipeline.ValueKit
public import Idealize.ShloMosaic.PureOps.Ideal.Laws

@[expose] public section

set_option maxRecDepth 16384

noncomputable section

namespace Cert.ConvSpec

open Idealize.ShloMosaic

/-- The causal convolution of one channel: the last 31 rows against the taps. -/
def conv (e : ℕ → EReal) (dw : Fin 31 → EReal) (b : EReal) : EReal := (∑ w : Fin 31, e w.val * dw w) + b

/-- The mean of 512 entries. -/
def mean (y : Fin 512 → EReal) : EReal := Ideal.div (∑ k, y k) (Ideal.ofBits .f32 0x44000000#32)

/-- A row less its mean over its deviation, scaled and shifted. -/
def norm (y g b : Fin 512 → EReal) (k : Fin 512) : EReal :=
  (y k - mean y) * Ideal.rsqrt (mean (fun j => (y j - mean y) * (y j - mean y)) + Ideal.ofBits .f32 0x358637BD#32) * g k + b k

/-- The gated projection of a row after its activation. -/
def out (z w : Fin 512 → EReal) (g : EReal) : EReal := g * ∑ l, z l * Ideal.logistic (z l) * w l

end Cert.ConvSpec

end
-- ==== Proof.ConvPay.lean ====
/- The convolution kernel's norm and projection at an index. -/
module

public import proofs.«01_k».proof.Proof.ConvSpec
public import proofs.«01_k».proof.Proof.Gen.ConvIdeal.Frame
public import Idealize.ShloMosaic.Lib.Pointwise
public import Idealize.ShloMosaic.Lib.Pipeline.ValueKit
public import Idealize.ShloMosaic.PureOps.Ideal.Laws

@[expose] public section

set_option maxRecDepth 16384

noncomputable section

namespace Cert.ConvIdeal.Val

open Idealize.ShloMosaic Idealize.SL.Sem Cert.ConvIdeal Cert.ConvIdeal.Gen Cert.ConvSpec

theorem pay166_apply (y : Vec Ideal S512x512 .f32) (g : Vec Ideal S1x512 .f32) (b : Vec Ideal S1x512 .f32) (r k : Fin 512) :
    @Eq EReal (k0_pay166 y g (ix2 r k) + b (ix2 0 k)) (norm (fun j => y (ix2 r j)) (fun j => g (ix2 0 j)) (fun j => b (ix2 0 j)) k) := by
  unfold k0_pay166
  pointwise
  rfl

theorem pay1_apply (z : Vec Ideal S512x512 .f32) (b : Vec Ideal S1x512 .f32) (w : Vec Ideal S512x1024 .bf16) (g : Vec Ideal S1x512x1024 .f32) (r : Fin 512) (j : Fin 1024) :
    @Eq EReal (k0_pay1 z b w g (ix3 0 r j)) (out (fun l => z (ix2 r l) + b (ix2 0 l)) (fun l => w (ix2 l j)) (g (ix3 0 r j))) := by
  unfold k0_pay1
  pointwise
  rfl

end Cert.ConvIdeal.Val

end
-- ==== Proof.ConvAcc.lean ====
/- The convolution kernel's rows and its output block. -/
module

public import proofs.«01_k».proof.Proof.ConvExt
public import proofs.«01_k».proof.Proof.ConvPay

@[expose] public section

set_option maxRecDepth 16384

noncomputable section

namespace Cert.ConvIdeal.Val

open Idealize.ShloMosaic Idealize.ShloMosaic.TcCoe Idealize.ShloMosaic.Tactic Idealize.SL.Sem Cert.ConvIdeal Cert.ConvIdeal.Gen Cert.ConvIdeal.Gen.kernelRun0_A.sl Cert.ConvSpec

/-- Tap `w` of a channel. -/
def tapAt (x2 : Vec Ideal S31x512 .f32) (w : ℕ) (ch : Fin 512) : EReal := if h : w < 31 then x2 (ix2 ⟨w, h⟩ ch) else 0

/-- The first `n` taps of row `r` of the tile, after the bias. -/
def part (i1 : ℕ) (x0 x1 : Vec Ideal S1x512x512 .f32) (x2 : Vec Ideal S31x512 .f32) (x3 : Vec Ideal S1x512 .f32) (n r : ℕ) (ch : Fin 512) : EReal :=
  x3 (ix2 0 ch) + ∑ w ∈ Finset.range n, ext0 i1 x0 x1 (2 + w + r) ch * tapAt x2 w ch

/-- One more tap on the rows so far. -/
def tap (acc : Vec Ideal S64x512 .f32) (v : Vec Ideal S1x64x512 .f32) (d : Vec Ideal S1x512 .f32) : Vec Ideal S64x512 .f32 :=
  addf (F := Ideal) (φ := .f32) acc (mulf (F := Ideal) (φ := .f32) (shapeCast S64x512 v shapeCasts_S1x64x512_S64x512) (broadcastTo S64x512 d broadcasts_S1x512_S64x512))

def base (b : Vec Ideal S1x512 .f32) : Vec Ideal S64x512 .f32 :=
  addf (F := Ideal) (φ := .f32) (broadcast S64x512 (Scalar.ofBits .f32 0x00000000#32)) (broadcastTo S64x512 (shapeCast S1x512 b shapeCasts_S1x512_S1x512) broadcasts_S1x512_S64x512)

theorem tap_apply (acc : Vec Ideal S64x512 .f32) (v : Vec Ideal S1x64x512 .f32) (d : Vec Ideal S1x512 .f32) (r : Fin 64) (ch : Fin 512) :
    @Eq EReal (tap acc v d (ix2 r ch)) (acc (ix2 r ch) + v (ix3 0 r ch) * d (ix2 0 ch)) := by
  unfold tap
  pointwise

theorem base_apply (b : Vec Ideal S1x512 .f32) (r : Fin 64) (ch : Fin 512) : @Eq EReal (base b (ix2 r ch)) (b (ix2 0 ch)) := by
  unfold base
  pointwise

section

variable (c : Dev nD) (i : grid0.Coords) (arg2 : Memref sig .tc .vmem S1x512x512 .f32) (harg2 : arg2.IsWhole) (arg3 : Memref sig .tc .vmem S1x512x512 .f32) (harg3 : arg3.IsWhole)
  (arg4 : Memref sig .tc .vmem S31x512 .f32) (harg4 : arg4.IsWhole) (arg5 : Memref sig .tc .vmem S1x512 .f32) (harg5 : arg5.IsWhole)
  (arg11 : Memref sig .tc .vmem S8x544x512 .f32) (x0 x1 : Vec Ideal S1x512x512 .f32) (x2 : Vec Ideal S31x512 .f32) (x3 : Vec Ideal S1x512 .f32)

/-- The rows of a tap, read from its shifted copy. -/
def src (s a : ℕ) (inb : ∀ x, ![s, a, 0] x + S1x64x512.size x ≤ S8x544x512.size x) : Vec Ideal S1x64x512 .f32 :=
  arg11.view.readCov (HS0_65 (F := Ideal) c i arg2 harg2 arg3 harg3 arg11 x0 x1) (Rect.unit (s := S8x544x512) ![s, a, 0] S1x64x512.size inb).toLoadRect

theorem src_apply (s a : ℕ) (inb) (hs : s = 0 ∨ a ≤ 472) (hs8 : s < 8) (r : Fin 64) (ch : Fin 512) :
    @Eq EReal (src c i arg2 harg2 arg3 harg3 arg11 x0 x1 s a inb (ix3 0 r ch)) (ext0 (i 1).val x0 x1 (s + a + r.val) ch) := by
  have e0 : (((Rect.unit (s := S8x544x512) ![s, a, 0] S1x64x512.size inb).idx (ix3 0 r ch)) 0).val = s + 0 := idxv ![s, a, 0] S1x64x512.size inb (ix3 0 r ch) 0
  have e1 : (((Rect.unit (s := S8x544x512) ![s, a, 0] S1x64x512.size inb).idx (ix3 0 r ch)) 1).val = a + r.val := idxv ![s, a, 0] S1x64x512.size inb (ix3 0 r ch) 1
  have e2 : (((Rect.unit (s := S8x544x512) ![s, a, 0] S1x64x512.size inb).idx (ix3 0 r ch)) 2).val = 0 + ch.val := idxv ![s, a, 0] S1x64x512.size inb (ix3 0 r ch) 2
  unfold src
  rw [View.readCov_eq_canon']
  refine (good65 c i arg2 harg2 arg3 harg3 arg11 x0 x1 ((Rect.unit (s := S8x544x512) ![s, a, 0] S1x64x512.size inb).idx (ix3 0 r ch)) ?_).trans ?_
  · rcases hs with h | h
    · exact Or.inl (e0.trans h)
    · refine Or.inr ⟨?_, ?_⟩
      · rw [e1]; omega
      · rw [e0, e1]; omega
  · unfold G
    exact congrArg₂ (ext0 (i 1).val x0 x1) (show (((Rect.unit (s := S8x544x512) ![s, a, 0] S1x64x512.size inb).idx (ix3 0 r ch)) 0).val + (((Rect.unit (s := S8x544x512) ![s, a, 0] S1x64x512.size inb).idx (ix3 0 r ch)) 1).val = s + a + r.val by omega)
      (Fin.ext (e2.trans (Nat.zero_add _)))

/-- A row of taps. -/
def dw (w : ℕ) (inb : ∀ x, ![w, 0] x + S1x512.size x ≤ S31x512.size x) : Vec Ideal S1x512 .f32 :=
  View.readAt (Elt Ideal) arg4.view (Rect.unit (s := S31x512) ![w, 0] S1x512.size inb).toLoadRect (harg4.unread x2)

theorem dw_apply (w : ℕ) (inb) (ch : Fin 512) (h : w < 31) : @Eq EReal (dw arg4 harg4 x2 w inb (ix2 0 ch)) (tapAt x2 w ch) := by
  unfold dw
  rw [View.readAt_apply, harg4.read_unread]
  refine Eq.trans ?_ (dif_pos h).symm
  congr 1
  funext a
  apply Fin.ext
  match a with
  | 0 => exact (Rect.idx_unit_val _ _ _ _ 0).trans (Nat.add_zero _)
  | 1 => exact (Rect.idx_unit_val _ _ _ _ 1).trans (Nat.zero_add _)

theorem tapS (n s a r0 : ℕ) (inb) (inb') (acc : Vec Ideal S64x512 .f32) (hn : n < 31) (hs : s = 0 ∨ a ≤ 472) (hs8 : s < 8) (ha : s + a = 2 + n + r0)
    (h : ∀ (r : Fin 64) (ch : Fin 512), @Eq EReal (acc (ix2 r ch)) (part (i 1).val x0 x1 x2 x3 n (r0 + r.val) ch)) (r : Fin 64) (ch : Fin 512) :
    @Eq EReal (tap acc (src c i arg2 harg2 arg3 harg3 arg11 x0 x1 s a inb) (dw arg4 harg4 x2 n inb') (ix2 r ch)) (part (i 1).val x0 x1 x2 x3 (n + 1) (r0 + r.val) ch) := by
  rw [tap_apply, h, src_apply _ _ _ _ _ _ _ _ _ _ _ _ hs hs8, dw_apply _ _ _ _ _ _ hn]
  unfold part
  rw [Finset.sum_range_succ, ← add_assoc, show s + a + r.val = 2 + n + (r0 + r.val) by omega]

/-- The bias row. -/
def bias : Vec Ideal S1x512 .f32 := View.readAt (Elt Ideal) arg5.view (Rect.unit (s := S1x512) ![0, 0] S1x512.size inb_S1x512_S1x512_0_0).toLoadRect (harg5.unread x3)

theorem bias_apply (ch : Fin 512) : @Eq EReal (bias arg5 harg5 x3 (ix2 0 ch)) (x3 (ix2 0 ch)) := by
  unfold bias
  rw [View.readAt_apply, harg5.read_unread]
  congr 1
  funext a
  apply Fin.ext
  match a with
  | 0 => exact (Rect.idx_unit_val _ _ _ _ 0).trans (Nat.zero_add _)
  | 1 => exact (Rect.idx_unit_val _ _ _ _ 1).trans (Nat.zero_add _)

theorem baseS (r0 : ℕ) (r : Fin 64) (ch : Fin 512) : @Eq EReal (base (bias arg5 harg5 x3) (ix2 r ch)) (part (i 1).val x0 x1 x2 x3 0 (r0 + r.val) ch) := by
  rw [base_apply, bias_apply]
  unfold part
  rw [Finset.sum_range_zero, add_zero]

/-- Rows 0 to 63. -/
def acc0 : Vec Ideal S64x512 .f32 :=
  shapeCast S64x512 (tap (tap (tap (tap (tap (tap (tap (tap (tap (tap (tap (tap (tap (tap (tap (tap (tap (tap (tap (tap (tap (tap (tap (tap (tap (tap (tap (tap (tap (tap (tap (base (bias arg5 harg5 x3))
    (src c i arg2 harg2 arg3 harg3 arg11 x0 x1 2 0 inb_S8x544x512_S1x64x512_2_0_0) (dw arg4 harg4 x2 0 inb_S31x512_S1x512_0_0))
    (src c i arg2 harg2 arg3 harg3 arg11 x0 x1 3 0 inb_S8x544x512_S1x64x512_3_0_0) (dw arg4 harg4 x2 1 inb_S31x512_S1x512_1_0))
    (src c i arg2 harg2 arg3 harg3 arg11 x0 x1 4 0 inb_S8x544x512_S1x64x512_4_0_0) (dw arg4 harg4 x2 2 inb_S31x512_S1x512_2_0))
    (src c i arg2 harg2 arg3 harg3 arg11 x0 x1 5 0 inb_S8x544x512_S1x64x512_5_0_0) (dw arg4 harg4 x2 3 inb_S31x512_S1x512_3_0))
    (src c i arg2 harg2 arg3 harg3 arg11 x0 x1 6 0 inb_S8x544x512_S1x64x512_6_0_0) (dw arg4 harg4 x2 4 inb_S31x512_S1x512_4_0))
    (src c i arg2 harg2 arg3 harg3 arg11 x0 x1 7 0 inb_S8x544x512_S1x64x512_7_0_0) (dw arg4 harg4 x2 5 inb_S31x512_S1x512_5_0))
    (src c i arg2 harg2 arg3 harg3 arg11 x0 x1 0 8 inb_S8x544x512_S1x64x512_0_8_0) (dw arg4 harg4 x2 6 inb_S31x512_S1x512_6_0))
    (src c i arg2 harg2 arg3 harg3 arg11 x0 x1 1 8 inb_S8x544x512_S1x64x512_1_8_0) (dw arg4 harg4 x2 7 inb_S31x512_S1x512_7_0))
    (src c i arg2 harg2 arg3 harg3 arg11 x0 x1 2 8 inb_S8x544x512_S1x64x512_2_8_0) (dw arg4 harg4 x2 8 inb_S31x512_S1x512_8_0))
    (src c i arg2 harg2 arg3 harg3 arg11 x0 x1 3 8 inb_S8x544x512_S1x64x512_3_8_0) (dw arg4 harg4 x2 9 inb_S31x512_S1x512_9_0))
    (src c i arg2 harg2 arg3 harg3 arg11 x0 x1 4 8 inb_S8x544x512_S1x64x512_4_8_0) (dw arg4 harg4 x2 10 inb_S31x512_S1x512_10_0))
    (src c i arg2 harg2 arg3 harg3 arg11 x0 x1 5 8 inb_S8x544x512_S1x64x512_5_8_0) (dw arg4 harg4 x2 11 inb_S31x512_S1x512_11_0))
    (src c i arg2 harg2 arg3 harg3 arg11 x0 x1 6 8 inb_S8x544x512_S1x64x512_6_8_0) (dw arg4 harg4 x2 12 inb_S31x512_S1x512_12_0))
    (src c i arg2 harg2 arg3 harg3 arg11 x0 x1 7 8 inb_S8x544x512_S1x64x512_7_8_0) (dw arg4 harg4 x2 13 inb_S31x512_S1x512_13_0))
    (src c i arg2 harg2 arg3 harg3 arg11 x0 x1 0 16 inb_S8x544x512_S1x64x512_0_16_0) (dw arg4 harg4 x2 14 inb_S31x512_S1x512_14_0))
    (src c i arg2 harg2 arg3 harg3 arg11 x0 x1 1 16 inb_S8x544x512_S1x64x512_1_16_0) (dw arg4 harg4 x2 15 inb_S31x512_S1x512_15_0))
    (src c i arg2 harg2 arg3 harg3 arg11 x0 x1 2 16 inb_S8x544x512_S1x64x512_2_16_0) (dw arg4 harg4 x2 16 inb_S31x512_S1x512_16_0))
    (src c i arg2 harg2 arg3 harg3 arg11 x0 x1 3 16 inb_S8x544x512_S1x64x512_3_16_0) (dw arg4 harg4 x2 17 inb_S31x512_S1x512_17_0))
    (src c i arg2 harg2 arg3 harg3 arg11 x0 x1 4 16 inb_S8x544x512_S1x64x512_4_16_0) (dw arg4 harg4 x2 18 inb_S31x512_S1x512_18_0))
    (src c i arg2 harg2 arg3 harg3 arg11 x0 x1 5 16 inb_S8x544x512_S1x64x512_5_16_0) (dw arg4 harg4 x2 19 inb_S31x512_S1x512_19_0))
    (src c i arg2 harg2 arg3 harg3 arg11 x0 x1 6 16 inb_S8x544x512_S1x64x512_6_16_0) (dw arg4 harg4 x2 20 inb_S31x512_S1x512_20_0))
    (src c i arg2 harg2 arg3 harg3 arg11 x0 x1 7 16 inb_S8x544x512_S1x64x512_7_16_0) (dw arg4 harg4 x2 21 inb_S31x512_S1x512_21_0))
    (src c i arg2 harg2 arg3 harg3 arg11 x0 x1 0 24 inb_S8x544x512_S1x64x512_0_24_0) (dw arg4 harg4 x2 22 inb_S31x512_S1x512_22_0))
    (src c i arg2 harg2 arg3 harg3 arg11 x0 x1 1 24 inb_S8x544x512_S1x64x512_1_24_0) (dw arg4 harg4 x2 23 inb_S31x512_S1x512_23_0))
    (src c i arg2 harg2 arg3 harg3 arg11 x0 x1 2 24 inb_S8x544x512_S1x64x512_2_24_0) (dw arg4 harg4 x2 24 inb_S31x512_S1x512_24_0))
    (src c i arg2 harg2 arg3 harg3 arg11 x0 x1 3 24 inb_S8x544x512_S1x64x512_3_24_0) (dw arg4 harg4 x2 25 inb_S31x512_S1x512_25_0))
    (src c i arg2 harg2 arg3 harg3 arg11 x0 x1 4 24 inb_S8x544x512_S1x64x512_4_24_0) (dw arg4 harg4 x2 26 inb_S31x512_S1x512_26_0))
    (src c i arg2 harg2 arg3 harg3 arg11 x0 x1 5 24 inb_S8x544x512_S1x64x512_5_24_0) (dw arg4 harg4 x2 27 inb_S31x512_S1x512_27_0))
    (src c i arg2 harg2 arg3 harg3 arg11 x0 x1 6 24 inb_S8x544x512_S1x64x512_6_24_0) (dw arg4 harg4 x2 28 inb_S31x512_S1x512_28_0))
    (src c i arg2 harg2 arg3 harg3 arg11 x0 x1 7 24 inb_S8x544x512_S1x64x512_7_24_0) (dw arg4 harg4 x2 29 inb_S31x512_S1x512_29_0))
    (src c i arg2 harg2 arg3 harg3 arg11 x0 x1 0 32 inb_S8x544x512_S1x64x512_0_32_0) (dw arg4 harg4 x2 30 inb_S31x512_S1x512_30_0)) shapeCasts_S64x512_S64x512

theorem acc0_apply (r : Fin 64) (ch : Fin 512) : @Eq EReal (acc0 c i arg2 harg2 arg3 harg3 arg4 harg4 arg5 harg5 arg11 x0 x1 x2 x3 (ix2 r ch)) (part (i 1).val x0 x1 x2 x3 31 (0 + r.val) ch) :=
  (congrFun (shapeCast_self _ shapeCasts_S64x512_S64x512) _).trans ((tapS c i arg2 harg2 arg3 harg3 arg4 harg4 arg11 x0 x1 x2 x3 30 0 32 0 _ _ _ (by decide) (by decide) (by decide) (by decide)
    (tapS c i arg2 harg2 arg3 harg3 arg4 harg4 arg11 x0 x1 x2 x3 29 7 24 0 _ _ _ (by decide) (by decide) (by decide) (by decide)
    (tapS c i arg2 harg2 arg3 harg3 arg4 harg4 arg11 x0 x1 x2 x3 28 6 24 0 _ _ _ (by decide) (by decide) (by decide) (by decide)
    (tapS c i arg2 harg2 arg3 harg3 arg4 harg4 arg11 x0 x1 x2 x3 27 5 24 0 _ _ _ (by decide) (by decide) (by decide) (by decide)
    (tapS c i arg2 harg2 arg3 harg3 arg4 harg4 arg11 x0 x1 x2 x3 26 4 24 0 _ _ _ (by decide) (by decide) (by decide) (by decide)
    (tapS c i arg2 harg2 arg3 harg3 arg4 harg4 arg11 x0 x1 x2 x3 25 3 24 0 _ _ _ (by decide) (by decide) (by decide) (by decide)
    (tapS c i arg2 harg2 arg3 harg3 arg4 harg4 arg11 x0 x1 x2 x3 24 2 24 0 _ _ _ (by decide) (by decide) (by decide) (by decide)
    (tapS c i arg2 harg2 arg3 harg3 arg4 harg4 arg11 x0 x1 x2 x3 23 1 24 0 _ _ _ (by decide) (by decide) (by decide) (by decide)
    (tapS c i arg2 harg2 arg3 harg3 arg4 harg4 arg11 x0 x1 x2 x3 22 0 24 0 _ _ _ (by decide) (by decide) (by decide) (by decide)
    (tapS c i arg2 harg2 arg3 harg3 arg4 harg4 arg11 x0 x1 x2 x3 21 7 16 0 _ _ _ (by decide) (by decide) (by decide) (by decide)
    (tapS c i arg2 harg2 arg3 harg3 arg4 harg4 arg11 x0 x1 x2 x3 20 6 16 0 _ _ _ (by decide) (by decide) (by decide) (by decide)
    (tapS c i arg2 harg2 arg3 harg3 arg4 harg4 arg11 x0 x1 x2 x3 19 5 16 0 _ _ _ (by decide) (by decide) (by decide) (by decide)
    (tapS c i arg2 harg2 arg3 harg3 arg4 harg4 arg11 x0 x1 x2 x3 18 4 16 0 _ _ _ (by decide) (by decide) (by decide) (by decide)
    (tapS c i arg2 harg2 arg3 harg3 arg4 harg4 arg11 x0 x1 x2 x3 17 3 16 0 _ _ _ (by decide) (by decide) (by decide) (by decide)
    (tapS c i arg2 harg2 arg3 harg3 arg4 harg4 arg11 x0 x1 x2 x3 16 2 16 0 _ _ _ (by decide) (by decide) (by decide) (by decide)
    (tapS c i arg2 harg2 arg3 harg3 arg4 harg4 arg11 x0 x1 x2 x3 15 1 16 0 _ _ _ (by decide) (by decide) (by decide) (by decide)
    (tapS c i arg2 harg2 arg3 harg3 arg4 harg4 arg11 x0 x1 x2 x3 14 0 16 0 _ _ _ (by decide) (by decide) (by decide) (by decide)
    (tapS c i arg2 harg2 arg3 harg3 arg4 harg4 arg11 x0 x1 x2 x3 13 7 8 0 _ _ _ (by decide) (by decide) (by decide) (by decide)
    (tapS c i arg2 harg2 arg3 harg3 arg4 harg4 arg11 x0 x1 x2 x3 12 6 8 0 _ _ _ (by decide) (by decide) (by decide) (by decide)
    (tapS c i arg2 harg2 arg3 harg3 arg4 harg4 arg11 x0 x1 x2 x3 11 5 8 0 _ _ _ (by decide) (by decide) (by decide) (by decide)
    (tapS c i arg2 harg2 arg3 harg3 arg4 harg4 arg11 x0 x1 x2 x3 10 4 8 0 _ _ _ (by decide) (by decide) (by decide) (by decide)
    (tapS c i arg2 harg2 arg3 harg3 arg4 harg4 arg11 x0 x1 x2 x3 9 3 8 0 _ _ _ (by decide) (by decide) (by decide) (by decide)
    (tapS c i arg2 harg2 arg3 harg3 arg4 harg4 arg11 x0 x1 x2 x3 8 2 8 0 _ _ _ (by decide) (by decide) (by decide) (by decide)
    (tapS c i arg2 harg2 arg3 harg3 arg4 harg4 arg11 x0 x1 x2 x3 7 1 8 0 _ _ _ (by decide) (by decide) (by decide) (by decide)
    (tapS c i arg2 harg2 arg3 harg3 arg4 harg4 arg11 x0 x1 x2 x3 6 0 8 0 _ _ _ (by decide) (by decide) (by decide) (by decide)
    (tapS c i arg2 harg2 arg3 harg3 arg4 harg4 arg11 x0 x1 x2 x3 5 7 0 0 _ _ _ (by decide) (by decide) (by decide) (by decide)
    (tapS c i arg2 harg2 arg3 harg3 arg4 harg4 arg11 x0 x1 x2 x3 4 6 0 0 _ _ _ (by decide) (by decide) (by decide) (by decide)
    (tapS c i arg2 harg2 arg3 harg3 arg4 harg4 arg11 x0 x1 x2 x3 3 5 0 0 _ _ _ (by decide) (by decide) (by decide) (by decide)
    (tapS c i arg2 harg2 arg3 harg3 arg4 harg4 arg11 x0 x1 x2 x3 2 4 0 0 _ _ _ (by decide) (by decide) (by decide) (by decide)
    (tapS c i arg2 harg2 arg3 harg3 arg4 harg4 arg11 x0 x1 x2 x3 1 3 0 0 _ _ _ (by decide) (by decide) (by decide) (by decide)
    (tapS c i arg2 harg2 arg3 harg3 arg4 harg4 arg11 x0 x1 x2 x3 0 2 0 0 _ _ _ (by decide) (by decide) (by decide) (by decide)
    (baseS i arg5 harg5 x0 x1 x2 x3 0)))))))))))))))))))))))))))))))) r ch)

/-- Rows 64 to 127. -/
def acc1 : Vec Ideal S64x512 .f32 :=
  shapeCast S64x512 (tap (tap (tap (tap (tap (tap (tap (tap (tap (tap (tap (tap (tap (tap (tap (tap (tap (tap (tap (tap (tap (tap (tap (tap (tap (tap (tap (tap (tap (tap (tap (base (bias arg5 harg5 x3))
    (src c i arg2 harg2 arg3 harg3 arg11 x0 x1 2 64 inb_S8x544x512_S1x64x512_2_64_0) (dw arg4 harg4 x2 0 inb_S31x512_S1x512_0_0))
    (src c i arg2 harg2 arg3 harg3 arg11 x0 x1 3 64 inb_S8x544x512_S1x64x512_3_64_0) (dw arg4 harg4 x2 1 inb_S31x512_S1x512_1_0))
    (src c i arg2 harg2 arg3 harg3 arg11 x0 x1 4 64 inb_S8x544x512_S1x64x512_4_64_0) (dw arg4 harg4 x2 2 inb_S31x512_S1x512_2_0))
    (src c i arg2 harg2 arg3 harg3 arg11 x0 x1 5 64 inb_S8x544x512_S1x64x512_5_64_0) (dw arg4 harg4 x2 3 inb_S31x512_S1x512_3_0))
    (src c i arg2 harg2 arg3 harg3 arg11 x0 x1 6 64 inb_S8x544x512_S1x64x512_6_64_0) (dw arg4 harg4 x2 4 inb_S31x512_S1x512_4_0))
    (src c i arg2 harg2 arg3 harg3 arg11 x0 x1 7 64 inb_S8x544x512_S1x64x512_7_64_0) (dw arg4 harg4 x2 5 inb_S31x512_S1x512_5_0))
    (src c i arg2 harg2 arg3 harg3 arg11 x0 x1 0 72 inb_S8x544x512_S1x64x512_0_72_0) (dw arg4 harg4 x2 6 inb_S31x512_S1x512_6_0))
    (src c i arg2 harg2 arg3 harg3 arg11 x0 x1 1 72 inb_S8x544x512_S1x64x512_1_72_0) (dw arg4 harg4 x2 7 inb_S31x512_S1x512_7_0))
    (src c i arg2 harg2 arg3 harg3 arg11 x0 x1 2 72 inb_S8x544x512_S1x64x512_2_72_0) (dw arg4 harg4 x2 8 inb_S31x512_S1x512_8_0))
    (src c i arg2 harg2 arg3 harg3 arg11 x0 x1 3 72 inb_S8x544x512_S1x64x512_3_72_0) (dw arg4 harg4 x2 9 inb_S31x512_S1x512_9_0))
    (src c i arg2 harg2 arg3 harg3 arg11 x0 x1 4 72 inb_S8x544x512_S1x64x512_4_72_0) (dw arg4 harg4 x2 10 inb_S31x512_S1x512_10_0))
    (src c i arg2 harg2 arg3 harg3 arg11 x0 x1 5 72 inb_S8x544x512_S1x64x512_5_72_0) (dw arg4 harg4 x2 11 inb_S31x512_S1x512_11_0))
    (src c i arg2 harg2 arg3 harg3 arg11 x0 x1 6 72 inb_S8x544x512_S1x64x512_6_72_0) (dw arg4 harg4 x2 12 inb_S31x512_S1x512_12_0))
    (src c i arg2 harg2 arg3 harg3 arg11 x0 x1 7 72 inb_S8x544x512_S1x64x512_7_72_0) (dw arg4 harg4 x2 13 inb_S31x512_S1x512_13_0))
    (src c i arg2 harg2 arg3 harg3 arg11 x0 x1 0 80 inb_S8x544x512_S1x64x512_0_80_0) (dw arg4 harg4 x2 14 inb_S31x512_S1x512_14_0))
    (src c i arg2 harg2 arg3 harg3 arg11 x0 x1 1 80 inb_S8x544x512_S1x64x512_1_80_0) (dw arg4 harg4 x2 15 inb_S31x512_S1x512_15_0))
    (src c i arg2 harg2 arg3 harg3 arg11 x0 x1 2 80 inb_S8x544x512_S1x64x512_2_80_0) (dw arg4 harg4 x2 16 inb_S31x512_S1x512_16_0))
    (src c i arg2 harg2 arg3 harg3 arg11 x0 x1 3 80 inb_S8x544x512_S1x64x512_3_80_0) (dw arg4 harg4 x2 17 inb_S31x512_S1x512_17_0))
    (src c i arg2 harg2 arg3 harg3 arg11 x0 x1 4 80 inb_S8x544x512_S1x64x512_4_80_0) (dw arg4 harg4 x2 18 inb_S31x512_S1x512_18_0))
    (src c i arg2 harg2 arg3 harg3 arg11 x0 x1 5 80 inb_S8x544x512_S1x64x512_5_80_0) (dw arg4 harg4 x2 19 inb_S31x512_S1x512_19_0))
    (src c i arg2 harg2 arg3 harg3 arg11 x0 x1 6 80 inb_S8x544x512_S1x64x512_6_80_0) (dw arg4 harg4 x2 20 inb_S31x512_S1x512_20_0))
    (src c i arg2 harg2 arg3 harg3 arg11 x0 x1 7 80 inb_S8x544x512_S1x64x512_7_80_0) (dw arg4 harg4 x2 21 inb_S31x512_S1x512_21_0))
    (src c i arg2 harg2 arg3 harg3 arg11 x0 x1 0 88 inb_S8x544x512_S1x64x512_0_88_0) (dw arg4 harg4 x2 22 inb_S31x512_S1x512_22_0))
    (src c i arg2 harg2 arg3 harg3 arg11 x0 x1 1 88 inb_S8x544x512_S1x64x512_1_88_0) (dw arg4 harg4 x2 23 inb_S31x512_S1x512_23_0))
    (src c i arg2 harg2 arg3 harg3 arg11 x0 x1 2 88 inb_S8x544x512_S1x64x512_2_88_0) (dw arg4 harg4 x2 24 inb_S31x512_S1x512_24_0))
    (src c i arg2 harg2 arg3 harg3 arg11 x0 x1 3 88 inb_S8x544x512_S1x64x512_3_88_0) (dw arg4 harg4 x2 25 inb_S31x512_S1x512_25_0))
    (src c i arg2 harg2 arg3 harg3 arg11 x0 x1 4 88 inb_S8x544x512_S1x64x512_4_88_0) (dw arg4 harg4 x2 26 inb_S31x512_S1x512_26_0))
    (src c i arg2 harg2 arg3 harg3 arg11 x0 x1 5 88 inb_S8x544x512_S1x64x512_5_88_0) (dw arg4 harg4 x2 27 inb_S31x512_S1x512_27_0))
    (src c i arg2 harg2 arg3 harg3 arg11 x0 x1 6 88 inb_S8x544x512_S1x64x512_6_88_0) (dw arg4 harg4 x2 28 inb_S31x512_S1x512_28_0))
    (src c i arg2 harg2 arg3 harg3 arg11 x0 x1 7 88 inb_S8x544x512_S1x64x512_7_88_0) (dw arg4 harg4 x2 29 inb_S31x512_S1x512_29_0))
    (src c i arg2 harg2 arg3 harg3 arg11 x0 x1 0 96 inb_S8x544x512_S1x64x512_0_96_0) (dw arg4 harg4 x2 30 inb_S31x512_S1x512_30_0)) shapeCasts_S64x512_S64x512

theorem acc1_apply (r : Fin 64) (ch : Fin 512) : @Eq EReal (acc1 c i arg2 harg2 arg3 harg3 arg4 harg4 arg5 harg5 arg11 x0 x1 x2 x3 (ix2 r ch)) (part (i 1).val x0 x1 x2 x3 31 (64 + r.val) ch) :=
  (congrFun (shapeCast_self _ shapeCasts_S64x512_S64x512) _).trans ((tapS c i arg2 harg2 arg3 harg3 arg4 harg4 arg11 x0 x1 x2 x3 30 0 96 64 _ _ _ (by decide) (by decide) (by decide) (by decide)
    (tapS c i arg2 harg2 arg3 harg3 arg4 harg4 arg11 x0 x1 x2 x3 29 7 88 64 _ _ _ (by decide) (by decide) (by decide) (by decide)
    (tapS c i arg2 harg2 arg3 harg3 arg4 harg4 arg11 x0 x1 x2 x3 28 6 88 64 _ _ _ (by decide) (by decide) (by decide) (by decide)
    (tapS c i arg2 harg2 arg3 harg3 arg4 harg4 arg11 x0 x1 x2 x3 27 5 88 64 _ _ _ (by decide) (by decide) (by decide) (by decide)
    (tapS c i arg2 harg2 arg3 harg3 arg4 harg4 arg11 x0 x1 x2 x3 26 4 88 64 _ _ _ (by decide) (by decide) (by decide) (by decide)
    (tapS c i arg2 harg2 arg3 harg3 arg4 harg4 arg11 x0 x1 x2 x3 25 3 88 64 _ _ _ (by decide) (by decide) (by decide) (by decide)
    (tapS c i arg2 harg2 arg3 harg3 arg4 harg4 arg11 x0 x1 x2 x3 24 2 88 64 _ _ _ (by decide) (by decide) (by decide) (by decide)
    (tapS c i arg2 harg2 arg3 harg3 arg4 harg4 arg11 x0 x1 x2 x3 23 1 88 64 _ _ _ (by decide) (by decide) (by decide) (by decide)
    (tapS c i arg2 harg2 arg3 harg3 arg4 harg4 arg11 x0 x1 x2 x3 22 0 88 64 _ _ _ (by decide) (by decide) (by decide) (by decide)
    (tapS c i arg2 harg2 arg3 harg3 arg4 harg4 arg11 x0 x1 x2 x3 21 7 80 64 _ _ _ (by decide) (by decide) (by decide) (by decide)
    (tapS c i arg2 harg2 arg3 harg3 arg4 harg4 arg11 x0 x1 x2 x3 20 6 80 64 _ _ _ (by decide) (by decide) (by decide) (by decide)
    (tapS c i arg2 harg2 arg3 harg3 arg4 harg4 arg11 x0 x1 x2 x3 19 5 80 64 _ _ _ (by decide) (by decide) (by decide) (by decide)
    (tapS c i arg2 harg2 arg3 harg3 arg4 harg4 arg11 x0 x1 x2 x3 18 4 80 64 _ _ _ (by decide) (by decide) (by decide) (by decide)
    (tapS c i arg2 harg2 arg3 harg3 arg4 harg4 arg11 x0 x1 x2 x3 17 3 80 64 _ _ _ (by decide) (by decide) (by decide) (by decide)
    (tapS c i arg2 harg2 arg3 harg3 arg4 harg4 arg11 x0 x1 x2 x3 16 2 80 64 _ _ _ (by decide) (by decide) (by decide) (by decide)
    (tapS c i arg2 harg2 arg3 harg3 arg4 harg4 arg11 x0 x1 x2 x3 15 1 80 64 _ _ _ (by decide) (by decide) (by decide) (by decide)
    (tapS c i arg2 harg2 arg3 harg3 arg4 harg4 arg11 x0 x1 x2 x3 14 0 80 64 _ _ _ (by decide) (by decide) (by decide) (by decide)
    (tapS c i arg2 harg2 arg3 harg3 arg4 harg4 arg11 x0 x1 x2 x3 13 7 72 64 _ _ _ (by decide) (by decide) (by decide) (by decide)
    (tapS c i arg2 harg2 arg3 harg3 arg4 harg4 arg11 x0 x1 x2 x3 12 6 72 64 _ _ _ (by decide) (by decide) (by decide) (by decide)
    (tapS c i arg2 harg2 arg3 harg3 arg4 harg4 arg11 x0 x1 x2 x3 11 5 72 64 _ _ _ (by decide) (by decide) (by decide) (by decide)
    (tapS c i arg2 harg2 arg3 harg3 arg4 harg4 arg11 x0 x1 x2 x3 10 4 72 64 _ _ _ (by decide) (by decide) (by decide) (by decide)
    (tapS c i arg2 harg2 arg3 harg3 arg4 harg4 arg11 x0 x1 x2 x3 9 3 72 64 _ _ _ (by decide) (by decide) (by decide) (by decide)
    (tapS c i arg2 harg2 arg3 harg3 arg4 harg4 arg11 x0 x1 x2 x3 8 2 72 64 _ _ _ (by decide) (by decide) (by decide) (by decide)
    (tapS c i arg2 harg2 arg3 harg3 arg4 harg4 arg11 x0 x1 x2 x3 7 1 72 64 _ _ _ (by decide) (by decide) (by decide) (by decide)
    (tapS c i arg2 harg2 arg3 harg3 arg4 harg4 arg11 x0 x1 x2 x3 6 0 72 64 _ _ _ (by decide) (by decide) (by decide) (by decide)
    (tapS c i arg2 harg2 arg3 harg3 arg4 harg4 arg11 x0 x1 x2 x3 5 7 64 64 _ _ _ (by decide) (by decide) (by decide) (by decide)
    (tapS c i arg2 harg2 arg3 harg3 arg4 harg4 arg11 x0 x1 x2 x3 4 6 64 64 _ _ _ (by decide) (by decide) (by decide) (by decide)
    (tapS c i arg2 harg2 arg3 harg3 arg4 harg4 arg11 x0 x1 x2 x3 3 5 64 64 _ _ _ (by decide) (by decide) (by decide) (by decide)
    (tapS c i arg2 harg2 arg3 harg3 arg4 harg4 arg11 x0 x1 x2 x3 2 4 64 64 _ _ _ (by decide) (by decide) (by decide) (by decide)
    (tapS c i arg2 harg2 arg3 harg3 arg4 harg4 arg11 x0 x1 x2 x3 1 3 64 64 _ _ _ (by decide) (by decide) (by decide) (by decide)
    (tapS c i arg2 harg2 arg3 harg3 arg4 harg4 arg11 x0 x1 x2 x3 0 2 64 64 _ _ _ (by decide) (by decide) (by decide) (by decide)
    (baseS i arg5 harg5 x0 x1 x2 x3 64)))))))))))))))))))))))))))))))) r ch)

/-- Rows 128 to 191. -/
def acc2 : Vec Ideal S64x512 .f32 :=
  shapeCast S64x512 (tap (tap (tap (tap (tap (tap (tap (tap (tap (tap (tap (tap (tap (tap (tap (tap (tap (tap (tap (tap (tap (tap (tap (tap (tap (tap (tap (tap (tap (tap (tap (base (bias arg5 harg5 x3))
    (src c i arg2 harg2 arg3 harg3 arg11 x0 x1 2 128 inb_S8x544x512_S1x64x512_2_128_0) (dw arg4 harg4 x2 0 inb_S31x512_S1x512_0_0))
    (src c i arg2 harg2 arg3 harg3 arg11 x0 x1 3 128 inb_S8x544x512_S1x64x512_3_128_0) (dw arg4 harg4 x2 1 inb_S31x512_S1x512_1_0))
    (src c i arg2 harg2 arg3 harg3 arg11 x0 x1 4 128 inb_S8x544x512_S1x64x512_4_128_0) (dw arg4 harg4 x2 2 inb_S31x512_S1x512_2_0))
    (src c i arg2 harg2 arg3 harg3 arg11 x0 x1 5 128 inb_S8x544x512_S1x64x512_5_128_0) (dw arg4 harg4 x2 3 inb_S31x512_S1x512_3_0))
    (src c i arg2 harg2 arg3 harg3 arg11 x0 x1 6 128 inb_S8x544x512_S1x64x512_6_128_0) (dw arg4 harg4 x2 4 inb_S31x512_S1x512_4_0))
    (src c i arg2 harg2 arg3 harg3 arg11 x0 x1 7 128 inb_S8x544x512_S1x64x512_7_128_0) (dw arg4 harg4 x2 5 inb_S31x512_S1x512_5_0))
    (src c i arg2 harg2 arg3 harg3 arg11 x0 x1 0 136 inb_S8x544x512_S1x64x512_0_136_0) (dw arg4 harg4 x2 6 inb_S31x512_S1x512_6_0))
    (src c i arg2 harg2 arg3 harg3 arg11 x0 x1 1 136 inb_S8x544x512_S1x64x512_1_136_0) (dw arg4 harg4 x2 7 inb_S31x512_S1x512_7_0))
    (src c i arg2 harg2 arg3 harg3 arg11 x0 x1 2 136 inb_S8x544x512_S1x64x512_2_136_0) (dw arg4 harg4 x2 8 inb_S31x512_S1x512_8_0))
    (src c i arg2 harg2 arg3 harg3 arg11 x0 x1 3 136 inb_S8x544x512_S1x64x512_3_136_0) (dw arg4 harg4 x2 9 inb_S31x512_S1x512_9_0))
    (src c i arg2 harg2 arg3 harg3 arg11 x0 x1 4 136 inb_S8x544x512_S1x64x512_4_136_0) (dw arg4 harg4 x2 10 inb_S31x512_S1x512_10_0))
    (src c i arg2 harg2 arg3 harg3 arg11 x0 x1 5 136 inb_S8x544x512_S1x64x512_5_136_0) (dw arg4 harg4 x2 11 inb_S31x512_S1x512_11_0))
    (src c i arg2 harg2 arg3 harg3 arg11 x0 x1 6 136 inb_S8x544x512_S1x64x512_6_136_0) (dw arg4 harg4 x2 12 inb_S31x512_S1x512_12_0))
    (src c i arg2 harg2 arg3 harg3 arg11 x0 x1 7 136 inb_S8x544x512_S1x64x512_7_136_0) (dw arg4 harg4 x2 13 inb_S31x512_S1x512_13_0))
    (src c i arg2 harg2 arg3 harg3 arg11 x0 x1 0 144 inb_S8x544x512_S1x64x512_0_144_0) (dw arg4 harg4 x2 14 inb_S31x512_S1x512_14_0))
    (src c i arg2 harg2 arg3 harg3 arg11 x0 x1 1 144 inb_S8x544x512_S1x64x512_1_144_0) (dw arg4 harg4 x2 15 inb_S31x512_S1x512_15_0))
    (src c i arg2 harg2 arg3 harg3 arg11 x0 x1 2 144 inb_S8x544x512_S1x64x512_2_144_0) (dw arg4 harg4 x2 16 inb_S31x512_S1x512_16_0))
    (src c i arg2 harg2 arg3 harg3 arg11 x0 x1 3 144 inb_S8x544x512_S1x64x512_3_144_0) (dw arg4 harg4 x2 17 inb_S31x512_S1x512_17_0))
    (src c i arg2 harg2 arg3 harg3 arg11 x0 x1 4 144 inb_S8x544x512_S1x64x512_4_144_0) (dw arg4 harg4 x2 18 inb_S31x512_S1x512_18_0))
    (src c i arg2 harg2 arg3 harg3 arg11 x0 x1 5 144 inb_S8x544x512_S1x64x512_5_144_0) (dw arg4 harg4 x2 19 inb_S31x512_S1x512_19_0))
    (src c i arg2 harg2 arg3 harg3 arg11 x0 x1 6 144 inb_S8x544x512_S1x64x512_6_144_0) (dw arg4 harg4 x2 20 inb_S31x512_S1x512_20_0))
    (src c i arg2 harg2 arg3 harg3 arg11 x0 x1 7 144 inb_S8x544x512_S1x64x512_7_144_0) (dw arg4 harg4 x2 21 inb_S31x512_S1x512_21_0))
    (src c i arg2 harg2 arg3 harg3 arg11 x0 x1 0 152 inb_S8x544x512_S1x64x512_0_152_0) (dw arg4 harg4 x2 22 inb_S31x512_S1x512_22_0))
    (src c i arg2 harg2 arg3 harg3 arg11 x0 x1 1 152 inb_S8x544x512_S1x64x512_1_152_0) (dw arg4 harg4 x2 23 inb_S31x512_S1x512_23_0))
    (src c i arg2 harg2 arg3 harg3 arg11 x0 x1 2 152 inb_S8x544x512_S1x64x512_2_152_0) (dw arg4 harg4 x2 24 inb_S31x512_S1x512_24_0))
    (src c i arg2 harg2 arg3 harg3 arg11 x0 x1 3 152 inb_S8x544x512_S1x64x512_3_152_0) (dw arg4 harg4 x2 25 inb_S31x512_S1x512_25_0))
    (src c i arg2 harg2 arg3 harg3 arg11 x0 x1 4 152 inb_S8x544x512_S1x64x512_4_152_0) (dw arg4 harg4 x2 26 inb_S31x512_S1x512_26_0))
    (src c i arg2 harg2 arg3 harg3 arg11 x0 x1 5 152 inb_S8x544x512_S1x64x512_5_152_0) (dw arg4 harg4 x2 27 inb_S31x512_S1x512_27_0))
    (src c i arg2 harg2 arg3 harg3 arg11 x0 x1 6 152 inb_S8x544x512_S1x64x512_6_152_0) (dw arg4 harg4 x2 28 inb_S31x512_S1x512_28_0))
    (src c i arg2 harg2 arg3 harg3 arg11 x0 x1 7 152 inb_S8x544x512_S1x64x512_7_152_0) (dw arg4 harg4 x2 29 inb_S31x512_S1x512_29_0))
    (src c i arg2 harg2 arg3 harg3 arg11 x0 x1 0 160 inb_S8x544x512_S1x64x512_0_160_0) (dw arg4 harg4 x2 30 inb_S31x512_S1x512_30_0)) shapeCasts_S64x512_S64x512

theorem acc2_apply (r : Fin 64) (ch : Fin 512) : @Eq EReal (acc2 c i arg2 harg2 arg3 harg3 arg4 harg4 arg5 harg5 arg11 x0 x1 x2 x3 (ix2 r ch)) (part (i 1).val x0 x1 x2 x3 31 (128 + r.val) ch) :=
  (congrFun (shapeCast_self _ shapeCasts_S64x512_S64x512) _).trans ((tapS c i arg2 harg2 arg3 harg3 arg4 harg4 arg11 x0 x1 x2 x3 30 0 160 128 _ _ _ (by decide) (by decide) (by decide) (by decide)
    (tapS c i arg2 harg2 arg3 harg3 arg4 harg4 arg11 x0 x1 x2 x3 29 7 152 128 _ _ _ (by decide) (by decide) (by decide) (by decide)
    (tapS c i arg2 harg2 arg3 harg3 arg4 harg4 arg11 x0 x1 x2 x3 28 6 152 128 _ _ _ (by decide) (by decide) (by decide) (by decide)
    (tapS c i arg2 harg2 arg3 harg3 arg4 harg4 arg11 x0 x1 x2 x3 27 5 152 128 _ _ _ (by decide) (by decide) (by decide) (by decide)
    (tapS c i arg2 harg2 arg3 harg3 arg4 harg4 arg11 x0 x1 x2 x3 26 4 152 128 _ _ _ (by decide) (by decide) (by decide) (by decide)
    (tapS c i arg2 harg2 arg3 harg3 arg4 harg4 arg11 x0 x1 x2 x3 25 3 152 128 _ _ _ (by decide) (by decide) (by decide) (by decide)
    (tapS c i arg2 harg2 arg3 harg3 arg4 harg4 arg11 x0 x1 x2 x3 24 2 152 128 _ _ _ (by decide) (by decide) (by decide) (by decide)
    (tapS c i arg2 harg2 arg3 harg3 arg4 harg4 arg11 x0 x1 x2 x3 23 1 152 128 _ _ _ (by decide) (by decide) (by decide) (by decide)
    (tapS c i arg2 harg2 arg3 harg3 arg4 harg4 arg11 x0 x1 x2 x3 22 0 152 128 _ _ _ (by decide) (by decide) (by decide) (by decide)
    (tapS c i arg2 harg2 arg3 harg3 arg4 harg4 arg11 x0 x1 x2 x3 21 7 144 128 _ _ _ (by decide) (by decide) (by decide) (by decide)
    (tapS c i arg2 harg2 arg3 harg3 arg4 harg4 arg11 x0 x1 x2 x3 20 6 144 128 _ _ _ (by decide) (by decide) (by decide) (by decide)
    (tapS c i arg2 harg2 arg3 harg3 arg4 harg4 arg11 x0 x1 x2 x3 19 5 144 128 _ _ _ (by decide) (by decide) (by decide) (by decide)
    (tapS c i arg2 harg2 arg3 harg3 arg4 harg4 arg11 x0 x1 x2 x3 18 4 144 128 _ _ _ (by decide) (by decide) (by decide) (by decide)
    (tapS c i arg2 harg2 arg3 harg3 arg4 harg4 arg11 x0 x1 x2 x3 17 3 144 128 _ _ _ (by decide) (by decide) (by decide) (by decide)
    (tapS c i arg2 harg2 arg3 harg3 arg4 harg4 arg11 x0 x1 x2 x3 16 2 144 128 _ _ _ (by decide) (by decide) (by decide) (by decide)
    (tapS c i arg2 harg2 arg3 harg3 arg4 harg4 arg11 x0 x1 x2 x3 15 1 144 128 _ _ _ (by decide) (by decide) (by decide) (by decide)
    (tapS c i arg2 harg2 arg3 harg3 arg4 harg4 arg11 x0 x1 x2 x3 14 0 144 128 _ _ _ (by decide) (by decide) (by decide) (by decide)
    (tapS c i arg2 harg2 arg3 harg3 arg4 harg4 arg11 x0 x1 x2 x3 13 7 136 128 _ _ _ (by decide) (by decide) (by decide) (by decide)
    (tapS c i arg2 harg2 arg3 harg3 arg4 harg4 arg11 x0 x1 x2 x3 12 6 136 128 _ _ _ (by decide) (by decide) (by decide) (by decide)
    (tapS c i arg2 harg2 arg3 harg3 arg4 harg4 arg11 x0 x1 x2 x3 11 5 136 128 _ _ _ (by decide) (by decide) (by decide) (by decide)
    (tapS c i arg2 harg2 arg3 harg3 arg4 harg4 arg11 x0 x1 x2 x3 10 4 136 128 _ _ _ (by decide) (by decide) (by decide) (by decide)
    (tapS c i arg2 harg2 arg3 harg3 arg4 harg4 arg11 x0 x1 x2 x3 9 3 136 128 _ _ _ (by decide) (by decide) (by decide) (by decide)
    (tapS c i arg2 harg2 arg3 harg3 arg4 harg4 arg11 x0 x1 x2 x3 8 2 136 128 _ _ _ (by decide) (by decide) (by decide) (by decide)
    (tapS c i arg2 harg2 arg3 harg3 arg4 harg4 arg11 x0 x1 x2 x3 7 1 136 128 _ _ _ (by decide) (by decide) (by decide) (by decide)
    (tapS c i arg2 harg2 arg3 harg3 arg4 harg4 arg11 x0 x1 x2 x3 6 0 136 128 _ _ _ (by decide) (by decide) (by decide) (by decide)
    (tapS c i arg2 harg2 arg3 harg3 arg4 harg4 arg11 x0 x1 x2 x3 5 7 128 128 _ _ _ (by decide) (by decide) (by decide) (by decide)
    (tapS c i arg2 harg2 arg3 harg3 arg4 harg4 arg11 x0 x1 x2 x3 4 6 128 128 _ _ _ (by decide) (by decide) (by decide) (by decide)
    (tapS c i arg2 harg2 arg3 harg3 arg4 harg4 arg11 x0 x1 x2 x3 3 5 128 128 _ _ _ (by decide) (by decide) (by decide) (by decide)
    (tapS c i arg2 harg2 arg3 harg3 arg4 harg4 arg11 x0 x1 x2 x3 2 4 128 128 _ _ _ (by decide) (by decide) (by decide) (by decide)
    (tapS c i arg2 harg2 arg3 harg3 arg4 harg4 arg11 x0 x1 x2 x3 1 3 128 128 _ _ _ (by decide) (by decide) (by decide) (by decide)
    (tapS c i arg2 harg2 arg3 harg3 arg4 harg4 arg11 x0 x1 x2 x3 0 2 128 128 _ _ _ (by decide) (by decide) (by decide) (by decide)
    (baseS i arg5 harg5 x0 x1 x2 x3 128)))))))))))))))))))))))))))))))) r ch)

/-- Rows 192 to 255. -/
def acc3 : Vec Ideal S64x512 .f32 :=
  shapeCast S64x512 (tap (tap (tap (tap (tap (tap (tap (tap (tap (tap (tap (tap (tap (tap (tap (tap (tap (tap (tap (tap (tap (tap (tap (tap (tap (tap (tap (tap (tap (tap (tap (base (bias arg5 harg5 x3))
    (src c i arg2 harg2 arg3 harg3 arg11 x0 x1 2 192 inb_S8x544x512_S1x64x512_2_192_0) (dw arg4 harg4 x2 0 inb_S31x512_S1x512_0_0))
    (src c i arg2 harg2 arg3 harg3 arg11 x0 x1 3 192 inb_S8x544x512_S1x64x512_3_192_0) (dw arg4 harg4 x2 1 inb_S31x512_S1x512_1_0))
    (src c i arg2 harg2 arg3 harg3 arg11 x0 x1 4 192 inb_S8x544x512_S1x64x512_4_192_0) (dw arg4 harg4 x2 2 inb_S31x512_S1x512_2_0))
    (src c i arg2 harg2 arg3 harg3 arg11 x0 x1 5 192 inb_S8x544x512_S1x64x512_5_192_0) (dw arg4 harg4 x2 3 inb_S31x512_S1x512_3_0))
    (src c i arg2 harg2 arg3 harg3 arg11 x0 x1 6 192 inb_S8x544x512_S1x64x512_6_192_0) (dw arg4 harg4 x2 4 inb_S31x512_S1x512_4_0))
    (src c i arg2 harg2 arg3 harg3 arg11 x0 x1 7 192 inb_S8x544x512_S1x64x512_7_192_0) (dw arg4 harg4 x2 5 inb_S31x512_S1x512_5_0))
    (src c i arg2 harg2 arg3 harg3 arg11 x0 x1 0 200 inb_S8x544x512_S1x64x512_0_200_0) (dw arg4 harg4 x2 6 inb_S31x512_S1x512_6_0))
    (src c i arg2 harg2 arg3 harg3 arg11 x0 x1 1 200 inb_S8x544x512_S1x64x512_1_200_0) (dw arg4 harg4 x2 7 inb_S31x512_S1x512_7_0))
    (src c i arg2 harg2 arg3 harg3 arg11 x0 x1 2 200 inb_S8x544x512_S1x64x512_2_200_0) (dw arg4 harg4 x2 8 inb_S31x512_S1x512_8_0))
    (src c i arg2 harg2 arg3 harg3 arg11 x0 x1 3 200 inb_S8x544x512_S1x64x512_3_200_0) (dw arg4 harg4 x2 9 inb_S31x512_S1x512_9_0))
    (src c i arg2 harg2 arg3 harg3 arg11 x0 x1 4 200 inb_S8x544x512_S1x64x512_4_200_0) (dw arg4 harg4 x2 10 inb_S31x512_S1x512_10_0))
    (src c i arg2 harg2 arg3 harg3 arg11 x0 x1 5 200 inb_S8x544x512_S1x64x512_5_200_0) (dw arg4 harg4 x2 11 inb_S31x512_S1x512_11_0))
    (src c i arg2 harg2 arg3 harg3 arg11 x0 x1 6 200 inb_S8x544x512_S1x64x512_6_200_0) (dw arg4 harg4 x2 12 inb_S31x512_S1x512_12_0))
    (src c i arg2 harg2 arg3 harg3 arg11 x0 x1 7 200 inb_S8x544x512_S1x64x512_7_200_0) (dw arg4 harg4 x2 13 inb_S31x512_S1x512_13_0))
    (src c i arg2 harg2 arg3 harg3 arg11 x0 x1 0 208 inb_S8x544x512_S1x64x512_0_208_0) (dw arg4 harg4 x2 14 inb_S31x512_S1x512_14_0))
    (src c i arg2 harg2 arg3 harg3 arg11 x0 x1 1 208 inb_S8x544x512_S1x64x512_1_208_0) (dw arg4 harg4 x2 15 inb_S31x512_S1x512_15_0))
    (src c i arg2 harg2 arg3 harg3 arg11 x0 x1 2 208 inb_S8x544x512_S1x64x512_2_208_0) (dw arg4 harg4 x2 16 inb_S31x512_S1x512_16_0))
    (src c i arg2 harg2 arg3 harg3 arg11 x0 x1 3 208 inb_S8x544x512_S1x64x512_3_208_0) (dw arg4 harg4 x2 17 inb_S31x512_S1x512_17_0))
    (src c i arg2 harg2 arg3 harg3 arg11 x0 x1 4 208 inb_S8x544x512_S1x64x512_4_208_0) (dw arg4 harg4 x2 18 inb_S31x512_S1x512_18_0))
    (src c i arg2 harg2 arg3 harg3 arg11 x0 x1 5 208 inb_S8x544x512_S1x64x512_5_208_0) (dw arg4 harg4 x2 19 inb_S31x512_S1x512_19_0))
    (src c i arg2 harg2 arg3 harg3 arg11 x0 x1 6 208 inb_S8x544x512_S1x64x512_6_208_0) (dw arg4 harg4 x2 20 inb_S31x512_S1x512_20_0))
    (src c i arg2 harg2 arg3 harg3 arg11 x0 x1 7 208 inb_S8x544x512_S1x64x512_7_208_0) (dw arg4 harg4 x2 21 inb_S31x512_S1x512_21_0))
    (src c i arg2 harg2 arg3 harg3 arg11 x0 x1 0 216 inb_S8x544x512_S1x64x512_0_216_0) (dw arg4 harg4 x2 22 inb_S31x512_S1x512_22_0))
    (src c i arg2 harg2 arg3 harg3 arg11 x0 x1 1 216 inb_S8x544x512_S1x64x512_1_216_0) (dw arg4 harg4 x2 23 inb_S31x512_S1x512_23_0))
    (src c i arg2 harg2 arg3 harg3 arg11 x0 x1 2 216 inb_S8x544x512_S1x64x512_2_216_0) (dw arg4 harg4 x2 24 inb_S31x512_S1x512_24_0))
    (src c i arg2 harg2 arg3 harg3 arg11 x0 x1 3 216 inb_S8x544x512_S1x64x512_3_216_0) (dw arg4 harg4 x2 25 inb_S31x512_S1x512_25_0))
    (src c i arg2 harg2 arg3 harg3 arg11 x0 x1 4 216 inb_S8x544x512_S1x64x512_4_216_0) (dw arg4 harg4 x2 26 inb_S31x512_S1x512_26_0))
    (src c i arg2 harg2 arg3 harg3 arg11 x0 x1 5 216 inb_S8x544x512_S1x64x512_5_216_0) (dw arg4 harg4 x2 27 inb_S31x512_S1x512_27_0))
    (src c i arg2 harg2 arg3 harg3 arg11 x0 x1 6 216 inb_S8x544x512_S1x64x512_6_216_0) (dw arg4 harg4 x2 28 inb_S31x512_S1x512_28_0))
    (src c i arg2 harg2 arg3 harg3 arg11 x0 x1 7 216 inb_S8x544x512_S1x64x512_7_216_0) (dw arg4 harg4 x2 29 inb_S31x512_S1x512_29_0))
    (src c i arg2 harg2 arg3 harg3 arg11 x0 x1 0 224 inb_S8x544x512_S1x64x512_0_224_0) (dw arg4 harg4 x2 30 inb_S31x512_S1x512_30_0)) shapeCasts_S64x512_S64x512

theorem acc3_apply (r : Fin 64) (ch : Fin 512) : @Eq EReal (acc3 c i arg2 harg2 arg3 harg3 arg4 harg4 arg5 harg5 arg11 x0 x1 x2 x3 (ix2 r ch)) (part (i 1).val x0 x1 x2 x3 31 (192 + r.val) ch) :=
  (congrFun (shapeCast_self _ shapeCasts_S64x512_S64x512) _).trans ((tapS c i arg2 harg2 arg3 harg3 arg4 harg4 arg11 x0 x1 x2 x3 30 0 224 192 _ _ _ (by decide) (by decide) (by decide) (by decide)
    (tapS c i arg2 harg2 arg3 harg3 arg4 harg4 arg11 x0 x1 x2 x3 29 7 216 192 _ _ _ (by decide) (by decide) (by decide) (by decide)
    (tapS c i arg2 harg2 arg3 harg3 arg4 harg4 arg11 x0 x1 x2 x3 28 6 216 192 _ _ _ (by decide) (by decide) (by decide) (by decide)
    (tapS c i arg2 harg2 arg3 harg3 arg4 harg4 arg11 x0 x1 x2 x3 27 5 216 192 _ _ _ (by decide) (by decide) (by decide) (by decide)
    (tapS c i arg2 harg2 arg3 harg3 arg4 harg4 arg11 x0 x1 x2 x3 26 4 216 192 _ _ _ (by decide) (by decide) (by decide) (by decide)
    (tapS c i arg2 harg2 arg3 harg3 arg4 harg4 arg11 x0 x1 x2 x3 25 3 216 192 _ _ _ (by decide) (by decide) (by decide) (by decide)
    (tapS c i arg2 harg2 arg3 harg3 arg4 harg4 arg11 x0 x1 x2 x3 24 2 216 192 _ _ _ (by decide) (by decide) (by decide) (by decide)
    (tapS c i arg2 harg2 arg3 harg3 arg4 harg4 arg11 x0 x1 x2 x3 23 1 216 192 _ _ _ (by decide) (by decide) (by decide) (by decide)
    (tapS c i arg2 harg2 arg3 harg3 arg4 harg4 arg11 x0 x1 x2 x3 22 0 216 192 _ _ _ (by decide) (by decide) (by decide) (by decide)
    (tapS c i arg2 harg2 arg3 harg3 arg4 harg4 arg11 x0 x1 x2 x3 21 7 208 192 _ _ _ (by decide) (by decide) (by decide) (by decide)
    (tapS c i arg2 harg2 arg3 harg3 arg4 harg4 arg11 x0 x1 x2 x3 20 6 208 192 _ _ _ (by decide) (by decide) (by decide) (by decide)
    (tapS c i arg2 harg2 arg3 harg3 arg4 harg4 arg11 x0 x1 x2 x3 19 5 208 192 _ _ _ (by decide) (by decide) (by decide) (by decide)
    (tapS c i arg2 harg2 arg3 harg3 arg4 harg4 arg11 x0 x1 x2 x3 18 4 208 192 _ _ _ (by decide) (by decide) (by decide) (by decide)
    (tapS c i arg2 harg2 arg3 harg3 arg4 harg4 arg11 x0 x1 x2 x3 17 3 208 192 _ _ _ (by decide) (by decide) (by decide) (by decide)
    (tapS c i arg2 harg2 arg3 harg3 arg4 harg4 arg11 x0 x1 x2 x3 16 2 208 192 _ _ _ (by decide) (by decide) (by decide) (by decide)
    (tapS c i arg2 harg2 arg3 harg3 arg4 harg4 arg11 x0 x1 x2 x3 15 1 208 192 _ _ _ (by decide) (by decide) (by decide) (by decide)
    (tapS c i arg2 harg2 arg3 harg3 arg4 harg4 arg11 x0 x1 x2 x3 14 0 208 192 _ _ _ (by decide) (by decide) (by decide) (by decide)
    (tapS c i arg2 harg2 arg3 harg3 arg4 harg4 arg11 x0 x1 x2 x3 13 7 200 192 _ _ _ (by decide) (by decide) (by decide) (by decide)
    (tapS c i arg2 harg2 arg3 harg3 arg4 harg4 arg11 x0 x1 x2 x3 12 6 200 192 _ _ _ (by decide) (by decide) (by decide) (by decide)
    (tapS c i arg2 harg2 arg3 harg3 arg4 harg4 arg11 x0 x1 x2 x3 11 5 200 192 _ _ _ (by decide) (by decide) (by decide) (by decide)
    (tapS c i arg2 harg2 arg3 harg3 arg4 harg4 arg11 x0 x1 x2 x3 10 4 200 192 _ _ _ (by decide) (by decide) (by decide) (by decide)
    (tapS c i arg2 harg2 arg3 harg3 arg4 harg4 arg11 x0 x1 x2 x3 9 3 200 192 _ _ _ (by decide) (by decide) (by decide) (by decide)
    (tapS c i arg2 harg2 arg3 harg3 arg4 harg4 arg11 x0 x1 x2 x3 8 2 200 192 _ _ _ (by decide) (by decide) (by decide) (by decide)
    (tapS c i arg2 harg2 arg3 harg3 arg4 harg4 arg11 x0 x1 x2 x3 7 1 200 192 _ _ _ (by decide) (by decide) (by decide) (by decide)
    (tapS c i arg2 harg2 arg3 harg3 arg4 harg4 arg11 x0 x1 x2 x3 6 0 200 192 _ _ _ (by decide) (by decide) (by decide) (by decide)
    (tapS c i arg2 harg2 arg3 harg3 arg4 harg4 arg11 x0 x1 x2 x3 5 7 192 192 _ _ _ (by decide) (by decide) (by decide) (by decide)
    (tapS c i arg2 harg2 arg3 harg3 arg4 harg4 arg11 x0 x1 x2 x3 4 6 192 192 _ _ _ (by decide) (by decide) (by decide) (by decide)
    (tapS c i arg2 harg2 arg3 harg3 arg4 harg4 arg11 x0 x1 x2 x3 3 5 192 192 _ _ _ (by decide) (by decide) (by decide) (by decide)
    (tapS c i arg2 harg2 arg3 harg3 arg4 harg4 arg11 x0 x1 x2 x3 2 4 192 192 _ _ _ (by decide) (by decide) (by decide) (by decide)
    (tapS c i arg2 harg2 arg3 harg3 arg4 harg4 arg11 x0 x1 x2 x3 1 3 192 192 _ _ _ (by decide) (by decide) (by decide) (by decide)
    (tapS c i arg2 harg2 arg3 harg3 arg4 harg4 arg11 x0 x1 x2 x3 0 2 192 192 _ _ _ (by decide) (by decide) (by decide) (by decide)
    (baseS i arg5 harg5 x0 x1 x2 x3 192)))))))))))))))))))))))))))))))) r ch)

/-- Rows 256 to 319. -/
def acc4 : Vec Ideal S64x512 .f32 :=
  shapeCast S64x512 (tap (tap (tap (tap (tap (tap (tap (tap (tap (tap (tap (tap (tap (tap (tap (tap (tap (tap (tap (tap (tap (tap (tap (tap (tap (tap (tap (tap (tap (tap (tap (base (bias arg5 harg5 x3))
    (src c i arg2 harg2 arg3 harg3 arg11 x0 x1 2 256 inb_S8x544x512_S1x64x512_2_256_0) (dw arg4 harg4 x2 0 inb_S31x512_S1x512_0_0))
    (src c i arg2 harg2 arg3 harg3 arg11 x0 x1 3 256 inb_S8x544x512_S1x64x512_3_256_0) (dw arg4 harg4 x2 1 inb_S31x512_S1x512_1_0))
    (src c i arg2 harg2 arg3 harg3 arg11 x0 x1 4 256 inb_S8x544x512_S1x64x512_4_256_0) (dw arg4 harg4 x2 2 inb_S31x512_S1x512_2_0))
    (src c i arg2 harg2 arg3 harg3 arg11 x0 x1 5 256 inb_S8x544x512_S1x64x512_5_256_0) (dw arg4 harg4 x2 3 inb_S31x512_S1x512_3_0))
    (src c i arg2 harg2 arg3 harg3 arg11 x0 x1 6 256 inb_S8x544x512_S1x64x512_6_256_0) (dw arg4 harg4 x2 4 inb_S31x512_S1x512_4_0))
    (src c i arg2 harg2 arg3 harg3 arg11 x0 x1 7 256 inb_S8x544x512_S1x64x512_7_256_0) (dw arg4 harg4 x2 5 inb_S31x512_S1x512_5_0))
    (src c i arg2 harg2 arg3 harg3 arg11 x0 x1 0 264 inb_S8x544x512_S1x64x512_0_264_0) (dw arg4 harg4 x2 6 inb_S31x512_S1x512_6_0))
    (src c i arg2 harg2 arg3 harg3 arg11 x0 x1 1 264 inb_S8x544x512_S1x64x512_1_264_0) (dw arg4 harg4 x2 7 inb_S31x512_S1x512_7_0))
    (src c i arg2 harg2 arg3 harg3 arg11 x0 x1 2 264 inb_S8x544x512_S1x64x512_2_264_0) (dw arg4 harg4 x2 8 inb_S31x512_S1x512_8_0))
    (src c i arg2 harg2 arg3 harg3 arg11 x0 x1 3 264 inb_S8x544x512_S1x64x512_3_264_0) (dw arg4 harg4 x2 9 inb_S31x512_S1x512_9_0))
    (src c i arg2 harg2 arg3 harg3 arg11 x0 x1 4 264 inb_S8x544x512_S1x64x512_4_264_0) (dw arg4 harg4 x2 10 inb_S31x512_S1x512_10_0))
    (src c i arg2 harg2 arg3 harg3 arg11 x0 x1 5 264 inb_S8x544x512_S1x64x512_5_264_0) (dw arg4 harg4 x2 11 inb_S31x512_S1x512_11_0))
    (src c i arg2 harg2 arg3 harg3 arg11 x0 x1 6 264 inb_S8x544x512_S1x64x512_6_264_0) (dw arg4 harg4 x2 12 inb_S31x512_S1x512_12_0))
    (src c i arg2 harg2 arg3 harg3 arg11 x0 x1 7 264 inb_S8x544x512_S1x64x512_7_264_0) (dw arg4 harg4 x2 13 inb_S31x512_S1x512_13_0))
    (src c i arg2 harg2 arg3 harg3 arg11 x0 x1 0 272 inb_S8x544x512_S1x64x512_0_272_0) (dw arg4 harg4 x2 14 inb_S31x512_S1x512_14_0))
    (src c i arg2 harg2 arg3 harg3 arg11 x0 x1 1 272 inb_S8x544x512_S1x64x512_1_272_0) (dw arg4 harg4 x2 15 inb_S31x512_S1x512_15_0))
    (src c i arg2 harg2 arg3 harg3 arg11 x0 x1 2 272 inb_S8x544x512_S1x64x512_2_272_0) (dw arg4 harg4 x2 16 inb_S31x512_S1x512_16_0))
    (src c i arg2 harg2 arg3 harg3 arg11 x0 x1 3 272 inb_S8x544x512_S1x64x512_3_272_0) (dw arg4 harg4 x2 17 inb_S31x512_S1x512_17_0))
    (src c i arg2 harg2 arg3 harg3 arg11 x0 x1 4 272 inb_S8x544x512_S1x64x512_4_272_0) (dw arg4 harg4 x2 18 inb_S31x512_S1x512_18_0))
    (src c i arg2 harg2 arg3 harg3 arg11 x0 x1 5 272 inb_S8x544x512_S1x64x512_5_272_0) (dw arg4 harg4 x2 19 inb_S31x512_S1x512_19_0))
    (src c i arg2 harg2 arg3 harg3 arg11 x0 x1 6 272 inb_S8x544x512_S1x64x512_6_272_0) (dw arg4 harg4 x2 20 inb_S31x512_S1x512_20_0))
    (src c i arg2 harg2 arg3 harg3 arg11 x0 x1 7 272 inb_S8x544x512_S1x64x512_7_272_0) (dw arg4 harg4 x2 21 inb_S31x512_S1x512_21_0))
    (src c i arg2 harg2 arg3 harg3 arg11 x0 x1 0 280 inb_S8x544x512_S1x64x512_0_280_0) (dw arg4 harg4 x2 22 inb_S31x512_S1x512_22_0))
    (src c i arg2 harg2 arg3 harg3 arg11 x0 x1 1 280 inb_S8x544x512_S1x64x512_1_280_0) (dw arg4 harg4 x2 23 inb_S31x512_S1x512_23_0))
    (src c i arg2 harg2 arg3 harg3 arg11 x0 x1 2 280 inb_S8x544x512_S1x64x512_2_280_0) (dw arg4 harg4 x2 24 inb_S31x512_S1x512_24_0))
    (src c i arg2 harg2 arg3 harg3 arg11 x0 x1 3 280 inb_S8x544x512_S1x64x512_3_280_0) (dw arg4 harg4 x2 25 inb_S31x512_S1x512_25_0))
    (src c i arg2 harg2 arg3 harg3 arg11 x0 x1 4 280 inb_S8x544x512_S1x64x512_4_280_0) (dw arg4 harg4 x2 26 inb_S31x512_S1x512_26_0))
    (src c i arg2 harg2 arg3 harg3 arg11 x0 x1 5 280 inb_S8x544x512_S1x64x512_5_280_0) (dw arg4 harg4 x2 27 inb_S31x512_S1x512_27_0))
    (src c i arg2 harg2 arg3 harg3 arg11 x0 x1 6 280 inb_S8x544x512_S1x64x512_6_280_0) (dw arg4 harg4 x2 28 inb_S31x512_S1x512_28_0))
    (src c i arg2 harg2 arg3 harg3 arg11 x0 x1 7 280 inb_S8x544x512_S1x64x512_7_280_0) (dw arg4 harg4 x2 29 inb_S31x512_S1x512_29_0))
    (src c i arg2 harg2 arg3 harg3 arg11 x0 x1 0 288 inb_S8x544x512_S1x64x512_0_288_0) (dw arg4 harg4 x2 30 inb_S31x512_S1x512_30_0)) shapeCasts_S64x512_S64x512

theorem acc4_apply (r : Fin 64) (ch : Fin 512) : @Eq EReal (acc4 c i arg2 harg2 arg3 harg3 arg4 harg4 arg5 harg5 arg11 x0 x1 x2 x3 (ix2 r ch)) (part (i 1).val x0 x1 x2 x3 31 (256 + r.val) ch) :=
  (congrFun (shapeCast_self _ shapeCasts_S64x512_S64x512) _).trans ((tapS c i arg2 harg2 arg3 harg3 arg4 harg4 arg11 x0 x1 x2 x3 30 0 288 256 _ _ _ (by decide) (by decide) (by decide) (by decide)
    (tapS c i arg2 harg2 arg3 harg3 arg4 harg4 arg11 x0 x1 x2 x3 29 7 280 256 _ _ _ (by decide) (by decide) (by decide) (by decide)
    (tapS c i arg2 harg2 arg3 harg3 arg4 harg4 arg11 x0 x1 x2 x3 28 6 280 256 _ _ _ (by decide) (by decide) (by decide) (by decide)
    (tapS c i arg2 harg2 arg3 harg3 arg4 harg4 arg11 x0 x1 x2 x3 27 5 280 256 _ _ _ (by decide) (by decide) (by decide) (by decide)
    (tapS c i arg2 harg2 arg3 harg3 arg4 harg4 arg11 x0 x1 x2 x3 26 4 280 256 _ _ _ (by decide) (by decide) (by decide) (by decide)
    (tapS c i arg2 harg2 arg3 harg3 arg4 harg4 arg11 x0 x1 x2 x3 25 3 280 256 _ _ _ (by decide) (by decide) (by decide) (by decide)
    (tapS c i arg2 harg2 arg3 harg3 arg4 harg4 arg11 x0 x1 x2 x3 24 2 280 256 _ _ _ (by decide) (by decide) (by decide) (by decide)
    (tapS c i arg2 harg2 arg3 harg3 arg4 harg4 arg11 x0 x1 x2 x3 23 1 280 256 _ _ _ (by decide) (by decide) (by decide) (by decide)
    (tapS c i arg2 harg2 arg3 harg3 arg4 harg4 arg11 x0 x1 x2 x3 22 0 280 256 _ _ _ (by decide) (by decide) (by decide) (by decide)
    (tapS c i arg2 harg2 arg3 harg3 arg4 harg4 arg11 x0 x1 x2 x3 21 7 272 256 _ _ _ (by decide) (by decide) (by decide) (by decide)
    (tapS c i arg2 harg2 arg3 harg3 arg4 harg4 arg11 x0 x1 x2 x3 20 6 272 256 _ _ _ (by decide) (by decide) (by decide) (by decide)
    (tapS c i arg2 harg2 arg3 harg3 arg4 harg4 arg11 x0 x1 x2 x3 19 5 272 256 _ _ _ (by decide) (by decide) (by decide) (by decide)
    (tapS c i arg2 harg2 arg3 harg3 arg4 harg4 arg11 x0 x1 x2 x3 18 4 272 256 _ _ _ (by decide) (by decide) (by decide) (by decide)
    (tapS c i arg2 harg2 arg3 harg3 arg4 harg4 arg11 x0 x1 x2 x3 17 3 272 256 _ _ _ (by decide) (by decide) (by decide) (by decide)
    (tapS c i arg2 harg2 arg3 harg3 arg4 harg4 arg11 x0 x1 x2 x3 16 2 272 256 _ _ _ (by decide) (by decide) (by decide) (by decide)
    (tapS c i arg2 harg2 arg3 harg3 arg4 harg4 arg11 x0 x1 x2 x3 15 1 272 256 _ _ _ (by decide) (by decide) (by decide) (by decide)
    (tapS c i arg2 harg2 arg3 harg3 arg4 harg4 arg11 x0 x1 x2 x3 14 0 272 256 _ _ _ (by decide) (by decide) (by decide) (by decide)
    (tapS c i arg2 harg2 arg3 harg3 arg4 harg4 arg11 x0 x1 x2 x3 13 7 264 256 _ _ _ (by decide) (by decide) (by decide) (by decide)
    (tapS c i arg2 harg2 arg3 harg3 arg4 harg4 arg11 x0 x1 x2 x3 12 6 264 256 _ _ _ (by decide) (by decide) (by decide) (by decide)
    (tapS c i arg2 harg2 arg3 harg3 arg4 harg4 arg11 x0 x1 x2 x3 11 5 264 256 _ _ _ (by decide) (by decide) (by decide) (by decide)
    (tapS c i arg2 harg2 arg3 harg3 arg4 harg4 arg11 x0 x1 x2 x3 10 4 264 256 _ _ _ (by decide) (by decide) (by decide) (by decide)
    (tapS c i arg2 harg2 arg3 harg3 arg4 harg4 arg11 x0 x1 x2 x3 9 3 264 256 _ _ _ (by decide) (by decide) (by decide) (by decide)
    (tapS c i arg2 harg2 arg3 harg3 arg4 harg4 arg11 x0 x1 x2 x3 8 2 264 256 _ _ _ (by decide) (by decide) (by decide) (by decide)
    (tapS c i arg2 harg2 arg3 harg3 arg4 harg4 arg11 x0 x1 x2 x3 7 1 264 256 _ _ _ (by decide) (by decide) (by decide) (by decide)
    (tapS c i arg2 harg2 arg3 harg3 arg4 harg4 arg11 x0 x1 x2 x3 6 0 264 256 _ _ _ (by decide) (by decide) (by decide) (by decide)
    (tapS c i arg2 harg2 arg3 harg3 arg4 harg4 arg11 x0 x1 x2 x3 5 7 256 256 _ _ _ (by decide) (by decide) (by decide) (by decide)
    (tapS c i arg2 harg2 arg3 harg3 arg4 harg4 arg11 x0 x1 x2 x3 4 6 256 256 _ _ _ (by decide) (by decide) (by decide) (by decide)
    (tapS c i arg2 harg2 arg3 harg3 arg4 harg4 arg11 x0 x1 x2 x3 3 5 256 256 _ _ _ (by decide) (by decide) (by decide) (by decide)
    (tapS c i arg2 harg2 arg3 harg3 arg4 harg4 arg11 x0 x1 x2 x3 2 4 256 256 _ _ _ (by decide) (by decide) (by decide) (by decide)
    (tapS c i arg2 harg2 arg3 harg3 arg4 harg4 arg11 x0 x1 x2 x3 1 3 256 256 _ _ _ (by decide) (by decide) (by decide) (by decide)
    (tapS c i arg2 harg2 arg3 harg3 arg4 harg4 arg11 x0 x1 x2 x3 0 2 256 256 _ _ _ (by decide) (by decide) (by decide) (by decide)
    (baseS i arg5 harg5 x0 x1 x2 x3 256)))))))))))))))))))))))))))))))) r ch)

/-- Rows 320 to 383. -/
def acc5 : Vec Ideal S64x512 .f32 :=
  shapeCast S64x512 (tap (tap (tap (tap (tap (tap (tap (tap (tap (tap (tap (tap (tap (tap (tap (tap (tap (tap (tap (tap (tap (tap (tap (tap (tap (tap (tap (tap (tap (tap (tap (base (bias arg5 harg5 x3))
    (src c i arg2 harg2 arg3 harg3 arg11 x0 x1 2 320 inb_S8x544x512_S1x64x512_2_320_0) (dw arg4 harg4 x2 0 inb_S31x512_S1x512_0_0))
    (src c i arg2 harg2 arg3 harg3 arg11 x0 x1 3 320 inb_S8x544x512_S1x64x512_3_320_0) (dw arg4 harg4 x2 1 inb_S31x512_S1x512_1_0))
    (src c i arg2 harg2 arg3 harg3 arg11 x0 x1 4 320 inb_S8x544x512_S1x64x512_4_320_0) (dw arg4 harg4 x2 2 inb_S31x512_S1x512_2_0))
    (src c i arg2 harg2 arg3 harg3 arg11 x0 x1 5 320 inb_S8x544x512_S1x64x512_5_320_0) (dw arg4 harg4 x2 3 inb_S31x512_S1x512_3_0))
    (src c i arg2 harg2 arg3 harg3 arg11 x0 x1 6 320 inb_S8x544x512_S1x64x512_6_320_0) (dw arg4 harg4 x2 4 inb_S31x512_S1x512_4_0))
    (src c i arg2 harg2 arg3 harg3 arg11 x0 x1 7 320 inb_S8x544x512_S1x64x512_7_320_0) (dw arg4 harg4 x2 5 inb_S31x512_S1x512_5_0))
    (src c i arg2 harg2 arg3 harg3 arg11 x0 x1 0 328 inb_S8x544x512_S1x64x512_0_328_0) (dw arg4 harg4 x2 6 inb_S31x512_S1x512_6_0))
    (src c i arg2 harg2 arg3 harg3 arg11 x0 x1 1 328 inb_S8x544x512_S1x64x512_1_328_0) (dw arg4 harg4 x2 7 inb_S31x512_S1x512_7_0))
    (src c i arg2 harg2 arg3 harg3 arg11 x0 x1 2 328 inb_S8x544x512_S1x64x512_2_328_0) (dw arg4 harg4 x2 8 inb_S31x512_S1x512_8_0))
    (src c i arg2 harg2 arg3 harg3 arg11 x0 x1 3 328 inb_S8x544x512_S1x64x512_3_328_0) (dw arg4 harg4 x2 9 inb_S31x512_S1x512_9_0))
    (src c i arg2 harg2 arg3 harg3 arg11 x0 x1 4 328 inb_S8x544x512_S1x64x512_4_328_0) (dw arg4 harg4 x2 10 inb_S31x512_S1x512_10_0))
    (src c i arg2 harg2 arg3 harg3 arg11 x0 x1 5 328 inb_S8x544x512_S1x64x512_5_328_0) (dw arg4 harg4 x2 11 inb_S31x512_S1x512_11_0))
    (src c i arg2 harg2 arg3 harg3 arg11 x0 x1 6 328 inb_S8x544x512_S1x64x512_6_328_0) (dw arg4 harg4 x2 12 inb_S31x512_S1x512_12_0))
    (src c i arg2 harg2 arg3 harg3 arg11 x0 x1 7 328 inb_S8x544x512_S1x64x512_7_328_0) (dw arg4 harg4 x2 13 inb_S31x512_S1x512_13_0))
    (src c i arg2 harg2 arg3 harg3 arg11 x0 x1 0 336 inb_S8x544x512_S1x64x512_0_336_0) (dw arg4 harg4 x2 14 inb_S31x512_S1x512_14_0))
    (src c i arg2 harg2 arg3 harg3 arg11 x0 x1 1 336 inb_S8x544x512_S1x64x512_1_336_0) (dw arg4 harg4 x2 15 inb_S31x512_S1x512_15_0))
    (src c i arg2 harg2 arg3 harg3 arg11 x0 x1 2 336 inb_S8x544x512_S1x64x512_2_336_0) (dw arg4 harg4 x2 16 inb_S31x512_S1x512_16_0))
    (src c i arg2 harg2 arg3 harg3 arg11 x0 x1 3 336 inb_S8x544x512_S1x64x512_3_336_0) (dw arg4 harg4 x2 17 inb_S31x512_S1x512_17_0))
    (src c i arg2 harg2 arg3 harg3 arg11 x0 x1 4 336 inb_S8x544x512_S1x64x512_4_336_0) (dw arg4 harg4 x2 18 inb_S31x512_S1x512_18_0))
    (src c i arg2 harg2 arg3 harg3 arg11 x0 x1 5 336 inb_S8x544x512_S1x64x512_5_336_0) (dw arg4 harg4 x2 19 inb_S31x512_S1x512_19_0))
    (src c i arg2 harg2 arg3 harg3 arg11 x0 x1 6 336 inb_S8x544x512_S1x64x512_6_336_0) (dw arg4 harg4 x2 20 inb_S31x512_S1x512_20_0))
    (src c i arg2 harg2 arg3 harg3 arg11 x0 x1 7 336 inb_S8x544x512_S1x64x512_7_336_0) (dw arg4 harg4 x2 21 inb_S31x512_S1x512_21_0))
    (src c i arg2 harg2 arg3 harg3 arg11 x0 x1 0 344 inb_S8x544x512_S1x64x512_0_344_0) (dw arg4 harg4 x2 22 inb_S31x512_S1x512_22_0))
    (src c i arg2 harg2 arg3 harg3 arg11 x0 x1 1 344 inb_S8x544x512_S1x64x512_1_344_0) (dw arg4 harg4 x2 23 inb_S31x512_S1x512_23_0))
    (src c i arg2 harg2 arg3 harg3 arg11 x0 x1 2 344 inb_S8x544x512_S1x64x512_2_344_0) (dw arg4 harg4 x2 24 inb_S31x512_S1x512_24_0))
    (src c i arg2 harg2 arg3 harg3 arg11 x0 x1 3 344 inb_S8x544x512_S1x64x512_3_344_0) (dw arg4 harg4 x2 25 inb_S31x512_S1x512_25_0))
    (src c i arg2 harg2 arg3 harg3 arg11 x0 x1 4 344 inb_S8x544x512_S1x64x512_4_344_0) (dw arg4 harg4 x2 26 inb_S31x512_S1x512_26_0))
    (src c i arg2 harg2 arg3 harg3 arg11 x0 x1 5 344 inb_S8x544x512_S1x64x512_5_344_0) (dw arg4 harg4 x2 27 inb_S31x512_S1x512_27_0))
    (src c i arg2 harg2 arg3 harg3 arg11 x0 x1 6 344 inb_S8x544x512_S1x64x512_6_344_0) (dw arg4 harg4 x2 28 inb_S31x512_S1x512_28_0))
    (src c i arg2 harg2 arg3 harg3 arg11 x0 x1 7 344 inb_S8x544x512_S1x64x512_7_344_0) (dw arg4 harg4 x2 29 inb_S31x512_S1x512_29_0))
    (src c i arg2 harg2 arg3 harg3 arg11 x0 x1 0 352 inb_S8x544x512_S1x64x512_0_352_0) (dw arg4 harg4 x2 30 inb_S31x512_S1x512_30_0)) shapeCasts_S64x512_S64x512

theorem acc5_apply (r : Fin 64) (ch : Fin 512) : @Eq EReal (acc5 c i arg2 harg2 arg3 harg3 arg4 harg4 arg5 harg5 arg11 x0 x1 x2 x3 (ix2 r ch)) (part (i 1).val x0 x1 x2 x3 31 (320 + r.val) ch) :=
  (congrFun (shapeCast_self _ shapeCasts_S64x512_S64x512) _).trans ((tapS c i arg2 harg2 arg3 harg3 arg4 harg4 arg11 x0 x1 x2 x3 30 0 352 320 _ _ _ (by decide) (by decide) (by decide) (by decide)
    (tapS c i arg2 harg2 arg3 harg3 arg4 harg4 arg11 x0 x1 x2 x3 29 7 344 320 _ _ _ (by decide) (by decide) (by decide) (by decide)
    (tapS c i arg2 harg2 arg3 harg3 arg4 harg4 arg11 x0 x1 x2 x3 28 6 344 320 _ _ _ (by decide) (by decide) (by decide) (by decide)
    (tapS c i arg2 harg2 arg3 harg3 arg4 harg4 arg11 x0 x1 x2 x3 27 5 344 320 _ _ _ (by decide) (by decide) (by decide) (by decide)
    (tapS c i arg2 harg2 arg3 harg3 arg4 harg4 arg11 x0 x1 x2 x3 26 4 344 320 _ _ _ (by decide) (by decide) (by decide) (by decide)
    (tapS c i arg2 harg2 arg3 harg3 arg4 harg4 arg11 x0 x1 x2 x3 25 3 344 320 _ _ _ (by decide) (by decide) (by decide) (by decide)
    (tapS c i arg2 harg2 arg3 harg3 arg4 harg4 arg11 x0 x1 x2 x3 24 2 344 320 _ _ _ (by decide) (by decide) (by decide) (by decide)
    (tapS c i arg2 harg2 arg3 harg3 arg4 harg4 arg11 x0 x1 x2 x3 23 1 344 320 _ _ _ (by decide) (by decide) (by decide) (by decide)
    (tapS c i arg2 harg2 arg3 harg3 arg4 harg4 arg11 x0 x1 x2 x3 22 0 344 320 _ _ _ (by decide) (by decide) (by decide) (by decide)
    (tapS c i arg2 harg2 arg3 harg3 arg4 harg4 arg11 x0 x1 x2 x3 21 7 336 320 _ _ _ (by decide) (by decide) (by decide) (by decide)
    (tapS c i arg2 harg2 arg3 harg3 arg4 harg4 arg11 x0 x1 x2 x3 20 6 336 320 _ _ _ (by decide) (by decide) (by decide) (by decide)
    (tapS c i arg2 harg2 arg3 harg3 arg4 harg4 arg11 x0 x1 x2 x3 19 5 336 320 _ _ _ (by decide) (by decide) (by decide) (by decide)
    (tapS c i arg2 harg2 arg3 harg3 arg4 harg4 arg11 x0 x1 x2 x3 18 4 336 320 _ _ _ (by decide) (by decide) (by decide) (by decide)
    (tapS c i arg2 harg2 arg3 harg3 arg4 harg4 arg11 x0 x1 x2 x3 17 3 336 320 _ _ _ (by decide) (by decide) (by decide) (by decide)
    (tapS c i arg2 harg2 arg3 harg3 arg4 harg4 arg11 x0 x1 x2 x3 16 2 336 320 _ _ _ (by decide) (by decide) (by decide) (by decide)
    (tapS c i arg2 harg2 arg3 harg3 arg4 harg4 arg11 x0 x1 x2 x3 15 1 336 320 _ _ _ (by decide) (by decide) (by decide) (by decide)
    (tapS c i arg2 harg2 arg3 harg3 arg4 harg4 arg11 x0 x1 x2 x3 14 0 336 320 _ _ _ (by decide) (by decide) (by decide) (by decide)
    (tapS c i arg2 harg2 arg3 harg3 arg4 harg4 arg11 x0 x1 x2 x3 13 7 328 320 _ _ _ (by decide) (by decide) (by decide) (by decide)
    (tapS c i arg2 harg2 arg3 harg3 arg4 harg4 arg11 x0 x1 x2 x3 12 6 328 320 _ _ _ (by decide) (by decide) (by decide) (by decide)
    (tapS c i arg2 harg2 arg3 harg3 arg4 harg4 arg11 x0 x1 x2 x3 11 5 328 320 _ _ _ (by decide) (by decide) (by decide) (by decide)
    (tapS c i arg2 harg2 arg3 harg3 arg4 harg4 arg11 x0 x1 x2 x3 10 4 328 320 _ _ _ (by decide) (by decide) (by decide) (by decide)
    (tapS c i arg2 harg2 arg3 harg3 arg4 harg4 arg11 x0 x1 x2 x3 9 3 328 320 _ _ _ (by decide) (by decide) (by decide) (by decide)
    (tapS c i arg2 harg2 arg3 harg3 arg4 harg4 arg11 x0 x1 x2 x3 8 2 328 320 _ _ _ (by decide) (by decide) (by decide) (by decide)
    (tapS c i arg2 harg2 arg3 harg3 arg4 harg4 arg11 x0 x1 x2 x3 7 1 328 320 _ _ _ (by decide) (by decide) (by decide) (by decide)
    (tapS c i arg2 harg2 arg3 harg3 arg4 harg4 arg11 x0 x1 x2 x3 6 0 328 320 _ _ _ (by decide) (by decide) (by decide) (by decide)
    (tapS c i arg2 harg2 arg3 harg3 arg4 harg4 arg11 x0 x1 x2 x3 5 7 320 320 _ _ _ (by decide) (by decide) (by decide) (by decide)
    (tapS c i arg2 harg2 arg3 harg3 arg4 harg4 arg11 x0 x1 x2 x3 4 6 320 320 _ _ _ (by decide) (by decide) (by decide) (by decide)
    (tapS c i arg2 harg2 arg3 harg3 arg4 harg4 arg11 x0 x1 x2 x3 3 5 320 320 _ _ _ (by decide) (by decide) (by decide) (by decide)
    (tapS c i arg2 harg2 arg3 harg3 arg4 harg4 arg11 x0 x1 x2 x3 2 4 320 320 _ _ _ (by decide) (by decide) (by decide) (by decide)
    (tapS c i arg2 harg2 arg3 harg3 arg4 harg4 arg11 x0 x1 x2 x3 1 3 320 320 _ _ _ (by decide) (by decide) (by decide) (by decide)
    (tapS c i arg2 harg2 arg3 harg3 arg4 harg4 arg11 x0 x1 x2 x3 0 2 320 320 _ _ _ (by decide) (by decide) (by decide) (by decide)
    (baseS i arg5 harg5 x0 x1 x2 x3 320)))))))))))))))))))))))))))))))) r ch)

/-- Rows 384 to 447. -/
def acc6 : Vec Ideal S64x512 .f32 :=
  shapeCast S64x512 (tap (tap (tap (tap (tap (tap (tap (tap (tap (tap (tap (tap (tap (tap (tap (tap (tap (tap (tap (tap (tap (tap (tap (tap (tap (tap (tap (tap (tap (tap (tap (base (bias arg5 harg5 x3))
    (src c i arg2 harg2 arg3 harg3 arg11 x0 x1 2 384 inb_S8x544x512_S1x64x512_2_384_0) (dw arg4 harg4 x2 0 inb_S31x512_S1x512_0_0))
    (src c i arg2 harg2 arg3 harg3 arg11 x0 x1 3 384 inb_S8x544x512_S1x64x512_3_384_0) (dw arg4 harg4 x2 1 inb_S31x512_S1x512_1_0))
    (src c i arg2 harg2 arg3 harg3 arg11 x0 x1 4 384 inb_S8x544x512_S1x64x512_4_384_0) (dw arg4 harg4 x2 2 inb_S31x512_S1x512_2_0))
    (src c i arg2 harg2 arg3 harg3 arg11 x0 x1 5 384 inb_S8x544x512_S1x64x512_5_384_0) (dw arg4 harg4 x2 3 inb_S31x512_S1x512_3_0))
    (src c i arg2 harg2 arg3 harg3 arg11 x0 x1 6 384 inb_S8x544x512_S1x64x512_6_384_0) (dw arg4 harg4 x2 4 inb_S31x512_S1x512_4_0))
    (src c i arg2 harg2 arg3 harg3 arg11 x0 x1 7 384 inb_S8x544x512_S1x64x512_7_384_0) (dw arg4 harg4 x2 5 inb_S31x512_S1x512_5_0))
    (src c i arg2 harg2 arg3 harg3 arg11 x0 x1 0 392 inb_S8x544x512_S1x64x512_0_392_0) (dw arg4 harg4 x2 6 inb_S31x512_S1x512_6_0))
    (src c i arg2 harg2 arg3 harg3 arg11 x0 x1 1 392 inb_S8x544x512_S1x64x512_1_392_0) (dw arg4 harg4 x2 7 inb_S31x512_S1x512_7_0))
    (src c i arg2 harg2 arg3 harg3 arg11 x0 x1 2 392 inb_S8x544x512_S1x64x512_2_392_0) (dw arg4 harg4 x2 8 inb_S31x512_S1x512_8_0))
    (src c i arg2 harg2 arg3 harg3 arg11 x0 x1 3 392 inb_S8x544x512_S1x64x512_3_392_0) (dw arg4 harg4 x2 9 inb_S31x512_S1x512_9_0))
    (src c i arg2 harg2 arg3 harg3 arg11 x0 x1 4 392 inb_S8x544x512_S1x64x512_4_392_0) (dw arg4 harg4 x2 10 inb_S31x512_S1x512_10_0))
    (src c i arg2 harg2 arg3 harg3 arg11 x0 x1 5 392 inb_S8x544x512_S1x64x512_5_392_0) (dw arg4 harg4 x2 11 inb_S31x512_S1x512_11_0))
    (src c i arg2 harg2 arg3 harg3 arg11 x0 x1 6 392 inb_S8x544x512_S1x64x512_6_392_0) (dw arg4 harg4 x2 12 inb_S31x512_S1x512_12_0))
    (src c i arg2 harg2 arg3 harg3 arg11 x0 x1 7 392 inb_S8x544x512_S1x64x512_7_392_0) (dw arg4 harg4 x2 13 inb_S31x512_S1x512_13_0))
    (src c i arg2 harg2 arg3 harg3 arg11 x0 x1 0 400 inb_S8x544x512_S1x64x512_0_400_0) (dw arg4 harg4 x2 14 inb_S31x512_S1x512_14_0))
    (src c i arg2 harg2 arg3 harg3 arg11 x0 x1 1 400 inb_S8x544x512_S1x64x512_1_400_0) (dw arg4 harg4 x2 15 inb_S31x512_S1x512_15_0))
    (src c i arg2 harg2 arg3 harg3 arg11 x0 x1 2 400 inb_S8x544x512_S1x64x512_2_400_0) (dw arg4 harg4 x2 16 inb_S31x512_S1x512_16_0))
    (src c i arg2 harg2 arg3 harg3 arg11 x0 x1 3 400 inb_S8x544x512_S1x64x512_3_400_0) (dw arg4 harg4 x2 17 inb_S31x512_S1x512_17_0))
    (src c i arg2 harg2 arg3 harg3 arg11 x0 x1 4 400 inb_S8x544x512_S1x64x512_4_400_0) (dw arg4 harg4 x2 18 inb_S31x512_S1x512_18_0))
    (src c i arg2 harg2 arg3 harg3 arg11 x0 x1 5 400 inb_S8x544x512_S1x64x512_5_400_0) (dw arg4 harg4 x2 19 inb_S31x512_S1x512_19_0))
    (src c i arg2 harg2 arg3 harg3 arg11 x0 x1 6 400 inb_S8x544x512_S1x64x512_6_400_0) (dw arg4 harg4 x2 20 inb_S31x512_S1x512_20_0))
    (src c i arg2 harg2 arg3 harg3 arg11 x0 x1 7 400 inb_S8x544x512_S1x64x512_7_400_0) (dw arg4 harg4 x2 21 inb_S31x512_S1x512_21_0))
    (src c i arg2 harg2 arg3 harg3 arg11 x0 x1 0 408 inb_S8x544x512_S1x64x512_0_408_0) (dw arg4 harg4 x2 22 inb_S31x512_S1x512_22_0))
    (src c i arg2 harg2 arg3 harg3 arg11 x0 x1 1 408 inb_S8x544x512_S1x64x512_1_408_0) (dw arg4 harg4 x2 23 inb_S31x512_S1x512_23_0))
    (src c i arg2 harg2 arg3 harg3 arg11 x0 x1 2 408 inb_S8x544x512_S1x64x512_2_408_0) (dw arg4 harg4 x2 24 inb_S31x512_S1x512_24_0))
    (src c i arg2 harg2 arg3 harg3 arg11 x0 x1 3 408 inb_S8x544x512_S1x64x512_3_408_0) (dw arg4 harg4 x2 25 inb_S31x512_S1x512_25_0))
    (src c i arg2 harg2 arg3 harg3 arg11 x0 x1 4 408 inb_S8x544x512_S1x64x512_4_408_0) (dw arg4 harg4 x2 26 inb_S31x512_S1x512_26_0))
    (src c i arg2 harg2 arg3 harg3 arg11 x0 x1 5 408 inb_S8x544x512_S1x64x512_5_408_0) (dw arg4 harg4 x2 27 inb_S31x512_S1x512_27_0))
    (src c i arg2 harg2 arg3 harg3 arg11 x0 x1 6 408 inb_S8x544x512_S1x64x512_6_408_0) (dw arg4 harg4 x2 28 inb_S31x512_S1x512_28_0))
    (src c i arg2 harg2 arg3 harg3 arg11 x0 x1 7 408 inb_S8x544x512_S1x64x512_7_408_0) (dw arg4 harg4 x2 29 inb_S31x512_S1x512_29_0))
    (src c i arg2 harg2 arg3 harg3 arg11 x0 x1 0 416 inb_S8x544x512_S1x64x512_0_416_0) (dw arg4 harg4 x2 30 inb_S31x512_S1x512_30_0)) shapeCasts_S64x512_S64x512

theorem acc6_apply (r : Fin 64) (ch : Fin 512) : @Eq EReal (acc6 c i arg2 harg2 arg3 harg3 arg4 harg4 arg5 harg5 arg11 x0 x1 x2 x3 (ix2 r ch)) (part (i 1).val x0 x1 x2 x3 31 (384 + r.val) ch) :=
  (congrFun (shapeCast_self _ shapeCasts_S64x512_S64x512) _).trans ((tapS c i arg2 harg2 arg3 harg3 arg4 harg4 arg11 x0 x1 x2 x3 30 0 416 384 _ _ _ (by decide) (by decide) (by decide) (by decide)
    (tapS c i arg2 harg2 arg3 harg3 arg4 harg4 arg11 x0 x1 x2 x3 29 7 408 384 _ _ _ (by decide) (by decide) (by decide) (by decide)
    (tapS c i arg2 harg2 arg3 harg3 arg4 harg4 arg11 x0 x1 x2 x3 28 6 408 384 _ _ _ (by decide) (by decide) (by decide) (by decide)
    (tapS c i arg2 harg2 arg3 harg3 arg4 harg4 arg11 x0 x1 x2 x3 27 5 408 384 _ _ _ (by decide) (by decide) (by decide) (by decide)
    (tapS c i arg2 harg2 arg3 harg3 arg4 harg4 arg11 x0 x1 x2 x3 26 4 408 384 _ _ _ (by decide) (by decide) (by decide) (by decide)
    (tapS c i arg2 harg2 arg3 harg3 arg4 harg4 arg11 x0 x1 x2 x3 25 3 408 384 _ _ _ (by decide) (by decide) (by decide) (by decide)
    (tapS c i arg2 harg2 arg3 harg3 arg4 harg4 arg11 x0 x1 x2 x3 24 2 408 384 _ _ _ (by decide) (by decide) (by decide) (by decide)
    (tapS c i arg2 harg2 arg3 harg3 arg4 harg4 arg11 x0 x1 x2 x3 23 1 408 384 _ _ _ (by decide) (by decide) (by decide) (by decide)
    (tapS c i arg2 harg2 arg3 harg3 arg4 harg4 arg11 x0 x1 x2 x3 22 0 408 384 _ _ _ (by decide) (by decide) (by decide) (by decide)
    (tapS c i arg2 harg2 arg3 harg3 arg4 harg4 arg11 x0 x1 x2 x3 21 7 400 384 _ _ _ (by decide) (by decide) (by decide) (by decide)
    (tapS c i arg2 harg2 arg3 harg3 arg4 harg4 arg11 x0 x1 x2 x3 20 6 400 384 _ _ _ (by decide) (by decide) (by decide) (by decide)
    (tapS c i arg2 harg2 arg3 harg3 arg4 harg4 arg11 x0 x1 x2 x3 19 5 400 384 _ _ _ (by decide) (by decide) (by decide) (by decide)
    (tapS c i arg2 harg2 arg3 harg3 arg4 harg4 arg11 x0 x1 x2 x3 18 4 400 384 _ _ _ (by decide) (by decide) (by decide) (by decide)
    (tapS c i arg2 harg2 arg3 harg3 arg4 harg4 arg11 x0 x1 x2 x3 17 3 400 384 _ _ _ (by decide) (by decide) (by decide) (by decide)
    (tapS c i arg2 harg2 arg3 harg3 arg4 harg4 arg11 x0 x1 x2 x3 16 2 400 384 _ _ _ (by decide) (by decide) (by decide) (by decide)
    (tapS c i arg2 harg2 arg3 harg3 arg4 harg4 arg11 x0 x1 x2 x3 15 1 400 384 _ _ _ (by decide) (by decide) (by decide) (by decide)
    (tapS c i arg2 harg2 arg3 harg3 arg4 harg4 arg11 x0 x1 x2 x3 14 0 400 384 _ _ _ (by decide) (by decide) (by decide) (by decide)
    (tapS c i arg2 harg2 arg3 harg3 arg4 harg4 arg11 x0 x1 x2 x3 13 7 392 384 _ _ _ (by decide) (by decide) (by decide) (by decide)
    (tapS c i arg2 harg2 arg3 harg3 arg4 harg4 arg11 x0 x1 x2 x3 12 6 392 384 _ _ _ (by decide) (by decide) (by decide) (by decide)
    (tapS c i arg2 harg2 arg3 harg3 arg4 harg4 arg11 x0 x1 x2 x3 11 5 392 384 _ _ _ (by decide) (by decide) (by decide) (by decide)
    (tapS c i arg2 harg2 arg3 harg3 arg4 harg4 arg11 x0 x1 x2 x3 10 4 392 384 _ _ _ (by decide) (by decide) (by decide) (by decide)
    (tapS c i arg2 harg2 arg3 harg3 arg4 harg4 arg11 x0 x1 x2 x3 9 3 392 384 _ _ _ (by decide) (by decide) (by decide) (by decide)
    (tapS c i arg2 harg2 arg3 harg3 arg4 harg4 arg11 x0 x1 x2 x3 8 2 392 384 _ _ _ (by decide) (by decide) (by decide) (by decide)
    (tapS c i arg2 harg2 arg3 harg3 arg4 harg4 arg11 x0 x1 x2 x3 7 1 392 384 _ _ _ (by decide) (by decide) (by decide) (by decide)
    (tapS c i arg2 harg2 arg3 harg3 arg4 harg4 arg11 x0 x1 x2 x3 6 0 392 384 _ _ _ (by decide) (by decide) (by decide) (by decide)
    (tapS c i arg2 harg2 arg3 harg3 arg4 harg4 arg11 x0 x1 x2 x3 5 7 384 384 _ _ _ (by decide) (by decide) (by decide) (by decide)
    (tapS c i arg2 harg2 arg3 harg3 arg4 harg4 arg11 x0 x1 x2 x3 4 6 384 384 _ _ _ (by decide) (by decide) (by decide) (by decide)
    (tapS c i arg2 harg2 arg3 harg3 arg4 harg4 arg11 x0 x1 x2 x3 3 5 384 384 _ _ _ (by decide) (by decide) (by decide) (by decide)
    (tapS c i arg2 harg2 arg3 harg3 arg4 harg4 arg11 x0 x1 x2 x3 2 4 384 384 _ _ _ (by decide) (by decide) (by decide) (by decide)
    (tapS c i arg2 harg2 arg3 harg3 arg4 harg4 arg11 x0 x1 x2 x3 1 3 384 384 _ _ _ (by decide) (by decide) (by decide) (by decide)
    (tapS c i arg2 harg2 arg3 harg3 arg4 harg4 arg11 x0 x1 x2 x3 0 2 384 384 _ _ _ (by decide) (by decide) (by decide) (by decide)
    (baseS i arg5 harg5 x0 x1 x2 x3 384)))))))))))))))))))))))))))))))) r ch)

/-- Rows 448 to 511. -/
def acc7 : Vec Ideal S64x512 .f32 :=
  shapeCast S64x512 (tap (tap (tap (tap (tap (tap (tap (tap (tap (tap (tap (tap (tap (tap (tap (tap (tap (tap (tap (tap (tap (tap (tap (tap (tap (tap (tap (tap (tap (tap (tap (base (bias arg5 harg5 x3))
    (src c i arg2 harg2 arg3 harg3 arg11 x0 x1 2 448 inb_S8x544x512_S1x64x512_2_448_0) (dw arg4 harg4 x2 0 inb_S31x512_S1x512_0_0))
    (src c i arg2 harg2 arg3 harg3 arg11 x0 x1 3 448 inb_S8x544x512_S1x64x512_3_448_0) (dw arg4 harg4 x2 1 inb_S31x512_S1x512_1_0))
    (src c i arg2 harg2 arg3 harg3 arg11 x0 x1 4 448 inb_S8x544x512_S1x64x512_4_448_0) (dw arg4 harg4 x2 2 inb_S31x512_S1x512_2_0))
    (src c i arg2 harg2 arg3 harg3 arg11 x0 x1 5 448 inb_S8x544x512_S1x64x512_5_448_0) (dw arg4 harg4 x2 3 inb_S31x512_S1x512_3_0))
    (src c i arg2 harg2 arg3 harg3 arg11 x0 x1 6 448 inb_S8x544x512_S1x64x512_6_448_0) (dw arg4 harg4 x2 4 inb_S31x512_S1x512_4_0))
    (src c i arg2 harg2 arg3 harg3 arg11 x0 x1 7 448 inb_S8x544x512_S1x64x512_7_448_0) (dw arg4 harg4 x2 5 inb_S31x512_S1x512_5_0))
    (src c i arg2 harg2 arg3 harg3 arg11 x0 x1 0 456 inb_S8x544x512_S1x64x512_0_456_0) (dw arg4 harg4 x2 6 inb_S31x512_S1x512_6_0))
    (src c i arg2 harg2 arg3 harg3 arg11 x0 x1 1 456 inb_S8x544x512_S1x64x512_1_456_0) (dw arg4 harg4 x2 7 inb_S31x512_S1x512_7_0))
    (src c i arg2 harg2 arg3 harg3 arg11 x0 x1 2 456 inb_S8x544x512_S1x64x512_2_456_0) (dw arg4 harg4 x2 8 inb_S31x512_S1x512_8_0))
    (src c i arg2 harg2 arg3 harg3 arg11 x0 x1 3 456 inb_S8x544x512_S1x64x512_3_456_0) (dw arg4 harg4 x2 9 inb_S31x512_S1x512_9_0))
    (src c i arg2 harg2 arg3 harg3 arg11 x0 x1 4 456 inb_S8x544x512_S1x64x512_4_456_0) (dw arg4 harg4 x2 10 inb_S31x512_S1x512_10_0))
    (src c i arg2 harg2 arg3 harg3 arg11 x0 x1 5 456 inb_S8x544x512_S1x64x512_5_456_0) (dw arg4 harg4 x2 11 inb_S31x512_S1x512_11_0))
    (src c i arg2 harg2 arg3 harg3 arg11 x0 x1 6 456 inb_S8x544x512_S1x64x512_6_456_0) (dw arg4 harg4 x2 12 inb_S31x512_S1x512_12_0))
    (src c i arg2 harg2 arg3 harg3 arg11 x0 x1 7 456 inb_S8x544x512_S1x64x512_7_456_0) (dw arg4 harg4 x2 13 inb_S31x512_S1x512_13_0))
    (src c i arg2 harg2 arg3 harg3 arg11 x0 x1 0 464 inb_S8x544x512_S1x64x512_0_464_0) (dw arg4 harg4 x2 14 inb_S31x512_S1x512_14_0))
    (src c i arg2 harg2 arg3 harg3 arg11 x0 x1 1 464 inb_S8x544x512_S1x64x512_1_464_0) (dw arg4 harg4 x2 15 inb_S31x512_S1x512_15_0))
    (src c i arg2 harg2 arg3 harg3 arg11 x0 x1 2 464 inb_S8x544x512_S1x64x512_2_464_0) (dw arg4 harg4 x2 16 inb_S31x512_S1x512_16_0))
    (src c i arg2 harg2 arg3 harg3 arg11 x0 x1 3 464 inb_S8x544x512_S1x64x512_3_464_0) (dw arg4 harg4 x2 17 inb_S31x512_S1x512_17_0))
    (src c i arg2 harg2 arg3 harg3 arg11 x0 x1 4 464 inb_S8x544x512_S1x64x512_4_464_0) (dw arg4 harg4 x2 18 inb_S31x512_S1x512_18_0))
    (src c i arg2 harg2 arg3 harg3 arg11 x0 x1 5 464 inb_S8x544x512_S1x64x512_5_464_0) (dw arg4 harg4 x2 19 inb_S31x512_S1x512_19_0))
    (src c i arg2 harg2 arg3 harg3 arg11 x0 x1 6 464 inb_S8x544x512_S1x64x512_6_464_0) (dw arg4 harg4 x2 20 inb_S31x512_S1x512_20_0))
    (src c i arg2 harg2 arg3 harg3 arg11 x0 x1 7 464 inb_S8x544x512_S1x64x512_7_464_0) (dw arg4 harg4 x2 21 inb_S31x512_S1x512_21_0))
    (src c i arg2 harg2 arg3 harg3 arg11 x0 x1 0 472 inb_S8x544x512_S1x64x512_0_472_0) (dw arg4 harg4 x2 22 inb_S31x512_S1x512_22_0))
    (src c i arg2 harg2 arg3 harg3 arg11 x0 x1 1 472 inb_S8x544x512_S1x64x512_1_472_0) (dw arg4 harg4 x2 23 inb_S31x512_S1x512_23_0))
    (src c i arg2 harg2 arg3 harg3 arg11 x0 x1 2 472 inb_S8x544x512_S1x64x512_2_472_0) (dw arg4 harg4 x2 24 inb_S31x512_S1x512_24_0))
    (src c i arg2 harg2 arg3 harg3 arg11 x0 x1 3 472 inb_S8x544x512_S1x64x512_3_472_0) (dw arg4 harg4 x2 25 inb_S31x512_S1x512_25_0))
    (src c i arg2 harg2 arg3 harg3 arg11 x0 x1 4 472 inb_S8x544x512_S1x64x512_4_472_0) (dw arg4 harg4 x2 26 inb_S31x512_S1x512_26_0))
    (src c i arg2 harg2 arg3 harg3 arg11 x0 x1 5 472 inb_S8x544x512_S1x64x512_5_472_0) (dw arg4 harg4 x2 27 inb_S31x512_S1x512_27_0))
    (src c i arg2 harg2 arg3 harg3 arg11 x0 x1 6 472 inb_S8x544x512_S1x64x512_6_472_0) (dw arg4 harg4 x2 28 inb_S31x512_S1x512_28_0))
    (src c i arg2 harg2 arg3 harg3 arg11 x0 x1 7 472 inb_S8x544x512_S1x64x512_7_472_0) (dw arg4 harg4 x2 29 inb_S31x512_S1x512_29_0))
    (src c i arg2 harg2 arg3 harg3 arg11 x0 x1 0 480 inb_S8x544x512_S1x64x512_0_480_0) (dw arg4 harg4 x2 30 inb_S31x512_S1x512_30_0)) shapeCasts_S64x512_S64x512

theorem acc7_apply (r : Fin 64) (ch : Fin 512) : @Eq EReal (acc7 c i arg2 harg2 arg3 harg3 arg4 harg4 arg5 harg5 arg11 x0 x1 x2 x3 (ix2 r ch)) (part (i 1).val x0 x1 x2 x3 31 (448 + r.val) ch) :=
  (congrFun (shapeCast_self _ shapeCasts_S64x512_S64x512) _).trans ((tapS c i arg2 harg2 arg3 harg3 arg4 harg4 arg11 x0 x1 x2 x3 30 0 480 448 _ _ _ (by decide) (by decide) (by decide) (by decide)
    (tapS c i arg2 harg2 arg3 harg3 arg4 harg4 arg11 x0 x1 x2 x3 29 7 472 448 _ _ _ (by decide) (by decide) (by decide) (by decide)
    (tapS c i arg2 harg2 arg3 harg3 arg4 harg4 arg11 x0 x1 x2 x3 28 6 472 448 _ _ _ (by decide) (by decide) (by decide) (by decide)
    (tapS c i arg2 harg2 arg3 harg3 arg4 harg4 arg11 x0 x1 x2 x3 27 5 472 448 _ _ _ (by decide) (by decide) (by decide) (by decide)
    (tapS c i arg2 harg2 arg3 harg3 arg4 harg4 arg11 x0 x1 x2 x3 26 4 472 448 _ _ _ (by decide) (by decide) (by decide) (by decide)
    (tapS c i arg2 harg2 arg3 harg3 arg4 harg4 arg11 x0 x1 x2 x3 25 3 472 448 _ _ _ (by decide) (by decide) (by decide) (by decide)
    (tapS c i arg2 harg2 arg3 harg3 arg4 harg4 arg11 x0 x1 x2 x3 24 2 472 448 _ _ _ (by decide) (by decide) (by decide) (by decide)
    (tapS c i arg2 harg2 arg3 harg3 arg4 harg4 arg11 x0 x1 x2 x3 23 1 472 448 _ _ _ (by decide) (by decide) (by decide) (by decide)
    (tapS c i arg2 harg2 arg3 harg3 arg4 harg4 arg11 x0 x1 x2 x3 22 0 472 448 _ _ _ (by decide) (by decide) (by decide) (by decide)
    (tapS c i arg2 harg2 arg3 harg3 arg4 harg4 arg11 x0 x1 x2 x3 21 7 464 448 _ _ _ (by decide) (by decide) (by decide) (by decide)
    (tapS c i arg2 harg2 arg3 harg3 arg4 harg4 arg11 x0 x1 x2 x3 20 6 464 448 _ _ _ (by decide) (by decide) (by decide) (by decide)
    (tapS c i arg2 harg2 arg3 harg3 arg4 harg4 arg11 x0 x1 x2 x3 19 5 464 448 _ _ _ (by decide) (by decide) (by decide) (by decide)
    (tapS c i arg2 harg2 arg3 harg3 arg4 harg4 arg11 x0 x1 x2 x3 18 4 464 448 _ _ _ (by decide) (by decide) (by decide) (by decide)
    (tapS c i arg2 harg2 arg3 harg3 arg4 harg4 arg11 x0 x1 x2 x3 17 3 464 448 _ _ _ (by decide) (by decide) (by decide) (by decide)
    (tapS c i arg2 harg2 arg3 harg3 arg4 harg4 arg11 x0 x1 x2 x3 16 2 464 448 _ _ _ (by decide) (by decide) (by decide) (by decide)
    (tapS c i arg2 harg2 arg3 harg3 arg4 harg4 arg11 x0 x1 x2 x3 15 1 464 448 _ _ _ (by decide) (by decide) (by decide) (by decide)
    (tapS c i arg2 harg2 arg3 harg3 arg4 harg4 arg11 x0 x1 x2 x3 14 0 464 448 _ _ _ (by decide) (by decide) (by decide) (by decide)
    (tapS c i arg2 harg2 arg3 harg3 arg4 harg4 arg11 x0 x1 x2 x3 13 7 456 448 _ _ _ (by decide) (by decide) (by decide) (by decide)
    (tapS c i arg2 harg2 arg3 harg3 arg4 harg4 arg11 x0 x1 x2 x3 12 6 456 448 _ _ _ (by decide) (by decide) (by decide) (by decide)
    (tapS c i arg2 harg2 arg3 harg3 arg4 harg4 arg11 x0 x1 x2 x3 11 5 456 448 _ _ _ (by decide) (by decide) (by decide) (by decide)
    (tapS c i arg2 harg2 arg3 harg3 arg4 harg4 arg11 x0 x1 x2 x3 10 4 456 448 _ _ _ (by decide) (by decide) (by decide) (by decide)
    (tapS c i arg2 harg2 arg3 harg3 arg4 harg4 arg11 x0 x1 x2 x3 9 3 456 448 _ _ _ (by decide) (by decide) (by decide) (by decide)
    (tapS c i arg2 harg2 arg3 harg3 arg4 harg4 arg11 x0 x1 x2 x3 8 2 456 448 _ _ _ (by decide) (by decide) (by decide) (by decide)
    (tapS c i arg2 harg2 arg3 harg3 arg4 harg4 arg11 x0 x1 x2 x3 7 1 456 448 _ _ _ (by decide) (by decide) (by decide) (by decide)
    (tapS c i arg2 harg2 arg3 harg3 arg4 harg4 arg11 x0 x1 x2 x3 6 0 456 448 _ _ _ (by decide) (by decide) (by decide) (by decide)
    (tapS c i arg2 harg2 arg3 harg3 arg4 harg4 arg11 x0 x1 x2 x3 5 7 448 448 _ _ _ (by decide) (by decide) (by decide) (by decide)
    (tapS c i arg2 harg2 arg3 harg3 arg4 harg4 arg11 x0 x1 x2 x3 4 6 448 448 _ _ _ (by decide) (by decide) (by decide) (by decide)
    (tapS c i arg2 harg2 arg3 harg3 arg4 harg4 arg11 x0 x1 x2 x3 3 5 448 448 _ _ _ (by decide) (by decide) (by decide) (by decide)
    (tapS c i arg2 harg2 arg3 harg3 arg4 harg4 arg11 x0 x1 x2 x3 2 4 448 448 _ _ _ (by decide) (by decide) (by decide) (by decide)
    (tapS c i arg2 harg2 arg3 harg3 arg4 harg4 arg11 x0 x1 x2 x3 1 3 448 448 _ _ _ (by decide) (by decide) (by decide) (by decide)
    (tapS c i arg2 harg2 arg3 harg3 arg4 harg4 arg11 x0 x1 x2 x3 0 2 448 448 _ _ _ (by decide) (by decide) (by decide) (by decide)
    (baseS i arg5 harg5 x0 x1 x2 x3 448)))))))))))))))))))))))))))))))) r ch)

theorem rows : HS1_8 (F := Ideal) c i arg2 harg2 arg3 harg3 arg4 harg4 arg5 harg5 arg11 x0 x1 x2 x3 =
    [⟨Rect.unit (s := S512x512) ![448, 0] S64x512.size inb_S512x512_S64x512_448_0, acc7 c i arg2 harg2 arg3 harg3 arg4 harg4 arg5 harg5 arg11 x0 x1 x2 x3⟩,
      ⟨Rect.unit (s := S512x512) ![384, 0] S64x512.size inb_S512x512_S64x512_384_0, acc6 c i arg2 harg2 arg3 harg3 arg4 harg4 arg5 harg5 arg11 x0 x1 x2 x3⟩,
      ⟨Rect.unit (s := S512x512) ![320, 0] S64x512.size inb_S512x512_S64x512_320_0, acc5 c i arg2 harg2 arg3 harg3 arg4 harg4 arg5 harg5 arg11 x0 x1 x2 x3⟩,
      ⟨Rect.unit (s := S512x512) ![256, 0] S64x512.size inb_S512x512_S64x512_256_0, acc4 c i arg2 harg2 arg3 harg3 arg4 harg4 arg5 harg5 arg11 x0 x1 x2 x3⟩,
      ⟨Rect.unit (s := S512x512) ![192, 0] S64x512.size inb_S512x512_S64x512_192_0, acc3 c i arg2 harg2 arg3 harg3 arg4 harg4 arg5 harg5 arg11 x0 x1 x2 x3⟩,
      ⟨Rect.unit (s := S512x512) ![128, 0] S64x512.size inb_S512x512_S64x512_128_0, acc2 c i arg2 harg2 arg3 harg3 arg4 harg4 arg5 harg5 arg11 x0 x1 x2 x3⟩,
      ⟨Rect.unit (s := S512x512) ![64, 0] S64x512.size inb_S512x512_S64x512_64_0, acc1 c i arg2 harg2 arg3 harg3 arg4 harg4 arg5 harg5 arg11 x0 x1 x2 x3⟩,
      ⟨Rect.unit (s := S512x512) ![0, 0] S64x512.size inb_S512x512_S64x512_0_0, acc0 c i arg2 harg2 arg3 harg3 arg4 harg4 arg5 harg5 arg11 x0 x1 x2 x3⟩] := by
  sl_kernel_rfl

theorem idxv2 (off size : Fin S512x512.rank → ℕ) (inb : ∀ a, off a + size a ≤ S512x512.size a) (x : (Rect.unit off size inb).shape.Idx) (a : Fin S512x512.rank) :
    ((Rect.unit off size inb).idx x a).val = off a + (x a).val := Rect.idx_unit_val off size inb x a

theorem nm2 (R : Rect S512x512) (w : R.shape.Idx → Elt Ideal .f32) (L : List (View.Piece (Elt Ideal) S512x512 .f32)) (y : S512x512.Idx) (h : y ∉ R.set) :
    View.canon (⟨R, w⟩ :: L) y = View.canon L y :=
  View.canon_cons_of_not_mem ⟨R, w⟩ L h

theorem rowStep (P : ℕ → Fin 512 → EReal) (r0 : ℕ) (inb) (L : List (View.Piece (Elt Ideal) S512x512 .f32)) (acc : Vec Ideal S64x512 .f32)
    (hacc : ∀ (r : Fin 64) (ch : Fin 512), @Eq EReal (acc (ix2 r ch)) (P (r0 + r.val) ch))
    (hL : ∀ y : S512x512.Idx, (y 0).val < r0 → @Eq EReal (View.canon L y) (P (y 0).val (y 1))) (y : S512x512.Idx) (hy : (y 0).val < r0 + 64) :
    @Eq EReal (View.canon (⟨Rect.unit (s := S512x512) ![r0, 0] S64x512.size inb, acc⟩ :: L) y) (P (y 0).val (y 1)) := by
  by_cases hm : y ∈ (Rect.unit (s := S512x512) ![r0, 0] S64x512.size inb).set
  · obtain ⟨x, rfl⟩ := (Rect.unit (s := S512x512) ![r0, 0] S64x512.size inb).exists_idx_of_mem hm
    refine (View.canon_cons_emb _ _ _ x).trans ?_
    have hx : x = ix2 (x 0) (x 1) := eq_ix2 x
    have e0 : (((Rect.unit (s := S512x512) ![r0, 0] S64x512.size inb).idx x) 0).val = r0 + (x 0).val := Rect.idx_unit_val _ _ _ x 0
    have e1 : (((Rect.unit (s := S512x512) ![r0, 0] S64x512.size inb).idx x) 1).val = 0 + (x 1).val := Rect.idx_unit_val _ _ _ x 1
    exact ((congrArg acc hx).trans (hacc (x 0) (x 1))).trans (congrArg₂ P e0.symm (Fin.ext (e1.trans (Nat.zero_add _)).symm))
  · refine (nm2 _ _ _ _ hm).trans (hL y ?_)
    by_contra hc
    apply hm
    rw [Rect.mem_set_unit]
    have k0 : r0 ≤ (y 0).val ∧ (y 0).val < r0 + 64 := by omega
    have k1 : 0 ≤ (y 1).val ∧ (y 1).val < 0 + 512 := ⟨Nat.zero_le _, by simpa using (y 1).isLt⟩
    intro a
    match a with
    | 0 => exact k0
    | 1 => exact k1

theorem rows_apply (y : S512x512.Idx) : @Eq EReal (View.canon (HS1_8 (F := Ideal) c i arg2 harg2 arg3 harg3 arg4 harg4 arg5 harg5 arg11 x0 x1 x2 x3) y)
    (part (i 1).val x0 x1 x2 x3 31 (y 0).val (y 1)) := by
  rw [rows]
  exact rowStep (part (i 1).val x0 x1 x2 x3 31) 448 _ _ _ (acc7_apply c i arg2 harg2 arg3 harg3 arg4 harg4 arg5 harg5 arg11 x0 x1 x2 x3)
    ((rowStep (part (i 1).val x0 x1 x2 x3 31) 384 _ _ _ (acc6_apply c i arg2 harg2 arg3 harg3 arg4 harg4 arg5 harg5 arg11 x0 x1 x2 x3)
    ((rowStep (part (i 1).val x0 x1 x2 x3 31) 320 _ _ _ (acc5_apply c i arg2 harg2 arg3 harg3 arg4 harg4 arg5 harg5 arg11 x0 x1 x2 x3)
    ((rowStep (part (i 1).val x0 x1 x2 x3 31) 256 _ _ _ (acc4_apply c i arg2 harg2 arg3 harg3 arg4 harg4 arg5 harg5 arg11 x0 x1 x2 x3)
    ((rowStep (part (i 1).val x0 x1 x2 x3 31) 192 _ _ _ (acc3_apply c i arg2 harg2 arg3 harg3 arg4 harg4 arg5 harg5 arg11 x0 x1 x2 x3)
    ((rowStep (part (i 1).val x0 x1 x2 x3 31) 128 _ _ _ (acc2_apply c i arg2 harg2 arg3 harg3 arg4 harg4 arg5 harg5 arg11 x0 x1 x2 x3)
    ((rowStep (part (i 1).val x0 x1 x2 x3 31) 64 _ _ _ (acc1_apply c i arg2 harg2 arg3 harg3 arg4 harg4 arg5 harg5 arg11 x0 x1 x2 x3)
    ((rowStep (part (i 1).val x0 x1 x2 x3 31) 0 _ _ _ (acc0_apply c i arg2 harg2 arg3 harg3 arg4 harg4 arg5 harg5 arg11 x0 x1 x2 x3)
    (fun y h => absurd h (Nat.not_lt_zero _)))))))))))))))) y (y 0).isLt

variable (arg6 : Memref sig .tc .vmem S1x512 .f32) (harg6 : arg6.IsWhole) (arg7 : Memref sig .tc .vmem S1x512 .f32) (harg7 : arg7.IsWhole) (arg8 : Memref sig .tc .vmem S512x1024 .bf16) (harg8 : arg8.IsWhole)
  (arg9 arg10 : Memref sig .tc .vmem S1x512x1024 .f32) (harg9 : arg9.IsWhole) (harg10 : arg10.IsWhole) (harg11 : arg11.IsWhole) (arg12 : Memref sig .tc .vmem S512x512 .f32) (harg12 : arg12.IsWhole)
  (x4 x5 : Vec Ideal S1x512 .f32) (x6 : Vec Ideal S512x1024 .bf16) (x7 : Vec Ideal S1x512x1024 .f32)

/-- The tile after the convolution, as it is read back. -/
def ys : Vec Ideal S512x512 .f32 :=
  arg12.view.readCov (HS1_8 (F := Ideal) c i arg2 harg2 arg3 harg3 arg4 harg4 arg5 harg5 arg11 x0 x1 x2 x3) (Rect.unit (s := S512x512) ![0, 0] S512x512.size inb_S512x512_S512x512_0_0).toLoadRect

theorem ys_apply (r ch : Fin 512) : @Eq EReal (ys c i arg2 harg2 arg3 harg3 arg4 harg4 arg5 harg5 arg11 x0 x1 x2 x3 arg12 (ix2 r ch)) (part (i 1).val x0 x1 x2 x3 31 r.val ch) := by
  have e0 : (((Rect.unit (s := S512x512) ![0, 0] S512x512.size inb_S512x512_S512x512_0_0).idx (ix2 r ch)) 0).val = 0 + r.val := idxv2 ![0, 0] S512x512.size inb_S512x512_S512x512_0_0 (ix2 r ch) 0
  have e1 : (((Rect.unit (s := S512x512) ![0, 0] S512x512.size inb_S512x512_S512x512_0_0).idx (ix2 r ch)) 1).val = 0 + ch.val := idxv2 ![0, 0] S512x512.size inb_S512x512_S512x512_0_0 (ix2 r ch) 1
  unfold ys
  rw [View.readCov_eq_canon']
  exact (rows_apply c i arg2 harg2 arg3 harg3 arg4 harg4 arg5 harg5 arg11 x0 x1 x2 x3 _).trans
    (congrArg₂ (part (i 1).val x0 x1 x2 x3 31) (e0.trans (Nat.zero_add _)) (Fin.ext (e1.trans (Nat.zero_add _))))

/-- The weights and the gate. -/
def wts : Vec Ideal S512x1024 .bf16 := View.readAt (Elt Ideal) arg8.view (Rect.unit (s := S512x1024) ![0, 0] S512x1024.size inb_S512x1024_S512x1024_0_0).toLoadRect (harg8.unread x6)
def gate : Vec Ideal S1x512x1024 .f32 := View.readAt (Elt Ideal) arg9.view (Rect.unit (s := S1x512x1024) ![0, 0, 0] S1x512x1024.size inb_S1x512x1024_S1x512x1024_0_0_0).toLoadRect (harg9.unread x7)

theorem wts_eq : wts arg8 harg8 x6 = x6 := by
  unfold wts
  funext y
  rw [View.readAt_apply, harg8.read_unread]
  congr 1
  funext a
  apply Fin.ext
  match a with
  | 0 => exact (Rect.idx_unit_val _ _ _ _ 0).trans (Nat.zero_add _)
  | 1 => exact (Rect.idx_unit_val _ _ _ _ 1).trans (Nat.zero_add _)

theorem gate_eq : gate arg9 harg9 x7 = x7 := by
  unfold gate
  funext y
  rw [View.readAt_apply, harg9.read_unread]
  congr 1
  funext a
  apply Fin.ext
  match a with
  | 0 => exact (Rect.idx_unit_val _ _ _ _ 0).trans (Nat.zero_add _)
  | 1 => exact (Rect.idx_unit_val _ _ _ _ 1).trans (Nat.zero_add _)
  | 2 => exact (Rect.idx_unit_val _ _ _ _ 2).trans (Nat.zero_add _)

theorem piece : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5 x6 x7).1
    = [⟨Rect.unit (s := S1x512x1024) ![0, 0, 0] S1x512x1024.size inb_S1x512x1024_S1x512x1024_0_0_0,
        k0_pay1 (F := Ideal) (k0_pay166 (F := Ideal) (ys c i arg2 harg2 arg3 harg3 arg4 harg4 arg5 harg5 arg11 x0 x1 x2 x3 arg12) (bias arg6 harg6 x4)) (bias arg7 harg7 x5) (wts arg8 harg8 x6) (gate arg9 harg9 x7)⟩] := by
  sl_kernel_rfl

theorem out_apply (r : Fin 512) (j : Fin 1024) :
    @Eq EReal (out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7 (ix3 0 r j))
      (out (norm (fun k => part (i 1).val x0 x1 x2 x3 31 r.val k) (fun k => x4 (ix2 0 k)) (fun k => x5 (ix2 0 k))) (fun l => x6 (ix2 l j)) (x7 (ix3 0 r j))) := by
  unfold out0_A_8
  rw [View.read_writes_junk_eq_canon, piece, View.canon_cons_unit_lit _ _ _ (by decide), pay1_apply, wts_eq, gate_eq]
  refine congrArg (fun z => out z _ _) (funext fun l => ?_)
  refine (pay166_apply _ _ _ r l).trans ?_
  simp only [ys_apply, bias_apply]

end

end Cert.ConvIdeal.Val

end
-- ==== Proof.ConvRef.lean ====
/- The reference of the convolution at an index. -/
module

public import proofs.«01_k».proof.Proof.ConvSpec
public import proofs.«01_k».proof.Proof.Gen.ConvReferenceIdeal.Read
public import Idealize.ShloMosaic.Lib.Pointwise
public import Idealize.ShloMosaic.Lib.Pipeline.ValueKit
public import Idealize.ShloMosaic.PureOps.Ideal.Laws

@[expose] public section

set_option maxRecDepth 16384

noncomputable section

namespace Cert.ConvReferenceIdeal.Val

open Idealize.ShloMosaic Idealize.SL.Sem Cert.ConvReferenceIdeal Cert.ConvReferenceIdeal.Read Cert.ConvSpec

variable (U : (⟨S4x4096x512, .f32⟩ : BufTy).Contents (Elt Ideal)) (DW : (⟨S31x512, .f32⟩ : BufTy).Contents (Elt Ideal)) (B G LB : (⟨S512, .f32⟩ : BufTy).Contents (Elt Ideal)) (W : (⟨S512x1024, .f32⟩ : BufTy).Contents (Elt Ideal)) (GC : (⟨S4x4096x1024, .f32⟩ : BufTy).Contents (Elt Ideal))

/-- Row `j` of a batch behind 30 rows of nothing. -/
def past (b : Fin 4) (j : ℕ) (ch : Fin 512) : EReal := if h : 30 ≤ j ∧ j < 4126 then U (ix3 b ⟨j - 30, by omega⟩ ch) else 0

/-- Tap `w` of a channel. -/
def tapAt (w : ℕ) (ch : Fin 512) : EReal := if h : w < 31 then DW (ix2 ⟨w, h⟩ ch) else 0

theorem tapAt_eq (w : ℕ) (h : w < 31) (ch : Fin 512) : @Eq EReal (tapAt DW w ch) (DW (ix2 ⟨w, h⟩ ch)) := dif_pos h

theorem v0 (b : Fin 4) (j : Fin 4126) (ch : Fin 512) : @Eq EReal (val_main_v0 U (ix3 b j ch)) (past U b j.val ch) := by
  unfold val_main_v0 val_main_call0_v0 val_main_c
  unfold past
  by_cases hs : 30 ≤ j.val
  · rw [dif_pos ⟨hs, j.isLt⟩]
    pointwise
    exact dif_pos ⟨hs, by omega⟩
  · rw [dif_neg (fun e => hs e.1)]
    pointwise
    rw [dif_neg (fun e => hs e.1)]
    show ((((0#32 : BitVec 32).toInt : ℝ)) : EReal) = 0
    simp

theorem t0 (b : Fin 4) (s : Fin 4096) (ch : Fin 512) : @Eq EReal (val_main_v8 U DW (ix3 b s ch)) (∑ w ∈ Finset.range 1, past U b (s.val + w) ch * tapAt DW w ch) := by
  unfold val_main_v8 val_main_v6 val_main_v5 val_main_v4 val_main_v3 val_main_v2 val_main_v1 val_main_v7 val_main_cst
  pointwise
  rw [v0, Finset.sum_range_succ, Finset.sum_range_zero, zero_add]
  exact (congrArg₂ (· * ·) rfl (tapAt_eq DW 0 (by decide) ch).symm)

theorem t1 (b : Fin 4) (s : Fin 4096) (ch : Fin 512) : @Eq EReal (val_main_v15 U DW (ix3 b s ch)) (∑ w ∈ Finset.range 2, past U b (s.val + w) ch * tapAt DW w ch) := by
  unfold val_main_v15 val_main_v14 val_main_v13 val_main_v12 val_main_v11 val_main_v10 val_main_v9
  pointwise
  rw [v0, Finset.sum_range_succ, t0 U DW b s ch]
  exact congrArg₂ (· + ·) rfl (congrArg₂ (· * ·) (congrArg (fun n => past U b n ch) (by simp <;> omega)) (tapAt_eq DW 1 (by decide) ch).symm)

theorem t2 (b : Fin 4) (s : Fin 4096) (ch : Fin 512) : @Eq EReal (val_main_v22 U DW (ix3 b s ch)) (∑ w ∈ Finset.range 3, past U b (s.val + w) ch * tapAt DW w ch) := by
  unfold val_main_v22 val_main_v21 val_main_v20 val_main_v19 val_main_v18 val_main_v17 val_main_v16
  pointwise
  rw [v0, Finset.sum_range_succ, t1 U DW b s ch]
  exact congrArg₂ (· + ·) rfl (congrArg₂ (· * ·) (congrArg (fun n => past U b n ch) (by simp <;> omega)) (tapAt_eq DW 2 (by decide) ch).symm)

theorem t3 (b : Fin 4) (s : Fin 4096) (ch : Fin 512) : @Eq EReal (val_main_v29 U DW (ix3 b s ch)) (∑ w ∈ Finset.range 4, past U b (s.val + w) ch * tapAt DW w ch) := by
  unfold val_main_v29 val_main_v28 val_main_v27 val_main_v26 val_main_v25 val_main_v24 val_main_v23
  pointwise
  rw [v0, Finset.sum_range_succ, t2 U DW b s ch]
  exact congrArg₂ (· + ·) rfl (congrArg₂ (· * ·) (congrArg (fun n => past U b n ch) (by simp <;> omega)) (tapAt_eq DW 3 (by decide) ch).symm)

theorem t4 (b : Fin 4) (s : Fin 4096) (ch : Fin 512) : @Eq EReal (val_main_v36 U DW (ix3 b s ch)) (∑ w ∈ Finset.range 5, past U b (s.val + w) ch * tapAt DW w ch) := by
  unfold val_main_v36 val_main_v35 val_main_v34 val_main_v33 val_main_v32 val_main_v31 val_main_v30
  pointwise
  rw [v0, Finset.sum_range_succ, t3 U DW b s ch]
  exact congrArg₂ (· + ·) rfl (congrArg₂ (· * ·) (congrArg (fun n => past U b n ch) (by simp <;> omega)) (tapAt_eq DW 4 (by decide) ch).symm)

theorem t5 (b : Fin 4) (s : Fin 4096) (ch : Fin 512) : @Eq EReal (val_main_v43 U DW (ix3 b s ch)) (∑ w ∈ Finset.range 6, past U b (s.val + w) ch * tapAt DW w ch) := by
  unfold val_main_v43 val_main_v42 val_main_v41 val_main_v40 val_main_v39 val_main_v38 val_main_v37
  pointwise
  rw [v0, Finset.sum_range_succ, t4 U DW b s ch]
  exact congrArg₂ (· + ·) rfl (congrArg₂ (· * ·) (congrArg (fun n => past U b n ch) (by simp <;> omega)) (tapAt_eq DW 5 (by decide) ch).symm)

theorem t6 (b : Fin 4) (s : Fin 4096) (ch : Fin 512) : @Eq EReal (val_main_v50 U DW (ix3 b s ch)) (∑ w ∈ Finset.range 7, past U b (s.val + w) ch * tapAt DW w ch) := by
  unfold val_main_v50 val_main_v49 val_main_v48 val_main_v47 val_main_v46 val_main_v45 val_main_v44
  pointwise
  rw [v0, Finset.sum_range_succ, t5 U DW b s ch]
  exact congrArg₂ (· + ·) rfl (congrArg₂ (· * ·) (congrArg (fun n => past U b n ch) (by simp <;> omega)) (tapAt_eq DW 6 (by decide) ch).symm)

theorem t7 (b : Fin 4) (s : Fin 4096) (ch : Fin 512) : @Eq EReal (val_main_v57 U DW (ix3 b s ch)) (∑ w ∈ Finset.range 8, past U b (s.val + w) ch * tapAt DW w ch) := by
  unfold val_main_v57 val_main_v56 val_main_v55 val_main_v54 val_main_v53 val_main_v52 val_main_v51
  pointwise
  rw [v0, Finset.sum_range_succ, t6 U DW b s ch]
  exact congrArg₂ (· + ·) rfl (congrArg₂ (· * ·) (congrArg (fun n => past U b n ch) (by simp <;> omega)) (tapAt_eq DW 7 (by decide) ch).symm)

theorem t8 (b : Fin 4) (s : Fin 4096) (ch : Fin 512) : @Eq EReal (val_main_v64 U DW (ix3 b s ch)) (∑ w ∈ Finset.range 9, past U b (s.val + w) ch * tapAt DW w ch) := by
  unfold val_main_v64 val_main_v63 val_main_v62 val_main_v61 val_main_v60 val_main_v59 val_main_v58
  pointwise
  rw [v0, Finset.sum_range_succ, t7 U DW b s ch]
  exact congrArg₂ (· + ·) rfl (congrArg₂ (· * ·) (congrArg (fun n => past U b n ch) (by simp <;> omega)) (tapAt_eq DW 8 (by decide) ch).symm)

theorem t9 (b : Fin 4) (s : Fin 4096) (ch : Fin 512) : @Eq EReal (val_main_v71 U DW (ix3 b s ch)) (∑ w ∈ Finset.range 10, past U b (s.val + w) ch * tapAt DW w ch) := by
  unfold val_main_v71 val_main_v70 val_main_v69 val_main_v68 val_main_v67 val_main_v66 val_main_v65
  pointwise
  rw [v0, Finset.sum_range_succ, t8 U DW b s ch]
  exact congrArg₂ (· + ·) rfl (congrArg₂ (· * ·) (congrArg (fun n => past U b n ch) (by simp <;> omega)) (tapAt_eq DW 9 (by decide) ch).symm)

theorem t10 (b : Fin 4) (s : Fin 4096) (ch : Fin 512) : @Eq EReal (val_main_v78 U DW (ix3 b s ch)) (∑ w ∈ Finset.range 11, past U b (s.val + w) ch * tapAt DW w ch) := by
  unfold val_main_v78 val_main_v77 val_main_v76 val_main_v75 val_main_v74 val_main_v73 val_main_v72
  pointwise
  rw [v0, Finset.sum_range_succ, t9 U DW b s ch]
  exact congrArg₂ (· + ·) rfl (congrArg₂ (· * ·) (congrArg (fun n => past U b n ch) (by simp <;> omega)) (tapAt_eq DW 10 (by decide) ch).symm)

theorem t11 (b : Fin 4) (s : Fin 4096) (ch : Fin 512) : @Eq EReal (val_main_v85 U DW (ix3 b s ch)) (∑ w ∈ Finset.range 12, past U b (s.val + w) ch * tapAt DW w ch) := by
  unfold val_main_v85 val_main_v84 val_main_v83 val_main_v82 val_main_v81 val_main_v80 val_main_v79
  pointwise
  rw [v0, Finset.sum_range_succ, t10 U DW b s ch]
  exact congrArg₂ (· + ·) rfl (congrArg₂ (· * ·) (congrArg (fun n => past U b n ch) (by simp <;> omega)) (tapAt_eq DW 11 (by decide) ch).symm)

theorem t12 (b : Fin 4) (s : Fin 4096) (ch : Fin 512) : @Eq EReal (val_main_v92 U DW (ix3 b s ch)) (∑ w ∈ Finset.range 13, past U b (s.val + w) ch * tapAt DW w ch) := by
  unfold val_main_v92 val_main_v91 val_main_v90 val_main_v89 val_main_v88 val_main_v87 val_main_v86
  pointwise
  rw [v0, Finset.sum_range_succ, t11 U DW b s ch]
  exact congrArg₂ (· + ·) rfl (congrArg₂ (· * ·) (congrArg (fun n => past U b n ch) (by simp <;> omega)) (tapAt_eq DW 12 (by decide) ch).symm)

theorem t13 (b : Fin 4) (s : Fin 4096) (ch : Fin 512) : @Eq EReal (val_main_v99 U DW (ix3 b s ch)) (∑ w ∈ Finset.range 14, past U b (s.val + w) ch * tapAt DW w ch) := by
  unfold val_main_v99 val_main_v98 val_main_v97 val_main_v96 val_main_v95 val_main_v94 val_main_v93
  pointwise
  rw [v0, Finset.sum_range_succ, t12 U DW b s ch]
  exact congrArg₂ (· + ·) rfl (congrArg₂ (· * ·) (congrArg (fun n => past U b n ch) (by simp <;> omega)) (tapAt_eq DW 13 (by decide) ch).symm)

theorem t14 (b : Fin 4) (s : Fin 4096) (ch : Fin 512) : @Eq EReal (val_main_v106 U DW (ix3 b s ch)) (∑ w ∈ Finset.range 15, past U b (s.val + w) ch * tapAt DW w ch) := by
  unfold val_main_v106 val_main_v105 val_main_v104 val_main_v103 val_main_v102 val_main_v101 val_main_v100
  pointwise
  rw [v0, Finset.sum_range_succ, t13 U DW b s ch]
  exact congrArg₂ (· + ·) rfl (congrArg₂ (· * ·) (congrArg (fun n => past U b n ch) (by simp <;> omega)) (tapAt_eq DW 14 (by decide) ch).symm)

theorem t15 (b : Fin 4) (s : Fin 4096) (ch : Fin 512) : @Eq EReal (val_main_v113 U DW (ix3 b s ch)) (∑ w ∈ Finset.range 16, past U b (s.val + w) ch * tapAt DW w ch) := by
  unfold val_main_v113 val_main_v112 val_main_v111 val_main_v110 val_main_v109 val_main_v108 val_main_v107
  pointwise
  rw [v0, Finset.sum_range_succ, t14 U DW b s ch]
  exact congrArg₂ (· + ·) rfl (congrArg₂ (· * ·) (congrArg (fun n => past U b n ch) (by simp <;> omega)) (tapAt_eq DW 15 (by decide) ch).symm)

theorem t16 (b : Fin 4) (s : Fin 4096) (ch : Fin 512) : @Eq EReal (val_main_v120 U DW (ix3 b s ch)) (∑ w ∈ Finset.range 17, past U b (s.val + w) ch * tapAt DW w ch) := by
  unfold val_main_v120 val_main_v119 val_main_v118 val_main_v117 val_main_v116 val_main_v115 val_main_v114
  pointwise
  rw [v0, Finset.sum_range_succ, t15 U DW b s ch]
  exact congrArg₂ (· + ·) rfl (congrArg₂ (· * ·) (congrArg (fun n => past U b n ch) (by simp <;> omega)) (tapAt_eq DW 16 (by decide) ch).symm)

theorem t17 (b : Fin 4) (s : Fin 4096) (ch : Fin 512) : @Eq EReal (val_main_v127 U DW (ix3 b s ch)) (∑ w ∈ Finset.range 18, past U b (s.val + w) ch * tapAt DW w ch) := by
  unfold val_main_v127 val_main_v126 val_main_v125 val_main_v124 val_main_v123 val_main_v122 val_main_v121
  pointwise
  rw [v0, Finset.sum_range_succ, t16 U DW b s ch]
  exact congrArg₂ (· + ·) rfl (congrArg₂ (· * ·) (congrArg (fun n => past U b n ch) (by simp <;> omega)) (tapAt_eq DW 17 (by decide) ch).symm)

theorem t18 (b : Fin 4) (s : Fin 4096) (ch : Fin 512) : @Eq EReal (val_main_v134 U DW (ix3 b s ch)) (∑ w ∈ Finset.range 19, past U b (s.val + w) ch * tapAt DW w ch) := by
  unfold val_main_v134 val_main_v133 val_main_v132 val_main_v131 val_main_v130 val_main_v129 val_main_v128
  pointwise
  rw [v0, Finset.sum_range_succ, t17 U DW b s ch]
  exact congrArg₂ (· + ·) rfl (congrArg₂ (· * ·) (congrArg (fun n => past U b n ch) (by simp <;> omega)) (tapAt_eq DW 18 (by decide) ch).symm)

theorem t19 (b : Fin 4) (s : Fin 4096) (ch : Fin 512) : @Eq EReal (val_main_v141 U DW (ix3 b s ch)) (∑ w ∈ Finset.range 20, past U b (s.val + w) ch * tapAt DW w ch) := by
  unfold val_main_v141 val_main_v140 val_main_v139 val_main_v138 val_main_v137 val_main_v136 val_main_v135
  pointwise
  rw [v0, Finset.sum_range_succ, t18 U DW b s ch]
  exact congrArg₂ (· + ·) rfl (congrArg₂ (· * ·) (congrArg (fun n => past U b n ch) (by simp <;> omega)) (tapAt_eq DW 19 (by decide) ch).symm)

theorem t20 (b : Fin 4) (s : Fin 4096) (ch : Fin 512) : @Eq EReal (val_main_v148 U DW (ix3 b s ch)) (∑ w ∈ Finset.range 21, past U b (s.val + w) ch * tapAt DW w ch) := by
  unfold val_main_v148 val_main_v147 val_main_v146 val_main_v145 val_main_v144 val_main_v143 val_main_v142
  pointwise
  rw [v0, Finset.sum_range_succ, t19 U DW b s ch]
  exact congrArg₂ (· + ·) rfl (congrArg₂ (· * ·) (congrArg (fun n => past U b n ch) (by simp <;> omega)) (tapAt_eq DW 20 (by decide) ch).symm)

theorem t21 (b : Fin 4) (s : Fin 4096) (ch : Fin 512) : @Eq EReal (val_main_v155 U DW (ix3 b s ch)) (∑ w ∈ Finset.range 22, past U b (s.val + w) ch * tapAt DW w ch) := by
  unfold val_main_v155 val_main_v154 val_main_v153 val_main_v152 val_main_v151 val_main_v150 val_main_v149
  pointwise
  rw [v0, Finset.sum_range_succ, t20 U DW b s ch]
  exact congrArg₂ (· + ·) rfl (congrArg₂ (· * ·) (congrArg (fun n => past U b n ch) (by simp <;> omega)) (tapAt_eq DW 21 (by decide) ch).symm)

theorem t22 (b : Fin 4) (s : Fin 4096) (ch : Fin 512) : @Eq EReal (val_main_v162 U DW (ix3 b s ch)) (∑ w ∈ Finset.range 23, past U b (s.val + w) ch * tapAt DW w ch) := by
  unfold val_main_v162 val_main_v161 val_main_v160 val_main_v159 val_main_v158 val_main_v157 val_main_v156
  pointwise
  rw [v0, Finset.sum_range_succ, t21 U DW b s ch]
  exact congrArg₂ (· + ·) rfl (congrArg₂ (· * ·) (congrArg (fun n => past U b n ch) (by simp <;> omega)) (tapAt_eq DW 22 (by decide) ch).symm)

theorem t23 (b : Fin 4) (s : Fin 4096) (ch : Fin 512) : @Eq EReal (val_main_v169 U DW (ix3 b s ch)) (∑ w ∈ Finset.range 24, past U b (s.val + w) ch * tapAt DW w ch) := by
  unfold val_main_v169 val_main_v168 val_main_v167 val_main_v166 val_main_v165 val_main_v164 val_main_v163
  pointwise
  rw [v0, Finset.sum_range_succ, t22 U DW b s ch]
  exact congrArg₂ (· + ·) rfl (congrArg₂ (· * ·) (congrArg (fun n => past U b n ch) (by simp <;> omega)) (tapAt_eq DW 23 (by decide) ch).symm)

theorem t24 (b : Fin 4) (s : Fin 4096) (ch : Fin 512) : @Eq EReal (val_main_v176 U DW (ix3 b s ch)) (∑ w ∈ Finset.range 25, past U b (s.val + w) ch * tapAt DW w ch) := by
  unfold val_main_v176 val_main_v175 val_main_v174 val_main_v173 val_main_v172 val_main_v171 val_main_v170
  pointwise
  rw [v0, Finset.sum_range_succ, t23 U DW b s ch]
  exact congrArg₂ (· + ·) rfl (congrArg₂ (· * ·) (congrArg (fun n => past U b n ch) (by simp <;> omega)) (tapAt_eq DW 24 (by decide) ch).symm)

theorem t25 (b : Fin 4) (s : Fin 4096) (ch : Fin 512) : @Eq EReal (val_main_v183 U DW (ix3 b s ch)) (∑ w ∈ Finset.range 26, past U b (s.val + w) ch * tapAt DW w ch) := by
  unfold val_main_v183 val_main_v182 val_main_v181 val_main_v180 val_main_v179 val_main_v178 val_main_v177
  pointwise
  rw [v0, Finset.sum_range_succ, t24 U DW b s ch]
  exact congrArg₂ (· + ·) rfl (congrArg₂ (· * ·) (congrArg (fun n => past U b n ch) (by simp <;> omega)) (tapAt_eq DW 25 (by decide) ch).symm)

theorem t26 (b : Fin 4) (s : Fin 4096) (ch : Fin 512) : @Eq EReal (val_main_v190 U DW (ix3 b s ch)) (∑ w ∈ Finset.range 27, past U b (s.val + w) ch * tapAt DW w ch) := by
  unfold val_main_v190 val_main_v189 val_main_v188 val_main_v187 val_main_v186 val_main_v185 val_main_v184
  pointwise
  rw [v0, Finset.sum_range_succ, t25 U DW b s ch]
  exact congrArg₂ (· + ·) rfl (congrArg₂ (· * ·) (congrArg (fun n => past U b n ch) (by simp <;> omega)) (tapAt_eq DW 26 (by decide) ch).symm)

theorem t27 (b : Fin 4) (s : Fin 4096) (ch : Fin 512) : @Eq EReal (val_main_v197 U DW (ix3 b s ch)) (∑ w ∈ Finset.range 28, past U b (s.val + w) ch * tapAt DW w ch) := by
  unfold val_main_v197 val_main_v196 val_main_v195 val_main_v194 val_main_v193 val_main_v192 val_main_v191
  pointwise
  rw [v0, Finset.sum_range_succ, t26 U DW b s ch]
  exact congrArg₂ (· + ·) rfl (congrArg₂ (· * ·) (congrArg (fun n => past U b n ch) (by simp <;> omega)) (tapAt_eq DW 27 (by decide) ch).symm)

theorem t28 (b : Fin 4) (s : Fin 4096) (ch : Fin 512) : @Eq EReal (val_main_v204 U DW (ix3 b s ch)) (∑ w ∈ Finset.range 29, past U b (s.val + w) ch * tapAt DW w ch) := by
  unfold val_main_v204 val_main_v203 val_main_v202 val_main_v201 val_main_v200 val_main_v199 val_main_v198
  pointwise
  rw [v0, Finset.sum_range_succ, t27 U DW b s ch]
  exact congrArg₂ (· + ·) rfl (congrArg₂ (· * ·) (congrArg (fun n => past U b n ch) (by simp <;> omega)) (tapAt_eq DW 28 (by decide) ch).symm)

theorem t29 (b : Fin 4) (s : Fin 4096) (ch : Fin 512) : @Eq EReal (val_main_v211 U DW (ix3 b s ch)) (∑ w ∈ Finset.range 30, past U b (s.val + w) ch * tapAt DW w ch) := by
  unfold val_main_v211 val_main_v210 val_main_v209 val_main_v208 val_main_v207 val_main_v206 val_main_v205
  pointwise
  rw [v0, Finset.sum_range_succ, t28 U DW b s ch]
  exact congrArg₂ (· + ·) rfl (congrArg₂ (· * ·) (congrArg (fun n => past U b n ch) (by simp <;> omega)) (tapAt_eq DW 29 (by decide) ch).symm)

theorem t30 (b : Fin 4) (s : Fin 4096) (ch : Fin 512) : @Eq EReal (val_main_v218 U DW (ix3 b s ch)) (∑ w ∈ Finset.range 31, past U b (s.val + w) ch * tapAt DW w ch) := by
  unfold val_main_v218 val_main_v217 val_main_v216 val_main_v215 val_main_v214 val_main_v213 val_main_v212
  pointwise
  rw [v0, Finset.sum_range_succ, t29 U DW b s ch]
  exact congrArg₂ (· + ·) rfl (congrArg₂ (· * ·) (congrArg (fun n => past U b n ch) (by simp <;> omega)) (tapAt_eq DW 30 (by decide) ch).symm)

/-- The row after the convolution. -/
def convE (b : Fin 4) (s : Fin 4096) (ch : Fin 512) : EReal := conv (fun w => past U b (s.val + w) ch) (fun w => DW (ix2 w ch)) (B (ix1 ch))

theorem v221 (b : Fin 4) (s : Fin 4096) (ch : Fin 512) : @Eq EReal (val_main_v221 U DW B (ix3 b s ch)) (convE U DW B b s ch) := by
  unfold val_main_v221 val_main_v220 val_main_v219
  pointwise
  rw [t30, ← Fin.sum_univ_eq_sum_range (fun w => past U b (s.val + w) ch * tapAt DW w ch) 31]
  exact congrArg (· + _) (Finset.sum_congr rfl fun w _ => congrArg (_ * ·) (tapAt_eq DW w.val w.isLt ch))

/-- The row after the norm. -/
def normE (b : Fin 4) (s : Fin 4096) : Fin 512 → EReal := norm (convE U DW B b s) (fun k => G (ix1 k)) (fun k => LB (ix1 k))

theorem v225 (b : Fin 4) (s : Fin 4096) : @Eq EReal (val_main_v225 U DW B (ix3 b s 0)) (mean (convE U DW B b s)) := by
  unfold val_main_v225 val_main_v224 val_main_cst_1 val_main_v223 val_main_v222 val_main_cst_0
  pointwise
  simp only [v221]
  rfl

theorem v245 (b : Fin 4) (s : Fin 4096) (k : Fin 512) : @Eq EReal (val_main_v245 U DW B G LB (ix3 b s k)) (normE U DW B G LB b s k) := by
  unfold val_main_v245 val_main_v244 val_main_v243 val_main_v242 val_main_v241 val_main_v240 val_main_v239 val_main_v238 val_main_v237 val_main_v236 val_main_v235 val_main_v234 val_main_v233 val_main_v232 val_main_v231 val_main_v230 val_main_v229 val_main_v228 val_main_v227 val_main_v226 val_main_cst_4 val_main_cst_3 val_main_cst_2
  pointwise
  simp only [v221, v225]
  rfl

theorem v254 (b : Fin 4) (s : Fin 4096) (j : Fin 1024) : @Eq EReal (val_main_v254 U DW B G LB W GC (ix3 b s j)) (out (normE U DW B G LB b s) (fun l => W (ix2 l j)) (GC (ix3 b s j))) := by
  unfold val_main_v254 val_main_v253 val_main_v252 val_main_v251 val_main_v250 val_main_v249 val_main_v248 val_main_v247 val_main_v246 val_main_cst_6 val_main_cst_5
  pointwise
  simp only [v245]
  rfl

end Cert.ConvReferenceIdeal.Val

end
-- ==== Proof.ConvVal.lean ====
/- The convolution's result array. -/
module

public import proofs.«01_k».proof.Proof.ConvAcc
public import proofs.«01_k».proof.Proof.ConvRef
public import proofs.«01_k».proof.Proof.Gen.ConvIdeal.Value

@[expose] public section

set_option maxRecDepth 16384

noncomputable section

namespace Cert.ConvIdeal.Val

open Idealize.ShloMosaic Idealize.ShloMosaic.TcCoe Idealize.SL.Sem Cert.ConvIdeal Cert.ConvIdeal.Gen Cert.ConvSpec

theorem n32 : cfg0.N = 32 := by decide +kernel

/-- The batch and the row of the whole of a grid point's tile. -/
def tb (t : Fin cfg0.N) : Fin 4 := ⟨t.val / 8, by have h := t.isLt; have e := n32; omega⟩
def ts (t : Fin cfg0.N) (r : Fin 512) : Fin 4096 := ⟨512 * (t.val % 8) + r.val, by omega⟩
/-- The row of the tile before it. -/
def tp (t : Fin cfg0.N) (r : Fin 512) : Fin 4096 := ⟨512 * (t.val % 8 - 1) + r.val, by omega⟩

theorem coord1 : ∀ t : Fin cfg0.grid.N, (grid0.coords t 1).val = t.val % 8 := by decide +kernel
theorem i0 : ∀ t : Fin cfg0.grid.N, win0_0.index t = ![t.val / 8, t.val % 8, 0] := by decide +kernel
theorem i1 : ∀ t : Fin cfg0.grid.N, win0_1.index t = ![t.val / 8, t.val % 8 - 1, 0] := by decide +kernel
theorem i7 : ∀ t : Fin cfg0.grid.N, win0_7.index t = ![t.val / 8, t.val % 8, 0] := by decide +kernel
theorem i8 : ∀ t : Fin cfg0.grid.N, win0_8.index t = ![t.val / 8, t.val % 8, 0] := by decide +kernel
theorem i2 : ∀ t : Fin cfg0.grid.N, win0_2.index t = ![0, 0] := by decide +kernel
theorem i3 : ∀ t : Fin cfg0.grid.N, win0_3.index t = ![0, 0] := by decide +kernel
theorem i4 : ∀ t : Fin cfg0.grid.N, win0_4.index t = ![0, 0] := by decide +kernel
theorem i5 : ∀ t : Fin cfg0.grid.N, win0_5.index t = ![0, 0] := by decide +kernel
theorem i6 : ∀ t : Fin cfg0.grid.N, win0_6.index t = ![0, 0] := by decide +kernel

variable (m : (ℓ : Loc nD τ sig) → Buf (Elt Ideal) ℓ) (c : Dev nD)

section Host

variable (U : Valuation τ sig (Elt Ideal))

theorem v0 (k : Fin 512) : (StableHlo.after hostOps0 U (Proc.devRef .tc main_v0) : (⟨S1x512, .f32⟩ : BufTy).Contents (Elt Ideal)) (ix2 0 k)
    = (U (Proc.devRef .tc main_arg2) : (⟨S512, .f32⟩ : BufTy).Contents (Elt Ideal)) (ix1 k) := by
  after_results_simp
  pointwise

theorem v1 (k : Fin 512) : (StableHlo.after hostOps0 U (Proc.devRef .tc main_v1) : (⟨S1x512, .f32⟩ : BufTy).Contents (Elt Ideal)) (ix2 0 k)
    = (U (Proc.devRef .tc main_arg3) : (⟨S512, .f32⟩ : BufTy).Contents (Elt Ideal)) (ix1 k) := by
  after_results_simp
  pointwise

theorem v2 (k : Fin 512) : (StableHlo.after hostOps0 U (Proc.devRef .tc main_v2) : (⟨S1x512, .f32⟩ : BufTy).Contents (Elt Ideal)) (ix2 0 k)
    = (U (Proc.devRef .tc main_arg4) : (⟨S512, .f32⟩ : BufTy).Contents (Elt Ideal)) (ix1 k) := by
  after_results_simp
  pointwise

theorem v3 (l : Fin 512) (k : Fin 1024) : (StableHlo.after hostOps0 U (Proc.devRef .tc main_v3) : (⟨S512x1024, .bf16⟩ : BufTy).Contents (Elt Ideal)) (ix2 l k)
    = (U (Proc.devRef .tc main_arg5) : (⟨S512x1024, .f32⟩ : BufTy).Contents (Elt Ideal)) (ix2 l k) := by
  after_results_simp
  pointwise

end Host

theorem b0 (t : Fin cfg0.N) (r k : Fin 512) : iblk m c 0 t (ix3 0 r k) = (m ((c : Thread nD τ).loc main_arg0) : (⟨S4x4096x512, .f32⟩ : BufTy).Contents (Elt Ideal)) (ix3 (tb t) (ts t r) k) := by
  rw [← V_main_arg0 m c]; blk_ext [iblk, i0 t, tb, ts]
theorem b1 (t : Fin cfg0.N) (r k : Fin 512) : iblk m c 1 t (ix3 0 r k) = (m ((c : Thread nD τ).loc main_arg0) : (⟨S4x4096x512, .f32⟩ : BufTy).Contents (Elt Ideal)) (ix3 (tb t) (tp t r) k) := by
  rw [← V_main_arg0 m c]; blk_ext [iblk, i1 t, tb, tp]
theorem b2 (t : Fin cfg0.N) (w : Fin 31) (k : Fin 512) : iblk m c 2 t (ix2 w k) = (m ((c : Thread nD τ).loc main_arg1) : (⟨S31x512, .f32⟩ : BufTy).Contents (Elt Ideal)) (ix2 w k) := by
  rw [← V_main_arg1 m c]; blk_ext [iblk, i2 t]
theorem b7 (t : Fin cfg0.N) (r : Fin 512) (k : Fin 1024) : iblk m c 7 t (ix3 0 r k) = (m ((c : Thread nD τ).loc main_arg6) : (⟨S4x4096x1024, .f32⟩ : BufTy).Contents (Elt Ideal)) (ix3 (tb t) (ts t r) k) := by
  rw [← V_main_arg6 m c]; blk_ext [iblk, i7 t, tb, ts]
theorem b3 (t : Fin cfg0.N) (k : Fin 512) : iblk m c 3 t (ix2 0 k) = (m ((c : Thread nD τ).loc main_arg2) : (⟨S512, .f32⟩ : BufTy).Contents (Elt Ideal)) (ix1 k) :=
  (by blk_ext [iblk, i3 t] : iblk m c 3 t (ix2 0 k) = V m c main_v0 (ix2 0 k)).trans (v0 _ k)
theorem b4 (t : Fin cfg0.N) (k : Fin 512) : iblk m c 4 t (ix2 0 k) = (m ((c : Thread nD τ).loc main_arg3) : (⟨S512, .f32⟩ : BufTy).Contents (Elt Ideal)) (ix1 k) :=
  (by blk_ext [iblk, i4 t] : iblk m c 4 t (ix2 0 k) = V m c main_v1 (ix2 0 k)).trans (v1 _ k)
theorem b5 (t : Fin cfg0.N) (k : Fin 512) : iblk m c 5 t (ix2 0 k) = (m ((c : Thread nD τ).loc main_arg4) : (⟨S512, .f32⟩ : BufTy).Contents (Elt Ideal)) (ix1 k) :=
  (by blk_ext [iblk, i5 t] : iblk m c 5 t (ix2 0 k) = V m c main_v2 (ix2 0 k)).trans (v2 _ k)
theorem b6 (t : Fin cfg0.N) (l : Fin 512) (k : Fin 1024) : iblk m c 6 t (ix2 l k) = (m ((c : Thread nD τ).loc main_arg5) : (⟨S512x1024, .f32⟩ : BufTy).Contents (Elt Ideal)) (ix2 l k) :=
  (by blk_ext [iblk, i6 t] : iblk m c 6 t (ix2 l k) = V m c main_v3 (ix2 l k)).trans (v3 _ l k)

open Cert.ConvReferenceIdeal.Val (past convE normE)

theorem now (t : Fin cfg0.N) (r : ℕ) (hr : r < 512) (k : Fin 512) : at3 (iblk m c 0 t) r k = (m ((c : Thread nD τ).loc main_arg0) : (⟨S4x4096x512, .f32⟩ : BufTy).Contents (Elt Ideal)) (ix3 (tb t) (ts t ⟨r, hr⟩) k) :=
  (dif_pos hr).trans (b0 m c t ⟨r, hr⟩ k)
theorem before (t : Fin cfg0.N) (r : ℕ) (hr : r < 512) (k : Fin 512) : at3 (iblk m c 1 t) r k = (m ((c : Thread nD τ).loc main_arg0) : (⟨S4x4096x512, .f32⟩ : BufTy).Contents (Elt Ideal)) (ix3 (tb t) (tp t ⟨r, hr⟩) k) :=
  (dif_pos hr).trans (b1 m c t ⟨r, hr⟩ k)

/-- The tile with its halo is a stretch of the rows behind 30 rows of nothing. -/
theorem stretch (t : Fin cfg0.N) (r : Fin 512) (w : ℕ) (hw : w < 31) (k : Fin 512) :
    ext0 (grid0.coords t 1).val (iblk m c 0 t) (iblk m c 1 t) (2 + w + r.val) k = past (m ((c : Thread nD τ).loc main_arg0) : (⟨S4x4096x512, .f32⟩ : BufTy).Contents (Elt Ideal)) (tb t) ((ts t r).val + w) k := by
  have ht : (ts t r).val = 512 * (t.val % 8) + r.val := rfl
  have hlt := r.isLt
  unfold ext0 past
  rw [coord1 t]
  by_cases h : 2 + w + r.val < 32
  · rw [if_pos h]
    by_cases h0 : 0 < t.val % 8
    · rw [if_pos h0, before m c t _ (by omega), dif_pos (by omega)]
      refine congrArg (fun s => (m ((c : Thread nD τ).loc main_arg0) : (⟨S4x4096x512, .f32⟩ : BufTy).Contents (Elt Ideal)) (ix3 (tb t) s k)) (Fin.ext ?_)
      show 512 * (t.val % 8 - 1) + (480 + (2 + w + r.val)) = (ts t r).val + w - 30
      omega
    · rw [if_neg h0, dif_neg (by omega)]
  · rw [if_neg h, now m c t _ (by omega), dif_pos (by omega)]
    refine congrArg (fun s => (m ((c : Thread nD τ).loc main_arg0) : (⟨S4x4096x512, .f32⟩ : BufTy).Contents (Elt Ideal)) (ix3 (tb t) s k)) (Fin.ext ?_)
    show 512 * (t.val % 8) + (2 + w + r.val - 32) = (ts t r).val + w - 30
    omega

theorem rows_eq (t : Fin cfg0.N) (r k : Fin 512) : part (grid0.coords t 1).val (iblk m c 0 t) (iblk m c 1 t) (iblk m c 2 t) (iblk m c 3 t) 31 r.val k
    = convE (m ((c : Thread nD τ).loc main_arg0) : (⟨S4x4096x512, .f32⟩ : BufTy).Contents (Elt Ideal)) (m ((c : Thread nD τ).loc main_arg1) : (⟨S31x512, .f32⟩ : BufTy).Contents (Elt Ideal)) (m ((c : Thread nD τ).loc main_arg2) : (⟨S512, .f32⟩ : BufTy).Contents (Elt Ideal)) (tb t) (ts t r) k := by
  unfold part convE conv
  rw [add_comm, b3, ← Fin.sum_univ_eq_sum_range (fun w => ext0 (grid0.coords t 1).val (iblk m c 0 t) (iblk m c 1 t) (2 + w + r.val) k * tapAt (iblk m c 2 t) w k) 31]
  refine congrArg (· + _) (Finset.sum_congr rfl fun w _ => ?_)
  rw [stretch m c t r w.val w.isLt k]
  exact congrArg (_ * ·) ((dif_pos w.isLt).trans (b2 m c t w k))

theorem row (y : S1x512x1024.Idx) : ∃ (r : Fin 512) (j : Fin 1024), y = ix3 0 r j :=
  ⟨y 1, y 2, (eq_ix3 y).trans (congrArg (fun z => ix3 z (y 1) (y 2)) (Subsingleton.elim (α := Fin 1) (y 0) 0))⟩

/-- One block of the result. -/
theorem tile (t : Fin cfg0.N) (r : Fin 512) (j : Fin 1024) : @Eq EReal (outsAt0 m c t (ix3 0 r j))
    (out (normE (m ((c : Thread nD τ).loc main_arg0) : (⟨S4x4096x512, .f32⟩ : BufTy).Contents (Elt Ideal)) (m ((c : Thread nD τ).loc main_arg1) : (⟨S31x512, .f32⟩ : BufTy).Contents (Elt Ideal)) (m ((c : Thread nD τ).loc main_arg2) : (⟨S512, .f32⟩ : BufTy).Contents (Elt Ideal)) (m ((c : Thread nD τ).loc main_arg3) : (⟨S512, .f32⟩ : BufTy).Contents (Elt Ideal)) (m ((c : Thread nD τ).loc main_arg4) : (⟨S512, .f32⟩ : BufTy).Contents (Elt Ideal)) (tb t) (ts t r)) (fun l => (m ((c : Thread nD τ).loc main_arg5) : (⟨S512x1024, .f32⟩ : BufTy).Contents (Elt Ideal)) (ix2 l j)) ((m ((c : Thread nD τ).loc main_arg6) : (⟨S4x4096x1024, .f32⟩ : BufTy).Contents (Elt Ideal)) (ix3 (tb t) (ts t r) j))) := by
  unfold outsAt0
  refine (out_apply _ _ _ _ _ _ _ _ _ _ _ _ _ _ _ _ _ _ _ _ _ _ _ _ _ _ _ _ _ _ _ _ r j).trans ?_
  unfold normE
  simp only [rows_eq, b4, b5, b6, b7]

theorem arr : (dats m 0 c).arrAt 8 cfg0.N = (fun i => out (normE (m ((c : Thread nD τ).loc main_arg0) : (⟨S4x4096x512, .f32⟩ : BufTy).Contents (Elt Ideal)) (m ((c : Thread nD τ).loc main_arg1) : (⟨S31x512, .f32⟩ : BufTy).Contents (Elt Ideal)) (m ((c : Thread nD τ).loc main_arg2) : (⟨S512, .f32⟩ : BufTy).Contents (Elt Ideal)) (m ((c : Thread nD τ).loc main_arg3) : (⟨S512, .f32⟩ : BufTy).Contents (Elt Ideal)) (m ((c : Thread nD τ).loc main_arg4) : (⟨S512, .f32⟩ : BufTy).Contents (Elt Ideal)) (i 0) (i 1)) (fun l => (m ((c : Thread nD τ).loc main_arg5) : (⟨S512x1024, .f32⟩ : BufTy).Contents (Elt Ideal)) (ix2 l (i 2))) ((m ((c : Thread nD τ).loc main_arg6) : (⟨S4x4096x1024, .f32⟩ : BufTy).Contents (Elt Ideal)) (ix3 (i 0) (i 1) (i 2))) : (⟨S4x4096x1024, .f32⟩ : BufTy).Contents (Elt Ideal)) := by
  refine (dats m 0 c).arrAt_eq_of_covers 8 _ (by decide +kernel) fun t hf y => ?_
  blk_simp
  obtain ⟨r, j, rfl⟩ := row y
  have ey : (win0_8.blk t).view.emb (ix3 0 r j) = ix3 (tb t) (ts t r) j := by blk_ext [iblk, i8 t, tb, ts]
  rw [ey]
  refine (congrFun (after0_8 m c t) (ix3 0 r j)).trans ?_
  exact tile m c t r j

open Cert.ConvReferenceIdeal.Read (val_main_v254) in
theorem result : (dats m 0 c).arrAt 8 cfg0.N = (val_main_v254 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : (⟨S4x4096x1024, .f32⟩ : BufTy).Contents (Elt Ideal)) := by
  rw [arr]
  funext i
  rw [eq_ix3 i]
  exact (Cert.ConvReferenceIdeal.Val.v254 _ _ _ _ _ _ _ _ _ _).symm

end Cert.ConvIdeal.Val

end
-- ==== Proof.ConvClaims.lean ====
/- The convolution's claims, one theorem each. -/
module

public import proofs.«01_k».proof.Defs
public import proofs.«01_k».proof.Proof.Gen.Conv.Frame
public import proofs.«01_k».proof.Proof.ConvVal

@[expose] public section

set_option maxRecDepth 16384

noncomputable section

namespace Cert.ConvClaims

open Idealize.ShloMosaic Idealize.ShloMosaic.TcCoe Idealize.SL.Sem

theorem frame_kernel : Cert.quiescent_Conv := fun m ρ _ => Cert.Conv.Gen.frame (F := Bits) m ρ

theorem frame_ideal : Cert.quiescent_ConvIdeal := fun m ρ _ => Cert.ConvIdeal.Gen.frame (F := Ideal) m ρ

theorem frame_reference : Cert.quiescent_ConvReferenceIdeal := fun m ρ _ =>
  (θ_run Cert.ConvReferenceIdeal.defs _ _).mono (fun r h => ⟨fun c => (h c).2, sem_eq_zero_of_no_sems (by decide) r.2⟩)
    (Cert.ConvReferenceIdeal.Value.run (F := Ideal) m ρ)

theorem preserves : Cert.preserves_Conv_ConvIdeal := trivial

open Cert.ConvReferenceIdeal.Read (val_main_v254) in
/-- The reference's run, its result named. -/
theorem reference (m : (ℓ : Loc Cert.ConvReferenceIdeal.nD Cert.ConvReferenceIdeal.τ Cert.ConvReferenceIdeal.sig) → Buf (Elt Ideal) ℓ) (ρ : Dev Cert.ConvReferenceIdeal.nD → PrngReg) :
    θ_run (Cert.ConvReferenceIdeal.defs (F := Ideal)) (onTc (τ := Cert.ConvReferenceIdeal.τ) (Cert.ConvReferenceIdeal.main (F := Ideal))) ⟨m, fun _ => 0, ρ⟩ (fun r => ∀ c : Dev Cert.ConvReferenceIdeal.nD,
      r.2.mem ((c.tc : Thread Cert.ConvReferenceIdeal.nD Cert.ConvReferenceIdeal.τ).loc Cert.ConvReferenceIdeal.main_v254) = val_main_v254 (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))
      ∧ r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)) :=
  (θ_run Cert.ConvReferenceIdeal.defs _ _).mono (fun r h c => ⟨(h c).1.trans (Cert.ConvReferenceIdeal.Read.val_main_v254_eq _), (h c).2⟩)
    (Cert.ConvReferenceIdeal.Value.run (F := Ideal) m ρ)

theorem same7 {A B C D E F G Z : Type} (f : A → B → C → D → E → F → G → Z) {a a' b b' c c' d d' e e' g g' h h'} (ha : a = a') (hb : b = b') (hc : c = c') (hd : d = d')
    (he : e = e') (hg : g = g') (hh : h = h') : f a b c d e g h = f a' b' c' d' e' g' h' := by
  subst ha hb hc hd he hg hh; rfl

/-- The kernel's result and the reference's are one function of the arguments. -/
theorem algebraic : Cert.algebraic_ConvIdeal_ConvReferenceIdeal := by
  intro m ρ m' ρ' _ hagree
  refine ⟨fun c => (Cert.ConvIdeal.Gen.dats m 0 c).arrAt 8 Cert.ConvIdeal.cfg0.N, ?_, ?_⟩
  · exact Cert.ConvIdeal.Value.run_blocks (F := Ideal) m ρ
  · refine (θ_run Cert.ConvReferenceIdeal.defs _ _).mono (fun r h c => ?_) (reference m' ρ')
    obtain ⟨h0, hk⟩ := h c
    obtain ⟨e0, e1, e2, e3, e4, e5, e6⟩ := hagree c
    exact ⟨h0.trans ((same7 (Cert.ConvReferenceIdeal.Read.val_main_v254 (F := Ideal)) e0 e1 e2 e3 e4 e5 e6).trans (Cert.ConvIdeal.Val.result m c).symm), hk⟩

end Cert.ConvClaims

end
-- ==== Proof.lean ====
/- The certificate's proof: each claim's theorem (Proof/Claims.lean) put in its place. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Claims
public import proofs.«01_k».proof.Proof.MergeClaims
public import proofs.«01_k».proof.Proof.ConvClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Merge.Gen.facts, Cert.MergeIdeal.Gen.facts, Cert.MergeReferenceIdeal.Gen.facts, Cert.Conv.Gen.facts, Cert.ConvIdeal.Gen.facts, Cert.ConvReferenceIdeal.Gen.facts, Cert.Claims.facts,
    Cert.Claims.frame_kernel, Cert.Claims.frame_ideal, Cert.Claims.frame_ideal_pre, Cert.Claims.frame_reference, Cert.Claims.frame_reference_pre,
    Cert.MergeClaims.frame_kernel, Cert.MergeClaims.frame_ideal, Cert.MergeClaims.frame_reference,
    Cert.ConvClaims.frame_kernel, Cert.ConvClaims.frame_ideal, Cert.ConvClaims.frame_reference,
    Cert.Claims.preserves, Cert.Claims.algebraic, Cert.MergeClaims.preserves, Cert.MergeClaims.algebraic,
    Cert.ConvClaims.preserves, Cert.ConvClaims.algebraic⟩

end Cert.Proof

end
